-- ==== Defs.lean ====
def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutMm (m : (ℓ : Loc Cert.OutMm.nD Cert.OutMm.τ Cert.OutMm.sig) → Buf (Elt Bits) ℓ) : Prop :=
  True

def Pre_OutMmIdeal (m : (ℓ : Loc Cert.OutMmIdeal.nD Cert.OutMmIdeal.τ Cert.OutMmIdeal.sig) → Buf (Elt Ideal) ℓ) : Prop :=
  True

def Pre_OutMmRefIdeal (m : (ℓ : Loc Cert.OutMmRefIdeal.nD Cert.OutMmRefIdeal.τ Cert.OutMmRefIdeal.sig) → Buf (Elt Ideal) ℓ) : Prop :=
  True

def Pre_FfDx (m : (ℓ : Loc Cert.FfDx.nD Cert.FfDx.τ Cert.FfDx.sig) → Buf (Elt Bits) ℓ) : Prop :=
  True

def Pre_FfDxIdeal (m : (ℓ : Loc Cert.FfDxIdeal.nD Cert.FfDxIdeal.τ Cert.FfDxIdeal.sig) → Buf (Elt Ideal) ℓ) : Prop :=
  True

def Pre_FfDxRefIdeal (m : (ℓ : Loc Cert.FfDxRefIdeal.nD Cert.FfDxRefIdeal.τ Cert.FfDxRefIdeal.sig) → Buf (Elt Ideal) ℓ) : Prop :=
  True

def Pre_FfDw (m : (ℓ : Loc Cert.FfDw.nD Cert.FfDw.τ Cert.FfDw.sig) → Buf (Elt Bits) ℓ) : Prop :=
  True

def Pre_FfDwIdeal (m : (ℓ : Loc Cert.FfDwIdeal.nD Cert.FfDwIdeal.τ Cert.FfDwIdeal.sig) → Buf (Elt Ideal) ℓ) : Prop :=
  True

def Pre_FfDwRefIdeal (m : (ℓ : Loc Cert.FfDwRefIdeal.nD Cert.FfDwRefIdeal.τ Cert.FfDwRefIdeal.sig) → Buf (Elt Ideal) ℓ) : Prop :=
  True

def Pre_FfMm (m : (ℓ : Loc Cert.FfMm.nD Cert.FfMm.τ Cert.FfMm.sig) → Buf (Elt Bits) ℓ) : Prop :=
  True

def Pre_FfMmIdeal (m : (ℓ : Loc Cert.FfMmIdeal.nD Cert.FfMmIdeal.τ Cert.FfMmIdeal.sig) → Buf (Elt Ideal) ℓ) : Prop :=
  True

def Pre_FfMmRefIdeal (m : (ℓ : Loc Cert.FfMmRefIdeal.nD Cert.FfMmRefIdeal.τ Cert.FfMmRefIdeal.sig) → Buf (Elt Ideal) ℓ) : Prop :=
  True

def Pre_FfoDx (m : (ℓ : Loc Cert.FfoDx.nD Cert.FfoDx.τ Cert.FfoDx.sig) → Buf (Elt Bits) ℓ) : Prop :=
  True

def Pre_FfoDxIdeal (m : (ℓ : Loc Cert.FfoDxIdeal.nD Cert.FfoDxIdeal.τ Cert.FfoDxIdeal.sig) → Buf (Elt Ideal) ℓ) : Prop :=
  True

def Pre_FfoDxRefIdeal (m : (ℓ : Loc Cert.FfoDxRefIdeal.nD Cert.FfoDxRefIdeal.τ Cert.FfoDxRefIdeal.sig) → Buf (Elt Ideal) ℓ) : Prop :=
  True

def Pre_FfoDw (m : (ℓ : Loc Cert.FfoDw.nD Cert.FfoDw.τ Cert.FfoDw.sig) → Buf (Elt Bits) ℓ) : Prop :=
  True

def Pre_FfoDwIdeal (m : (ℓ : Loc Cert.FfoDwIdeal.nD Cert.FfoDwIdeal.τ Cert.FfoDwIdeal.sig) → Buf (Elt Ideal) ℓ) : Prop :=
  True

def Pre_FfoDwRefIdeal (m : (ℓ : Loc Cert.FfoDwRefIdeal.nD Cert.FfoDwRefIdeal.τ Cert.FfoDwRefIdeal.sig) → Buf (Elt Ideal) ℓ) : Prop :=
  True

def Pre_FfoMm (m : (ℓ : Loc Cert.FfoMm.nD Cert.FfoMm.τ Cert.FfoMm.sig) → Buf (Elt Bits) ℓ) : Prop :=
  True

def Pre_FfoMmIdeal (m : (ℓ : Loc Cert.FfoMmIdeal.nD Cert.FfoMmIdeal.τ Cert.FfoMmIdeal.sig) → Buf (Elt Ideal) ℓ) : Prop :=
  True

def Pre_FfoMmRefIdeal (m : (ℓ : Loc Cert.FfoMmRefIdeal.nD Cert.FfoMmRefIdeal.τ Cert.FfoMmRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_QkvMm (m : (ℓ : Loc Cert.QkvMm.nD Cert.QkvMm.τ Cert.QkvMm.sig) → Buf (Elt Bits) ℓ) : Prop :=
  True

def Pre_QkvMmIdeal (m : (ℓ : Loc Cert.QkvMmIdeal.nD Cert.QkvMmIdeal.τ Cert.QkvMmIdeal.sig) → Buf (Elt Ideal) ℓ) : Prop :=
  True

def Pre_QkvMmRefIdeal (m : (ℓ : Loc Cert.QkvMmRefIdeal.nD Cert.QkvMmRefIdeal.τ Cert.QkvMmRefIdeal.sig) → Buf (Elt Ideal) ℓ) : Prop :=
  True

def Pre_SsdDx (m : (ℓ : Loc Cert.SsdDx.nD Cert.SsdDx.τ Cert.SsdDx.sig) → Buf (Elt Bits) ℓ) : Prop :=
  True

def Pre_SsdDxIdeal (m : (ℓ : Loc Cert.SsdDxIdeal.nD Cert.SsdDxIdeal.τ Cert.SsdDxIdeal.sig) → Buf (Elt Ideal) ℓ) : Prop :=
  True

def Pre_SsdDxRefIdeal (m : (ℓ : Loc Cert.SsdDxRefIdeal.nD Cert.SsdDxRefIdeal.τ Cert.SsdDxRefIdeal.sig) → Buf (Elt Ideal) ℓ) : Prop :=
  True

def Pre_SsdDw (m : (ℓ : Loc Cert.SsdDw.nD Cert.SsdDw.τ Cert.SsdDw.sig) → Buf (Elt Bits) ℓ) : Prop :=
  True

def Pre_SsdDwIdeal (m : (ℓ : Loc Cert.SsdDwIdeal.nD Cert.SsdDwIdeal.τ Cert.SsdDwIdeal.sig) → Buf (Elt Ideal) ℓ) : Prop :=
  True

def Pre_SsdDwRefIdeal (m : (ℓ : Loc Cert.SsdDwRefIdeal.nD Cert.SsdDwRefIdeal.τ Cert.SsdDwRefIdeal.sig) → Buf (Elt Ideal) ℓ) : Prop :=
  True

def Pre_SsdMm (m : (ℓ : Loc Cert.SsdMm.nD Cert.SsdMm.τ Cert.SsdMm.sig) → Buf (Elt Bits) ℓ) : Prop :=
  True

def Pre_SsdMmIdeal (m : (ℓ : Loc Cert.SsdMmIdeal.nD Cert.SsdMmIdeal.τ Cert.SsdMmIdeal.sig) → Buf (Elt Ideal) ℓ) : Prop :=
  True

def Pre_SsdMmRefIdeal (m : (ℓ : Loc Cert.SsdMmRefIdeal.nD Cert.SsdMmRefIdeal.τ Cert.SsdMmRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamRows (m : (ℓ : Loc Cert.AdamRows.nD Cert.AdamRows.τ Cert.AdamRows.sig) → Buf (Elt Bits) ℓ) : Prop :=
  True

def Pre_AdamRowsIdeal (m : (ℓ : Loc Cert.AdamRowsIdeal.nD Cert.AdamRowsIdeal.τ Cert.AdamRowsIdeal.sig) → Buf (Elt Ideal) ℓ) : Prop :=
  True

def Pre_AdamRowsRefIdeal (m : (ℓ : Loc Cert.AdamRowsRefIdeal.nD Cert.AdamRowsRefIdeal.τ Cert.AdamRowsRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamFin (m : (ℓ : Loc Cert.AdamFin.nD Cert.AdamFin.τ Cert.AdamFin.sig) → Buf (Elt Bits) ℓ) : Prop :=
  True

def Pre_AdamFinIdeal (m : (ℓ : Loc Cert.AdamFinIdeal.nD Cert.AdamFinIdeal.τ Cert.AdamFinIdeal.sig) → Buf (Elt Ideal) ℓ) : Prop :=
  True

def Pre_AdamFinRefIdeal (m : (ℓ : Loc Cert.AdamFinRefIdeal.nD Cert.AdamFinRefIdeal.τ Cert.AdamFinRefIdeal.sig) → Buf (Elt Ideal) ℓ) : Prop :=
  True

def Pre_AdamFout (m : (ℓ : Loc Cert.AdamFout.nD Cert.AdamFout.τ Cert.AdamFout.sig) → Buf (Elt Bits) ℓ) : Prop :=
  True

def Pre_AdamFoutIdeal (m : (ℓ : Loc Cert.AdamFoutIdeal.nD Cert.AdamFoutIdeal.τ Cert.AdamFoutIdeal.sig) → Buf (Elt Ideal) ℓ) : Prop :=
  True

def Pre_AdamFoutRefIdeal (m : (ℓ : Loc Cert.AdamFoutRefIdeal.nD Cert.AdamFoutRefIdeal.τ Cert.AdamFoutRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_PreFwd (m : (ℓ : Loc Cert.PreFwd.nD Cert.PreFwd.τ Cert.PreFwd.sig) → Buf (Elt Bits) ℓ) : Prop :=
  True

def Pre_PreFwdIdeal (m : (ℓ : Loc Cert.PreFwdIdeal.nD Cert.PreFwdIdeal.τ Cert.PreFwdIdeal.sig) → Buf (Elt Ideal) ℓ) : Prop :=
  True

def Pre_PreFwdRefIdeal (m : (ℓ : Loc Cert.PreFwdRefIdeal.nD Cert.PreFwdRefIdeal.τ Cert.PreFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossFwdRefIdeal (m : (ℓ : Loc Cert.LossFwdRefIdeal.nD Cert.LossFwdRefIdeal.τ Cert.LossFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutMm [hOutMm : Cert.OutMm.Facts] : Prop :=
  ∀ (m : (ℓ : Loc Cert.OutMm.nD Cert.OutMm.τ Cert.OutMm.sig) → Buf (Elt Bits) ℓ) (g : Dev Cert.OutMm.nD → PrngReg), Pre_OutMm m →
    θ_run (Cert.OutMm.defs (F := Bits)) (onTc (τ := Cert.OutMm.τ) (Cert.OutMm.main (F := Bits))) ⟨m, fun _ => 0, g⟩ (fun r => (∀ c : Dev Cert.OutMm.nD,
      r.2.mem ((c.tc : Thread Cert.OutMm.nD Cert.OutMm.τ).loc Cert.OutMm.main_arg0) = m ((c.tc : Thread Cert.OutMm.nD Cert.OutMm.τ).loc Cert.OutMm.main_arg0)
      ∧ r.2.mem ((c.tc : Thread Cert.OutMm.nD Cert.OutMm.τ).loc Cert.OutMm.main_arg1) = m ((c.tc : Thread Cert.OutMm.nD Cert.OutMm.τ).loc Cert.OutMm.main_arg1))
      ∧ r.2.sem = fun _ => 0)

def quiescent_OutMmIdeal [hOutMmIdeal : Cert.OutMmIdeal.Facts] : Prop :=
  ∀ (m : (ℓ : Loc Cert.OutMmIdeal.nD Cert.OutMmIdeal.τ Cert.OutMmIdeal.sig) → Buf (Elt Ideal) ℓ) (g : Dev Cert.OutMmIdeal.nD → PrngReg), Pre_OutMmIdeal m →
    θ_run (Cert.OutMmIdeal.defs (F := Ideal)) (onTc (τ := Cert.OutMmIdeal.τ) (Cert.OutMmIdeal.main (F := Ideal))) ⟨m, fun _ => 0, g⟩ (fun r => (∀ c : Dev Cert.OutMmIdeal.nD,
      r.2.mem ((c.tc : Thread Cert.OutMmIdeal.nD Cert.OutMmIdeal.τ).loc Cert.OutMmIdeal.main_arg0) = m ((c.tc : Thread Cert.OutMmIdeal.nD Cert.OutMmIdeal.τ).loc Cert.OutMmIdeal.main_arg0)
      ∧ r.2.mem ((c.tc : Thread Cert.OutMmIdeal.nD Cert.OutMmIdeal.τ).loc Cert.OutMmIdeal.main_arg1) = m ((c.tc : Thread Cert.OutMmIdeal.nD Cert.OutMmIdeal.τ).loc Cert.OutMmIdeal.main_arg1))
      ∧ r.2.sem = fun _ => 0)

def quiescent_OutMmRefIdeal [hOutMmRefIdeal : Cert.OutMmRefIdeal.Facts] : Prop :=
  ∀ (m : (ℓ : Loc Cert.OutMmRefIdeal.nD Cert.OutMmRefIdeal.τ Cert.OutMmRefIdeal.sig) → Buf (Elt Ideal) ℓ) (g : Dev Cert.OutMmRefIdeal.nD → PrngReg), Pre_OutMmRefIdeal m →
    θ_run (Cert.OutMmRefIdeal.defs (F := Ideal)) (onTc (τ := Cert.OutMmRefIdeal.τ) (Cert.OutMmRefIdeal.main (F := Ideal))) ⟨m, fun _ => 0, g⟩ (fun r => (∀ c : Dev Cert.OutMmRefIdeal.nD,
      r.2.mem ((c.tc : Thread Cert.OutMmRefIdeal.nD Cert.OutMmRefIdeal.τ).loc Cert.OutMmRefIdeal.main_arg0) = m ((c.tc : Thread Cert.OutMmRefIdeal.nD Cert.OutMmRefIdeal.τ).loc Cert.OutMmRefIdeal.main_arg0)
      ∧ r.2.mem ((c.tc : Thread Cert.OutMmRefIdeal.nD Cert.OutMmRefIdeal.τ).loc Cert.OutMmRefIdeal.main_arg1) = m ((c.tc : Thread Cert.OutMmRefIdeal.nD Cert.OutMmRefIdeal.τ).loc Cert.OutMmRefIdeal.main_arg1))
      ∧ r.2.sem = fun _ => 0)

def quiescent_FfDx [hFfDx : Cert.FfDx.Facts] : Prop :=
  ∀ (m : (ℓ : Loc Cert.FfDx.nD Cert.FfDx.τ Cert.FfDx.sig) → Buf (Elt Bits) ℓ) (g : Dev Cert.FfDx.nD → PrngReg), Pre_FfDx m →
    θ_run (Cert.FfDx.defs (F := Bits)) (onTc (τ := Cert.FfDx.τ) (Cert.FfDx.main (F := Bits))) ⟨m, fun _ => 0, g⟩ (fun r => (∀ c : Dev Cert.FfDx.nD,
      r.2.mem ((c.tc : Thread Cert.FfDx.nD Cert.FfDx.τ).loc Cert.FfDx.main_arg0) = m ((c.tc : Thread Cert.FfDx.nD Cert.FfDx.τ).loc Cert.FfDx.main_arg0)
      ∧ r.2.mem ((c.tc : Thread Cert.FfDx.nD Cert.FfDx.τ).loc Cert.FfDx.main_arg1) = m ((c.tc : Thread Cert.FfDx.nD Cert.FfDx.τ).loc Cert.FfDx.main_arg1))
      ∧ r.2.sem = fun _ => 0)

def quiescent_FfDxIdeal [hFfDxIdeal : Cert.FfDxIdeal.Facts] : Prop :=
  ∀ (m : (ℓ : Loc Cert.FfDxIdeal.nD Cert.FfDxIdeal.τ Cert.FfDxIdeal.sig) → Buf (Elt Ideal) ℓ) (g : Dev Cert.FfDxIdeal.nD → PrngReg), Pre_FfDxIdeal m →
    θ_run (Cert.FfDxIdeal.defs (F := Ideal)) (onTc (τ := Cert.FfDxIdeal.τ) (Cert.FfDxIdeal.main (F := Ideal))) ⟨m, fun _ => 0, g⟩ (fun r => (∀ c : Dev Cert.FfDxIdeal.nD,
      r.2.mem ((c.tc : Thread Cert.FfDxIdeal.nD Cert.FfDxIdeal.τ).loc Cert.FfDxIdeal.main_arg0) = m ((c.tc : Thread Cert.FfDxIdeal.nD Cert.FfDxIdeal.τ).loc Cert.FfDxIdeal.main_arg0)
      ∧ r.2.mem ((c.tc : Thread Cert.FfDxIdeal.nD Cert.FfDxIdeal.τ).loc Cert.FfDxIdeal.main_arg1) = m ((c.tc : Thread Cert.FfDxIdeal.nD Cert.FfDxIdeal.τ).loc Cert.FfDxIdeal.main_arg1))
      ∧ r.2.sem = fun _ => 0)

def quiescent_FfDxRefIdeal [hFfDxRefIdeal : Cert.FfDxRefIdeal.Facts] : Prop :=
  ∀ (m : (ℓ : Loc Cert.FfDxRefIdeal.nD Cert.FfDxRefIdeal.τ Cert.FfDxRefIdeal.sig) → Buf (Elt Ideal) ℓ) (g : Dev Cert.FfDxRefIdeal.nD → PrngReg), Pre_FfDxRefIdeal m →
    θ_run (Cert.FfDxRefIdeal.defs (F := Ideal)) (onTc (τ := Cert.FfDxRefIdeal.τ) (Cert.FfDxRefIdeal.main (F := Ideal))) ⟨m, fun _ => 0, g⟩ (fun r => (∀ c : Dev Cert.FfDxRefIdeal.nD,
      r.2.mem ((c.tc : Thread Cert.FfDxRefIdeal.nD Cert.FfDxRefIdeal.τ).loc Cert.FfDxRefIdeal.main_arg0) = m ((c.tc : Thread Cert.FfDxRefIdeal.nD Cert.FfDxRefIdeal.τ).loc Cert.FfDxRefIdeal.main_arg0)
      ∧ r.2.mem ((c.tc : Thread Cert.FfDxRefIdeal.nD Cert.FfDxRefIdeal.τ).loc Cert.FfDxRefIdeal.main_arg1) = m ((c.tc : Thread Cert.FfDxRefIdeal.nD Cert.FfDxRefIdeal.τ).loc Cert.FfDxRefIdeal.main_arg1))
      ∧ r.2.sem = fun _ => 0)

def quiescent_FfDw [hFfDw : Cert.FfDw.Facts] : Prop :=
  ∀ (m : (ℓ : Loc Cert.FfDw.nD Cert.FfDw.τ Cert.FfDw.sig) → Buf (Elt Bits) ℓ) (g : Dev Cert.FfDw.nD → PrngReg), Pre_FfDw m →
    θ_run (Cert.FfDw.defs (F := Bits)) (onTc (τ := Cert.FfDw.τ) (Cert.FfDw.main (F := Bits))) ⟨m, fun _ => 0, g⟩ (fun r => (∀ c : Dev Cert.FfDw.nD,
      r.2.mem ((c.tc : Thread Cert.FfDw.nD Cert.FfDw.τ).loc Cert.FfDw.main_arg0) = m ((c.tc : Thread Cert.FfDw.nD Cert.FfDw.τ).loc Cert.FfDw.main_arg0)
      ∧ r.2.mem ((c.tc : Thread Cert.FfDw.nD Cert.FfDw.τ).loc Cert.FfDw.main_arg1) = m ((c.tc : Thread Cert.FfDw.nD Cert.FfDw.τ).loc Cert.FfDw.main_arg1))
      ∧ r.2.sem = fun _ => 0)

def quiescent_FfDwIdeal [hFfDwIdeal : Cert.FfDwIdeal.Facts] : Prop :=
  ∀ (m : (ℓ : Loc Cert.FfDwIdeal.nD Cert.FfDwIdeal.τ Cert.FfDwIdeal.sig) → Buf (Elt Ideal) ℓ) (g : Dev Cert.FfDwIdeal.nD → PrngReg), Pre_FfDwIdeal m →
    θ_run (Cert.FfDwIdeal.defs (F := Ideal)) (onTc (τ := Cert.FfDwIdeal.τ) (Cert.FfDwIdeal.main (F := Ideal))) ⟨m, fun _ => 0, g⟩ (fun r => (∀ c : Dev Cert.FfDwIdeal.nD,
      r.2.mem ((c.tc : Thread Cert.FfDwIdeal.nD Cert.FfDwIdeal.τ).loc Cert.FfDwIdeal.main_arg0) = m ((c.tc : Thread Cert.FfDwIdeal.nD Cert.FfDwIdeal.τ).loc Cert.FfDwIdeal.main_arg0)
      ∧ r.2.mem ((c.tc : Thread Cert.FfDwIdeal.nD Cert.FfDwIdeal.τ).loc Cert.FfDwIdeal.main_arg1) = m ((c.tc : Thread Cert.FfDwIdeal.nD Cert.FfDwIdeal.τ).loc Cert.FfDwIdeal.main_arg1))
      ∧ r.2.sem = fun _ => 0)

def quiescent_FfDwRefIdeal [hFfDwRefIdeal : Cert.FfDwRefIdeal.Facts] : Prop :=
  ∀ (m : (ℓ : Loc Cert.FfDwRefIdeal.nD Cert.FfDwRefIdeal.τ Cert.FfDwRefIdeal.sig) → Buf (Elt Ideal) ℓ) (g : Dev Cert.FfDwRefIdeal.nD → PrngReg), Pre_FfDwRefIdeal m →
    θ_run (Cert.FfDwRefIdeal.defs (F := Ideal)) (onTc (τ := Cert.FfDwRefIdeal.τ) (Cert.FfDwRefIdeal.main (F := Ideal))) ⟨m, fun _ => 0, g⟩ (fun r => (∀ c : Dev Cert.FfDwRefIdeal.nD,
      r.2.mem ((c.tc : Thread Cert.FfDwRefIdeal.nD Cert.FfDwRefIdeal.τ).loc Cert.FfDwRefIdeal.main_arg0) = m ((c.tc : Thread Cert.FfDwRefIdeal.nD Cert.FfDwRefIdeal.τ).loc Cert.FfDwRefIdeal.main_arg0)
      ∧ r.2.mem ((c.tc : Thread Cert.FfDwRefIdeal.nD Cert.FfDwRefIdeal.τ).loc Cert.FfDwRefIdeal.main_arg1) = m ((c.tc : Thread Cert.FfDwRefIdeal.nD Cert.FfDwRefIdeal.τ).loc Cert.FfDwRefIdeal.main_arg1))
      ∧ r.2.sem = fun _ => 0)

def quiescent_FfMm [hFfMm : Cert.FfMm.Facts] : Prop :=
  ∀ (m : (ℓ : Loc Cert.FfMm.nD Cert.FfMm.τ Cert.FfMm.sig) → Buf (Elt Bits) ℓ) (g : Dev Cert.FfMm.nD → PrngReg), Pre_FfMm m →
    θ_run (Cert.FfMm.defs (F := Bits)) (onTc (τ := Cert.FfMm.τ) (Cert.FfMm.main (F := Bits))) ⟨m, fun _ => 0, g⟩ (fun r => (∀ c : Dev Cert.FfMm.nD,
      r.2.mem ((c.tc : Thread Cert.FfMm.nD Cert.FfMm.τ).loc Cert.FfMm.main_arg0) = m ((c.tc : Thread Cert.FfMm.nD Cert.FfMm.τ).loc Cert.FfMm.main_arg0)
      ∧ r.2.mem ((c.tc : Thread Cert.FfMm.nD Cert.FfMm.τ).loc Cert.FfMm.main_arg1) = m ((c.tc : Thread Cert.FfMm.nD Cert.FfMm.τ).loc Cert.FfMm.main_arg1))
      ∧ r.2.sem = fun _ => 0)

def quiescent_FfMmIdeal [hFfMmIdeal : Cert.FfMmIdeal.Facts] : Prop :=
  ∀ (m : (ℓ : Loc Cert.FfMmIdeal.nD Cert.FfMmIdeal.τ Cert.FfMmIdeal.sig) → Buf (Elt Ideal) ℓ) (g : Dev Cert.FfMmIdeal.nD → PrngReg), Pre_FfMmIdeal m →
    θ_run (Cert.FfMmIdeal.defs (F := Ideal)) (onTc (τ := Cert.FfMmIdeal.τ) (Cert.FfMmIdeal.main (F := Ideal))) ⟨m, fun _ => 0, g⟩ (fun r => (∀ c : Dev Cert.FfMmIdeal.nD,
      r.2.mem ((c.tc : Thread Cert.FfMmIdeal.nD Cert.FfMmIdeal.τ).loc Cert.FfMmIdeal.main_arg0) = m ((c.tc : Thread Cert.FfMmIdeal.nD Cert.FfMmIdeal.τ).loc Cert.FfMmIdeal.main_arg0)
      ∧ r.2.mem ((c.tc : Thread Cert.FfMmIdeal.nD Cert.FfMmIdeal.τ).loc Cert.FfMmIdeal.main_arg1) = m ((c.tc : Thread Cert.FfMmIdeal.nD Cert.FfMmIdeal.τ).loc Cert.FfMmIdeal.main_arg1))
      ∧ r.2.sem = fun _ => 0)

def quiescent_FfMmRefIdeal [hFfMmRefIdeal : Cert.FfMmRefIdeal.Facts] : Prop :=
  ∀ (m : (ℓ : Loc Cert.FfMmRefIdeal.nD Cert.FfMmRefIdeal.τ Cert.FfMmRefIdeal.sig) → Buf (Elt Ideal) ℓ) (g : Dev Cert.FfMmRefIdeal.nD → PrngReg), Pre_FfMmRefIdeal m →
    θ_run (Cert.FfMmRefIdeal.defs (F := Ideal)) (onTc (τ := Cert.FfMmRefIdeal.τ) (Cert.FfMmRefIdeal.main (F := Ideal))) ⟨m, fun _ => 0, g⟩ (fun r => (∀ c : Dev Cert.FfMmRefIdeal.nD,
      r.2.mem ((c.tc : Thread Cert.FfMmRefIdeal.nD Cert.FfMmRefIdeal.τ).loc Cert.FfMmRefIdeal.main_arg0) = m ((c.tc : Thread Cert.FfMmRefIdeal.nD Cert.FfMmRefIdeal.τ).loc Cert.FfMmRefIdeal.main_arg0)
      ∧ r.2.mem ((c.tc : Thread Cert.FfMmRefIdeal.nD Cert.FfMmRefIdeal.τ).loc Cert.FfMmRefIdeal.main_arg1) = m ((c.tc : Thread Cert.FfMmRefIdeal.nD Cert.FfMmRefIdeal.τ).loc Cert.FfMmRefIdeal.main_arg1))
      ∧ r.2.sem = fun _ => 0)

def quiescent_FfoDx [hFfoDx : Cert.FfoDx.Facts] : Prop :=
  ∀ (m : (ℓ : Loc Cert.FfoDx.nD Cert.FfoDx.τ Cert.FfoDx.sig) → Buf (Elt Bits) ℓ) (g : Dev Cert.FfoDx.nD → PrngReg), Pre_FfoDx m →
    θ_run (Cert.FfoDx.defs (F := Bits)) (onTc (τ := Cert.FfoDx.τ) (Cert.FfoDx.main (F := Bits))) ⟨m, fun _ => 0, g⟩ (fun r => (∀ c : Dev Cert.FfoDx.nD,
      r.2.mem ((c.tc : Thread Cert.FfoDx.nD Cert.FfoDx.τ).loc Cert.FfoDx.main_arg0) = m ((c.tc : Thread Cert.FfoDx.nD Cert.FfoDx.τ).loc Cert.FfoDx.main_arg0)
      ∧ r.2.mem ((c.tc : Thread Cert.FfoDx.nD Cert.FfoDx.τ).loc Cert.FfoDx.main_arg1) = m ((c.tc : Thread Cert.FfoDx.nD Cert.FfoDx.τ).loc Cert.FfoDx.main_arg1))
      ∧ r.2.sem = fun _ => 0)

def quiescent_FfoDxIdeal [hFfoDxIdeal : Cert.FfoDxIdeal.Facts] : Prop :=
  ∀ (m : (ℓ : Loc Cert.FfoDxIdeal.nD Cert.FfoDxIdeal.τ Cert.FfoDxIdeal.sig) → Buf (Elt Ideal) ℓ) (g : Dev Cert.FfoDxIdeal.nD → PrngReg), Pre_FfoDxIdeal m →
    θ_run (Cert.FfoDxIdeal.defs (F := Ideal)) (onTc (τ := Cert.FfoDxIdeal.τ) (Cert.FfoDxIdeal.main (F := Ideal))) ⟨m, fun _ => 0, g⟩ (fun r => (∀ c : Dev Cert.FfoDxIdeal.nD,
      r.2.mem ((c.tc : Thread Cert.FfoDxIdeal.nD Cert.FfoDxIdeal.τ).loc Cert.FfoDxIdeal.main_arg0) = m ((c.tc : Thread Cert.FfoDxIdeal.nD Cert.FfoDxIdeal.τ).loc Cert.FfoDxIdeal.main_arg0)
      ∧ r.2.mem ((c.tc : Thread Cert.FfoDxIdeal.nD Cert.FfoDxIdeal.τ).loc Cert.FfoDxIdeal.main_arg1) = m ((c.tc : Thread Cert.FfoDxIdeal.nD Cert.FfoDxIdeal.τ).loc Cert.FfoDxIdeal.main_arg1))
      ∧ r.2.sem = fun _ => 0)

def quiescent_FfoDxRefIdeal [hFfoDxRefIdeal : Cert.FfoDxRefIdeal.Facts] : Prop :=
  ∀ (m : (ℓ : Loc Cert.FfoDxRefIdeal.nD Cert.FfoDxRefIdeal.τ Cert.FfoDxRefIdeal.sig) → Buf (Elt Ideal) ℓ) (g : Dev Cert.FfoDxRefIdeal.nD → PrngReg), Pre_FfoDxRefIdeal m →
    θ_run (Cert.FfoDxRefIdeal.defs (F := Ideal)) (onTc (τ := Cert.FfoDxRefIdeal.τ) (Cert.FfoDxRefIdeal.main (F := Ideal))) ⟨m, fun _ => 0, g⟩ (fun r => (∀ c : Dev Cert.FfoDxRefIdeal.nD,
      r.2.mem ((c.tc : Thread Cert.FfoDxRefIdeal.nD Cert.FfoDxRefIdeal.τ).loc Cert.FfoDxRefIdeal.main_arg0) = m ((c.tc : Thread Cert.FfoDxRefIdeal.nD Cert.FfoDxRefIdeal.τ).loc Cert.FfoDxRefIdeal.main_arg0)
      ∧ r.2.mem ((c.tc : Thread Cert.FfoDxRefIdeal.nD Cert.FfoDxRefIdeal.τ).loc Cert.FfoDxRefIdeal.main_arg1) = m ((c.tc : Thread Cert.FfoDxRefIdeal.nD Cert.FfoDxRefIdeal.τ).loc Cert.FfoDxRefIdeal.main_arg1))
      ∧ r.2.sem = fun _ => 0)

def quiescent_FfoDw [hFfoDw : Cert.FfoDw.Facts] : Prop :=
  ∀ (m : (ℓ : Loc Cert.FfoDw.nD Cert.FfoDw.τ Cert.FfoDw.sig) → Buf (Elt Bits) ℓ) (g : Dev Cert.FfoDw.nD → PrngReg), Pre_FfoDw m →
    θ_run (Cert.FfoDw.defs (F := Bits)) (onTc (τ := Cert.FfoDw.τ) (Cert.FfoDw.main (F := Bits))) ⟨m, fun _ => 0, g⟩ (fun r => (∀ c : Dev Cert.FfoDw.nD,
      r.2.mem ((c.tc : Thread Cert.FfoDw.nD Cert.FfoDw.τ).loc Cert.FfoDw.main_arg0) = m ((c.tc : Thread Cert.FfoDw.nD Cert.FfoDw.τ).loc Cert.FfoDw.main_arg0)
      ∧ r.2.mem ((c.tc : Thread Cert.FfoDw.nD Cert.FfoDw.τ).loc Cert.FfoDw.main_arg1) = m ((c.tc : Thread Cert.FfoDw.nD Cert.FfoDw.τ).loc Cert.FfoDw.main_arg1))
      ∧ r.2.sem = fun _ => 0)

def quiescent_FfoDwIdeal [hFfoDwIdeal : Cert.FfoDwIdeal.Facts] : Prop :=
  ∀ (m : (ℓ : Loc Cert.FfoDwIdeal.nD Cert.FfoDwIdeal.τ Cert.FfoDwIdeal.sig) → Buf (Elt Ideal) ℓ) (g : Dev Cert.FfoDwIdeal.nD → PrngReg), Pre_FfoDwIdeal m →
    θ_run (Cert.FfoDwIdeal.defs (F := Ideal)) (onTc (τ := Cert.FfoDwIdeal.τ) (Cert.FfoDwIdeal.main (F := Ideal))) ⟨m, fun _ => 0, g⟩ (fun r => (∀ c : Dev Cert.FfoDwIdeal.nD,
      r.2.mem ((c.tc : Thread Cert.FfoDwIdeal.nD Cert.FfoDwIdeal.τ).loc Cert.FfoDwIdeal.main_arg0) = m ((c.tc : Thread Cert.FfoDwIdeal.nD Cert.FfoDwIdeal.τ).loc Cert.FfoDwIdeal.main_arg0)
      ∧ r.2.mem ((c.tc : Thread Cert.FfoDwIdeal.nD Cert.FfoDwIdeal.τ).loc Cert.FfoDwIdeal.main_arg1) = m ((c.tc : Thread Cert.FfoDwIdeal.nD Cert.FfoDwIdeal.τ).loc Cert.FfoDwIdeal.main_arg1))
      ∧ r.2.sem = fun _ => 0)

def quiescent_FfoDwRefIdeal [hFfoDwRefIdeal : Cert.FfoDwRefIdeal.Facts] : Prop :=
  ∀ (m : (ℓ : Loc Cert.FfoDwRefIdeal.nD Cert.FfoDwRefIdeal.τ Cert.FfoDwRefIdeal.sig) → Buf (Elt Ideal) ℓ) (g : Dev Cert.FfoDwRefIdeal.nD → PrngReg), Pre_FfoDwRefIdeal m →
    θ_run (Cert.FfoDwRefIdeal.defs (F := Ideal)) (onTc (τ := Cert.FfoDwRefIdeal.τ) (Cert.FfoDwRefIdeal.main (F := Ideal))) ⟨m, fun _ => 0, g⟩ (fun r => (∀ c : Dev Cert.FfoDwRefIdeal.nD,
      r.2.mem ((c.tc : Thread Cert.FfoDwRefIdeal.nD Cert.FfoDwRefIdeal.τ).loc Cert.FfoDwRefIdeal.main_arg0) = m ((c.tc : Thread Cert.FfoDwRefIdeal.nD Cert.FfoDwRefIdeal.τ).loc Cert.FfoDwRefIdeal.main_arg0)
      ∧ r.2.mem ((c.tc : Thread Cert.FfoDwRefIdeal.nD Cert.FfoDwRefIdeal.τ).loc Cert.FfoDwRefIdeal.main_arg1) = m ((c.tc : Thread Cert.FfoDwRefIdeal.nD Cert.FfoDwRefIdeal.τ).loc Cert.FfoDwRefIdeal.main_arg1))
      ∧ r.2.sem = fun _ => 0)

def quiescent_FfoMm [hFfoMm : Cert.FfoMm.Facts] : Prop :=
  ∀ (m : (ℓ : Loc Cert.FfoMm.nD Cert.FfoMm.τ Cert.FfoMm.sig) → Buf (Elt Bits) ℓ) (g : Dev Cert.FfoMm.nD → PrngReg), Pre_FfoMm m →
    θ_run (Cert.FfoMm.defs (F := Bits)) (onTc (τ := Cert.FfoMm.τ) (Cert.FfoMm.main (F := Bits))) ⟨m, fun _ => 0, g⟩ (fun r => (∀ c : Dev Cert.FfoMm.nD,
      r.2.mem ((c.tc : Thread Cert.FfoMm.nD Cert.FfoMm.τ).loc Cert.FfoMm.main_arg0) = m ((c.tc : Thread Cert.FfoMm.nD Cert.FfoMm.τ).loc Cert.FfoMm.main_arg0)
      ∧ r.2.mem ((c.tc : Thread Cert.FfoMm.nD Cert.FfoMm.τ).loc Cert.FfoMm.main_arg1) = m ((c.tc : Thread Cert.FfoMm.nD Cert.FfoMm.τ).loc Cert.FfoMm.main_arg1))
      ∧ r.2.sem = fun _ => 0)

def quiescent_FfoMmIdeal [hFfoMmIdeal : Cert.FfoMmIdeal.Facts] : Prop :=
  ∀ (m : (ℓ : Loc Cert.FfoMmIdeal.nD Cert.FfoMmIdeal.τ Cert.FfoMmIdeal.sig) → Buf (Elt Ideal) ℓ) (g : Dev Cert.FfoMmIdeal.nD → PrngReg), Pre_FfoMmIdeal m →
    θ_run (Cert.FfoMmIdeal.defs (F := Ideal)) (onTc (τ := Cert.FfoMmIdeal.τ) (Cert.FfoMmIdeal.main (F := Ideal))) ⟨m, fun _ => 0, g⟩ (fun r => (∀ c : Dev Cert.FfoMmIdeal.nD,
      r.2.mem ((c.tc : Thread Cert.FfoMmIdeal.nD Cert.FfoMmIdeal.τ).loc Cert.FfoMmIdeal.main_arg0) = m ((c.tc : Thread Cert.FfoMmIdeal.nD Cert.FfoMmIdeal.τ).loc Cert.FfoMmIdeal.main_arg0)
      ∧ r.2.mem ((c.tc : Thread Cert.FfoMmIdeal.nD Cert.FfoMmIdeal.τ).loc Cert.FfoMmIdeal.main_arg1) = m ((c.tc : Thread Cert.FfoMmIdeal.nD Cert.FfoMmIdeal.τ).loc Cert.FfoMmIdeal.main_arg1))
      ∧ r.2.sem = fun _ => 0)

def quiescent_FfoMmRefIdeal [hFfoMmRefIdeal : Cert.FfoMmRefIdeal.Facts] : Prop :=
  ∀ (m : (ℓ : Loc Cert.FfoMmRefIdeal.nD Cert.FfoMmRefIdeal.τ Cert.FfoMmRefIdeal.sig) → Buf (Elt Ideal) ℓ) (g : Dev Cert.FfoMmRefIdeal.nD → PrngReg), Pre_FfoMmRefIdeal m →
    θ_run (Cert.FfoMmRefIdeal.defs (F := Ideal)) (onTc (τ := Cert.FfoMmRefIdeal.τ) (Cert.FfoMmRefIdeal.main (F := Ideal))) ⟨m, fun _ => 0, g⟩ (fun r => (∀ c : Dev Cert.FfoMmRefIdeal.nD,
      r.2.mem ((c.tc : Thread Cert.FfoMmRefIdeal.nD Cert.FfoMmRefIdeal.τ).loc Cert.FfoMmRefIdeal.main_arg0) = m ((c.tc : Thread Cert.FfoMmRefIdeal.nD Cert.FfoMmRefIdeal.τ).loc Cert.FfoMmRefIdeal.main_arg0)
      ∧ r.2.mem ((c.tc : Thread Cert.FfoMmRefIdeal.nD Cert.FfoMmRefIdeal.τ).loc Cert.FfoMmRefIdeal.main_arg1) = m ((c.tc : Thread Cert.FfoMmRefIdeal.nD Cert.FfoMmRefIdeal.τ).loc Cert.FfoMmRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_QkvMm [hQkvMm : Cert.QkvMm.Facts] : Prop :=
  ∀ (m : (ℓ : Loc Cert.QkvMm.nD Cert.QkvMm.τ Cert.QkvMm.sig) → Buf (Elt Bits) ℓ) (g : Dev Cert.QkvMm.nD → PrngReg), Pre_QkvMm m →
    θ_run (Cert.QkvMm.defs (F := Bits)) (onTc (τ := Cert.QkvMm.τ) (Cert.QkvMm.main (F := Bits))) ⟨m, fun _ => 0, g⟩ (fun r => (∀ c : Dev Cert.QkvMm.nD,
      r.2.mem ((c.tc : Thread Cert.QkvMm.nD Cert.QkvMm.τ).loc Cert.QkvMm.main_arg0) = m ((c.tc : Thread Cert.QkvMm.nD Cert.QkvMm.τ).loc Cert.QkvMm.main_arg0)
      ∧ r.2.mem ((c.tc : Thread Cert.QkvMm.nD Cert.QkvMm.τ).loc Cert.QkvMm.main_arg1) = m ((c.tc : Thread Cert.QkvMm.nD Cert.QkvMm.τ).loc Cert.QkvMm.main_arg1))
      ∧ r.2.sem = fun _ => 0)

def quiescent_QkvMmIdeal [hQkvMmIdeal : Cert.QkvMmIdeal.Facts] : Prop :=
  ∀ (m : (ℓ : Loc Cert.QkvMmIdeal.nD Cert.QkvMmIdeal.τ Cert.QkvMmIdeal.sig) → Buf (Elt Ideal) ℓ) (g : Dev Cert.QkvMmIdeal.nD → PrngReg), Pre_QkvMmIdeal m →
    θ_run (Cert.QkvMmIdeal.defs (F := Ideal)) (onTc (τ := Cert.QkvMmIdeal.τ) (Cert.QkvMmIdeal.main (F := Ideal))) ⟨m, fun _ => 0, g⟩ (fun r => (∀ c : Dev Cert.QkvMmIdeal.nD,
      r.2.mem ((c.tc : Thread Cert.QkvMmIdeal.nD Cert.QkvMmIdeal.τ).loc Cert.QkvMmIdeal.main_arg0) = m ((c.tc : Thread Cert.QkvMmIdeal.nD Cert.QkvMmIdeal.τ).loc Cert.QkvMmIdeal.main_arg0)
      ∧ r.2.mem ((c.tc : Thread Cert.QkvMmIdeal.nD Cert.QkvMmIdeal.τ).loc Cert.QkvMmIdeal.main_arg1) = m ((c.tc : Thread Cert.QkvMmIdeal.nD Cert.QkvMmIdeal.τ).loc Cert.QkvMmIdeal.main_arg1))
      ∧ r.2.sem = fun _ => 0)

def quiescent_QkvMmRefIdeal [hQkvMmRefIdeal : Cert.QkvMmRefIdeal.Facts] : Prop :=
  ∀ (m : (ℓ : Loc Cert.QkvMmRefIdeal.nD Cert.QkvMmRefIdeal.τ Cert.QkvMmRefIdeal.sig) → Buf (Elt Ideal) ℓ) (g : Dev Cert.QkvMmRefIdeal.nD → PrngReg), Pre_QkvMmRefIdeal m →
    θ_run (Cert.QkvMmRefIdeal.defs (F := Ideal)) (onTc (τ := Cert.QkvMmRefIdeal.τ) (Cert.QkvMmRefIdeal.main (F := Ideal))) ⟨m, fun _ => 0, g⟩ (fun r => (∀ c : Dev Cert.QkvMmRefIdeal.nD,
      r.2.mem ((c.tc : Thread Cert.QkvMmRefIdeal.nD Cert.QkvMmRefIdeal.τ).loc Cert.QkvMmRefIdeal.main_arg0) = m ((c.tc : Thread Cert.QkvMmRefIdeal.nD Cert.QkvMmRefIdeal.τ).loc Cert.QkvMmRefIdeal.main_arg0)
      ∧ r.2.mem ((c.tc : Thread Cert.QkvMmRefIdeal.nD Cert.QkvMmRefIdeal.τ).loc Cert.QkvMmRefIdeal.main_arg1) = m ((c.tc : Thread Cert.QkvMmRefIdeal.nD Cert.QkvMmRefIdeal.τ).loc Cert.QkvMmRefIdeal.main_arg1))
      ∧ r.2.sem = fun _ => 0)

def quiescent_SsdDx [hSsdDx : Cert.SsdDx.Facts] : Prop :=
  ∀ (m : (ℓ : Loc Cert.SsdDx.nD Cert.SsdDx.τ Cert.SsdDx.sig) → Buf (Elt Bits) ℓ) (g : Dev Cert.SsdDx.nD → PrngReg), Pre_SsdDx m →
    θ_run (Cert.SsdDx.defs (F := Bits)) (onTc (τ := Cert.SsdDx.τ) (Cert.SsdDx.main (F := Bits))) ⟨m, fun _ => 0, g⟩ (fun r => (∀ c : Dev Cert.SsdDx.nD,
      r.2.mem ((c.tc : Thread Cert.SsdDx.nD Cert.SsdDx.τ).loc Cert.SsdDx.main_arg0) = m ((c.tc : Thread Cert.SsdDx.nD Cert.SsdDx.τ).loc Cert.SsdDx.main_arg0)
      ∧ r.2.mem ((c.tc : Thread Cert.SsdDx.nD Cert.SsdDx.τ).loc Cert.SsdDx.main_arg1) = m ((c.tc : Thread Cert.SsdDx.nD Cert.SsdDx.τ).loc Cert.SsdDx.main_arg1))
      ∧ r.2.sem = fun _ => 0)

def quiescent_SsdDxIdeal [hSsdDxIdeal : Cert.SsdDxIdeal.Facts] : Prop :=
  ∀ (m : (ℓ : Loc Cert.SsdDxIdeal.nD Cert.SsdDxIdeal.τ Cert.SsdDxIdeal.sig) → Buf (Elt Ideal) ℓ) (g : Dev Cert.SsdDxIdeal.nD → PrngReg), Pre_SsdDxIdeal m →
    θ_run (Cert.SsdDxIdeal.defs (F := Ideal)) (onTc (τ := Cert.SsdDxIdeal.τ) (Cert.SsdDxIdeal.main (F := Ideal))) ⟨m, fun _ => 0, g⟩ (fun r => (∀ c : Dev Cert.SsdDxIdeal.nD,
      r.2.mem ((c.tc : Thread Cert.SsdDxIdeal.nD Cert.SsdDxIdeal.τ).loc Cert.SsdDxIdeal.main_arg0) = m ((c.tc : Thread Cert.SsdDxIdeal.nD Cert.SsdDxIdeal.τ).loc Cert.SsdDxIdeal.main_arg0)
      ∧ r.2.mem ((c.tc : Thread Cert.SsdDxIdeal.nD Cert.SsdDxIdeal.τ).loc Cert.SsdDxIdeal.main_arg1) = m ((c.tc : Thread Cert.SsdDxIdeal.nD Cert.SsdDxIdeal.τ).loc Cert.SsdDxIdeal.main_arg1))
      ∧ r.2.sem = fun _ => 0)

def quiescent_SsdDxRefIdeal [hSsdDxRefIdeal : Cert.SsdDxRefIdeal.Facts] : Prop :=
  ∀ (m : (ℓ : Loc Cert.SsdDxRefIdeal.nD Cert.SsdDxRefIdeal.τ Cert.SsdDxRefIdeal.sig) → Buf (Elt Ideal) ℓ) (g : Dev Cert.SsdDxRefIdeal.nD → PrngReg), Pre_SsdDxRefIdeal m →
    θ_run (Cert.SsdDxRefIdeal.defs (F := Ideal)) (onTc (τ := Cert.SsdDxRefIdeal.τ) (Cert.SsdDxRefIdeal.main (F := Ideal))) ⟨m, fun _ => 0, g⟩ (fun r => (∀ c : Dev Cert.SsdDxRefIdeal.nD,
      r.2.mem ((c.tc : Thread Cert.SsdDxRefIdeal.nD Cert.SsdDxRefIdeal.τ).loc Cert.SsdDxRefIdeal.main_arg0) = m ((c.tc : Thread Cert.SsdDxRefIdeal.nD Cert.SsdDxRefIdeal.τ).loc Cert.SsdDxRefIdeal.main_arg0)
      ∧ r.2.mem ((c.tc : Thread Cert.SsdDxRefIdeal.nD Cert.SsdDxRefIdeal.τ).loc Cert.SsdDxRefIdeal.main_arg1) = m ((c.tc : Thread Cert.SsdDxRefIdeal.nD Cert.SsdDxRefIdeal.τ).loc Cert.SsdDxRefIdeal.main_arg1))
      ∧ r.2.sem = fun _ => 0)

def quiescent_SsdDw [hSsdDw : Cert.SsdDw.Facts] : Prop :=
  ∀ (m : (ℓ : Loc Cert.SsdDw.nD Cert.SsdDw.τ Cert.SsdDw.sig) → Buf (Elt Bits) ℓ) (g : Dev Cert.SsdDw.nD → PrngReg), Pre_SsdDw m →
    θ_run (Cert.SsdDw.defs (F := Bits)) (onTc (τ := Cert.SsdDw.τ) (Cert.SsdDw.main (F := Bits))) ⟨m, fun _ => 0, g⟩ (fun r => (∀ c : Dev Cert.SsdDw.nD,
      r.2.mem ((c.tc : Thread Cert.SsdDw.nD Cert.SsdDw.τ).loc Cert.SsdDw.main_arg0) = m ((c.tc : Thread Cert.SsdDw.nD Cert.SsdDw.τ).loc Cert.SsdDw.main_arg0)
      ∧ r.2.mem ((c.tc : Thread Cert.SsdDw.nD Cert.SsdDw.τ).loc Cert.SsdDw.main_arg1) = m ((c.tc : Thread Cert.SsdDw.nD Cert.SsdDw.τ).loc Cert.SsdDw.main_arg1))
      ∧ r.2.sem = fun _ => 0)

def quiescent_SsdDwIdeal [hSsdDwIdeal : Cert.SsdDwIdeal.Facts] : Prop :=
  ∀ (m : (ℓ : Loc Cert.SsdDwIdeal.nD Cert.SsdDwIdeal.τ Cert.SsdDwIdeal.sig) → Buf (Elt Ideal) ℓ) (g : Dev Cert.SsdDwIdeal.nD → PrngReg), Pre_SsdDwIdeal m →
    θ_run (Cert.SsdDwIdeal.defs (F := Ideal)) (onTc (τ := Cert.SsdDwIdeal.τ) (Cert.SsdDwIdeal.main (F := Ideal))) ⟨m, fun _ => 0, g⟩ (fun r => (∀ c : Dev Cert.SsdDwIdeal.nD,
      r.2.mem ((c.tc : Thread Cert.SsdDwIdeal.nD Cert.SsdDwIdeal.τ).loc Cert.SsdDwIdeal.main_arg0) = m ((c.tc : Thread Cert.SsdDwIdeal.nD Cert.SsdDwIdeal.τ).loc Cert.SsdDwIdeal.main_arg0)
      ∧ r.2.mem ((c.tc : Thread Cert.SsdDwIdeal.nD Cert.SsdDwIdeal.τ).loc Cert.SsdDwIdeal.main_arg1) = m ((c.tc : Thread Cert.SsdDwIdeal.nD Cert.SsdDwIdeal.τ).loc Cert.SsdDwIdeal.main_arg1))
      ∧ r.2.sem = fun _ => 0)

def quiescent_SsdDwRefIdeal [hSsdDwRefIdeal : Cert.SsdDwRefIdeal.Facts] : Prop :=
  ∀ (m : (ℓ : Loc Cert.SsdDwRefIdeal.nD Cert.SsdDwRefIdeal.τ Cert.SsdDwRefIdeal.sig) → Buf (Elt Ideal) ℓ) (g : Dev Cert.SsdDwRefIdeal.nD → PrngReg), Pre_SsdDwRefIdeal m →
    θ_run (Cert.SsdDwRefIdeal.defs (F := Ideal)) (onTc (τ := Cert.SsdDwRefIdeal.τ) (Cert.SsdDwRefIdeal.main (F := Ideal))) ⟨m, fun _ => 0, g⟩ (fun r => (∀ c : Dev Cert.SsdDwRefIdeal.nD,
      r.2.mem ((c.tc : Thread Cert.SsdDwRefIdeal.nD Cert.SsdDwRefIdeal.τ).loc Cert.SsdDwRefIdeal.main_arg0) = m ((c.tc : Thread Cert.SsdDwRefIdeal.nD Cert.SsdDwRefIdeal.τ).loc Cert.SsdDwRefIdeal.main_arg0)
      ∧ r.2.mem ((c.tc : Thread Cert.SsdDwRefIdeal.nD Cert.SsdDwRefIdeal.τ).loc Cert.SsdDwRefIdeal.main_arg1) = m ((c.tc : Thread Cert.SsdDwRefIdeal.nD Cert.SsdDwRefIdeal.τ).loc Cert.SsdDwRefIdeal.main_arg1))
      ∧ r.2.sem = fun _ => 0)

def quiescent_SsdMm [hSsdMm : Cert.SsdMm.Facts] : Prop :=
  ∀ (m : (ℓ : Loc Cert.SsdMm.nD Cert.SsdMm.τ Cert.SsdMm.sig) → Buf (Elt Bits) ℓ) (g : Dev Cert.SsdMm.nD → PrngReg), Pre_SsdMm m →
    θ_run (Cert.SsdMm.defs (F := Bits)) (onTc (τ := Cert.SsdMm.τ) (Cert.SsdMm.main (F := Bits))) ⟨m, fun _ => 0, g⟩ (fun r => (∀ c : Dev Cert.SsdMm.nD,
      r.2.mem ((c.tc : Thread Cert.SsdMm.nD Cert.SsdMm.τ).loc Cert.SsdMm.main_arg0) = m ((c.tc : Thread Cert.SsdMm.nD Cert.SsdMm.τ).loc Cert.SsdMm.main_arg0)
      ∧ r.2.mem ((c.tc : Thread Cert.SsdMm.nD Cert.SsdMm.τ).loc Cert.SsdMm.main_arg1) = m ((c.tc : Thread Cert.SsdMm.nD Cert.SsdMm.τ).loc Cert.SsdMm.main_arg1))
      ∧ r.2.sem = fun _ => 0)

def quiescent_SsdMmIdeal [hSsdMmIdeal : Cert.SsdMmIdeal.Facts] : Prop :=
  ∀ (m : (ℓ : Loc Cert.SsdMmIdeal.nD Cert.SsdMmIdeal.τ Cert.SsdMmIdeal.sig) → Buf (Elt Ideal) ℓ) (g : Dev Cert.SsdMmIdeal.nD → PrngReg), Pre_SsdMmIdeal m →
    θ_run (Cert.SsdMmIdeal.defs (F := Ideal)) (onTc (τ := Cert.SsdMmIdeal.τ) (Cert.SsdMmIdeal.main (F := Ideal))) ⟨m, fun _ => 0, g⟩ (fun r => (∀ c : Dev Cert.SsdMmIdeal.nD,
      r.2.mem ((c.tc : Thread Cert.SsdMmIdeal.nD Cert.SsdMmIdeal.τ).loc Cert.SsdMmIdeal.main_arg0) = m ((c.tc : Thread Cert.SsdMmIdeal.nD Cert.SsdMmIdeal.τ).loc Cert.SsdMmIdeal.main_arg0)
      ∧ r.2.mem ((c.tc : Thread Cert.SsdMmIdeal.nD Cert.SsdMmIdeal.τ).loc Cert.SsdMmIdeal.main_arg1) = m ((c.tc : Thread Cert.SsdMmIdeal.nD Cert.SsdMmIdeal.τ).loc Cert.SsdMmIdeal.main_arg1))
      ∧ r.2.sem = fun _ => 0)

def quiescent_SsdMmRefIdeal [hSsdMmRefIdeal : Cert.SsdMmRefIdeal.Facts] : Prop :=
  ∀ (m : (ℓ : Loc Cert.SsdMmRefIdeal.nD Cert.SsdMmRefIdeal.τ Cert.SsdMmRefIdeal.sig) → Buf (Elt Ideal) ℓ) (g : Dev Cert.SsdMmRefIdeal.nD → PrngReg), Pre_SsdMmRefIdeal m →
    θ_run (Cert.SsdMmRefIdeal.defs (F := Ideal)) (onTc (τ := Cert.SsdMmRefIdeal.τ) (Cert.SsdMmRefIdeal.main (F := Ideal))) ⟨m, fun _ => 0, g⟩ (fun r => (∀ c : Dev Cert.SsdMmRefIdeal.nD,
      r.2.mem ((c.tc : Thread Cert.SsdMmRefIdeal.nD Cert.SsdMmRefIdeal.τ).loc Cert.SsdMmRefIdeal.main_arg0) = m ((c.tc : Thread Cert.SsdMmRefIdeal.nD Cert.SsdMmRefIdeal.τ).loc Cert.SsdMmRefIdeal.main_arg0)
      ∧ r.2.mem ((c.tc : Thread Cert.SsdMmRefIdeal.nD Cert.SsdMmRefIdeal.τ).loc Cert.SsdMmRefIdeal.main_arg1) = m ((c.tc : Thread Cert.SsdMmRefIdeal.nD Cert.SsdMmRefIdeal.τ).loc Cert.SsdMmRefIdeal.main_arg1))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamRows [hAdamRows : Cert.AdamRows.Facts] : Prop :=
  ∀ (m : (ℓ : Loc Cert.AdamRows.nD Cert.AdamRows.τ Cert.AdamRows.sig) → Buf (Elt Bits) ℓ) (g : Dev Cert.AdamRows.nD → PrngReg), Pre_AdamRows m →
    θ_run (Cert.AdamRows.defs (F := Bits)) (onTc (τ := Cert.AdamRows.τ) (Cert.AdamRows.main (F := Bits))) ⟨m, fun _ => 0, g⟩ (fun r => (∀ c : Dev Cert.AdamRows.nD,
      r.2.mem ((c.tc : Thread Cert.AdamRows.nD Cert.AdamRows.τ).loc Cert.AdamRows.main_arg0) = m ((c.tc : Thread Cert.AdamRows.nD Cert.AdamRows.τ).loc Cert.AdamRows.main_arg0)
      ∧ r.2.mem ((c.tc : Thread Cert.AdamRows.nD Cert.AdamRows.τ).loc Cert.AdamRows.main_arg1) = m ((c.tc : Thread Cert.AdamRows.nD Cert.AdamRows.τ).loc Cert.AdamRows.main_arg1)
      ∧ r.2.mem ((c.tc : Thread Cert.AdamRows.nD Cert.AdamRows.τ).loc Cert.AdamRows.main_arg2) = m ((c.tc : Thread Cert.AdamRows.nD Cert.AdamRows.τ).loc Cert.AdamRows.main_arg2)
      ∧ r.2.mem ((c.tc : Thread Cert.AdamRows.nD Cert.AdamRows.τ).loc Cert.AdamRows.main_arg3) = m ((c.tc : Thread Cert.AdamRows.nD Cert.AdamRows.τ).loc Cert.AdamRows.main_arg3))
      ∧ r.2.sem = fun _ => 0)

def quiescent_AdamRowsIdeal [hAdamRowsIdeal : Cert.AdamRowsIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg), Pre_AdamRowsIdeal m →
    θ_run (Cert.AdamRowsIdeal.defs (F := Ideal)) (onTc (τ := Cert.AdamRowsIdeal.τ) (Cert.AdamRowsIdeal.main (F := Ideal))) ⟨m, fun _ => 0, g⟩ (fun r => (∀ c : Dev Cert.AdamRowsIdeal.nD,
      r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
      ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
      ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
      ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ r.2.sem = fun _ => 0)

def quiescent_AdamRowsRefIdeal [hAdamRowsRefIdeal : Cert.AdamRowsRefIdeal.Facts] : Prop :=
  ∀ (m : (ℓ : Loc Cert.AdamRowsRefIdeal.nD Cert.AdamRowsRefIdeal.τ Cert.AdamRowsRefIdeal.sig) → Buf (Elt Ideal) ℓ) (g : Dev Cert.AdamRowsRefIdeal.nD → PrngReg), Pre_AdamRowsRefIdeal m →
    θ_run (Cert.AdamRowsRefIdeal.defs (F := Ideal)) (onTc (τ := Cert.AdamRowsRefIdeal.τ) (Cert.AdamRowsRefIdeal.main (F := Ideal))) ⟨m, fun _ => 0, g⟩ (fun r => (∀ c : Dev Cert.AdamRowsRefIdeal.nD,
      r.2.mem ((c.tc : Thread Cert.AdamRowsRefIdeal.nD Cert.AdamRowsRefIdeal.τ).loc Cert.AdamRowsRefIdeal.main_arg0) = m ((c.tc : Thread Cert.AdamRowsRefIdeal.nD Cert.AdamRowsRefIdeal.τ).loc Cert.AdamRowsRefIdeal.main_arg0)
      ∧ r.2.mem ((c.tc : Thread Cert.AdamRowsRefIdeal.nD Cert.AdamRowsRefIdeal.τ).loc Cert.AdamRowsRefIdeal.main_arg1) = m ((c.tc : Thread Cert.AdamRowsRefIdeal.nD Cert.AdamRowsRefIdeal.τ).loc Cert.AdamRowsRefIdeal.main_arg1)
      ∧ r.2.mem ((c.tc : Thread Cert.AdamRowsRefIdeal.nD Cert.AdamRowsRefIdeal.τ).loc Cert.AdamRowsRefIdeal.main_arg2) = m ((c.tc : Thread Cert.AdamRowsRefIdeal.nD Cert.AdamRowsRefIdeal.τ).loc Cert.AdamRowsRefIdeal.main_arg2)
      ∧ r.2.mem ((c.tc : Thread Cert.AdamRowsRefIdeal.nD Cert.AdamRowsRefIdeal.τ).loc Cert.AdamRowsRefIdeal.main_arg3) = m ((c.tc : Thread Cert.AdamRowsRefIdeal.nD Cert.AdamRowsRefIdeal.τ).loc Cert.AdamRowsRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamFin [hAdamFin : Cert.AdamFin.Facts] : Prop :=
  ∀ (m : (ℓ : Loc Cert.AdamFin.nD Cert.AdamFin.τ Cert.AdamFin.sig) → Buf (Elt Bits) ℓ) (g : Dev Cert.AdamFin.nD → PrngReg), Pre_AdamFin m →
    θ_run (Cert.AdamFin.defs (F := Bits)) (onTc (τ := Cert.AdamFin.τ) (Cert.AdamFin.main (F := Bits))) ⟨m, fun _ => 0, g⟩ (fun r => (∀ c : Dev Cert.AdamFin.nD,
      r.2.mem ((c.tc : Thread Cert.AdamFin.nD Cert.AdamFin.τ).loc Cert.AdamFin.main_arg0) = m ((c.tc : Thread Cert.AdamFin.nD Cert.AdamFin.τ).loc Cert.AdamFin.main_arg0)
      ∧ r.2.mem ((c.tc : Thread Cert.AdamFin.nD Cert.AdamFin.τ).loc Cert.AdamFin.main_arg1) = m ((c.tc : Thread Cert.AdamFin.nD Cert.AdamFin.τ).loc Cert.AdamFin.main_arg1)
      ∧ r.2.mem ((c.tc : Thread Cert.AdamFin.nD Cert.AdamFin.τ).loc Cert.AdamFin.main_arg2) = m ((c.tc : Thread Cert.AdamFin.nD Cert.AdamFin.τ).loc Cert.AdamFin.main_arg2)
      ∧ r.2.mem ((c.tc : Thread Cert.AdamFin.nD Cert.AdamFin.τ).loc Cert.AdamFin.main_arg3) = m ((c.tc : Thread Cert.AdamFin.nD Cert.AdamFin.τ).loc Cert.AdamFin.main_arg3))
      ∧ r.2.sem = fun _ => 0)

def quiescent_AdamFinIdeal [hAdamFinIdeal : Cert.AdamFinIdeal.Facts] : Prop :=
  ∀ (m : (ℓ : Loc Cert.AdamFinIdeal.nD Cert.AdamFinIdeal.τ Cert.AdamFinIdeal.sig) → Buf (Elt Ideal) ℓ) (g : Dev Cert.AdamFinIdeal.nD → PrngReg), Pre_AdamFinIdeal m →
    θ_run (Cert.AdamFinIdeal.defs (F := Ideal)) (onTc (τ := Cert.AdamFinIdeal.τ) (Cert.AdamFinIdeal.main (F := Ideal))) ⟨m, fun _ => 0, g⟩ (fun r => (∀ c : Dev Cert.AdamFinIdeal.nD,
      r.2.mem ((c.tc : Thread Cert.AdamFinIdeal.nD Cert.AdamFinIdeal.τ).loc Cert.AdamFinIdeal.main_arg0) = m ((c.tc : Thread Cert.AdamFinIdeal.nD Cert.AdamFinIdeal.τ).loc Cert.AdamFinIdeal.main_arg0)
      ∧ r.2.mem ((c.tc : Thread Cert.AdamFinIdeal.nD Cert.AdamFinIdeal.τ).loc Cert.AdamFinIdeal.main_arg1) = m ((c.tc : Thread Cert.AdamFinIdeal.nD Cert.AdamFinIdeal.τ).loc Cert.AdamFinIdeal.main_arg1)
      ∧ r.2.mem ((c.tc : Thread Cert.AdamFinIdeal.nD Cert.AdamFinIdeal.τ).loc Cert.AdamFinIdeal.main_arg2) = m ((c.tc : Thread Cert.AdamFinIdeal.nD Cert.AdamFinIdeal.τ).loc Cert.AdamFinIdeal.main_arg2)
      ∧ r.2.mem ((c.tc : Thread Cert.AdamFinIdeal.nD Cert.AdamFinIdeal.τ).loc Cert.AdamFinIdeal.main_arg3) = m ((c.tc : Thread Cert.AdamFinIdeal.nD Cert.AdamFinIdeal.τ).loc Cert.AdamFinIdeal.main_arg3))
      ∧ r.2.sem = fun _ => 0)

def quiescent_AdamFinRefIdeal [hAdamFinRefIdeal : Cert.AdamFinRefIdeal.Facts] : Prop :=
  ∀ (m : (ℓ : Loc Cert.AdamFinRefIdeal.nD Cert.AdamFinRefIdeal.τ Cert.AdamFinRefIdeal.sig) → Buf (Elt Ideal) ℓ) (g : Dev Cert.AdamFinRefIdeal.nD → PrngReg), Pre_AdamFinRefIdeal m →
    θ_run (Cert.AdamFinRefIdeal.defs (F := Ideal)) (onTc (τ := Cert.AdamFinRefIdeal.τ) (Cert.AdamFinRefIdeal.main (F := Ideal))) ⟨m, fun _ => 0, g⟩ (fun r => (∀ c : Dev Cert.AdamFinRefIdeal.nD,
      r.2.mem ((c.tc : Thread Cert.AdamFinRefIdeal.nD Cert.AdamFinRefIdeal.τ).loc Cert.AdamFinRefIdeal.main_arg0) = m ((c.tc : Thread Cert.AdamFinRefIdeal.nD Cert.AdamFinRefIdeal.τ).loc Cert.AdamFinRefIdeal.main_arg0)
      ∧ r.2.mem ((c.tc : Thread Cert.AdamFinRefIdeal.nD Cert.AdamFinRefIdeal.τ).loc Cert.AdamFinRefIdeal.main_arg1) = m ((c.tc : Thread Cert.AdamFinRefIdeal.nD Cert.AdamFinRefIdeal.τ).loc Cert.AdamFinRefIdeal.main_arg1)
      ∧ r.2.mem ((c.tc : Thread Cert.AdamFinRefIdeal.nD Cert.AdamFinRefIdeal.τ).loc Cert.AdamFinRefIdeal.main_arg2) = m ((c.tc : Thread Cert.AdamFinRefIdeal.nD Cert.AdamFinRefIdeal.τ).loc Cert.AdamFinRefIdeal.main_arg2)
      ∧ r.2.mem ((c.tc : Thread Cert.AdamFinRefIdeal.nD Cert.AdamFinRefIdeal.τ).loc Cert.AdamFinRefIdeal.main_arg3) = m ((c.tc : Thread Cert.AdamFinRefIdeal.nD Cert.AdamFinRefIdeal.τ).loc Cert.AdamFinRefIdeal.main_arg3))
      ∧ r.2.sem = fun _ => 0)

def quiescent_AdamFout [hAdamFout : Cert.AdamFout.Facts] : Prop :=
  ∀ (m : (ℓ : Loc Cert.AdamFout.nD Cert.AdamFout.τ Cert.AdamFout.sig) → Buf (Elt Bits) ℓ) (g : Dev Cert.AdamFout.nD → PrngReg), Pre_AdamFout m →
    θ_run (Cert.AdamFout.defs (F := Bits)) (onTc (τ := Cert.AdamFout.τ) (Cert.AdamFout.main (F := Bits))) ⟨m, fun _ => 0, g⟩ (fun r => (∀ c : Dev Cert.AdamFout.nD,
      r.2.mem ((c.tc : Thread Cert.AdamFout.nD Cert.AdamFout.τ).loc Cert.AdamFout.main_arg0) = m ((c.tc : Thread Cert.AdamFout.nD Cert.AdamFout.τ).loc Cert.AdamFout.main_arg0)
      ∧ r.2.mem ((c.tc : Thread Cert.AdamFout.nD Cert.AdamFout.τ).loc Cert.AdamFout.main_arg1) = m ((c.tc : Thread Cert.AdamFout.nD Cert.AdamFout.τ).loc Cert.AdamFout.main_arg1)
      ∧ r.2.mem ((c.tc : Thread Cert.AdamFout.nD Cert.AdamFout.τ).loc Cert.AdamFout.main_arg2) = m ((c.tc : Thread Cert.AdamFout.nD Cert.AdamFout.τ).loc Cert.AdamFout.main_arg2)
      ∧ r.2.mem ((c.tc : Thread Cert.AdamFout.nD Cert.AdamFout.τ).loc Cert.AdamFout.main_arg3) = m ((c.tc : Thread Cert.AdamFout.nD Cert.AdamFout.τ).loc Cert.AdamFout.main_arg3))
      ∧ r.2.sem = fun _ => 0)

def quiescent_AdamFoutIdeal [hAdamFoutIdeal : Cert.AdamFoutIdeal.Facts] : Prop :=
  ∀ (m : (ℓ : Loc Cert.AdamFoutIdeal.nD Cert.AdamFoutIdeal.τ Cert.AdamFoutIdeal.sig) → Buf (Elt Ideal) ℓ) (g : Dev Cert.AdamFoutIdeal.nD → PrngReg), Pre_AdamFoutIdeal m →
    θ_run (Cert.AdamFoutIdeal.defs (F := Ideal)) (onTc (τ := Cert.AdamFoutIdeal.τ) (Cert.AdamFoutIdeal.main (F := Ideal))) ⟨m, fun _ => 0, g⟩ (fun r => (∀ c : Dev Cert.AdamFoutIdeal.nD,
      r.2.mem ((c.tc : Thread Cert.AdamFoutIdeal.nD Cert.AdamFoutIdeal.τ).loc Cert.AdamFoutIdeal.main_arg0) = m ((c.tc : Thread Cert.AdamFoutIdeal.nD Cert.AdamFoutIdeal.τ).loc Cert.AdamFoutIdeal.main_arg0)
      ∧ r.2.mem ((c.tc : Thread Cert.AdamFoutIdeal.nD Cert.AdamFoutIdeal.τ).loc Cert.AdamFoutIdeal.main_arg1) = m ((c.tc : Thread Cert.AdamFoutIdeal.nD Cert.AdamFoutIdeal.τ).loc Cert.AdamFoutIdeal.main_arg1)
      ∧ r.2.mem ((c.tc : Thread Cert.AdamFoutIdeal.nD Cert.AdamFoutIdeal.τ).loc Cert.AdamFoutIdeal.main_arg2) = m ((c.tc : Thread Cert.AdamFoutIdeal.nD Cert.AdamFoutIdeal.τ).loc Cert.AdamFoutIdeal.main_arg2)
      ∧ r.2.mem ((c.tc : Thread Cert.AdamFoutIdeal.nD Cert.AdamFoutIdeal.τ).loc Cert.AdamFoutIdeal.main_arg3) = m ((c.tc : Thread Cert.AdamFoutIdeal.nD Cert.AdamFoutIdeal.τ).loc Cert.AdamFoutIdeal.main_arg3))
      ∧ r.2.sem = fun _ => 0)

def quiescent_AdamFoutRefIdeal [hAdamFoutRefIdeal : Cert.AdamFoutRefIdeal.Facts] : Prop :=
  ∀ (m : (ℓ : Loc Cert.AdamFoutRefIdeal.nD Cert.AdamFoutRefIdeal.τ Cert.AdamFoutRefIdeal.sig) → Buf (Elt Ideal) ℓ) (g : Dev Cert.AdamFoutRefIdeal.nD → PrngReg), Pre_AdamFoutRefIdeal m →
    θ_run (Cert.AdamFoutRefIdeal.defs (F := Ideal)) (onTc (τ := Cert.AdamFoutRefIdeal.τ) (Cert.AdamFoutRefIdeal.main (F := Ideal))) ⟨m, fun _ => 0, g⟩ (fun r => (∀ c : Dev Cert.AdamFoutRefIdeal.nD,
      r.2.mem ((c.tc : Thread Cert.AdamFoutRefIdeal.nD Cert.AdamFoutRefIdeal.τ).loc Cert.AdamFoutRefIdeal.main_arg0) = m ((c.tc : Thread Cert.AdamFoutRefIdeal.nD Cert.AdamFoutRefIdeal.τ).loc Cert.AdamFoutRefIdeal.main_arg0)
      ∧ r.2.mem ((c.tc : Thread Cert.AdamFoutRefIdeal.nD Cert.AdamFoutRefIdeal.τ).loc Cert.AdamFoutRefIdeal.main_arg1) = m ((c.tc : Thread Cert.AdamFoutRefIdeal.nD Cert.AdamFoutRefIdeal.τ).loc Cert.AdamFoutRefIdeal.main_arg1)
      ∧ r.2.mem ((c.tc : Thread Cert.AdamFoutRefIdeal.nD Cert.AdamFoutRefIdeal.τ).loc Cert.AdamFoutRefIdeal.main_arg2) = m ((c.tc : Thread Cert.AdamFoutRefIdeal.nD Cert.AdamFoutRefIdeal.τ).loc Cert.AdamFoutRefIdeal.main_arg2)
      ∧ r.2.mem ((c.tc : Thread Cert.AdamFoutRefIdeal.nD Cert.AdamFoutRefIdeal.τ).loc Cert.AdamFoutRefIdeal.main_arg3) = m ((c.tc : Thread Cert.AdamFoutRefIdeal.nD Cert.AdamFoutRefIdeal.τ).loc Cert.AdamFoutRefIdeal.main_arg3))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1))
      ∧ r.2.sem = fun _ => 0)

def quiescent_PreFwd [hPreFwd : Cert.PreFwd.Facts] : Prop :=
  ∀ (m : (ℓ : Loc Cert.PreFwd.nD Cert.PreFwd.τ Cert.PreFwd.sig) → Buf (Elt Bits) ℓ) (g : Dev Cert.PreFwd.nD → PrngReg), Pre_PreFwd m →
    θ_run (Cert.PreFwd.defs (F := Bits)) (onTc (τ := Cert.PreFwd.τ) (Cert.PreFwd.main (F := Bits))) ⟨m, fun _ => 0, g⟩ (fun r => (∀ c : Dev Cert.PreFwd.nD,
      r.2.mem ((c.tc : Thread Cert.PreFwd.nD Cert.PreFwd.τ).loc Cert.PreFwd.main_arg0) = m ((c.tc : Thread Cert.PreFwd.nD Cert.PreFwd.τ).loc Cert.PreFwd.main_arg0)
      ∧ r.2.mem ((c.tc : Thread Cert.PreFwd.nD Cert.PreFwd.τ).loc Cert.PreFwd.main_arg1) = m ((c.tc : Thread Cert.PreFwd.nD Cert.PreFwd.τ).loc Cert.PreFwd.main_arg1)
      ∧ r.2.mem ((c.tc : Thread Cert.PreFwd.nD Cert.PreFwd.τ).loc Cert.PreFwd.main_arg2) = m ((c.tc : Thread Cert.PreFwd.nD Cert.PreFwd.τ).loc Cert.PreFwd.main_arg2))
      ∧ r.2.sem = fun _ => 0)

def quiescent_PreFwdIdeal [hPreFwdIdeal : Cert.PreFwdIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg), Pre_PreFwdIdeal m →
    θ_run (Cert.PreFwdIdeal.defs (F := Ideal)) (onTc (τ := Cert.PreFwdIdeal.τ) (Cert.PreFwdIdeal.main (F := Ideal))) ⟨m, fun _ => 0, g⟩ (fun r => (∀ c : Dev Cert.PreFwdIdeal.nD,
      r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
      ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
      ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2))
      ∧ r.2.sem = fun _ => 0)

def quiescent_PreFwdRefIdeal [hPreFwdRefIdeal : Cert.PreFwdRefIdeal.Facts] : Prop :=
  ∀ (m : (ℓ : Loc Cert.PreFwdRefIdeal.nD Cert.PreFwdRefIdeal.τ Cert.PreFwdRefIdeal.sig) → Buf (Elt Ideal) ℓ) (g : Dev Cert.PreFwdRefIdeal.nD → PrngReg), Pre_PreFwdRefIdeal m →
    θ_run (Cert.PreFwdRefIdeal.defs (F := Ideal)) (onTc (τ := Cert.PreFwdRefIdeal.τ) (Cert.PreFwdRefIdeal.main (F := Ideal))) ⟨m, fun _ => 0, g⟩ (fun r => (∀ c : Dev Cert.PreFwdRefIdeal.nD,
      r.2.mem ((c.tc : Thread Cert.PreFwdRefIdeal.nD Cert.PreFwdRefIdeal.τ).loc Cert.PreFwdRefIdeal.main_arg0) = m ((c.tc : Thread Cert.PreFwdRefIdeal.nD Cert.PreFwdRefIdeal.τ).loc Cert.PreFwdRefIdeal.main_arg0)
      ∧ r.2.mem ((c.tc : Thread Cert.PreFwdRefIdeal.nD Cert.PreFwdRefIdeal.τ).loc Cert.PreFwdRefIdeal.main_arg1) = m ((c.tc : Thread Cert.PreFwdRefIdeal.nD Cert.PreFwdRefIdeal.τ).loc Cert.PreFwdRefIdeal.main_arg1)
      ∧ r.2.mem ((c.tc : Thread Cert.PreFwdRefIdeal.nD Cert.PreFwdRefIdeal.τ).loc Cert.PreFwdRefIdeal.main_arg2) = m ((c.tc : Thread Cert.PreFwdRefIdeal.nD Cert.PreFwdRefIdeal.τ).loc Cert.PreFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1)
      ∧ r.2.mem ((c.tc : Thread Cert.LossFwd.nD Cert.LossFwd.τ).loc Cert.LossFwd.main_arg2) = m ((c.tc : Thread Cert.LossFwd.nD Cert.LossFwd.τ).loc Cert.LossFwd.main_arg2))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
      ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2))
      ∧ r.2.sem = fun _ => 0)

def quiescent_LossFwdRefIdeal [hLossFwdRefIdeal : Cert.LossFwdRefIdeal.Facts] : Prop :=
  ∀ (m : (ℓ : Loc Cert.LossFwdRefIdeal.nD Cert.LossFwdRefIdeal.τ Cert.LossFwdRefIdeal.sig) → Buf (Elt Ideal) ℓ) (g : Dev Cert.LossFwdRefIdeal.nD → PrngReg), Pre_LossFwdRefIdeal m →
    θ_run (Cert.LossFwdRefIdeal.defs (F := Ideal)) (onTc (τ := Cert.LossFwdRefIdeal.τ) (Cert.LossFwdRefIdeal.main (F := Ideal))) ⟨m, fun _ => 0, g⟩ (fun r => (∀ c : Dev Cert.LossFwdRefIdeal.nD,
      r.2.mem ((c.tc : Thread Cert.LossFwdRefIdeal.nD Cert.LossFwdRefIdeal.τ).loc Cert.LossFwdRefIdeal.main_arg0) = m ((c.tc : Thread Cert.LossFwdRefIdeal.nD Cert.LossFwdRefIdeal.τ).loc Cert.LossFwdRefIdeal.main_arg0)
      ∧ r.2.mem ((c.tc : Thread Cert.LossFwdRefIdeal.nD Cert.LossFwdRefIdeal.τ).loc Cert.LossFwdRefIdeal.main_arg1) = m ((c.tc : Thread Cert.LossFwdRefIdeal.nD Cert.LossFwdRefIdeal.τ).loc Cert.LossFwdRefIdeal.main_arg1)
      ∧ r.2.mem ((c.tc : Thread Cert.LossFwdRefIdeal.nD Cert.LossFwdRefIdeal.τ).loc Cert.LossFwdRefIdeal.main_arg2) = m ((c.tc : Thread Cert.LossFwdRefIdeal.nD Cert.LossFwdRefIdeal.τ).loc Cert.LossFwdRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutMm_OutMmIdeal : Prop :=
  True

def algebraic_OutMmIdeal_OutMmRefIdeal [hOutMmIdeal : Cert.OutMmIdeal.Facts] [hOutMmRefIdeal : Cert.OutMmRefIdeal.Facts] : Prop :=
  ∀ (m : (ℓ : Loc Cert.OutMmIdeal.nD Cert.OutMmIdeal.τ Cert.OutMmIdeal.sig) → Buf (Elt Ideal) ℓ) (g : Dev Cert.OutMmIdeal.nD → PrngReg)
    (m' : (ℓ : Loc Cert.OutMmRefIdeal.nD Cert.OutMmRefIdeal.τ Cert.OutMmRefIdeal.sig) → Buf (Elt Ideal) ℓ) (g' : Dev Cert.OutMmRefIdeal.nD → PrngReg), Pre_OutMmIdeal m →
    (∀ c : Dev Cert.OutMmIdeal.nD,
      m' ((c.tc : Thread Cert.OutMmRefIdeal.nD Cert.OutMmRefIdeal.τ).loc Cert.OutMmRefIdeal.main_arg0) = m ((c.tc : Thread Cert.OutMmIdeal.nD Cert.OutMmIdeal.τ).loc Cert.OutMmIdeal.main_arg0)
      ∧ m' ((c.tc : Thread Cert.OutMmRefIdeal.nD Cert.OutMmRefIdeal.τ).loc Cert.OutMmRefIdeal.main_arg1) = m ((c.tc : Thread Cert.OutMmIdeal.nD Cert.OutMmIdeal.τ).loc Cert.OutMmIdeal.main_arg1)) →
    ∃ (v0 : (c : Dev Cert.OutMmIdeal.nD) → Buf (Elt Ideal) ((c.tc : Thread Cert.OutMmIdeal.nD Cert.OutMmIdeal.τ).loc Cert.OutMmIdeal.main_v1)),
      θ_run (Cert.OutMmIdeal.defs (F := Ideal)) (onTc (τ := Cert.OutMmIdeal.τ) (Cert.OutMmIdeal.main (F := Ideal))) ⟨m, fun _ => 0, g⟩ (fun r => ∀ c : Dev Cert.OutMmIdeal.nD,
          r.2.mem ((c.tc : Thread Cert.OutMmIdeal.nD Cert.OutMmIdeal.τ).loc Cert.OutMmIdeal.main_v1) = v0 c
          ∧ r.2.mem ((c.tc : Thread Cert.OutMmIdeal.nD Cert.OutMmIdeal.τ).loc Cert.OutMmIdeal.main_arg0) = m ((c.tc : Thread Cert.OutMmIdeal.nD Cert.OutMmIdeal.τ).loc Cert.OutMmIdeal.main_arg0)
          ∧ r.2.mem ((c.tc : Thread Cert.OutMmIdeal.nD Cert.OutMmIdeal.τ).loc Cert.OutMmIdeal.main_arg1) = m ((c.tc : Thread Cert.OutMmIdeal.nD Cert.OutMmIdeal.τ).loc Cert.OutMmIdeal.main_arg1))
      ∧ θ_run (Cert.OutMmRefIdeal.defs (F := Ideal)) (onTc (τ := Cert.OutMmRefIdeal.τ) (Cert.OutMmRefIdeal.main (F := Ideal))) ⟨m', fun _ => 0, g'⟩ (fun r => ∀ c : Dev Cert.OutMmRefIdeal.nD,
          r.2.mem ((c.tc : Thread Cert.OutMmRefIdeal.nD Cert.OutMmRefIdeal.τ).loc Cert.OutMmRefIdeal.main_v0) = v0 c
          ∧ r.2.mem ((c.tc : Thread Cert.OutMmRefIdeal.nD Cert.OutMmRefIdeal.τ).loc Cert.OutMmRefIdeal.main_arg0) = m' ((c.tc : Thread Cert.OutMmRefIdeal.nD Cert.OutMmRefIdeal.τ).loc Cert.OutMmRefIdeal.main_arg0)
          ∧ r.2.mem ((c.tc : Thread Cert.OutMmRefIdeal.nD Cert.OutMmRefIdeal.τ).loc Cert.OutMmRefIdeal.main_arg1) = m' ((c.tc : Thread Cert.OutMmRefIdeal.nD Cert.OutMmRefIdeal.τ).loc Cert.OutMmRefIdeal.main_arg1))

def preserves_FfDx_FfDxIdeal : Prop :=
  True

def algebraic_FfDxIdeal_FfDxRefIdeal [hFfDxIdeal : Cert.FfDxIdeal.Facts] [hFfDxRefIdeal : Cert.FfDxRefIdeal.Facts] : Prop :=
  ∀ (m : (ℓ : Loc Cert.FfDxIdeal.nD Cert.FfDxIdeal.τ Cert.FfDxIdeal.sig) → Buf (Elt Ideal) ℓ) (g : Dev Cert.FfDxIdeal.nD → PrngReg)
    (m' : (ℓ : Loc Cert.FfDxRefIdeal.nD Cert.FfDxRefIdeal.τ Cert.FfDxRefIdeal.sig) → Buf (Elt Ideal) ℓ) (g' : Dev Cert.FfDxRefIdeal.nD → PrngReg), Pre_FfDxIdeal m →
    (∀ c : Dev Cert.FfDxIdeal.nD,
      m' ((c.tc : Thread Cert.FfDxRefIdeal.nD Cert.FfDxRefIdeal.τ).loc Cert.FfDxRefIdeal.main_arg0) = m ((c.tc : Thread Cert.FfDxIdeal.nD Cert.FfDxIdeal.τ).loc Cert.FfDxIdeal.main_arg0)
      ∧ m' ((c.tc : Thread Cert.FfDxRefIdeal.nD Cert.FfDxRefIdeal.τ).loc Cert.FfDxRefIdeal.main_arg1) = m ((c.tc : Thread Cert.FfDxIdeal.nD Cert.FfDxIdeal.τ).loc Cert.FfDxIdeal.main_arg1)) →
    ∃ (v0 : (c : Dev Cert.FfDxIdeal.nD) → Buf (Elt Ideal) ((c.tc : Thread Cert.FfDxIdeal.nD Cert.FfDxIdeal.τ).loc Cert.FfDxIdeal.main_v1)),
      θ_run (Cert.FfDxIdeal.defs (F := Ideal)) (onTc (τ := Cert.FfDxIdeal.τ) (Cert.FfDxIdeal.main (F := Ideal))) ⟨m, fun _ => 0, g⟩ (fun r => ∀ c : Dev Cert.FfDxIdeal.nD,
          r.2.mem ((c.tc : Thread Cert.FfDxIdeal.nD Cert.FfDxIdeal.τ).loc Cert.FfDxIdeal.main_v1) = v0 c
          ∧ r.2.mem ((c.tc : Thread Cert.FfDxIdeal.nD Cert.FfDxIdeal.τ).loc Cert.FfDxIdeal.main_arg0) = m ((c.tc : Thread Cert.FfDxIdeal.nD Cert.FfDxIdeal.τ).loc Cert.FfDxIdeal.main_arg0)
          ∧ r.2.mem ((c.tc : Thread Cert.FfDxIdeal.nD Cert.FfDxIdeal.τ).loc Cert.FfDxIdeal.main_arg1) = m ((c.tc : Thread Cert.FfDxIdeal.nD Cert.FfDxIdeal.τ).loc Cert.FfDxIdeal.main_arg1))
      ∧ θ_run (Cert.FfDxRefIdeal.defs (F := Ideal)) (onTc (τ := Cert.FfDxRefIdeal.τ) (Cert.FfDxRefIdeal.main (F := Ideal))) ⟨m', fun _ => 0, g'⟩ (fun r => ∀ c : Dev Cert.FfDxRefIdeal.nD,
          r.2.mem ((c.tc : Thread Cert.FfDxRefIdeal.nD Cert.FfDxRefIdeal.τ).loc Cert.FfDxRefIdeal.main_v2) = v0 c
          ∧ r.2.mem ((c.tc : Thread Cert.FfDxRefIdeal.nD Cert.FfDxRefIdeal.τ).loc Cert.FfDxRefIdeal.main_arg0) = m' ((c.tc : Thread Cert.FfDxRefIdeal.nD Cert.FfDxRefIdeal.τ).loc Cert.FfDxRefIdeal.main_arg0)
          ∧ r.2.mem ((c.tc : Thread Cert.FfDxRefIdeal.nD Cert.FfDxRefIdeal.τ).loc Cert.FfDxRefIdeal.main_arg1) = m' ((c.tc : Thread Cert.FfDxRefIdeal.nD Cert.FfDxRefIdeal.τ).loc Cert.FfDxRefIdeal.main_arg1))

def preserves_FfDw_FfDwIdeal : Prop :=
  True

def algebraic_FfDwIdeal_FfDwRefIdeal [hFfDwIdeal : Cert.FfDwIdeal.Facts] [hFfDwRefIdeal : Cert.FfDwRefIdeal.Facts] : Prop :=
  ∀ (m : (ℓ : Loc Cert.FfDwIdeal.nD Cert.FfDwIdeal.τ Cert.FfDwIdeal.sig) → Buf (Elt Ideal) ℓ) (g : Dev Cert.FfDwIdeal.nD → PrngReg)
    (m' : (ℓ : Loc Cert.FfDwRefIdeal.nD Cert.FfDwRefIdeal.τ Cert.FfDwRefIdeal.sig) → Buf (Elt Ideal) ℓ) (g' : Dev Cert.FfDwRefIdeal.nD → PrngReg), Pre_FfDwIdeal m →
    (∀ c : Dev Cert.FfDwIdeal.nD,
      m' ((c.tc : Thread Cert.FfDwRefIdeal.nD Cert.FfDwRefIdeal.τ).loc Cert.FfDwRefIdeal.main_arg0) = m ((c.tc : Thread Cert.FfDwIdeal.nD Cert.FfDwIdeal.τ).loc Cert.FfDwIdeal.main_arg0)
      ∧ m' ((c.tc : Thread Cert.FfDwRefIdeal.nD Cert.FfDwRefIdeal.τ).loc Cert.FfDwRefIdeal.main_arg1) = m ((c.tc : Thread Cert.FfDwIdeal.nD Cert.FfDwIdeal.τ).loc Cert.FfDwIdeal.main_arg1)) →
    ∃ (v0 : (c : Dev Cert.FfDwIdeal.nD) → Buf (Elt Ideal) ((c.tc : Thread Cert.FfDwIdeal.nD Cert.FfDwIdeal.τ).loc Cert.FfDwIdeal.main_v0)),
      θ_run (Cert.FfDwIdeal.defs (F := Ideal)) (onTc (τ := Cert.FfDwIdeal.τ) (Cert.FfDwIdeal.main (F := Ideal))) ⟨m, fun _ => 0, g⟩ (fun r => ∀ c : Dev Cert.FfDwIdeal.nD,
          r.2.mem ((c.tc : Thread Cert.FfDwIdeal.nD Cert.FfDwIdeal.τ).loc Cert.FfDwIdeal.main_v0) = v0 c
          ∧ r.2.mem ((c.tc : Thread Cert.FfDwIdeal.nD Cert.FfDwIdeal.τ).loc Cert.FfDwIdeal.main_arg0) = m ((c.tc : Thread Cert.FfDwIdeal.nD Cert.FfDwIdeal.τ).loc Cert.FfDwIdeal.main_arg0)
          ∧ r.2.mem ((c.tc : Thread Cert.FfDwIdeal.nD Cert.FfDwIdeal.τ).loc Cert.FfDwIdeal.main_arg1) = m ((c.tc : Thread Cert.FfDwIdeal.nD Cert.FfDwIdeal.τ).loc Cert.FfDwIdeal.main_arg1))
      ∧ θ_run (Cert.FfDwRefIdeal.defs (F := Ideal)) (onTc (τ := Cert.FfDwRefIdeal.τ) (Cert.FfDwRefIdeal.main (F := Ideal))) ⟨m', fun _ => 0, g'⟩ (fun r => ∀ c : Dev Cert.FfDwRefIdeal.nD,
          r.2.mem ((c.tc : Thread Cert.FfDwRefIdeal.nD Cert.FfDwRefIdeal.τ).loc Cert.FfDwRefIdeal.main_v3) = v0 c
          ∧ r.2.mem ((c.tc : Thread Cert.FfDwRefIdeal.nD Cert.FfDwRefIdeal.τ).loc Cert.FfDwRefIdeal.main_arg0) = m' ((c.tc : Thread Cert.FfDwRefIdeal.nD Cert.FfDwRefIdeal.τ).loc Cert.FfDwRefIdeal.main_arg0)
          ∧ r.2.mem ((c.tc : Thread Cert.FfDwRefIdeal.nD Cert.FfDwRefIdeal.τ).loc Cert.FfDwRefIdeal.main_arg1) = m' ((c.tc : Thread Cert.FfDwRefIdeal.nD Cert.FfDwRefIdeal.τ).loc Cert.FfDwRefIdeal.main_arg1))

def preserves_FfMm_FfMmIdeal : Prop :=
  True

def algebraic_FfMmIdeal_FfMmRefIdeal [hFfMmIdeal : Cert.FfMmIdeal.Facts] [hFfMmRefIdeal : Cert.FfMmRefIdeal.Facts] : Prop :=
  ∀ (m : (ℓ : Loc Cert.FfMmIdeal.nD Cert.FfMmIdeal.τ Cert.FfMmIdeal.sig) → Buf (Elt Ideal) ℓ) (g : Dev Cert.FfMmIdeal.nD → PrngReg)
    (m' : (ℓ : Loc Cert.FfMmRefIdeal.nD Cert.FfMmRefIdeal.τ Cert.FfMmRefIdeal.sig) → Buf (Elt Ideal) ℓ) (g' : Dev Cert.FfMmRefIdeal.nD → PrngReg), Pre_FfMmIdeal m →
    (∀ c : Dev Cert.FfMmIdeal.nD,
      m' ((c.tc : Thread Cert.FfMmRefIdeal.nD Cert.FfMmRefIdeal.τ).loc Cert.FfMmRefIdeal.main_arg0) = m ((c.tc : Thread Cert.FfMmIdeal.nD Cert.FfMmIdeal.τ).loc Cert.FfMmIdeal.main_arg0)
      ∧ m' ((c.tc : Thread Cert.FfMmRefIdeal.nD Cert.FfMmRefIdeal.τ).loc Cert.FfMmRefIdeal.main_arg1) = m ((c.tc : Thread Cert.FfMmIdeal.nD Cert.FfMmIdeal.τ).loc Cert.FfMmIdeal.main_arg1)) →
    ∃ (v0 : (c : Dev Cert.FfMmIdeal.nD) → Buf (Elt Ideal) ((c.tc : Thread Cert.FfMmIdeal.nD Cert.FfMmIdeal.τ).loc Cert.FfMmIdeal.main_v1)),
      θ_run (Cert.FfMmIdeal.defs (F := Ideal)) (onTc (τ := Cert.FfMmIdeal.τ) (Cert.FfMmIdeal.main (F := Ideal))) ⟨m, fun _ => 0, g⟩ (fun r => ∀ c : Dev Cert.FfMmIdeal.nD,
          r.2.mem ((c.tc : Thread Cert.FfMmIdeal.nD Cert.FfMmIdeal.τ).loc Cert.FfMmIdeal.main_v1) = v0 c
          ∧ r.2.mem ((c.tc : Thread Cert.FfMmIdeal.nD Cert.FfMmIdeal.τ).loc Cert.FfMmIdeal.main_arg0) = m ((c.tc : Thread Cert.FfMmIdeal.nD Cert.FfMmIdeal.τ).loc Cert.FfMmIdeal.main_arg0)
          ∧ r.2.mem ((c.tc : Thread Cert.FfMmIdeal.nD Cert.FfMmIdeal.τ).loc Cert.FfMmIdeal.main_arg1) = m ((c.tc : Thread Cert.FfMmIdeal.nD Cert.FfMmIdeal.τ).loc Cert.FfMmIdeal.main_arg1))
      ∧ θ_run (Cert.FfMmRefIdeal.defs (F := Ideal)) (onTc (τ := Cert.FfMmRefIdeal.τ) (Cert.FfMmRefIdeal.main (F := Ideal))) ⟨m', fun _ => 0, g'⟩ (fun r => ∀ c : Dev Cert.FfMmRefIdeal.nD,
          r.2.mem ((c.tc : Thread Cert.FfMmRefIdeal.nD Cert.FfMmRefIdeal.τ).loc Cert.FfMmRefIdeal.main_v0) = v0 c
          ∧ r.2.mem ((c.tc : Thread Cert.FfMmRefIdeal.nD Cert.FfMmRefIdeal.τ).loc Cert.FfMmRefIdeal.main_arg0) = m' ((c.tc : Thread Cert.FfMmRefIdeal.nD Cert.FfMmRefIdeal.τ).loc Cert.FfMmRefIdeal.main_arg0)
          ∧ r.2.mem ((c.tc : Thread Cert.FfMmRefIdeal.nD Cert.FfMmRefIdeal.τ).loc Cert.FfMmRefIdeal.main_arg1) = m' ((c.tc : Thread Cert.FfMmRefIdeal.nD Cert.FfMmRefIdeal.τ).loc Cert.FfMmRefIdeal.main_arg1))

def preserves_FfoDx_FfoDxIdeal : Prop :=
  True

def algebraic_FfoDxIdeal_FfoDxRefIdeal [hFfoDxIdeal : Cert.FfoDxIdeal.Facts] [hFfoDxRefIdeal : Cert.FfoDxRefIdeal.Facts] : Prop :=
  ∀ (m : (ℓ : Loc Cert.FfoDxIdeal.nD Cert.FfoDxIdeal.τ Cert.FfoDxIdeal.sig) → Buf (Elt Ideal) ℓ) (g : Dev Cert.FfoDxIdeal.nD → PrngReg)
    (m' : (ℓ : Loc Cert.FfoDxRefIdeal.nD Cert.FfoDxRefIdeal.τ Cert.FfoDxRefIdeal.sig) → Buf (Elt Ideal) ℓ) (g' : Dev Cert.FfoDxRefIdeal.nD → PrngReg), Pre_FfoDxIdeal m →
    (∀ c : Dev Cert.FfoDxIdeal.nD,
      m' ((c.tc : Thread Cert.FfoDxRefIdeal.nD Cert.FfoDxRefIdeal.τ).loc Cert.FfoDxRefIdeal.main_arg0) = m ((c.tc : Thread Cert.FfoDxIdeal.nD Cert.FfoDxIdeal.τ).loc Cert.FfoDxIdeal.main_arg0)
      ∧ m' ((c.tc : Thread Cert.FfoDxRefIdeal.nD Cert.FfoDxRefIdeal.τ).loc Cert.FfoDxRefIdeal.main_arg1) = m ((c.tc : Thread Cert.FfoDxIdeal.nD Cert.FfoDxIdeal.τ).loc Cert.FfoDxIdeal.main_arg1)) →
    ∃ (v0 : (c : Dev Cert.FfoDxIdeal.nD) → Buf (Elt Ideal) ((c.tc : Thread Cert.FfoDxIdeal.nD Cert.FfoDxIdeal.τ).loc Cert.FfoDxIdeal.main_v1)),
      θ_run (Cert.FfoDxIdeal.defs (F := Ideal)) (onTc (τ := Cert.FfoDxIdeal.τ) (Cert.FfoDxIdeal.main (F := Ideal))) ⟨m, fun _ => 0, g⟩ (fun r => ∀ c : Dev Cert.FfoDxIdeal.nD,
          r.2.mem ((c.tc : Thread Cert.FfoDxIdeal.nD Cert.FfoDxIdeal.τ).loc Cert.FfoDxIdeal.main_v1) = v0 c
          ∧ r.2.mem ((c.tc : Thread Cert.FfoDxIdeal.nD Cert.FfoDxIdeal.τ).loc Cert.FfoDxIdeal.main_arg0) = m ((c.tc : Thread Cert.FfoDxIdeal.nD Cert.FfoDxIdeal.τ).loc Cert.FfoDxIdeal.main_arg0)
          ∧ r.2.mem ((c.tc : Thread Cert.FfoDxIdeal.nD Cert.FfoDxIdeal.τ).loc Cert.FfoDxIdeal.main_arg1) = m ((c.tc : Thread Cert.FfoDxIdeal.nD Cert.FfoDxIdeal.τ).loc Cert.FfoDxIdeal.main_arg1))
      ∧ θ_run (Cert.FfoDxRefIdeal.defs (F := Ideal)) (onTc (τ := Cert.FfoDxRefIdeal.τ) (Cert.FfoDxRefIdeal.main (F := Ideal))) ⟨m', fun _ => 0, g'⟩ (fun r => ∀ c : Dev Cert.FfoDxRefIdeal.nD,
          r.2.mem ((c.tc : Thread Cert.FfoDxRefIdeal.nD Cert.FfoDxRefIdeal.τ).loc Cert.FfoDxRefIdeal.main_v2) = v0 c
          ∧ r.2.mem ((c.tc : Thread Cert.FfoDxRefIdeal.nD Cert.FfoDxRefIdeal.τ).loc Cert.FfoDxRefIdeal.main_arg0) = m' ((c.tc : Thread Cert.FfoDxRefIdeal.nD Cert.FfoDxRefIdeal.τ).loc Cert.FfoDxRefIdeal.main_arg0)
          ∧ r.2.mem ((c.tc : Thread Cert.FfoDxRefIdeal.nD Cert.FfoDxRefIdeal.τ).loc Cert.FfoDxRefIdeal.main_arg1) = m' ((c.tc : Thread Cert.FfoDxRefIdeal.nD Cert.FfoDxRefIdeal.τ).loc Cert.FfoDxRefIdeal.main_arg1))

def preserves_FfoDw_FfoDwIdeal : Prop :=
  True

def algebraic_FfoDwIdeal_FfoDwRefIdeal [hFfoDwIdeal : Cert.FfoDwIdeal.Facts] [hFfoDwRefIdeal : Cert.FfoDwRefIdeal.Facts] : Prop :=
  ∀ (m : (ℓ : Loc Cert.FfoDwIdeal.nD Cert.FfoDwIdeal.τ Cert.FfoDwIdeal.sig) → Buf (Elt Ideal) ℓ) (g : Dev Cert.FfoDwIdeal.nD → PrngReg)
    (m' : (ℓ : Loc Cert.FfoDwRefIdeal.nD Cert.FfoDwRefIdeal.τ Cert.FfoDwRefIdeal.sig) → Buf (Elt Ideal) ℓ) (g' : Dev Cert.FfoDwRefIdeal.nD → PrngReg), Pre_FfoDwIdeal m →
    (∀ c : Dev Cert.FfoDwIdeal.nD,
      m' ((c.tc : Thread Cert.FfoDwRefIdeal.nD Cert.FfoDwRefIdeal.τ).loc Cert.FfoDwRefIdeal.main_arg0) = m ((c.tc : Thread Cert.FfoDwIdeal.nD Cert.FfoDwIdeal.τ).loc Cert.FfoDwIdeal.main_arg0)
      ∧ m' ((c.tc : Thread Cert.FfoDwRefIdeal.nD Cert.FfoDwRefIdeal.τ).loc Cert.FfoDwRefIdeal.main_arg1) = m ((c.tc : Thread Cert.FfoDwIdeal.nD Cert.FfoDwIdeal.τ).loc Cert.FfoDwIdeal.main_arg1)) →
    ∃ (v0 : (c : Dev Cert.FfoDwIdeal.nD) → Buf (Elt Ideal) ((c.tc : Thread Cert.FfoDwIdeal.nD Cert.FfoDwIdeal.τ).loc Cert.FfoDwIdeal.main_v0)),
      θ_run (Cert.FfoDwIdeal.defs (F := Ideal)) (onTc (τ := Cert.FfoDwIdeal.τ) (Cert.FfoDwIdeal.main (F := Ideal))) ⟨m, fun _ => 0, g⟩ (fun r => ∀ c : Dev Cert.FfoDwIdeal.nD,
          r.2.mem ((c.tc : Thread Cert.FfoDwIdeal.nD Cert.FfoDwIdeal.τ).loc Cert.FfoDwIdeal.main_v0) = v0 c
          ∧ r.2.mem ((c.tc : Thread Cert.FfoDwIdeal.nD Cert.FfoDwIdeal.τ).loc Cert.FfoDwIdeal.main_arg0) = m ((c.tc : Thread Cert.FfoDwIdeal.nD Cert.FfoDwIdeal.τ).loc Cert.FfoDwIdeal.main_arg0)
          ∧ r.2.mem ((c.tc : Thread Cert.FfoDwIdeal.nD Cert.FfoDwIdeal.τ).loc Cert.FfoDwIdeal.main_arg1) = m ((c.tc : Thread Cert.FfoDwIdeal.nD Cert.FfoDwIdeal.τ).loc Cert.FfoDwIdeal.main_arg1))
      ∧ θ_run (Cert.FfoDwRefIdeal.defs (F := Ideal)) (onTc (τ := Cert.FfoDwRefIdeal.τ) (Cert.FfoDwRefIdeal.main (F := Ideal))) ⟨m', fun _ => 0, g'⟩ (fun r => ∀ c : Dev Cert.FfoDwRefIdeal.nD,
          r.2.mem ((c.tc : Thread Cert.FfoDwRefIdeal.nD Cert.FfoDwRefIdeal.τ).loc Cert.FfoDwRefIdeal.main_v3) = v0 c
          ∧ r.2.mem ((c.tc : Thread Cert.FfoDwRefIdeal.nD Cert.FfoDwRefIdeal.τ).loc Cert.FfoDwRefIdeal.main_arg0) = m' ((c.tc : Thread Cert.FfoDwRefIdeal.nD Cert.FfoDwRefIdeal.τ).loc Cert.FfoDwRefIdeal.main_arg0)
          ∧ r.2.mem ((c.tc : Thread Cert.FfoDwRefIdeal.nD Cert.FfoDwRefIdeal.τ).loc Cert.FfoDwRefIdeal.main_arg1) = m' ((c.tc : Thread Cert.FfoDwRefIdeal.nD Cert.FfoDwRefIdeal.τ).loc Cert.FfoDwRefIdeal.main_arg1))

def preserves_FfoMm_FfoMmIdeal : Prop :=
  True

def algebraic_FfoMmIdeal_FfoMmRefIdeal [hFfoMmIdeal : Cert.FfoMmIdeal.Facts] [hFfoMmRefIdeal : Cert.FfoMmRefIdeal.Facts] : Prop :=
  ∀ (m : (ℓ : Loc Cert.FfoMmIdeal.nD Cert.FfoMmIdeal.τ Cert.FfoMmIdeal.sig) → Buf (Elt Ideal) ℓ) (g : Dev Cert.FfoMmIdeal.nD → PrngReg)
    (m' : (ℓ : Loc Cert.FfoMmRefIdeal.nD Cert.FfoMmRefIdeal.τ Cert.FfoMmRefIdeal.sig) → Buf (Elt Ideal) ℓ) (g' : Dev Cert.FfoMmRefIdeal.nD → PrngReg), Pre_FfoMmIdeal m →
    (∀ c : Dev Cert.FfoMmIdeal.nD,
      m' ((c.tc : Thread Cert.FfoMmRefIdeal.nD Cert.FfoMmRefIdeal.τ).loc Cert.FfoMmRefIdeal.main_arg0) = m ((c.tc : Thread Cert.FfoMmIdeal.nD Cert.FfoMmIdeal.τ).loc Cert.FfoMmIdeal.main_arg0)
      ∧ m' ((c.tc : Thread Cert.FfoMmRefIdeal.nD Cert.FfoMmRefIdeal.τ).loc Cert.FfoMmRefIdeal.main_arg1) = m ((c.tc : Thread Cert.FfoMmIdeal.nD Cert.FfoMmIdeal.τ).loc Cert.FfoMmIdeal.main_arg1)) →
    ∃ (v0 : (c : Dev Cert.FfoMmIdeal.nD) → Buf (Elt Ideal) ((c.tc : Thread Cert.FfoMmIdeal.nD Cert.FfoMmIdeal.τ).loc Cert.FfoMmIdeal.main_v1)),
      θ_run (Cert.FfoMmIdeal.defs (F := Ideal)) (onTc (τ := Cert.FfoMmIdeal.τ) (Cert.FfoMmIdeal.main (F := Ideal))) ⟨m, fun _ => 0, g⟩ (fun r => ∀ c : Dev Cert.FfoMmIdeal.nD,
          r.2.mem ((c.tc : Thread Cert.FfoMmIdeal.nD Cert.FfoMmIdeal.τ).loc Cert.FfoMmIdeal.main_v1) = v0 c
          ∧ r.2.mem ((c.tc : Thread Cert.FfoMmIdeal.nD Cert.FfoMmIdeal.τ).loc Cert.FfoMmIdeal.main_arg0) = m ((c.tc : Thread Cert.FfoMmIdeal.nD Cert.FfoMmIdeal.τ).loc Cert.FfoMmIdeal.main_arg0)
          ∧ r.2.mem ((c.tc : Thread Cert.FfoMmIdeal.nD Cert.FfoMmIdeal.τ).loc Cert.FfoMmIdeal.main_arg1) = m ((c.tc : Thread Cert.FfoMmIdeal.nD Cert.FfoMmIdeal.τ).loc Cert.FfoMmIdeal.main_arg1))
      ∧ θ_run (Cert.FfoMmRefIdeal.defs (F := Ideal)) (onTc (τ := Cert.FfoMmRefIdeal.τ) (Cert.FfoMmRefIdeal.main (F := Ideal))) ⟨m', fun _ => 0, g'⟩ (fun r => ∀ c : Dev Cert.FfoMmRefIdeal.nD,
          r.2.mem ((c.tc : Thread Cert.FfoMmRefIdeal.nD Cert.FfoMmRefIdeal.τ).loc Cert.FfoMmRefIdeal.main_v0) = v0 c
          ∧ r.2.mem ((c.tc : Thread Cert.FfoMmRefIdeal.nD Cert.FfoMmRefIdeal.τ).loc Cert.FfoMmRefIdeal.main_arg0) = m' ((c.tc : Thread Cert.FfoMmRefIdeal.nD Cert.FfoMmRefIdeal.τ).loc Cert.FfoMmRefIdeal.main_arg0)
          ∧ r.2.mem ((c.tc : Thread Cert.FfoMmRefIdeal.nD Cert.FfoMmRefIdeal.τ).loc Cert.FfoMmRefIdeal.main_arg1) = m' ((c.tc : Thread Cert.FfoMmRefIdeal.nD Cert.FfoMmRefIdeal.τ).loc Cert.FfoMmRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v1)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v1) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v2) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v3) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_QkvMm_QkvMmIdeal : Prop :=
  True

def algebraic_QkvMmIdeal_QkvMmRefIdeal [hQkvMmIdeal : Cert.QkvMmIdeal.Facts] [hQkvMmRefIdeal : Cert.QkvMmRefIdeal.Facts] : Prop :=
  ∀ (m : (ℓ : Loc Cert.QkvMmIdeal.nD Cert.QkvMmIdeal.τ Cert.QkvMmIdeal.sig) → Buf (Elt Ideal) ℓ) (g : Dev Cert.QkvMmIdeal.nD → PrngReg)
    (m' : (ℓ : Loc Cert.QkvMmRefIdeal.nD Cert.QkvMmRefIdeal.τ Cert.QkvMmRefIdeal.sig) → Buf (Elt Ideal) ℓ) (g' : Dev Cert.QkvMmRefIdeal.nD → PrngReg), Pre_QkvMmIdeal m →
    (∀ c : Dev Cert.QkvMmIdeal.nD,
      m' ((c.tc : Thread Cert.QkvMmRefIdeal.nD Cert.QkvMmRefIdeal.τ).loc Cert.QkvMmRefIdeal.main_arg0) = m ((c.tc : Thread Cert.QkvMmIdeal.nD Cert.QkvMmIdeal.τ).loc Cert.QkvMmIdeal.main_arg0)
      ∧ m' ((c.tc : Thread Cert.QkvMmRefIdeal.nD Cert.QkvMmRefIdeal.τ).loc Cert.QkvMmRefIdeal.main_arg1) = m ((c.tc : Thread Cert.QkvMmIdeal.nD Cert.QkvMmIdeal.τ).loc Cert.QkvMmIdeal.main_arg1)) →
    ∃ (v0 : (c : Dev Cert.QkvMmIdeal.nD) → Buf (Elt Ideal) ((c.tc : Thread Cert.QkvMmIdeal.nD Cert.QkvMmIdeal.τ).loc Cert.QkvMmIdeal.main_v1)),
      θ_run (Cert.QkvMmIdeal.defs (F := Ideal)) (onTc (τ := Cert.QkvMmIdeal.τ) (Cert.QkvMmIdeal.main (F := Ideal))) ⟨m, fun _ => 0, g⟩ (fun r => ∀ c : Dev Cert.QkvMmIdeal.nD,
          r.2.mem ((c.tc : Thread Cert.QkvMmIdeal.nD Cert.QkvMmIdeal.τ).loc Cert.QkvMmIdeal.main_v1) = v0 c
          ∧ r.2.mem ((c.tc : Thread Cert.QkvMmIdeal.nD Cert.QkvMmIdeal.τ).loc Cert.QkvMmIdeal.main_arg0) = m ((c.tc : Thread Cert.QkvMmIdeal.nD Cert.QkvMmIdeal.τ).loc Cert.QkvMmIdeal.main_arg0)
          ∧ r.2.mem ((c.tc : Thread Cert.QkvMmIdeal.nD Cert.QkvMmIdeal.τ).loc Cert.QkvMmIdeal.main_arg1) = m ((c.tc : Thread Cert.QkvMmIdeal.nD Cert.QkvMmIdeal.τ).loc Cert.QkvMmIdeal.main_arg1))
      ∧ θ_run (Cert.QkvMmRefIdeal.defs (F := Ideal)) (onTc (τ := Cert.QkvMmRefIdeal.τ) (Cert.QkvMmRefIdeal.main (F := Ideal))) ⟨m', fun _ => 0, g'⟩ (fun r => ∀ c : Dev Cert.QkvMmRefIdeal.nD,
          r.2.mem ((c.tc : Thread Cert.QkvMmRefIdeal.nD Cert.QkvMmRefIdeal.τ).loc Cert.QkvMmRefIdeal.main_v0) = v0 c
          ∧ r.2.mem ((c.tc : Thread Cert.QkvMmRefIdeal.nD Cert.QkvMmRefIdeal.τ).loc Cert.QkvMmRefIdeal.main_arg0) = m' ((c.tc : Thread Cert.QkvMmRefIdeal.nD Cert.QkvMmRefIdeal.τ).loc Cert.QkvMmRefIdeal.main_arg0)
          ∧ r.2.mem ((c.tc : Thread Cert.QkvMmRefIdeal.nD Cert.QkvMmRefIdeal.τ).loc Cert.QkvMmRefIdeal.main_arg1) = m' ((c.tc : Thread Cert.QkvMmRefIdeal.nD Cert.QkvMmRefIdeal.τ).loc Cert.QkvMmRefIdeal.main_arg1))

def preserves_SsdDx_SsdDxIdeal : Prop :=
  True

def algebraic_SsdDxIdeal_SsdDxRefIdeal [hSsdDxIdeal : Cert.SsdDxIdeal.Facts] [hSsdDxRefIdeal : Cert.SsdDxRefIdeal.Facts] : Prop :=
  ∀ (m : (ℓ : Loc Cert.SsdDxIdeal.nD Cert.SsdDxIdeal.τ Cert.SsdDxIdeal.sig) → Buf (Elt Ideal) ℓ) (g : Dev Cert.SsdDxIdeal.nD → PrngReg)
    (m' : (ℓ : Loc Cert.SsdDxRefIdeal.nD Cert.SsdDxRefIdeal.τ Cert.SsdDxRefIdeal.sig) → Buf (Elt Ideal) ℓ) (g' : Dev Cert.SsdDxRefIdeal.nD → PrngReg), Pre_SsdDxIdeal m →
    (∀ c : Dev Cert.SsdDxIdeal.nD,
      m' ((c.tc : Thread Cert.SsdDxRefIdeal.nD Cert.SsdDxRefIdeal.τ).loc Cert.SsdDxRefIdeal.main_arg0) = m ((c.tc : Thread Cert.SsdDxIdeal.nD Cert.SsdDxIdeal.τ).loc Cert.SsdDxIdeal.main_arg0)
      ∧ m' ((c.tc : Thread Cert.SsdDxRefIdeal.nD Cert.SsdDxRefIdeal.τ).loc Cert.SsdDxRefIdeal.main_arg1) = m ((c.tc : Thread Cert.SsdDxIdeal.nD Cert.SsdDxIdeal.τ).loc Cert.SsdDxIdeal.main_arg1)) →
    ∃ (v0 : (c : Dev Cert.SsdDxIdeal.nD) → Buf (Elt Ideal) ((c.tc : Thread Cert.SsdDxIdeal.nD Cert.SsdDxIdeal.τ).loc Cert.SsdDxIdeal.main_v1)),
      θ_run (Cert.SsdDxIdeal.defs (F := Ideal)) (onTc (τ := Cert.SsdDxIdeal.τ) (Cert.SsdDxIdeal.main (F := Ideal))) ⟨m, fun _ => 0, g⟩ (fun r => ∀ c : Dev Cert.SsdDxIdeal.nD,
          r.2.mem ((c.tc : Thread Cert.SsdDxIdeal.nD Cert.SsdDxIdeal.τ).loc Cert.SsdDxIdeal.main_v1) = v0 c
          ∧ r.2.mem ((c.tc : Thread Cert.SsdDxIdeal.nD Cert.SsdDxIdeal.τ).loc Cert.SsdDxIdeal.main_arg0) = m ((c.tc : Thread Cert.SsdDxIdeal.nD Cert.SsdDxIdeal.τ).loc Cert.SsdDxIdeal.main_arg0)
          ∧ r.2.mem ((c.tc : Thread Cert.SsdDxIdeal.nD Cert.SsdDxIdeal.τ).loc Cert.SsdDxIdeal.main_arg1) = m ((c.tc : Thread Cert.SsdDxIdeal.nD Cert.SsdDxIdeal.τ).loc Cert.SsdDxIdeal.main_arg1))
      ∧ θ_run (Cert.SsdDxRefIdeal.defs (F := Ideal)) (onTc (τ := Cert.SsdDxRefIdeal.τ) (Cert.SsdDxRefIdeal.main (F := Ideal))) ⟨m', fun _ => 0, g'⟩ (fun r => ∀ c : Dev Cert.SsdDxRefIdeal.nD,
          r.2.mem ((c.tc : Thread Cert.SsdDxRefIdeal.nD Cert.SsdDxRefIdeal.τ).loc Cert.SsdDxRefIdeal.main_v2) = v0 c
          ∧ r.2.mem ((c.tc : Thread Cert.SsdDxRefIdeal.nD Cert.SsdDxRefIdeal.τ).loc Cert.SsdDxRefIdeal.main_arg0) = m' ((c.tc : Thread Cert.SsdDxRefIdeal.nD Cert.SsdDxRefIdeal.τ).loc Cert.SsdDxRefIdeal.main_arg0)
          ∧ r.2.mem ((c.tc : Thread Cert.SsdDxRefIdeal.nD Cert.SsdDxRefIdeal.τ).loc Cert.SsdDxRefIdeal.main_arg1) = m' ((c.tc : Thread Cert.SsdDxRefIdeal.nD Cert.SsdDxRefIdeal.τ).loc Cert.SsdDxRefIdeal.main_arg1))

def preserves_SsdDw_SsdDwIdeal : Prop :=
  True

def algebraic_SsdDwIdeal_SsdDwRefIdeal [hSsdDwIdeal : Cert.SsdDwIdeal.Facts] [hSsdDwRefIdeal : Cert.SsdDwRefIdeal.Facts] : Prop :=
  ∀ (m : (ℓ : Loc Cert.SsdDwIdeal.nD Cert.SsdDwIdeal.τ Cert.SsdDwIdeal.sig) → Buf (Elt Ideal) ℓ) (g : Dev Cert.SsdDwIdeal.nD → PrngReg)
    (m' : (ℓ : Loc Cert.SsdDwRefIdeal.nD Cert.SsdDwRefIdeal.τ Cert.SsdDwRefIdeal.sig) → Buf (Elt Ideal) ℓ) (g' : Dev Cert.SsdDwRefIdeal.nD → PrngReg), Pre_SsdDwIdeal m →
    (∀ c : Dev Cert.SsdDwIdeal.nD,
      m' ((c.tc : Thread Cert.SsdDwRefIdeal.nD Cert.SsdDwRefIdeal.τ).loc Cert.SsdDwRefIdeal.main_arg0) = m ((c.tc : Thread Cert.SsdDwIdeal.nD Cert.SsdDwIdeal.τ).loc Cert.SsdDwIdeal.main_arg0)
      ∧ m' ((c.tc : Thread Cert.SsdDwRefIdeal.nD Cert.SsdDwRefIdeal.τ).loc Cert.SsdDwRefIdeal.main_arg1) = m ((c.tc : Thread Cert.SsdDwIdeal.nD Cert.SsdDwIdeal.τ).loc Cert.SsdDwIdeal.main_arg1)) →
    ∃ (v0 : (c : Dev Cert.SsdDwIdeal.nD) → Buf (Elt Ideal) ((c.tc : Thread Cert.SsdDwIdeal.nD Cert.SsdDwIdeal.τ).loc Cert.SsdDwIdeal.main_v0)),
      θ_run (Cert.SsdDwIdeal.defs (F := Ideal)) (onTc (τ := Cert.SsdDwIdeal.τ) (Cert.SsdDwIdeal.main (F := Ideal))) ⟨m, fun _ => 0, g⟩ (fun r => ∀ c : Dev Cert.SsdDwIdeal.nD,
          r.2.mem ((c.tc : Thread Cert.SsdDwIdeal.nD Cert.SsdDwIdeal.τ).loc Cert.SsdDwIdeal.main_v0) = v0 c
          ∧ r.2.mem ((c.tc : Thread Cert.SsdDwIdeal.nD Cert.SsdDwIdeal.τ).loc Cert.SsdDwIdeal.main_arg0) = m ((c.tc : Thread Cert.SsdDwIdeal.nD Cert.SsdDwIdeal.τ).loc Cert.SsdDwIdeal.main_arg0)
          ∧ r.2.mem ((c.tc : Thread Cert.SsdDwIdeal.nD Cert.SsdDwIdeal.τ).loc Cert.SsdDwIdeal.main_arg1) = m ((c.tc : Thread Cert.SsdDwIdeal.nD Cert.SsdDwIdeal.τ).loc Cert.SsdDwIdeal.main_arg1))
      ∧ θ_run (Cert.SsdDwRefIdeal.defs (F := Ideal)) (onTc (τ := Cert.SsdDwRefIdeal.τ) (Cert.SsdDwRefIdeal.main (F := Ideal))) ⟨m', fun _ => 0, g'⟩ (fun r => ∀ c : Dev Cert.SsdDwRefIdeal.nD,
          r.2.mem ((c.tc : Thread Cert.SsdDwRefIdeal.nD Cert.SsdDwRefIdeal.τ).loc Cert.SsdDwRefIdeal.main_v3) = v0 c
          ∧ r.2.mem ((c.tc : Thread Cert.SsdDwRefIdeal.nD Cert.SsdDwRefIdeal.τ).loc Cert.SsdDwRefIdeal.main_arg0) = m' ((c.tc : Thread Cert.SsdDwRefIdeal.nD Cert.SsdDwRefIdeal.τ).loc Cert.SsdDwRefIdeal.main_arg0)
          ∧ r.2.mem ((c.tc : Thread Cert.SsdDwRefIdeal.nD Cert.SsdDwRefIdeal.τ).loc Cert.SsdDwRefIdeal.main_arg1) = m' ((c.tc : Thread Cert.SsdDwRefIdeal.nD Cert.SsdDwRefIdeal.τ).loc Cert.SsdDwRefIdeal.main_arg1))

def preserves_SsdMm_SsdMmIdeal : Prop :=
  True

def algebraic_SsdMmIdeal_SsdMmRefIdeal [hSsdMmIdeal : Cert.SsdMmIdeal.Facts] [hSsdMmRefIdeal : Cert.SsdMmRefIdeal.Facts] : Prop :=
  ∀ (m : (ℓ : Loc Cert.SsdMmIdeal.nD Cert.SsdMmIdeal.τ Cert.SsdMmIdeal.sig) → Buf (Elt Ideal) ℓ) (g : Dev Cert.SsdMmIdeal.nD → PrngReg)
    (m' : (ℓ : Loc Cert.SsdMmRefIdeal.nD Cert.SsdMmRefIdeal.τ Cert.SsdMmRefIdeal.sig) → Buf (Elt Ideal) ℓ) (g' : Dev Cert.SsdMmRefIdeal.nD → PrngReg), Pre_SsdMmIdeal m →
    (∀ c : Dev Cert.SsdMmIdeal.nD,
      m' ((c.tc : Thread Cert.SsdMmRefIdeal.nD Cert.SsdMmRefIdeal.τ).loc Cert.SsdMmRefIdeal.main_arg0) = m ((c.tc : Thread Cert.SsdMmIdeal.nD Cert.SsdMmIdeal.τ).loc Cert.SsdMmIdeal.main_arg0)
      ∧ m' ((c.tc : Thread Cert.SsdMmRefIdeal.nD Cert.SsdMmRefIdeal.τ).loc Cert.SsdMmRefIdeal.main_arg1) = m ((c.tc : Thread Cert.SsdMmIdeal.nD Cert.SsdMmIdeal.τ).loc Cert.SsdMmIdeal.main_arg1)) →
    ∃ (v0 : (c : Dev Cert.SsdMmIdeal.nD) → Buf (Elt Ideal) ((c.tc : Thread Cert.SsdMmIdeal.nD Cert.SsdMmIdeal.τ).loc Cert.SsdMmIdeal.main_v1)),
      θ_run (Cert.SsdMmIdeal.defs (F := Ideal)) (onTc (τ := Cert.SsdMmIdeal.τ) (Cert.SsdMmIdeal.main (F := Ideal))) ⟨m, fun _ => 0, g⟩ (fun r => ∀ c : Dev Cert.SsdMmIdeal.nD,
          r.2.mem ((c.tc : Thread Cert.SsdMmIdeal.nD Cert.SsdMmIdeal.τ).loc Cert.SsdMmIdeal.main_v1) = v0 c
          ∧ r.2.mem ((c.tc : Thread Cert.SsdMmIdeal.nD Cert.SsdMmIdeal.τ).loc Cert.SsdMmIdeal.main_arg0) = m ((c.tc : Thread Cert.SsdMmIdeal.nD Cert.SsdMmIdeal.τ).loc Cert.SsdMmIdeal.main_arg0)
          ∧ r.2.mem ((c.tc : Thread Cert.SsdMmIdeal.nD Cert.SsdMmIdeal.τ).loc Cert.SsdMmIdeal.main_arg1) = m ((c.tc : Thread Cert.SsdMmIdeal.nD Cert.SsdMmIdeal.τ).loc Cert.SsdMmIdeal.main_arg1))
      ∧ θ_run (Cert.SsdMmRefIdeal.defs (F := Ideal)) (onTc (τ := Cert.SsdMmRefIdeal.τ) (Cert.SsdMmRefIdeal.main (F := Ideal))) ⟨m', fun _ => 0, g'⟩ (fun r => ∀ c : Dev Cert.SsdMmRefIdeal.nD,
          r.2.mem ((c.tc : Thread Cert.SsdMmRefIdeal.nD Cert.SsdMmRefIdeal.τ).loc Cert.SsdMmRefIdeal.main_v0) = v0 c
          ∧ r.2.mem ((c.tc : Thread Cert.SsdMmRefIdeal.nD Cert.SsdMmRefIdeal.τ).loc Cert.SsdMmRefIdeal.main_arg0) = m' ((c.tc : Thread Cert.SsdMmRefIdeal.nD Cert.SsdMmRefIdeal.τ).loc Cert.SsdMmRefIdeal.main_arg0)
          ∧ r.2.mem ((c.tc : Thread Cert.SsdMmRefIdeal.nD Cert.SsdMmRefIdeal.τ).loc Cert.SsdMmRefIdeal.main_arg1) = m' ((c.tc : Thread Cert.SsdMmRefIdeal.nD Cert.SsdMmRefIdeal.τ).loc Cert.SsdMmRefIdeal.main_arg1))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_v2) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)) →
    ∃ (v0 : (c : Dev Cert.RmsIdeal.nD) → Buf (Elt Ideal) ((c.tc : Thread Cert.RmsIdeal.nD Cert.RmsIdeal.τ).loc Cert.RmsIdeal.main_v1_0)) (v1 : (c : Dev Cert.RmsIdeal.nD) → Buf (Elt Ideal) ((c.tc : Thread Cert.RmsIdeal.nD Cert.RmsIdeal.τ).loc Cert.RmsIdeal.main_v1_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1_0) = v0 c
          ∧ r.2.mem ((c.tc : Thread Cert.RmsIdeal.nD Cert.RmsIdeal.τ).loc Cert.RmsIdeal.main_v1_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v35) = v0 c
          ∧ r.2.mem ((c.tc : Thread Cert.RmsRefIdeal.nD Cert.RmsRefIdeal.τ).loc Cert.RmsRefIdeal.main_v36) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v11) = v0 c
          ∧ r.2.mem ((c.tc : Thread Cert.PostRefIdeal.nD Cert.PostRefIdeal.τ).loc Cert.PostRefIdeal.main_v12) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)) →
    ∃ (v0 : (c : Dev Cert.PreIdeal.nD) → Buf (Elt Ideal) ((c.tc : Thread Cert.PreIdeal.nD Cert.PreIdeal.τ).loc Cert.PreIdeal.main_v1_0)) (v1 : (c : Dev Cert.PreIdeal.nD) → Buf (Elt Ideal) ((c.tc : Thread Cert.PreIdeal.nD Cert.PreIdeal.τ).loc Cert.PreIdeal.main_v1_1)) (v2 : (c : Dev Cert.PreIdeal.nD) → Buf (Elt Ideal) ((c.tc : Thread Cert.PreIdeal.nD Cert.PreIdeal.τ).loc Cert.PreIdeal.main_v1_2)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v1_0) = v0 c
          ∧ r.2.mem ((c.tc : Thread Cert.PreIdeal.nD Cert.PreIdeal.τ).loc Cert.PreIdeal.main_v1_1) = v1 c
          ∧ r.2.mem ((c.tc : Thread Cert.PreIdeal.nD Cert.PreIdeal.τ).loc Cert.PreIdeal.main_v1_2) = v2 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v36) = v0 c
          ∧ r.2.mem ((c.tc : Thread Cert.PreRefIdeal.nD Cert.PreRefIdeal.τ).loc Cert.PreRefIdeal.main_v38) = v1 c
          ∧ r.2.mem ((c.tc : Thread Cert.PreRefIdeal.nD Cert.PreRefIdeal.τ).loc Cert.PreRefIdeal.main_v43) = v2 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_v29) = v1 c
          ∧ r.2.mem ((c.tc : Thread Cert.MergeRefIdeal.nD Cert.MergeRefIdeal.τ).loc Cert.MergeRefIdeal.main_v31) = v2 c
          ∧ r.2.mem ((c.tc : Thread Cert.MergeRefIdeal.nD Cert.MergeRefIdeal.τ).loc Cert.MergeRefIdeal.main_v33) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamRows_AdamRowsIdeal : Prop :=
  True

def algebraic_AdamRowsIdeal_AdamRowsRefIdeal [hAdamRowsIdeal : Cert.AdamRowsIdeal.Facts] [hAdamRowsRefIdeal : Cert.AdamRowsRefIdeal.Facts] : Prop :=
  ∀ (m : (ℓ : Loc Cert.AdamRowsIdeal.nD Cert.AdamRowsIdeal.τ Cert.AdamRowsIdeal.sig) → Buf (Elt Ideal) ℓ) (g : Dev Cert.AdamRowsIdeal.nD → PrngReg)
    (m' : (ℓ : Loc Cert.AdamRowsRefIdeal.nD Cert.AdamRowsRefIdeal.τ Cert.AdamRowsRefIdeal.sig) → Buf (Elt Ideal) ℓ) (g' : Dev Cert.AdamRowsRefIdeal.nD → PrngReg), Pre_AdamRowsIdeal m →
    (∀ c : Dev Cert.AdamRowsIdeal.nD,
      m' ((c.tc : Thread Cert.AdamRowsRefIdeal.nD Cert.AdamRowsRefIdeal.τ).loc Cert.AdamRowsRefIdeal.main_arg0) = m ((c.tc : Thread Cert.AdamRowsIdeal.nD Cert.AdamRowsIdeal.τ).loc Cert.AdamRowsIdeal.main_arg0)
      ∧ m' ((c.tc : Thread Cert.AdamRowsRefIdeal.nD Cert.AdamRowsRefIdeal.τ).loc Cert.AdamRowsRefIdeal.main_arg1) = m ((c.tc : Thread Cert.AdamRowsIdeal.nD Cert.AdamRowsIdeal.τ).loc Cert.AdamRowsIdeal.main_arg1)
      ∧ m' ((c.tc : Thread Cert.AdamRowsRefIdeal.nD Cert.AdamRowsRefIdeal.τ).loc Cert.AdamRowsRefIdeal.main_arg2) = m ((c.tc : Thread Cert.AdamRowsIdeal.nD Cert.AdamRowsIdeal.τ).loc Cert.AdamRowsIdeal.main_arg2)
      ∧ m' ((c.tc : Thread Cert.AdamRowsRefIdeal.nD Cert.AdamRowsRefIdeal.τ).loc Cert.AdamRowsRefIdeal.main_arg3) = m ((c.tc : Thread Cert.AdamRowsIdeal.nD Cert.AdamRowsIdeal.τ).loc Cert.AdamRowsIdeal.main_arg3)) →
    ∃ (v0 : (c : Dev Cert.AdamRowsIdeal.nD) → Buf (Elt Ideal) ((c.tc : Thread Cert.AdamRowsIdeal.nD Cert.AdamRowsIdeal.τ).loc Cert.AdamRowsIdeal.main_v4_0)) (v1 : (c : Dev Cert.AdamRowsIdeal.nD) → Buf (Elt Ideal) ((c.tc : Thread Cert.AdamRowsIdeal.nD Cert.AdamRowsIdeal.τ).loc Cert.AdamRowsIdeal.main_v4_1)) (v2 : (c : Dev Cert.AdamRowsIdeal.nD) → Buf (Elt Ideal) ((c.tc : Thread Cert.AdamRowsIdeal.nD Cert.AdamRowsIdeal.τ).loc Cert.AdamRowsIdeal.main_v4_2)),
      θ_run (Cert.AdamRowsIdeal.defs (F := Ideal)) (onTc (τ := Cert.AdamRowsIdeal.τ) (Cert.AdamRowsIdeal.main (F := Ideal))) ⟨m, fun _ => 0, g⟩ (fun r => ∀ c : Dev Cert.AdamRowsIdeal.nD,
          r.2.mem ((c.tc : Thread Cert.AdamRowsIdeal.nD Cert.AdamRowsIdeal.τ).loc Cert.AdamRowsIdeal.main_v4_0) = v0 c
          ∧ r.2.mem ((c.tc : Thread Cert.AdamRowsIdeal.nD Cert.AdamRowsIdeal.τ).loc Cert.AdamRowsIdeal.main_v4_1) = v1 c
          ∧ r.2.mem ((c.tc : Thread Cert.AdamRowsIdeal.nD Cert.AdamRowsIdeal.τ).loc Cert.AdamRowsIdeal.main_v4_2) = v2 c
          ∧ r.2.mem ((c.tc : Thread Cert.AdamRowsIdeal.nD Cert.AdamRowsIdeal.τ).loc Cert.AdamRowsIdeal.main_arg0) = m ((c.tc : Thread Cert.AdamRowsIdeal.nD Cert.AdamRowsIdeal.τ).loc Cert.AdamRowsIdeal.main_arg0)
          ∧ r.2.mem ((c.tc : Thread Cert.AdamRowsIdeal.nD Cert.AdamRowsIdeal.τ).loc Cert.AdamRowsIdeal.main_arg1) = m ((c.tc : Thread Cert.AdamRowsIdeal.nD Cert.AdamRowsIdeal.τ).loc Cert.AdamRowsIdeal.main_arg1)
          ∧ r.2.mem ((c.tc : Thread Cert.AdamRowsIdeal.nD Cert.AdamRowsIdeal.τ).loc Cert.AdamRowsIdeal.main_arg2) = m ((c.tc : Thread Cert.AdamRowsIdeal.nD Cert.AdamRowsIdeal.τ).loc Cert.AdamRowsIdeal.main_arg2)
          ∧ r.2.mem ((c.tc : Thread Cert.AdamRowsIdeal.nD Cert.AdamRowsIdeal.τ).loc Cert.AdamRowsIdeal.main_arg3) = m ((c.tc : Thread Cert.AdamRowsIdeal.nD Cert.AdamRowsIdeal.τ).loc Cert.AdamRowsIdeal.main_arg3))
      ∧ θ_run (Cert.AdamRowsRefIdeal.defs (F := Ideal)) (onTc (τ := Cert.AdamRowsRefIdeal.τ) (Cert.AdamRowsRefIdeal.main (F := Ideal))) ⟨m', fun _ => 0, g'⟩ (fun r => ∀ c : Dev Cert.AdamRowsRefIdeal.nD,
          r.2.mem ((c.tc : Thread Cert.AdamRowsRefIdeal.nD Cert.AdamRowsRefIdeal.τ).loc Cert.AdamRowsRefIdeal.main_v24) = v0 c
          ∧ r.2.mem ((c.tc : Thread Cert.AdamRowsRefIdeal.nD Cert.AdamRowsRefIdeal.τ).loc Cert.AdamRowsRefIdeal.main_v25) = v1 c
          ∧ r.2.mem ((c.tc : Thread Cert.AdamRowsRefIdeal.nD Cert.AdamRowsRefIdeal.τ).loc Cert.AdamRowsRefIdeal.main_v26) = v2 c
          ∧ r.2.mem ((c.tc : Thread Cert.AdamRowsRefIdeal.nD Cert.AdamRowsRefIdeal.τ).loc Cert.AdamRowsRefIdeal.main_arg0) = m' ((c.tc : Thread Cert.AdamRowsRefIdeal.nD Cert.AdamRowsRefIdeal.τ).loc Cert.AdamRowsRefIdeal.main_arg0)
          ∧ r.2.mem ((c.tc : Thread Cert.AdamRowsRefIdeal.nD Cert.AdamRowsRefIdeal.τ).loc Cert.AdamRowsRefIdeal.main_arg1) = m' ((c.tc : Thread Cert.AdamRowsRefIdeal.nD Cert.AdamRowsRefIdeal.τ).loc Cert.AdamRowsRefIdeal.main_arg1)
          ∧ r.2.mem ((c.tc : Thread Cert.AdamRowsRefIdeal.nD Cert.AdamRowsRefIdeal.τ).loc Cert.AdamRowsRefIdeal.main_arg2) = m' ((c.tc : Thread Cert.AdamRowsRefIdeal.nD Cert.AdamRowsRefIdeal.τ).loc Cert.AdamRowsRefIdeal.main_arg2)
          ∧ r.2.mem ((c.tc : Thread Cert.AdamRowsRefIdeal.nD Cert.AdamRowsRefIdeal.τ).loc Cert.AdamRowsRefIdeal.main_arg3) = m' ((c.tc : Thread Cert.AdamRowsRefIdeal.nD Cert.AdamRowsRefIdeal.τ).loc Cert.AdamRowsRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v4_0)) (v1 : (c : Dev Cert.AdamBranchIdeal.nD) → Buf (Elt Ideal) ((c.tc : Thread Cert.AdamBranchIdeal.nD Cert.AdamBranchIdeal.τ).loc Cert.AdamBranchIdeal.main_v4_1)) (v2 : (c : Dev Cert.AdamBranchIdeal.nD) → Buf (Elt Ideal) ((c.tc : Thread Cert.AdamBranchIdeal.nD Cert.AdamBranchIdeal.τ).loc Cert.AdamBranchIdeal.main_v4_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v4_0) = v0 c
          ∧ r.2.mem ((c.tc : Thread Cert.AdamBranchIdeal.nD Cert.AdamBranchIdeal.τ).loc Cert.AdamBranchIdeal.main_v4_1) = v1 c
          ∧ r.2.mem ((c.tc : Thread Cert.AdamBranchIdeal.nD Cert.AdamBranchIdeal.τ).loc Cert.AdamBranchIdeal.main_v4_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v24) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v26) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamFin_AdamFinIdeal : Prop :=
  True

def algebraic_AdamFinIdeal_AdamFinRefIdeal [hAdamFinIdeal : Cert.AdamFinIdeal.Facts] [hAdamFinRefIdeal : Cert.AdamFinRefIdeal.Facts] : Prop :=
  ∀ (m : (ℓ : Loc Cert.AdamFinIdeal.nD Cert.AdamFinIdeal.τ Cert.AdamFinIdeal.sig) → Buf (Elt Ideal) ℓ) (g : Dev Cert.AdamFinIdeal.nD → PrngReg)
    (m' : (ℓ : Loc Cert.AdamFinRefIdeal.nD Cert.AdamFinRefIdeal.τ Cert.AdamFinRefIdeal.sig) → Buf (Elt Ideal) ℓ) (g' : Dev Cert.AdamFinRefIdeal.nD → PrngReg), Pre_AdamFinIdeal m →
    (∀ c : Dev Cert.AdamFinIdeal.nD,
      m' ((c.tc : Thread Cert.AdamFinRefIdeal.nD Cert.AdamFinRefIdeal.τ).loc Cert.AdamFinRefIdeal.main_arg0) = m ((c.tc : Thread Cert.AdamFinIdeal.nD Cert.AdamFinIdeal.τ).loc Cert.AdamFinIdeal.main_arg0)
      ∧ m' ((c.tc : Thread Cert.AdamFinRefIdeal.nD Cert.AdamFinRefIdeal.τ).loc Cert.AdamFinRefIdeal.main_arg1) = m ((c.tc : Thread Cert.AdamFinIdeal.nD Cert.AdamFinIdeal.τ).loc Cert.AdamFinIdeal.main_arg1)
      ∧ m' ((c.tc : Thread Cert.AdamFinRefIdeal.nD Cert.AdamFinRefIdeal.τ).loc Cert.AdamFinRefIdeal.main_arg2) = m ((c.tc : Thread Cert.AdamFinIdeal.nD Cert.AdamFinIdeal.τ).loc Cert.AdamFinIdeal.main_arg2)
      ∧ m' ((c.tc : Thread Cert.AdamFinRefIdeal.nD Cert.AdamFinRefIdeal.τ).loc Cert.AdamFinRefIdeal.main_arg3) = m ((c.tc : Thread Cert.AdamFinIdeal.nD Cert.AdamFinIdeal.τ).loc Cert.AdamFinIdeal.main_arg3)) →
    ∃ (v0 : (c : Dev Cert.AdamFinIdeal.nD) → Buf (Elt Ideal) ((c.tc : Thread Cert.AdamFinIdeal.nD Cert.AdamFinIdeal.τ).loc Cert.AdamFinIdeal.main_v4_0)) (v1 : (c : Dev Cert.AdamFinIdeal.nD) → Buf (Elt Ideal) ((c.tc : Thread Cert.AdamFinIdeal.nD Cert.AdamFinIdeal.τ).loc Cert.AdamFinIdeal.main_v4_1)) (v2 : (c : Dev Cert.AdamFinIdeal.nD) → Buf (Elt Ideal) ((c.tc : Thread Cert.AdamFinIdeal.nD Cert.AdamFinIdeal.τ).loc Cert.AdamFinIdeal.main_v4_2)),
      θ_run (Cert.AdamFinIdeal.defs (F := Ideal)) (onTc (τ := Cert.AdamFinIdeal.τ) (Cert.AdamFinIdeal.main (F := Ideal))) ⟨m, fun _ => 0, g⟩ (fun r => ∀ c : Dev Cert.AdamFinIdeal.nD,
          r.2.mem ((c.tc : Thread Cert.AdamFinIdeal.nD Cert.AdamFinIdeal.τ).loc Cert.AdamFinIdeal.main_v4_0) = v0 c
          ∧ r.2.mem ((c.tc : Thread Cert.AdamFinIdeal.nD Cert.AdamFinIdeal.τ).loc Cert.AdamFinIdeal.main_v4_1) = v1 c
          ∧ r.2.mem ((c.tc : Thread Cert.AdamFinIdeal.nD Cert.AdamFinIdeal.τ).loc Cert.AdamFinIdeal.main_v4_2) = v2 c
          ∧ r.2.mem ((c.tc : Thread Cert.AdamFinIdeal.nD Cert.AdamFinIdeal.τ).loc Cert.AdamFinIdeal.main_arg0) = m ((c.tc : Thread Cert.AdamFinIdeal.nD Cert.AdamFinIdeal.τ).loc Cert.AdamFinIdeal.main_arg0)
          ∧ r.2.mem ((c.tc : Thread Cert.AdamFinIdeal.nD Cert.AdamFinIdeal.τ).loc Cert.AdamFinIdeal.main_arg1) = m ((c.tc : Thread Cert.AdamFinIdeal.nD Cert.AdamFinIdeal.τ).loc Cert.AdamFinIdeal.main_arg1)
          ∧ r.2.mem ((c.tc : Thread Cert.AdamFinIdeal.nD Cert.AdamFinIdeal.τ).loc Cert.AdamFinIdeal.main_arg2) = m ((c.tc : Thread Cert.AdamFinIdeal.nD Cert.AdamFinIdeal.τ).loc Cert.AdamFinIdeal.main_arg2)
          ∧ r.2.mem ((c.tc : Thread Cert.AdamFinIdeal.nD Cert.AdamFinIdeal.τ).loc Cert.AdamFinIdeal.main_arg3) = m ((c.tc : Thread Cert.AdamFinIdeal.nD Cert.AdamFinIdeal.τ).loc Cert.AdamFinIdeal.main_arg3))
      ∧ θ_run (Cert.AdamFinRefIdeal.defs (F := Ideal)) (onTc (τ := Cert.AdamFinRefIdeal.τ) (Cert.AdamFinRefIdeal.main (F := Ideal))) ⟨m', fun _ => 0, g'⟩ (fun r => ∀ c : Dev Cert.AdamFinRefIdeal.nD,
          r.2.mem ((c.tc : Thread Cert.AdamFinRefIdeal.nD Cert.AdamFinRefIdeal.τ).loc Cert.AdamFinRefIdeal.main_v24) = v0 c
          ∧ r.2.mem ((c.tc : Thread Cert.AdamFinRefIdeal.nD Cert.AdamFinRefIdeal.τ).loc Cert.AdamFinRefIdeal.main_v25) = v1 c
          ∧ r.2.mem ((c.tc : Thread Cert.AdamFinRefIdeal.nD Cert.AdamFinRefIdeal.τ).loc Cert.AdamFinRefIdeal.main_v26) = v2 c
          ∧ r.2.mem ((c.tc : Thread Cert.AdamFinRefIdeal.nD Cert.AdamFinRefIdeal.τ).loc Cert.AdamFinRefIdeal.main_arg0) = m' ((c.tc : Thread Cert.AdamFinRefIdeal.nD Cert.AdamFinRefIdeal.τ).loc Cert.AdamFinRefIdeal.main_arg0)
          ∧ r.2.mem ((c.tc : Thread Cert.AdamFinRefIdeal.nD Cert.AdamFinRefIdeal.τ).loc Cert.AdamFinRefIdeal.main_arg1) = m' ((c.tc : Thread Cert.AdamFinRefIdeal.nD Cert.AdamFinRefIdeal.τ).loc Cert.AdamFinRefIdeal.main_arg1)
          ∧ r.2.mem ((c.tc : Thread Cert.AdamFinRefIdeal.nD Cert.AdamFinRefIdeal.τ).loc Cert.AdamFinRefIdeal.main_arg2) = m' ((c.tc : Thread Cert.AdamFinRefIdeal.nD Cert.AdamFinRefIdeal.τ).loc Cert.AdamFinRefIdeal.main_arg2)
          ∧ r.2.mem ((c.tc : Thread Cert.AdamFinRefIdeal.nD Cert.AdamFinRefIdeal.τ).loc Cert.AdamFinRefIdeal.main_arg3) = m' ((c.tc : Thread Cert.AdamFinRefIdeal.nD Cert.AdamFinRefIdeal.τ).loc Cert.AdamFinRefIdeal.main_arg3))

def preserves_AdamFout_AdamFoutIdeal : Prop :=
  True

def algebraic_AdamFoutIdeal_AdamFoutRefIdeal [hAdamFoutIdeal : Cert.AdamFoutIdeal.Facts] [hAdamFoutRefIdeal : Cert.AdamFoutRefIdeal.Facts] : Prop :=
  ∀ (m : (ℓ : Loc Cert.AdamFoutIdeal.nD Cert.AdamFoutIdeal.τ Cert.AdamFoutIdeal.sig) → Buf (Elt Ideal) ℓ) (g : Dev Cert.AdamFoutIdeal.nD → PrngReg)
    (m' : (ℓ : Loc Cert.AdamFoutRefIdeal.nD Cert.AdamFoutRefIdeal.τ Cert.AdamFoutRefIdeal.sig) → Buf (Elt Ideal) ℓ) (g' : Dev Cert.AdamFoutRefIdeal.nD → PrngReg), Pre_AdamFoutIdeal m →
    (∀ c : Dev Cert.AdamFoutIdeal.nD,
      m' ((c.tc : Thread Cert.AdamFoutRefIdeal.nD Cert.AdamFoutRefIdeal.τ).loc Cert.AdamFoutRefIdeal.main_arg0) = m ((c.tc : Thread Cert.AdamFoutIdeal.nD Cert.AdamFoutIdeal.τ).loc Cert.AdamFoutIdeal.main_arg0)
      ∧ m' ((c.tc : Thread Cert.AdamFoutRefIdeal.nD Cert.AdamFoutRefIdeal.τ).loc Cert.AdamFoutRefIdeal.main_arg1) = m ((c.tc : Thread Cert.AdamFoutIdeal.nD Cert.AdamFoutIdeal.τ).loc Cert.AdamFoutIdeal.main_arg1)
      ∧ m' ((c.tc : Thread Cert.AdamFoutRefIdeal.nD Cert.AdamFoutRefIdeal.τ).loc Cert.AdamFoutRefIdeal.main_arg2) = m ((c.tc : Thread Cert.AdamFoutIdeal.nD Cert.AdamFoutIdeal.τ).loc Cert.AdamFoutIdeal.main_arg2)
      ∧ m' ((c.tc : Thread Cert.AdamFoutRefIdeal.nD Cert.AdamFoutRefIdeal.τ).loc Cert.AdamFoutRefIdeal.main_arg3) = m ((c.tc : Thread Cert.AdamFoutIdeal.nD Cert.AdamFoutIdeal.τ).loc Cert.AdamFoutIdeal.main_arg3)) →
    ∃ (v0 : (c : Dev Cert.AdamFoutIdeal.nD) → Buf (Elt Ideal) ((c.tc : Thread Cert.AdamFoutIdeal.nD Cert.AdamFoutIdeal.τ).loc Cert.AdamFoutIdeal.main_v4_0)) (v1 : (c : Dev Cert.AdamFoutIdeal.nD) → Buf (Elt Ideal) ((c.tc : Thread Cert.AdamFoutIdeal.nD Cert.AdamFoutIdeal.τ).loc Cert.AdamFoutIdeal.main_v4_1)) (v2 : (c : Dev Cert.AdamFoutIdeal.nD) → Buf (Elt Ideal) ((c.tc : Thread Cert.AdamFoutIdeal.nD Cert.AdamFoutIdeal.τ).loc Cert.AdamFoutIdeal.main_v4_2)),
      θ_run (Cert.AdamFoutIdeal.defs (F := Ideal)) (onTc (τ := Cert.AdamFoutIdeal.τ) (Cert.AdamFoutIdeal.main (F := Ideal))) ⟨m, fun _ => 0, g⟩ (fun r => ∀ c : Dev Cert.AdamFoutIdeal.nD,
          r.2.mem ((c.tc : Thread Cert.AdamFoutIdeal.nD Cert.AdamFoutIdeal.τ).loc Cert.AdamFoutIdeal.main_v4_0) = v0 c
          ∧ r.2.mem ((c.tc : Thread Cert.AdamFoutIdeal.nD Cert.AdamFoutIdeal.τ).loc Cert.AdamFoutIdeal.main_v4_1) = v1 c
          ∧ r.2.mem ((c.tc : Thread Cert.AdamFoutIdeal.nD Cert.AdamFoutIdeal.τ).loc Cert.AdamFoutIdeal.main_v4_2) = v2 c
          ∧ r.2.mem ((c.tc : Thread Cert.AdamFoutIdeal.nD Cert.AdamFoutIdeal.τ).loc Cert.AdamFoutIdeal.main_arg0) = m ((c.tc : Thread Cert.AdamFoutIdeal.nD Cert.AdamFoutIdeal.τ).loc Cert.AdamFoutIdeal.main_arg0)
          ∧ r.2.mem ((c.tc : Thread Cert.AdamFoutIdeal.nD Cert.AdamFoutIdeal.τ).loc Cert.AdamFoutIdeal.main_arg1) = m ((c.tc : Thread Cert.AdamFoutIdeal.nD Cert.AdamFoutIdeal.τ).loc Cert.AdamFoutIdeal.main_arg1)
          ∧ r.2.mem ((c.tc : Thread Cert.AdamFoutIdeal.nD Cert.AdamFoutIdeal.τ).loc Cert.AdamFoutIdeal.main_arg2) = m ((c.tc : Thread Cert.AdamFoutIdeal.nD Cert.AdamFoutIdeal.τ).loc Cert.AdamFoutIdeal.main_arg2)
          ∧ r.2.mem ((c.tc : Thread Cert.AdamFoutIdeal.nD Cert.AdamFoutIdeal.τ).loc Cert.AdamFoutIdeal.main_arg3) = m ((c.tc : Thread Cert.AdamFoutIdeal.nD Cert.AdamFoutIdeal.τ).loc Cert.AdamFoutIdeal.main_arg3))
      ∧ θ_run (Cert.AdamFoutRefIdeal.defs (F := Ideal)) (onTc (τ := Cert.AdamFoutRefIdeal.τ) (Cert.AdamFoutRefIdeal.main (F := Ideal))) ⟨m', fun _ => 0, g'⟩ (fun r => ∀ c : Dev Cert.AdamFoutRefIdeal.nD,
          r.2.mem ((c.tc : Thread Cert.AdamFoutRefIdeal.nD Cert.AdamFoutRefIdeal.τ).loc Cert.AdamFoutRefIdeal.main_v24) = v0 c
          ∧ r.2.mem ((c.tc : Thread Cert.AdamFoutRefIdeal.nD Cert.AdamFoutRefIdeal.τ).loc Cert.AdamFoutRefIdeal.main_v25) = v1 c
          ∧ r.2.mem ((c.tc : Thread Cert.AdamFoutRefIdeal.nD Cert.AdamFoutRefIdeal.τ).loc Cert.AdamFoutRefIdeal.main_v26) = v2 c
          ∧ r.2.mem ((c.tc : Thread Cert.AdamFoutRefIdeal.nD Cert.AdamFoutRefIdeal.τ).loc Cert.AdamFoutRefIdeal.main_arg0) = m' ((c.tc : Thread Cert.AdamFoutRefIdeal.nD Cert.AdamFoutRefIdeal.τ).loc Cert.AdamFoutRefIdeal.main_arg0)
          ∧ r.2.mem ((c.tc : Thread Cert.AdamFoutRefIdeal.nD Cert.AdamFoutRefIdeal.τ).loc Cert.AdamFoutRefIdeal.main_arg1) = m' ((c.tc : Thread Cert.AdamFoutRefIdeal.nD Cert.AdamFoutRefIdeal.τ).loc Cert.AdamFoutRefIdeal.main_arg1)
          ∧ r.2.mem ((c.tc : Thread Cert.AdamFoutRefIdeal.nD Cert.AdamFoutRefIdeal.τ).loc Cert.AdamFoutRefIdeal.main_arg2) = m' ((c.tc : Thread Cert.AdamFoutRefIdeal.nD Cert.AdamFoutRefIdeal.τ).loc Cert.AdamFoutRefIdeal.main_arg2)
          ∧ r.2.mem ((c.tc : Thread Cert.AdamFoutRefIdeal.nD Cert.AdamFoutRefIdeal.τ).loc Cert.AdamFoutRefIdeal.main_arg3) = m' ((c.tc : Thread Cert.AdamFoutRefIdeal.nD Cert.AdamFoutRefIdeal.τ).loc Cert.AdamFoutRefIdeal.main_arg3))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v1) = v0 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)) →
    ∃ (v0 : (c : Dev Cert.PostFwdIdeal.nD) → Buf (Elt Ideal) ((c.tc : Thread Cert.PostFwdIdeal.nD Cert.PostFwdIdeal.τ).loc Cert.PostFwdIdeal.main_v0)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v0) = v0 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v6) = v0 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1))

def preserves_PreFwd_PreFwdIdeal : Prop :=
  True

def algebraic_PreFwdIdeal_PreFwdRefIdeal [hPreFwdIdeal : Cert.PreFwdIdeal.Facts] [hPreFwdRefIdeal : Cert.PreFwdRefIdeal.Facts] : Prop :=
  ∀ (m : (ℓ : Loc Cert.PreFwdIdeal.nD Cert.PreFwdIdeal.τ Cert.PreFwdIdeal.sig) → Buf (Elt Ideal) ℓ) (g : Dev Cert.PreFwdIdeal.nD → PrngReg)
    (m' : (ℓ : Loc Cert.PreFwdRefIdeal.nD Cert.PreFwdRefIdeal.τ Cert.PreFwdRefIdeal.sig) → Buf (Elt Ideal) ℓ) (g' : Dev Cert.PreFwdRefIdeal.nD → PrngReg), Pre_PreFwdIdeal m →
    (∀ c : Dev Cert.PreFwdIdeal.nD,
      m' ((c.tc : Thread Cert.PreFwdRefIdeal.nD Cert.PreFwdRefIdeal.τ).loc Cert.PreFwdRefIdeal.main_arg0) = m ((c.tc : Thread Cert.PreFwdIdeal.nD Cert.PreFwdIdeal.τ).loc Cert.PreFwdIdeal.main_arg0)
      ∧ m' ((c.tc : Thread Cert.PreFwdRefIdeal.nD Cert.PreFwdRefIdeal.τ).loc Cert.PreFwdRefIdeal.main_arg1) = m ((c.tc : Thread Cert.PreFwdIdeal.nD Cert.PreFwdIdeal.τ).loc Cert.PreFwdIdeal.main_arg1)
      ∧ m' ((c.tc : Thread Cert.PreFwdRefIdeal.nD Cert.PreFwdRefIdeal.τ).loc Cert.PreFwdRefIdeal.main_arg2) = m ((c.tc : Thread Cert.PreFwdIdeal.nD Cert.PreFwdIdeal.τ).loc Cert.PreFwdIdeal.main_arg2)) →
    ∃ (v0 : (c : Dev Cert.PreFwdIdeal.nD) → Buf (Elt Ideal) ((c.tc : Thread Cert.PreFwdIdeal.nD Cert.PreFwdIdeal.τ).loc Cert.PreFwdIdeal.main_v1)),
      θ_run (Cert.PreFwdIdeal.defs (F := Ideal)) (onTc (τ := Cert.PreFwdIdeal.τ) (Cert.PreFwdIdeal.main (F := Ideal))) ⟨m, fun _ => 0, g⟩ (fun r => ∀ c : Dev Cert.PreFwdIdeal.nD,
          r.2.mem ((c.tc : Thread Cert.PreFwdIdeal.nD Cert.PreFwdIdeal.τ).loc Cert.PreFwdIdeal.main_v1) = v0 c
          ∧ r.2.mem ((c.tc : Thread Cert.PreFwdIdeal.nD Cert.PreFwdIdeal.τ).loc Cert.PreFwdIdeal.main_arg0) = m ((c.tc : Thread Cert.PreFwdIdeal.nD Cert.PreFwdIdeal.τ).loc Cert.PreFwdIdeal.main_arg0)
          ∧ r.2.mem ((c.tc : Thread Cert.PreFwdIdeal.nD Cert.PreFwdIdeal.τ).loc Cert.PreFwdIdeal.main_arg1) = m ((c.tc : Thread Cert.PreFwdIdeal.nD Cert.PreFwdIdeal.τ).loc Cert.PreFwdIdeal.main_arg1)
          ∧ r.2.mem ((c.tc : Thread Cert.PreFwdIdeal.nD Cert.PreFwdIdeal.τ).loc Cert.PreFwdIdeal.main_arg2) = m ((c.tc : Thread Cert.PreFwdIdeal.nD Cert.PreFwdIdeal.τ).loc Cert.PreFwdIdeal.main_arg2))
      ∧ θ_run (Cert.PreFwdRefIdeal.defs (F := Ideal)) (onTc (τ := Cert.PreFwdRefIdeal.τ) (Cert.PreFwdRefIdeal.main (F := Ideal))) ⟨m', fun _ => 0, g'⟩ (fun r => ∀ c : Dev Cert.PreFwdRefIdeal.nD,
          r.2.mem ((c.tc : Thread Cert.PreFwdRefIdeal.nD Cert.PreFwdRefIdeal.τ).loc Cert.PreFwdRefIdeal.main_v16) = v0 c
          ∧ r.2.mem ((c.tc : Thread Cert.PreFwdRefIdeal.nD Cert.PreFwdRefIdeal.τ).loc Cert.PreFwdRefIdeal.main_arg0) = m' ((c.tc : Thread Cert.PreFwdRefIdeal.nD Cert.PreFwdRefIdeal.τ).loc Cert.PreFwdRefIdeal.main_arg0)
          ∧ r.2.mem ((c.tc : Thread Cert.PreFwdRefIdeal.nD Cert.PreFwdRefIdeal.τ).loc Cert.PreFwdRefIdeal.main_arg1) = m' ((c.tc : Thread Cert.PreFwdRefIdeal.nD Cert.PreFwdRefIdeal.τ).loc Cert.PreFwdRefIdeal.main_arg1)
          ∧ r.2.mem ((c.tc : Thread Cert.PreFwdRefIdeal.nD Cert.PreFwdRefIdeal.τ).loc Cert.PreFwdRefIdeal.main_arg2) = m' ((c.tc : Thread Cert.PreFwdRefIdeal.nD Cert.PreFwdRefIdeal.τ).loc Cert.PreFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v18) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_LossFwd_LossFwdIdeal : Prop :=
  True

def algebraic_LossFwdIdeal_LossFwdRefIdeal [hLossFwdIdeal : Cert.LossFwdIdeal.Facts] [hLossFwdRefIdeal : Cert.LossFwdRefIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossFwdRefIdeal.nD Cert.LossFwdRefIdeal.τ Cert.LossFwdRefIdeal.sig) → Buf (Elt Ideal) ℓ) (g' : Dev Cert.LossFwdRefIdeal.nD → PrngReg), Pre_LossFwdIdeal m →
    (∀ c : Dev Cert.LossFwdIdeal.nD,
      m' ((c.tc : Thread Cert.LossFwdRefIdeal.nD Cert.LossFwdRefIdeal.τ).loc Cert.LossFwdRefIdeal.main_arg0) = m ((c.tc : Thread Cert.LossFwdIdeal.nD Cert.LossFwdIdeal.τ).loc Cert.LossFwdIdeal.main_arg0)
      ∧ m' ((c.tc : Thread Cert.LossFwdRefIdeal.nD Cert.LossFwdRefIdeal.τ).loc Cert.LossFwdRefIdeal.main_arg1) = m ((c.tc : Thread Cert.LossFwdIdeal.nD Cert.LossFwdIdeal.τ).loc Cert.LossFwdIdeal.main_arg1)
      ∧ m' ((c.tc : Thread Cert.LossFwdRefIdeal.nD Cert.LossFwdRefIdeal.τ).loc Cert.LossFwdRefIdeal.main_arg2) = m ((c.tc : Thread Cert.LossFwdIdeal.nD Cert.LossFwdIdeal.τ).loc Cert.LossFwdIdeal.main_arg2)) →
    ∃ (v0 : (c : Dev Cert.LossFwdIdeal.nD) → Buf (Elt Ideal) ((c.tc : Thread Cert.LossFwdIdeal.nD Cert.LossFwdIdeal.τ).loc Cert.LossFwdIdeal.main_v1)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v1) = v0 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
          ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2))
      ∧ θ_run (Cert.LossFwdRefIdeal.defs (F := Ideal)) (onTc (τ := Cert.LossFwdRefIdeal.τ) (Cert.LossFwdRefIdeal.main (F := Ideal))) ⟨m', fun _ => 0, g'⟩ (fun r => ∀ c : Dev Cert.LossFwdRefIdeal.nD,
          r.2.mem ((c.tc : Thread Cert.LossFwdRefIdeal.nD Cert.LossFwdRefIdeal.τ).loc Cert.LossFwdRefIdeal.main_v26) = v0 c
          ∧ r.2.mem ((c.tc : Thread Cert.LossFwdRefIdeal.nD Cert.LossFwdRefIdeal.τ).loc Cert.LossFwdRefIdeal.main_arg0) = m' ((c.tc : Thread Cert.LossFwdRefIdeal.nD Cert.LossFwdRefIdeal.τ).loc Cert.LossFwdRefIdeal.main_arg0)
          ∧ r.2.mem ((c.tc : Thread Cert.LossFwdRefIdeal.nD Cert.LossFwdRefIdeal.τ).loc Cert.LossFwdRefIdeal.main_arg1) = m' ((c.tc : Thread Cert.LossFwdRefIdeal.nD Cert.LossFwdRefIdeal.τ).loc Cert.LossFwdRefIdeal.main_arg1)
          ∧ r.2.mem ((c.tc : Thread Cert.LossFwdRefIdeal.nD Cert.LossFwdRefIdeal.τ).loc Cert.LossFwdRefIdeal.main_arg2) = m' ((c.tc : Thread Cert.LossFwdRefIdeal.nD Cert.LossFwdRefIdeal.τ).loc Cert.LossFwdRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v60) = v0 c
          ∧ r.2.mem ((c.tc : Thread Cert.LossRefIdeal.nD Cert.LossRefIdeal.τ).loc Cert.LossRefIdeal.main_v40) = v1 c
          ∧ r.2.mem ((c.tc : Thread Cert.LossRefIdeal.nD Cert.LossRefIdeal.τ).loc Cert.LossRefIdeal.main_v61) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Fox_FoxIdeal : Prop :=
  IdealRules.named_const.Statement Cert.FoxIdeal.κ "mask" .f32 0xF149F2CA#32 ⊥

def Claim : Prop :=
  ∃ (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hOutMm : Cert.OutMm.Facts) (hOutMmIdeal : Cert.OutMmIdeal.Facts) (hOutMmRefIdeal : Cert.OutMmRefIdeal.Facts) (hFfDx : Cert.FfDx.Facts) (hFfDxIdeal : Cert.FfDxIdeal.Facts) (hFfDxRefIdeal : Cert.FfDxRefIdeal.Facts) (hFfDw : Cert.FfDw.Facts) (hFfDwIdeal : Cert.FfDwIdeal.Facts) (hFfDwRefIdeal : Cert.FfDwRefIdeal.Facts) (hFfMm : Cert.FfMm.Facts) (hFfMmIdeal : Cert.FfMmIdeal.Facts) (hFfMmRefIdeal : Cert.FfMmRefIdeal.Facts) (hFfoDx : Cert.FfoDx.Facts) (hFfoDxIdeal : Cert.FfoDxIdeal.Facts) (hFfoDxRefIdeal : Cert.FfoDxRefIdeal.Facts) (hFfoDw : Cert.FfoDw.Facts) (hFfoDwIdeal : Cert.FfoDwIdeal.Facts) (hFfoDwRefIdeal : Cert.FfoDwRefIdeal.Facts) (hFfoMm : Cert.FfoMm.Facts) (hFfoMmIdeal : Cert.FfoMmIdeal.Facts) (hFfoMmRefIdeal : Cert.FfoMmRefIdeal.Facts) (hQkvDx : Cert.QkvDx.Facts) (hQkvDxIdeal : Cert.QkvDxIdeal.Facts) (hQkvDxRefIdeal : Cert.QkvDxRefIdeal.Facts) (hQkvDw : Cert.QkvDw.Facts) (hQkvDwIdeal : Cert.QkvDwIdeal.Facts) (hQkvDwRefIdeal : Cert.QkvDwRefIdeal.Facts) (hQkvMm : Cert.QkvMm.Facts) (hQkvMmIdeal : Cert.QkvMmIdeal.Facts) (hQkvMmRefIdeal : Cert.QkvMmRefIdeal.Facts) (hSsdDx : Cert.SsdDx.Facts) (hSsdDxIdeal : Cert.SsdDxIdeal.Facts) (hSsdDxRefIdeal : Cert.SsdDxRefIdeal.Facts) (hSsdDw : Cert.SsdDw.Facts) (hSsdDwIdeal : Cert.SsdDwIdeal.Facts) (hSsdDwRefIdeal : Cert.SsdDwRefIdeal.Facts) (hSsdMm : Cert.SsdMm.Facts) (hSsdMmIdeal : Cert.SsdMmIdeal.Facts) (hSsdMmRefIdeal : Cert.SsdMmRefIdeal.Facts) (hSwiglu : Cert.Swiglu.Facts) (hSwigluIdeal : Cert.SwigluIdeal.Facts) (hSwigluRefIdeal : Cert.SwigluRefIdeal.Facts) (hRms : Cert.Rms.Facts) (hRmsIdeal : Cert.RmsIdeal.Facts) (hRmsRefIdeal : Cert.RmsRefIdeal.Facts) (hPost : Cert.Post.Facts) (hPostIdeal : Cert.PostIdeal.Facts) (hPostRefIdeal : Cert.PostRefIdeal.Facts) (hPre : Cert.Pre.Facts) (hPreIdeal : Cert.PreIdeal.Facts) (hPreRefIdeal : Cert.PreRefIdeal.Facts) (hMerge : Cert.Merge.Facts) (hMergeIdeal : Cert.MergeIdeal.Facts) (hMergeRefIdeal : Cert.MergeRefIdeal.Facts) (hAdamIn : Cert.AdamIn.Facts) (hAdamInIdeal : Cert.AdamInIdeal.Facts) (hAdamInRefIdeal : Cert.AdamInRefIdeal.Facts) (hAdamRows : Cert.AdamRows.Facts) (hAdamRowsIdeal : Cert.AdamRowsIdeal.Facts) (hAdamRowsRefIdeal : Cert.AdamRowsRefIdeal.Facts) (hAdamBranch : Cert.AdamBranch.Facts) (hAdamBranchIdeal : Cert.AdamBranchIdeal.Facts) (hAdamBranchRefIdeal : Cert.AdamBranchRefIdeal.Facts) (hAdamFin : Cert.AdamFin.Facts) (hAdamFinIdeal : Cert.AdamFinIdeal.Facts) (hAdamFinRefIdeal : Cert.AdamFinRefIdeal.Facts) (hAdamFout : Cert.AdamFout.Facts) (hAdamFoutIdeal : Cert.AdamFoutIdeal.Facts) (hAdamFoutRefIdeal : Cert.AdamFoutRefIdeal.Facts) (hSwigluFwd : Cert.SwigluFwd.Facts) (hSwigluFwdIdeal : Cert.SwigluFwdIdeal.Facts) (hSwigluFwdRefIdeal : Cert.SwigluFwdRefIdeal.Facts) (hRmsFwd : Cert.RmsFwd.Facts) (hRmsFwdIdeal : Cert.RmsFwdIdeal.Facts) (hRmsFwdRefIdeal : Cert.RmsFwdRefIdeal.Facts) (hPostFwd : Cert.PostFwd.Facts) (hPostFwdIdeal : Cert.PostFwdIdeal.Facts) (hPostFwdRefIdeal : Cert.PostFwdRefIdeal.Facts) (hPreFwd : Cert.PreFwd.Facts) (hPreFwdIdeal : Cert.PreFwdIdeal.Facts) (hPreFwdRefIdeal : Cert.PreFwdRefIdeal.Facts) (hMergeFwd : Cert.MergeFwd.Facts) (hMergeFwdIdeal : Cert.MergeFwdIdeal.Facts) (hMergeFwdRefIdeal : Cert.MergeFwdRefIdeal.Facts) (hLossFwd : Cert.LossFwd.Facts) (hLossFwdIdeal : Cert.LossFwdIdeal.Facts) (hLossFwdRefIdeal : Cert.LossFwdRefIdeal.Facts) (hLoss : Cert.Loss.Facts) (hLossIdeal : Cert.LossIdeal.Facts) (hLossRefIdeal : Cert.LossRefIdeal.Facts) (hFox : Cert.Fox.Facts) (hFoxIdeal : Cert.FoxIdeal.Facts),
    quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutMm (hOutMm := hOutMm)
    ∧ quiescent_OutMmIdeal (hOutMmIdeal := hOutMmIdeal)
    ∧ quiescent_OutMmRefIdeal (hOutMmRefIdeal := hOutMmRefIdeal)
    ∧ quiescent_FfDx (hFfDx := hFfDx)
    ∧ quiescent_FfDxIdeal (hFfDxIdeal := hFfDxIdeal)
    ∧ quiescent_FfDxRefIdeal (hFfDxRefIdeal := hFfDxRefIdeal)
    ∧ quiescent_FfDw (hFfDw := hFfDw)
    ∧ quiescent_FfDwIdeal (hFfDwIdeal := hFfDwIdeal)
    ∧ quiescent_FfDwRefIdeal (hFfDwRefIdeal := hFfDwRefIdeal)
    ∧ quiescent_FfMm (hFfMm := hFfMm)
    ∧ quiescent_FfMmIdeal (hFfMmIdeal := hFfMmIdeal)
    ∧ quiescent_FfMmRefIdeal (hFfMmRefIdeal := hFfMmRefIdeal)
    ∧ quiescent_FfoDx (hFfoDx := hFfoDx)
    ∧ quiescent_FfoDxIdeal (hFfoDxIdeal := hFfoDxIdeal)
    ∧ quiescent_FfoDxRefIdeal (hFfoDxRefIdeal := hFfoDxRefIdeal)
    ∧ quiescent_FfoDw (hFfoDw := hFfoDw)
    ∧ quiescent_FfoDwIdeal (hFfoDwIdeal := hFfoDwIdeal)
    ∧ quiescent_FfoDwRefIdeal (hFfoDwRefIdeal := hFfoDwRefIdeal)
    ∧ quiescent_FfoMm (hFfoMm := hFfoMm)
    ∧ quiescent_FfoMmIdeal (hFfoMmIdeal := hFfoMmIdeal)
    ∧ quiescent_FfoMmRefIdeal (hFfoMmRefIdeal := hFfoMmRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_QkvMm (hQkvMm := hQkvMm)
    ∧ quiescent_QkvMmIdeal (hQkvMmIdeal := hQkvMmIdeal)
    ∧ quiescent_QkvMmRefIdeal (hQkvMmRefIdeal := hQkvMmRefIdeal)
    ∧ quiescent_SsdDx (hSsdDx := hSsdDx)
    ∧ quiescent_SsdDxIdeal (hSsdDxIdeal := hSsdDxIdeal)
    ∧ quiescent_SsdDxRefIdeal (hSsdDxRefIdeal := hSsdDxRefIdeal)
    ∧ quiescent_SsdDw (hSsdDw := hSsdDw)
    ∧ quiescent_SsdDwIdeal (hSsdDwIdeal := hSsdDwIdeal)
    ∧ quiescent_SsdDwRefIdeal (hSsdDwRefIdeal := hSsdDwRefIdeal)
    ∧ quiescent_SsdMm (hSsdMm := hSsdMm)
    ∧ quiescent_SsdMmIdeal (hSsdMmIdeal := hSsdMmIdeal)
    ∧ quiescent_SsdMmRefIdeal (hSsdMmRefIdeal := hSsdMmRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Rms (hRms := hRms)
    ∧ quiescent_RmsIdeal (hRmsIdeal := hRmsIdeal)
    ∧ quiescent_RmsRefIdeal (hRmsRefIdeal := hRmsRefIdeal)
    ∧ quiescent_Post (hPost := hPost)
    ∧ quiescent_PostIdeal (hPostIdeal := hPostIdeal)
    ∧ quiescent_PostRefIdeal (hPostRefIdeal := hPostRefIdeal)
    ∧ quiescent_Pre (hPre := hPre)
    ∧ quiescent_PreIdeal (hPreIdeal := hPreIdeal)
    ∧ quiescent_PreRefIdeal (hPreRefIdeal := hPreRefIdeal)
    ∧ quiescent_Merge (hMerge := hMerge)
    ∧ quiescent_MergeIdeal (hMergeIdeal := hMergeIdeal)
    ∧ quiescent_MergeRefIdeal (hMergeRefIdeal := hMergeRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamRows (hAdamRows := hAdamRows)
    ∧ quiescent_AdamRowsIdeal (hAdamRowsIdeal := hAdamRowsIdeal)
    ∧ quiescent_AdamRowsRefIdeal (hAdamRowsRefIdeal := hAdamRowsRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamFin (hAdamFin := hAdamFin)
    ∧ quiescent_AdamFinIdeal (hAdamFinIdeal := hAdamFinIdeal)
    ∧ quiescent_AdamFinRefIdeal (hAdamFinRefIdeal := hAdamFinRefIdeal)
    ∧ quiescent_AdamFout (hAdamFout := hAdamFout)
    ∧ quiescent_AdamFoutIdeal (hAdamFoutIdeal := hAdamFoutIdeal)
    ∧ quiescent_AdamFoutRefIdeal (hAdamFoutRefIdeal := hAdamFoutRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_PreFwd (hPreFwd := hPreFwd)
    ∧ quiescent_PreFwdIdeal (hPreFwdIdeal := hPreFwdIdeal)
    ∧ quiescent_PreFwdRefIdeal (hPreFwdRefIdeal := hPreFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_LossFwd (hLossFwd := hLossFwd)
    ∧ quiescent_LossFwdIdeal (hLossFwdIdeal := hLossFwdIdeal)
    ∧ quiescent_LossFwdRefIdeal (hLossFwdRefIdeal := hLossFwdRefIdeal)
    ∧ quiescent_Loss (hLoss := hLoss)
    ∧ quiescent_LossIdeal (hLossIdeal := hLossIdeal)
    ∧ quiescent_LossRefIdeal (hLossRefIdeal := hLossRefIdeal)
    ∧ quiescent_Fox (hFox := hFox)
    ∧ quiescent_FoxIdeal (hFoxIdeal := hFoxIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_OutMm_OutMmIdeal
    ∧ algebraic_OutMmIdeal_OutMmRefIdeal (hOutMmIdeal := hOutMmIdeal) (hOutMmRefIdeal := hOutMmRefIdeal)
    ∧ preserves_FfDx_FfDxIdeal
    ∧ algebraic_FfDxIdeal_FfDxRefIdeal (hFfDxIdeal := hFfDxIdeal) (hFfDxRefIdeal := hFfDxRefIdeal)
    ∧ preserves_FfDw_FfDwIdeal
    ∧ algebraic_FfDwIdeal_FfDwRefIdeal (hFfDwIdeal := hFfDwIdeal) (hFfDwRefIdeal := hFfDwRefIdeal)
    ∧ preserves_FfMm_FfMmIdeal
    ∧ algebraic_FfMmIdeal_FfMmRefIdeal (hFfMmIdeal := hFfMmIdeal) (hFfMmRefIdeal := hFfMmRefIdeal)
    ∧ preserves_FfoDx_FfoDxIdeal
    ∧ algebraic_FfoDxIdeal_FfoDxRefIdeal (hFfoDxIdeal := hFfoDxIdeal) (hFfoDxRefIdeal := hFfoDxRefIdeal)
    ∧ preserves_FfoDw_FfoDwIdeal
    ∧ algebraic_FfoDwIdeal_FfoDwRefIdeal (hFfoDwIdeal := hFfoDwIdeal) (hFfoDwRefIdeal := hFfoDwRefIdeal)
    ∧ preserves_FfoMm_FfoMmIdeal
    ∧ algebraic_FfoMmIdeal_FfoMmRefIdeal (hFfoMmIdeal := hFfoMmIdeal) (hFfoMmRefIdeal := hFfoMmRefIdeal)
    ∧ preserves_QkvDx_QkvDxIdeal
    ∧ algebraic_QkvDxIdeal_QkvDxRefIdeal (hQkvDxIdeal := hQkvDxIdeal) (hQkvDxRefIdeal := hQkvDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_QkvMm_QkvMmIdeal
    ∧ algebraic_QkvMmIdeal_QkvMmRefIdeal (hQkvMmIdeal := hQkvMmIdeal) (hQkvMmRefIdeal := hQkvMmRefIdeal)
    ∧ preserves_SsdDx_SsdDxIdeal
    ∧ algebraic_SsdDxIdeal_SsdDxRefIdeal (hSsdDxIdeal := hSsdDxIdeal) (hSsdDxRefIdeal := hSsdDxRefIdeal)
    ∧ preserves_SsdDw_SsdDwIdeal
    ∧ algebraic_SsdDwIdeal_SsdDwRefIdeal (hSsdDwIdeal := hSsdDwIdeal) (hSsdDwRefIdeal := hSsdDwRefIdeal)
    ∧ preserves_SsdMm_SsdMmIdeal
    ∧ algebraic_SsdMmIdeal_SsdMmRefIdeal (hSsdMmIdeal := hSsdMmIdeal) (hSsdMmRefIdeal := hSsdMmRefIdeal)
    ∧ preserves_Swiglu_SwigluIdeal
    ∧ algebraic_SwigluIdeal_SwigluRefIdeal (hSwigluIdeal := hSwigluIdeal) (hSwigluRefIdeal := hSwigluRefIdeal)
    ∧ preserves_Rms_RmsIdeal
    ∧ algebraic_RmsIdeal_RmsRefIdeal (hRmsIdeal := hRmsIdeal) (hRmsRefIdeal := hRmsRefIdeal)
    ∧ preserves_Post_PostIdeal
    ∧ algebraic_PostIdeal_PostRefIdeal (hPostIdeal := hPostIdeal) (hPostRefIdeal := hPostRefIdeal)
    ∧ preserves_Pre_PreIdeal
    ∧ algebraic_PreIdeal_PreRefIdeal (hPreIdeal := hPreIdeal) (hPreRefIdeal := hPreRefIdeal)
    ∧ preserves_Merge_MergeIdeal
    ∧ algebraic_MergeIdeal_MergeRefIdeal (hMergeIdeal := hMergeIdeal) (hMergeRefIdeal := hMergeRefIdeal)
    ∧ preserves_AdamIn_AdamInIdeal
    ∧ algebraic_AdamInIdeal_AdamInRefIdeal (hAdamInIdeal := hAdamInIdeal) (hAdamInRefIdeal := hAdamInRefIdeal)
    ∧ preserves_AdamRows_AdamRowsIdeal
    ∧ algebraic_AdamRowsIdeal_AdamRowsRefIdeal (hAdamRowsIdeal := hAdamRowsIdeal) (hAdamRowsRefIdeal := hAdamRowsRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamFin_AdamFinIdeal
    ∧ algebraic_AdamFinIdeal_AdamFinRefIdeal (hAdamFinIdeal := hAdamFinIdeal) (hAdamFinRefIdeal := hAdamFinRefIdeal)
    ∧ preserves_AdamFout_AdamFoutIdeal
    ∧ algebraic_AdamFoutIdeal_AdamFoutRefIdeal (hAdamFoutIdeal := hAdamFoutIdeal) (hAdamFoutRefIdeal := hAdamFoutRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_PostFwd_PostFwdIdeal
    ∧ algebraic_PostFwdIdeal_PostFwdRefIdeal (hPostFwdIdeal := hPostFwdIdeal) (hPostFwdRefIdeal := hPostFwdRefIdeal)
    ∧ preserves_PreFwd_PreFwdIdeal
    ∧ algebraic_PreFwdIdeal_PreFwdRefIdeal (hPreFwdIdeal := hPreFwdIdeal) (hPreFwdRefIdeal := hPreFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_LossFwd_LossFwdIdeal
    ∧ algebraic_LossFwdIdeal_LossFwdRefIdeal (hLossFwdIdeal := hLossFwdIdeal) (hLossFwdRefIdeal := hLossFwdRefIdeal)
    ∧ preserves_Loss_LossIdeal
    ∧ algebraic_LossIdeal_LossRefIdeal (hLossIdeal := hLossIdeal) (hLossRefIdeal := hLossRefIdeal)
    ∧ preserves_Fox_FoxIdeal
-- ==== OutDx.lean ====
abbrev S1024x1024 : Shape := ⟨2, ![1024, 1024]⟩
abbrev S8448x1024 : Shape := ⟨2, ![8448, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S1024x1024, .bf16⟩
  | .hbm, ⟨3, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxIdeal.lean ====
abbrev S1024x1024 : Shape := ⟨2, ![1024, 1024]⟩
abbrev S8448x1024 : Shape := ⟨2, ![8448, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S1024x1024, .bf16⟩
  | .hbm, ⟨3, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S1024x1024 : Shape := ⟨2, ![1024, 1024]⟩
abbrev S8448x1024 : Shape := ⟨2, ![8448, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S_, .f32⟩
  | .hbm, ⟨3, _⟩ => ⟨S8448x1024, .f32⟩
  | .hbm, ⟨4, _⟩ => ⟨S8448x1024, .f32⟩
  | .hbm, ⟨5, _⟩ => ⟨S8448x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDw.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1024x1024, .f32⟩
  | .local _ .vmem, ⟨5, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutDwIdeal.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1024x1024, .f32⟩
  | .local _ .vmem, ⟨5, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutDwRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S1024x1024, .f32⟩
  | .hbm, ⟨6, _⟩ => ⟨S1024x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutMm.lean ====
abbrev S1024x1024 : Shape := ⟨2, ![1024, 1024]⟩
abbrev S8448x1024 : Shape := ⟨2, ![8448, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S1024x1024, .bf16⟩
  | .hbm, ⟨3, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutMmIdeal.lean ====
abbrev S1024x1024 : Shape := ⟨2, ![1024, 1024]⟩
abbrev S8448x1024 : Shape := ⟨2, ![8448, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S1024x1024, .bf16⟩
  | .hbm, ⟨3, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutMmRefIdeal.lean ====
abbrev S1024x1024 : Shape := ⟨2, ![1024, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8448x1024, .f32⟩
  | .hbm, ⟨2, _⟩ => ⟨S8448x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfDx.lean ====
abbrev S1024x2816 : Shape := ⟨2, ![1024, 2816]⟩
abbrev S8448x2816 : Shape := ⟨2, ![8448, 2816]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x2816, .f32⟩
  | .hbm, ⟨1, _⟩ => ⟨S8448x2816, .f32⟩
  | .hbm, ⟨2, _⟩ => ⟨S1024x2816, .bf16⟩
  | .hbm, ⟨3, _⟩ => ⟨S8448x1024, .f32⟩
  | .local _ .vmem, ⟨0, _⟩ => ⟨S768x2816, .f32⟩
  | .local _ .vmem, ⟨1, _⟩ => ⟨S768x2816, .f32⟩
  | .local _ .vmem, ⟨2, _⟩ => ⟨S1024x2816, .bf16⟩
  | .local _ .vmem, ⟨3, _⟩ => ⟨S768x1024, .f32⟩
  | .local _ .vmem, ⟨4, _⟩ => ⟨S768x1024, .f32⟩
  | .local _ .vmem, ⟨5, _⟩ => ⟨S768x2816, .bf16⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfDxIdeal.lean ====
abbrev S1024x2816 : Shape := ⟨2, ![1024, 2816]⟩
abbrev S8448x2816 : Shape := ⟨2, ![8448, 2816]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x2816, .f32⟩
  | .hbm, ⟨1, _⟩ => ⟨S8448x2816, .f32⟩
  | .hbm, ⟨2, _⟩ => ⟨S1024x2816, .bf16⟩
  | .hbm, ⟨3, _⟩ => ⟨S8448x1024, .f32⟩
  | .local _ .vmem, ⟨0, _⟩ => ⟨S768x2816, .f32⟩
  | .local _ .vmem, ⟨1, _⟩ => ⟨S768x2816, .f32⟩
  | .local _ .vmem, ⟨2, _⟩ => ⟨S1024x2816, .bf16⟩
  | .local _ .vmem, ⟨3, _⟩ => ⟨S768x1024, .f32⟩
  | .local _ .vmem, ⟨4, _⟩ => ⟨S768x1024, .f32⟩
  | .local _ .vmem, ⟨5, _⟩ => ⟨S768x2816, .bf16⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfDxRefIdeal.lean ====
abbrev S1024x2816 : Shape := ⟨2, ![1024, 2816]⟩
abbrev S8448x2816 : Shape := ⟨2, ![8448, 2816]⟩
abbrev S_ : Shape := ⟨0, ![]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S8448x2816, .f32⟩
  | .hbm, ⟨2, _⟩ => ⟨S_, .f32⟩
  | .hbm, ⟨3, _⟩ => ⟨S8448x1024, .f32⟩
  | .hbm, ⟨4, _⟩ => ⟨S8448x2816, .f32⟩
  | .hbm, ⟨5, _⟩ => ⟨S8448x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfDw.lean ====
abbrev S8448x1024 : Shape := ⟨2, ![8448, 1024]⟩
abbrev S8448x2816 : Shape := ⟨2, ![8448, 2816]⟩
abbrev S1024x2816 : Shape := ⟨2, ![1024, 2816]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S1024x2816, .f32⟩
  | .local _ .vmem, ⟨0, _⟩ => ⟨S768x1024, .f32⟩
  | .local _ .vmem, ⟨1, _⟩ => ⟨S768x1024, .f32⟩
  | .local _ .vmem, ⟨2, _⟩ => ⟨S768x1408, .f32⟩
  | .local _ .vmem, ⟨3, _⟩ => ⟨S768x1408, .f32⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfDwIdeal.lean ====
abbrev S8448x1024 : Shape := ⟨2, ![8448, 1024]⟩
abbrev S8448x2816 : Shape := ⟨2, ![8448, 2816]⟩
abbrev S1024x2816 : Shape := ⟨2, ![1024, 2816]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S1024x2816, .f32⟩
  | .local _ .vmem, ⟨0, _⟩ => ⟨S768x1024, .f32⟩
  | .local _ .vmem, ⟨1, _⟩ => ⟨S768x1024, .f32⟩
  | .local _ .vmem, ⟨2, _⟩ => ⟨S768x1408, .f32⟩
  | .local _ .vmem, ⟨3, _⟩ => ⟨S768x1408, .f32⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfDwRefIdeal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2816, .f32⟩
  | .hbm, ⟨2, _⟩ => ⟨S_, .f32⟩
  | .hbm, ⟨3, _⟩ => ⟨S1024x2816, .f32⟩
  | .hbm, ⟨4, _⟩ => ⟨S8448x2816, .f32⟩
  | .hbm, ⟨5, _⟩ => ⟨S2816x1024, .f32⟩
  | .hbm, ⟨6, _⟩ => ⟨S1024x2816, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfMm.lean ====
abbrev S1024x2816 : Shape := ⟨2, ![1024, 2816]⟩
abbrev S8448x1024 : Shape := ⟨2, ![8448, 1024]⟩
abbrev S8448x2816 : Shape := ⟨2, ![8448, 2816]⟩
abbrev S768x1024 : Shape := ⟨2, ![768, 1024]⟩
abbrev S1024x1408 : Shape := ⟨2, ![1024, 1408]⟩
abbrev S768x1408 : Shape := ⟨2, ![768, 1408]⟩

abbrev nBuf : Space → Nat
  | .hbm => 4
  | .vmem => 7
  | .smem => 0
  | _ => 0

abbrev bufTy : (tb : Table) → Fin (tcTables nBuf tb) → BufTy
  | .hbm, ⟨0, _⟩ => ⟨S1024x2816, .f32⟩
  | .hbm, ⟨1, _⟩ => ⟨S8448x1024, .f32⟩
  | .hbm, ⟨2, _⟩ => ⟨S1024x2816, .bf16⟩
  | .hbm, ⟨3, _⟩ => ⟨S8448x2816, .f32⟩
  | .local _ .vmem, ⟨0, _⟩ => ⟨S768x1024, .f32⟩
  | .local _ .vmem, ⟨1, _⟩ => ⟨S768x1024, .f32⟩
  | .local _ .vmem, ⟨2, _⟩ => ⟨S1024x1408, .bf16⟩
  | .local _ .vmem, ⟨3, _⟩ => ⟨S1024x1408, .bf16⟩
  | .local _ .vmem, ⟨4, _⟩ => ⟨S768x1408, .f32⟩
  | .local _ .vmem, ⟨5, _⟩ => ⟨S768x1408, .f32⟩
  | .local _ .vmem, ⟨6, _⟩ => ⟨S768x1024, .bf16⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfMmIdeal.lean ====
abbrev S1024x2816 : Shape := ⟨2, ![1024, 2816]⟩
abbrev S8448x1024 : Shape := ⟨2, ![8448, 1024]⟩
abbrev S8448x2816 : Shape := ⟨2, ![8448, 2816]⟩
abbrev S768x1024 : Shape := ⟨2, ![768, 1024]⟩
abbrev S1024x1408 : Shape := ⟨2, ![1024, 1408]⟩
abbrev S768x1408 : Shape := ⟨2, ![768, 1408]⟩

abbrev nBuf : Space → Nat
  | .hbm => 4
  | .vmem => 7
  | .smem => 0
  | _ => 0

abbrev bufTy : (tb : Table) → Fin (tcTables nBuf tb) → BufTy
  | .hbm, ⟨0, _⟩ => ⟨S1024x2816, .f32⟩
  | .hbm, ⟨1, _⟩ => ⟨S8448x1024, .f32⟩
  | .hbm, ⟨2, _⟩ => ⟨S1024x2816, .bf16⟩
  | .hbm, ⟨3, _⟩ => ⟨S8448x2816, .f32⟩
  | .local _ .vmem, ⟨0, _⟩ => ⟨S768x1024, .f32⟩
  | .local _ .vmem, ⟨1, _⟩ => ⟨S768x1024, .f32⟩
  | .local _ .vmem, ⟨2, _⟩ => ⟨S1024x1408, .bf16⟩
  | .local _ .vmem, ⟨3, _⟩ => ⟨S1024x1408, .bf16⟩
  | .local _ .vmem, ⟨4, _⟩ => ⟨S768x1408, .f32⟩
  | .local _ .vmem, ⟨5, _⟩ => ⟨S768x1408, .f32⟩
  | .local _ .vmem, ⟨6, _⟩ => ⟨S768x1024, .bf16⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfMmRefIdeal.lean ====
abbrev S1024x2816 : Shape := ⟨2, ![1024, 2816]⟩
abbrev S8448x1024 : Shape := ⟨2, ![8448, 1024]⟩
abbrev S8448x2816 : Shape := ⟨2, ![8448, 2816]⟩

abbrev nBuf : Space → Nat
  | .hbm => 3
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S8448x1024, .f32⟩
  | .hbm, ⟨2, _⟩ => ⟨S8448x2816, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfoDx.lean ====
abbrev S2816x1024 : Shape := ⟨2, ![2816, 1024]⟩
abbrev S8448x1024 : Shape := ⟨2, ![8448, 1024]⟩
abbrev S8448x2816 : Shape := ⟨2, ![8448, 2816]⟩
abbrev S768x1024 : Shape := ⟨2, ![768, 1024]⟩
abbrev S1408x1024 : Shape := ⟨2, ![1408, 1024]⟩
abbrev S768x1408 : Shape := ⟨2, ![768, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S8448x1024, .f32⟩
  | .hbm, ⟨2, _⟩ => ⟨S2816x1024, .bf16⟩
  | .hbm, ⟨3, _⟩ => ⟨S8448x2816, .f32⟩
  | .local _ .vmem, ⟨0, _⟩ => ⟨S768x1024, .f32⟩
  | .local _ .vmem, ⟨1, _⟩ => ⟨S768x1024, .f32⟩
  | .local _ .vmem, ⟨2, _⟩ => ⟨S1408x1024, .bf16⟩
  | .local _ .vmem, ⟨3, _⟩ => ⟨S1408x1024, .bf16⟩
  | .local _ .vmem, ⟨4, _⟩ => ⟨S768x1408, .f32⟩
  | .local _ .vmem, ⟨5, _⟩ => ⟨S768x1408, .f32⟩
  | .local _ .vmem, ⟨6, _⟩ => ⟨S768x1024, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfoDxIdeal.lean ====
abbrev S2816x1024 : Shape := ⟨2, ![2816, 1024]⟩
abbrev S8448x1024 : Shape := ⟨2, ![8448, 1024]⟩
abbrev S8448x2816 : Shape := ⟨2, ![8448, 2816]⟩
abbrev S768x1024 : Shape := ⟨2, ![768, 1024]⟩
abbrev S1408x1024 : Shape := ⟨2, ![1408, 1024]⟩
abbrev S768x1408 : Shape := ⟨2, ![768, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S8448x1024, .f32⟩
  | .hbm, ⟨2, _⟩ => ⟨S2816x1024, .bf16⟩
  | .hbm, ⟨3, _⟩ => ⟨S8448x2816, .f32⟩
  | .local _ .vmem, ⟨0, _⟩ => ⟨S768x1024, .f32⟩
  | .local _ .vmem, ⟨1, _⟩ => ⟨S768x1024, .f32⟩
  | .local _ .vmem, ⟨2, _⟩ => ⟨S1408x1024, .bf16⟩
  | .local _ .vmem, ⟨3, _⟩ => ⟨S1408x1024, .bf16⟩
  | .local _ .vmem, ⟨4, _⟩ => ⟨S768x1408, .f32⟩
  | .local _ .vmem, ⟨5, _⟩ => ⟨S768x1408, .f32⟩
  | .local _ .vmem, ⟨6, _⟩ => ⟨S768x1024, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfoDxRefIdeal.lean ====
abbrev S2816x1024 : Shape := ⟨2, ![2816, 1024]⟩
abbrev S8448x1024 : Shape := ⟨2, ![8448, 1024]⟩
abbrev S_ : Shape := ⟨0, ![]⟩
abbrev S8448x2816 : Shape := ⟨2, ![8448, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8448x1024, .f32⟩
  | .hbm, ⟨2, _⟩ => ⟨S_, .f32⟩
  | .hbm, ⟨3, _⟩ => ⟨S8448x2816, .f32⟩
  | .hbm, ⟨4, _⟩ => ⟨S8448x1024, .f32⟩
  | .hbm, ⟨5, _⟩ => ⟨S8448x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfoDw.lean ====
abbrev S8448x2816 : Shape := ⟨2, ![8448, 2816]⟩
abbrev S8448x1024 : Shape := ⟨2, ![8448, 1024]⟩
abbrev S2816x1024 : Shape := ⟨2, ![2816, 1024]⟩
abbrev S768x2816 : Shape := ⟨2, ![768, 2816]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S2816x1024, .f32⟩
  | .local _ .vmem, ⟨0, _⟩ => ⟨S768x2816, .f32⟩
  | .local _ .vmem, ⟨1, _⟩ => ⟨S768x2816, .f32⟩
  | .local _ .vmem, ⟨2, _⟩ => ⟨S768x1024, .f32⟩
  | .local _ .vmem, ⟨3, _⟩ => ⟨S768x1024, .f32⟩
  | .local _ .vmem, ⟨4, _⟩ => ⟨S2816x1024, .f32⟩
  | .local _ .vmem, ⟨5, _⟩ => ⟨S2816x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== FfoDwIdeal.lean ====
abbrev S8448x2816 : Shape := ⟨2, ![8448, 2816]⟩
abbrev S8448x1024 : Shape := ⟨2, ![8448, 1024]⟩
abbrev S2816x1024 : Shape := ⟨2, ![2816, 1024]⟩
abbrev S768x2816 : Shape := ⟨2, ![768, 2816]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S2816x1024, .f32⟩
  | .local _ .vmem, ⟨0, _⟩ => ⟨S768x2816, .f32⟩
  | .local _ .vmem, ⟨1, _⟩ => ⟨S768x2816, .f32⟩
  | .local _ .vmem, ⟨2, _⟩ => ⟨S768x1024, .f32⟩
  | .local _ .vmem, ⟨3, _⟩ => ⟨S768x1024, .f32⟩
  | .local _ .vmem, ⟨4, _⟩ => ⟨S2816x1024, .f32⟩
  | .local _ .vmem, ⟨5, _⟩ => ⟨S2816x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== FfoDwRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x1024, .f32⟩
  | .hbm, ⟨5, _⟩ => ⟨S1024x2816, .f32⟩
  | .hbm, ⟨6, _⟩ => ⟨S2816x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfoMm.lean ====
abbrev S2816x1024 : Shape := ⟨2, ![2816, 1024]⟩
abbrev S8448x2816 : Shape := ⟨2, ![8448, 2816]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8448x2816, .f32⟩
  | .hbm, ⟨2, _⟩ => ⟨S2816x1024, .bf16⟩
  | .hbm, ⟨3, _⟩ => ⟨S8448x1024, .f32⟩
  | .local _ .vmem, ⟨0, _⟩ => ⟨S768x2816, .f32⟩
  | .local _ .vmem, ⟨1, _⟩ => ⟨S768x2816, .f32⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S768x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfoMmIdeal.lean ====
abbrev S2816x1024 : Shape := ⟨2, ![2816, 1024]⟩
abbrev S8448x2816 : Shape := ⟨2, ![8448, 2816]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S8448x2816, .f32⟩
  | .hbm, ⟨2, _⟩ => ⟨S2816x1024, .bf16⟩
  | .hbm, ⟨3, _⟩ => ⟨S8448x1024, .f32⟩
  | .local _ .vmem, ⟨0, _⟩ => ⟨S768x2816, .f32⟩
  | .local _ .vmem, ⟨1, _⟩ => ⟨S768x2816, .f32⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S768x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfoMmRefIdeal.lean ====
abbrev S2816x1024 : Shape := ⟨2, ![2816, 1024]⟩
abbrev S8448x2816 : Shape := ⟨2, ![8448, 2816]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S8448x2816, .f32⟩
  | .hbm, ⟨2, _⟩ => ⟨S8448x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QkvDx.lean ====
abbrev S1024x3072 : Shape := ⟨2, ![1024, 3072]⟩
abbrev S8448x3072 : Shape := ⟨2, ![8448, 3072]⟩
abbrev S8448x1024 : Shape := ⟨2, ![8448, 1024]⟩
abbrev S768x3072 : Shape := ⟨2, ![768, 3072]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x3072, .f32⟩
  | .hbm, ⟨1, _⟩ => ⟨S8448x3072, .f32⟩
  | .hbm, ⟨2, _⟩ => ⟨S1024x3072, .bf16⟩
  | .hbm, ⟨3, _⟩ => ⟨S8448x1024, .f32⟩
  | .local _ .vmem, ⟨0, _⟩ => ⟨S768x3072, .f32⟩
  | .local _ .vmem, ⟨1, _⟩ => ⟨S768x3072, .f32⟩
  | .local _ .vmem, ⟨2, _⟩ => ⟨S1024x3072, .bf16⟩
  | .local _ .vmem, ⟨3, _⟩ => ⟨S768x1024, .f32⟩
  | .local _ .vmem, ⟨4, _⟩ => ⟨S768x1024, .f32⟩
  | .local _ .vmem, ⟨5, _⟩ => ⟨S768x3072, .bf16⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvDxIdeal.lean ====
abbrev S1024x3072 : Shape := ⟨2, ![1024, 3072]⟩
abbrev S8448x3072 : Shape := ⟨2, ![8448, 3072]⟩
abbrev S8448x1024 : Shape := ⟨2, ![8448, 1024]⟩
abbrev S768x3072 : Shape := ⟨2, ![768, 3072]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x3072, .f32⟩
  | .hbm, ⟨1, _⟩ => ⟨S8448x3072, .f32⟩
  | .hbm, ⟨2, _⟩ => ⟨S1024x3072, .bf16⟩
  | .hbm, ⟨3, _⟩ => ⟨S8448x1024, .f32⟩
  | .local _ .vmem, ⟨0, _⟩ => ⟨S768x3072, .f32⟩
  | .local _ .vmem, ⟨1, _⟩ => ⟨S768x3072, .f32⟩
  | .local _ .vmem, ⟨2, _⟩ => ⟨S1024x3072, .bf16⟩
  | .local _ .vmem, ⟨3, _⟩ => ⟨S768x1024, .f32⟩
  | .local _ .vmem, ⟨4, _⟩ => ⟨S768x1024, .f32⟩
  | .local _ .vmem, ⟨5, _⟩ => ⟨S768x3072, .bf16⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvDxRefIdeal.lean ====
abbrev S1024x3072 : Shape := ⟨2, ![1024, 3072]⟩
abbrev S8448x3072 : Shape := ⟨2, ![8448, 3072]⟩
abbrev S_ : Shape := ⟨0, ![]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S8448x3072, .f32⟩
  | .hbm, ⟨2, _⟩ => ⟨S_, .f32⟩
  | .hbm, ⟨3, _⟩ => ⟨S8448x1024, .f32⟩
  | .hbm, ⟨4, _⟩ => ⟨S8448x3072, .f32⟩
  | .hbm, ⟨5, _⟩ => ⟨S8448x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QkvDw.lean ====
abbrev S8448x1024 : Shape := ⟨2, ![8448, 1024]⟩
abbrev S8448x3072 : Shape := ⟨2, ![8448, 3072]⟩
abbrev S1024x3072 : Shape := ⟨2, ![1024, 3072]⟩
abbrev S768x1024 : Shape := ⟨2, ![768, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x3072, .f32⟩
  | .hbm, ⟨2, _⟩ => ⟨S1024x3072, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== QkvDwIdeal.lean ====
abbrev S8448x1024 : Shape := ⟨2, ![8448, 1024]⟩
abbrev S8448x3072 : Shape := ⟨2, ![8448, 3072]⟩
abbrev S1024x3072 : Shape := ⟨2, ![1024, 3072]⟩
abbrev S768x1024 : Shape := ⟨2, ![768, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x3072, .f32⟩
  | .hbm, ⟨2, _⟩ => ⟨S1024x3072, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== QkvDwRefIdeal.lean ====
abbrev S8448x1024 : Shape := ⟨2, ![8448, 1024]⟩
abbrev S8448x3072 : Shape := ⟨2, ![8448, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x3072, .f32⟩
  | .hbm, ⟨2, _⟩ => ⟨S_, .f32⟩
  | .hbm, ⟨3, _⟩ => ⟨S1024x3072, .f32⟩
  | .hbm, ⟨4, _⟩ => ⟨S8448x3072, .f32⟩
  | .hbm, ⟨5, _⟩ => ⟨S3072x1024, .f32⟩
  | .hbm, ⟨6, _⟩ => ⟨S1024x3072, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvMm.lean ====
abbrev S1024x3072 : Shape := ⟨2, ![1024, 3072]⟩
abbrev S8448x1024 : Shape := ⟨2, ![8448, 1024]⟩
abbrev S8448x3072 : Shape := ⟨2, ![8448, 3072]⟩
abbrev S768x1024 : Shape := ⟨2, ![768, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x3072, .f32⟩
  | .hbm, ⟨1, _⟩ => ⟨S8448x1024, .f32⟩
  | .hbm, ⟨2, _⟩ => ⟨S1024x3072, .bf16⟩
  | .hbm, ⟨3, _⟩ => ⟨S8448x3072, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .bf16⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvMmIdeal.lean ====
abbrev S1024x3072 : Shape := ⟨2, ![1024, 3072]⟩
abbrev S8448x1024 : Shape := ⟨2, ![8448, 1024]⟩
abbrev S8448x3072 : Shape := ⟨2, ![8448, 3072]⟩
abbrev S768x1024 : Shape := ⟨2, ![768, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x3072, .f32⟩
  | .hbm, ⟨1, _⟩ => ⟨S8448x1024, .f32⟩
  | .hbm, ⟨2, _⟩ => ⟨S1024x3072, .bf16⟩
  | .hbm, ⟨3, _⟩ => ⟨S8448x3072, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .bf16⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvMmRefIdeal.lean ====
abbrev S1024x3072 : Shape := ⟨2, ![1024, 3072]⟩
abbrev S8448x1024 : Shape := ⟨2, ![8448, 1024]⟩
abbrev S8448x3072 : Shape := ⟨2, ![8448, 3072]⟩

abbrev nBuf : Space → Nat
  | .hbm => 3
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S8448x1024, .f32⟩
  | .hbm, ⟨2, _⟩ => ⟨S8448x3072, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsdDx.lean ====
abbrev S1024x2688 : Shape := ⟨2, ![1024, 2688]⟩
abbrev S8448x2688 : Shape := ⟨2, ![8448, 2688]⟩
abbrev S8448x1024 : Shape := ⟨2, ![8448, 1024]⟩
abbrev S768x2688 : Shape := ⟨2, ![768, 2688]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x2688, .f32⟩
  | .hbm, ⟨1, _⟩ => ⟨S8448x2688, .f32⟩
  | .hbm, ⟨2, _⟩ => ⟨S1024x2688, .bf16⟩
  | .hbm, ⟨3, _⟩ => ⟨S8448x1024, .f32⟩
  | .local _ .vmem, ⟨0, _⟩ => ⟨S768x2688, .f32⟩
  | .local _ .vmem, ⟨1, _⟩ => ⟨S768x2688, .f32⟩
  | .local _ .vmem, ⟨2, _⟩ => ⟨S1024x2688, .bf16⟩
  | .local _ .vmem, ⟨3, _⟩ => ⟨S768x1024, .f32⟩
  | .local _ .vmem, ⟨4, _⟩ => ⟨S768x1024, .f32⟩
  | .local _ .vmem, ⟨5, _⟩ => ⟨S768x2688, .bf16⟩
  | _, _ => ⟨S1024x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsdDxRefIdeal.lean ====
abbrev S1024x2688 : Shape := ⟨2, ![1024, 2688]⟩
abbrev S8448x2688 : Shape := ⟨2, ![8448, 2688]⟩
abbrev S_ : Shape := ⟨0, ![]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x2688, .f32⟩
  | .hbm, ⟨1, _⟩ => ⟨S8448x2688, .f32⟩
  | .hbm, ⟨2, _⟩ => ⟨S_, .f32⟩
  | .hbm, ⟨3, _⟩ => ⟨S8448x1024, .f32⟩
  | .hbm, ⟨4, _⟩ => ⟨S8448x2688, .f32⟩
  | .hbm, ⟨5, _⟩ => ⟨S8448x1024, .f32⟩
  | _, _ => ⟨S1024x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SsdDw.lean ====
abbrev S8448x1024 : Shape := ⟨2, ![8448, 1024]⟩
abbrev S8448x2688 : Shape := ⟨2, ![8448, 2688]⟩
abbrev S1024x2688 : Shape := ⟨2, ![1024, 2688]⟩
abbrev S768x1024 : Shape := ⟨2, ![768, 1024]⟩
abbrev S768x896 : Shape := ⟨2, ![768, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x2688, .f32⟩
  | .hbm, ⟨2, _⟩ => ⟨S1024x2688, .f32⟩
  | .local _ .vmem, ⟨0, _⟩ => ⟨S768x1024, .f32⟩
  | .local _ .vmem, ⟨1, _⟩ => ⟨S768x1024, .f32⟩
  | .local _ .vmem, ⟨2, _⟩ => ⟨S768x896, .f32⟩
  | .local _ .vmem, ⟨3, _⟩ => ⟨S768x896, .f32⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SsdDwRefIdeal.lean ====
abbrev S8448x1024 : Shape := ⟨2, ![8448, 1024]⟩
abbrev S8448x2688 : Shape := ⟨2, ![8448, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2688, .f32⟩
  | .hbm, ⟨2, _⟩ => ⟨S_, .f32⟩
  | .hbm, ⟨3, _⟩ => ⟨S1024x2688, .f32⟩
  | .hbm, ⟨4, _⟩ => ⟨S8448x2688, .f32⟩
  | .hbm, ⟨5, _⟩ => ⟨S2688x1024, .f32⟩
  | .hbm, ⟨6, _⟩ => ⟨S1024x2688, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsdMm.lean ====
abbrev S1024x2688 : Shape := ⟨2, ![1024, 2688]⟩
abbrev S8448x1024 : Shape := ⟨2, ![8448, 1024]⟩
abbrev S8448x2688 : Shape := ⟨2, ![8448, 2688]⟩
abbrev S768x1024 : Shape := ⟨2, ![768, 1024]⟩
abbrev S1024x896 : Shape := ⟨2, ![1024, 896]⟩
abbrev S768x896 : Shape := ⟨2, ![768, 896]⟩

abbrev nBuf : Space → Nat
  | .hbm => 4
  | .vmem => 7
  | .smem => 0
  | _ => 0

abbrev bufTy : (tb : Table) → Fin (tcTables nBuf tb) → BufTy
  | .hbm, ⟨0, _⟩ => ⟨S1024x2688, .f32⟩
  | .hbm, ⟨1, _⟩ => ⟨S8448x1024, .f32⟩
  | .hbm, ⟨2, _⟩ => ⟨S1024x2688, .bf16⟩
  | .hbm, ⟨3, _⟩ => ⟨S8448x2688, .f32⟩
  | .local _ .vmem, ⟨0, _⟩ => ⟨S768x1024, .f32⟩
  | .local _ .vmem, ⟨1, _⟩ => ⟨S768x1024, .f32⟩
  | .local _ .vmem, ⟨2, _⟩ => ⟨S1024x896, .bf16⟩
  | .local _ .vmem, ⟨3, _⟩ => ⟨S1024x896, .bf16⟩
  | .local _ .vmem, ⟨4, _⟩ => ⟨S768x896, .f32⟩
  | .local _ .vmem, ⟨5, _⟩ => ⟨S768x896, .f32⟩
  | .local _ .vmem, ⟨6, _⟩ => ⟨S768x1024, .bf16⟩
  | _, _ => ⟨S1024x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsdMmRefIdeal.lean ====
abbrev S1024x2688 : Shape := ⟨2, ![1024, 2688]⟩
abbrev S8448x1024 : Shape := ⟨2, ![8448, 1024]⟩
abbrev S8448x2688 : Shape := ⟨2, ![8448, 2688]⟩

abbrev nBuf : Space → Nat
  | .hbm => 3
  | .vmem => 0
  | .smem => 0
  | _ => 0

abbrev bufTy : (tb : Table) → Fin (tcTables nBuf tb) → BufTy
  | .hbm, ⟨0, _⟩ => ⟨S1024x2688, .f32⟩
  | .hbm, ⟨1, _⟩ => ⟨S8448x1024, .f32⟩
  | .hbm, ⟨2, _⟩ => ⟨S8448x2688, .f32⟩
  | _, _ => ⟨S1024x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Swiglu.lean ====
abbrev S8448x2816 : Shape := ⟨2, ![8448, 2816]⟩
abbrev S128x2816 : Shape := ⟨2, ![128, 2816]⟩

abbrev nBuf : Space → Nat
  | .hbm => 5
  | .vmem => 10
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S8448x2816, .f32⟩
  | .hbm, ⟨3, _⟩ => ⟨S8448x2816, .f32⟩
  | .hbm, ⟨4, _⟩ => ⟨S8448x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SwigluRefIdeal.lean ====
abbrev S8448x2816 : Shape := ⟨2, ![8448, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S8448x2816, .f32⟩
  | .hbm, ⟨3, _⟩ => ⟨S8448x2816, .f32⟩
  | .hbm, ⟨4, _⟩ => ⟨S8448x2816, .f32⟩
  | .hbm, ⟨5, _⟩ => ⟨S_, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== Rms.lean ====
abbrev S8448x1024 : Shape := ⟨2, ![8448, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsRefIdeal.lean ====
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S8448x1024, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1024, .f32⟩
  | .hbm, ⟨19, _⟩ => ⟨S8448x1024, .f32⟩
  | .hbm, ⟨20, _⟩ => ⟨S1x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S1024, .f32⟩
  | .hbm, ⟨31, _⟩ => ⟨S8448x1024, .f32⟩
  | .hbm, ⟨32, _⟩ => ⟨S_, .f32⟩
  | .hbm, ⟨33, _⟩ => ⟨S8448, .f32⟩
  | .hbm, ⟨34, _⟩ => ⟨S8448x1, .f32⟩
  | .hbm, ⟨35, _⟩ => ⟨S8448x1024, .f32⟩
  | .hbm, ⟨36, _⟩ => ⟨S8448x1024, .f32⟩
  | .hbm, ⟨37, _⟩ => ⟨S8448x1, .f32⟩
  | .hbm, ⟨38, _⟩ => ⟨S_, .f32⟩
  | .hbm, ⟨39, _⟩ => ⟨S8448x1, .f32⟩
  | .hbm, ⟨40, _⟩ => ⟨S8448x1, .f32⟩
  | .hbm, ⟨41, _⟩ => ⟨S_, .f32⟩
  | .hbm, ⟨42, _⟩ => ⟨S8448, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Post.lean ====
abbrev S8448x1024 : Shape := ⟨2, ![8448, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostRefIdeal.lean ====
abbrev S8448x1024 : Shape := ⟨2, ![8448, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S_, .f32⟩
  | .hbm, ⟨6, _⟩ => ⟨S8448x1024, .f32⟩
  | .hbm, ⟨7, _⟩ => ⟨S8448x1024, .f32⟩
  | .hbm, ⟨8, _⟩ => ⟨S_, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Pre.lean ====
abbrev S8448x1024 : Shape := ⟨2, ![8448, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S8448x1024, .f32⟩
  | .hbm, ⟨4, _⟩ => ⟨S1x1024, .f32⟩
  | .hbm, ⟨5, _⟩ => ⟨S8448x1024, .f32⟩
  | .hbm, ⟨6, _⟩ => ⟨S8448x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PreRefIdeal.lean ====
abbrev S8448x1024 : Shape := ⟨2, ![8448, 1024]⟩
abbrev S1024 : Shape := ⟨1, ![1024]⟩
abbrev S1x1024 : Shape := ⟨2, ![1, 1024]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S8448x1024, .f32⟩
  | .hbm, ⟨4, _⟩ => ⟨S1x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S_, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S_, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S_, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S_, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Merge.lean ====
abbrev S8448x1024 : Shape := ⟨2, ![8448, 1024]⟩
abbrev S8448x3072 : Shape := ⟨2, ![8448, 3072]⟩
abbrev S128x1024 : Shape := ⟨2, ![128, 1024]⟩
abbrev S128x3072 : Shape := ⟨2, ![128, 3072]⟩
abbrev S128x1 : Shape := ⟨2, ![128, 1]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x3072, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x3072, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x3072, .f32⟩
  | .local _ .vmem, ⟨7, _⟩ => ⟨S128x3072, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x3072, .f32⟩
  | .local _ .vmem, ⟨17, _⟩ => ⟨S128x3072, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8448x1024 : Shape := ⟨2, ![8448, 1024]⟩
abbrev S8448x3072 : Shape := ⟨2, ![8448, 3072]⟩
abbrev S8448x3x1024 : Shape := ⟨3, ![8448, 3, 1024]⟩
abbrev S_ : Shape := ⟨0, ![]⟩
abbrev S8448x1x1024 : Shape := ⟨3, ![8448, 1, 1024]⟩
abbrev S8448 : Shape := ⟨1, ![8448]⟩
abbrev S8448x1 : Shape := ⟨2, ![8448, 1]⟩

abbrev nBuf : Space → Nat
  | .hbm => 73
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x3072, .f32⟩
  | .hbm, ⟨4, _⟩ => ⟨S8448x1024, .f32⟩
  | .hbm, ⟨5, _⟩ => ⟨S8448x3x1024, .f32⟩
  | .hbm, ⟨6, _⟩ => ⟨S8448x3x1024, .f32⟩
  | .hbm, ⟨7, _⟩ => ⟨S8448x3x1024, .f32⟩
  | .hbm, ⟨8, _⟩ => ⟨S_, .f32⟩
  | .hbm, ⟨9, _⟩ => ⟨S8448x3x1024, .f32⟩
  | .hbm, ⟨10, _⟩ => ⟨S8448x3x1024, .f32⟩
  | .hbm, ⟨11, _⟩ => ⟨S_, .f32⟩
  | .hbm, ⟨12, _⟩ => ⟨S8448x3x1024, .f32⟩
  | .hbm, ⟨13, _⟩ => ⟨S8448x3x1024, .f32⟩
  | .hbm, ⟨14, _⟩ => ⟨S_, .f32⟩
  | .hbm, ⟨15, _⟩ => ⟨S8448x3x1024, .f32⟩
  | .hbm, ⟨16, _⟩ => ⟨S8448x3x1024, .f32⟩
  | .hbm, ⟨17, _⟩ => ⟨S8448x3x1024, .f32⟩
  | .hbm, ⟨18, _⟩ => ⟨S8448x1x1024, .f32⟩
  | .hbm, ⟨19, _⟩ => ⟨S8448x1x1024, .f32⟩
  | .hbm, ⟨20, _⟩ => ⟨S8448x1x1024, .f32⟩
  | .hbm, ⟨21, _⟩ => ⟨S8448x3x1024, .f32⟩
  | .hbm, ⟨22, _⟩ => ⟨S8448x3x1024, .f32⟩
  | .hbm, ⟨23, _⟩ => ⟨S_, .f32⟩
  | .hbm, ⟨24, _⟩ => ⟨S8448x1024, .f32⟩
  | .hbm, ⟨25, _⟩ => ⟨S8448, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S8448, .i32⟩
  | .hbm, ⟨33, _⟩ => ⟨S8448, .i32⟩
  | .hbm, ⟨34, _⟩ => ⟨S_, .i32⟩
  | .hbm, ⟨35, _⟩ => ⟨S8448, .i32⟩
  | .hbm, ⟨36, _⟩ => ⟨S8448, .i1⟩
  | .hbm, ⟨37, _⟩ => ⟨S_, .i32⟩
  | .hbm, ⟨38, _⟩ => ⟨S8448, .i32⟩
  | .hbm, ⟨39, _⟩ => ⟨S8448, .i1⟩
  | .hbm, ⟨40, _⟩ => ⟨S_, .i32⟩
  | .hbm, ⟨41, _⟩ => ⟨S_, .i1⟩
  | .hbm, ⟨42, _⟩ => ⟨S8448, .i1⟩
  | .hbm, ⟨43, _⟩ => ⟨S8448, .i1⟩
  | .hbm, ⟨44, _⟩ => ⟨S8448, .i1⟩
  | .hbm, ⟨45, _⟩ => ⟨S8448, .i32⟩
  | .hbm, ⟨46, _⟩ => ⟨S8448, .i32⟩
  | .hbm, ⟨47, _⟩ => ⟨S8448, .i32⟩
  | .hbm, ⟨48, _⟩ => ⟨S_, .i32⟩
  | .hbm, ⟨49, _⟩ => ⟨S8448, .i32⟩
  | .hbm, ⟨50, _⟩ => ⟨S8448, .i1⟩
  | .hbm, ⟨51, _⟩ => ⟨S8448x1, .i1⟩
  | .hbm, ⟨52, _⟩ => ⟨S_, .f32⟩
  | .hbm, ⟨53, _⟩ => ⟨S_, .f32⟩
  | .hbm, ⟨54, _⟩ => ⟨S8448x1024, .i1⟩
  | .hbm, ⟨55, _⟩ => ⟨S8448x1024, .f32⟩
  | .hbm, ⟨56, _⟩ => ⟨S8448x1024, .f32⟩
  | .hbm, ⟨57, _⟩ => ⟨S_, .f32⟩
  | .hbm, ⟨58, _⟩ => ⟨S8448x1024, .f32⟩
  | .hbm, ⟨59, _⟩ => ⟨S_, .f32⟩
  | .hbm, ⟨60, _⟩ => ⟨S8448x1024, .f32⟩
  | .hbm, ⟨61, _⟩ => ⟨S8448x1024, .f32⟩
  | .hbm, ⟨62, _⟩ => ⟨S8448x3x1024, .f32⟩
  | .hbm, ⟨63, _⟩ => ⟨S8448x3x1024, .f32⟩
  | .hbm, ⟨64, _⟩ => ⟨S8448x3x1024, .f32⟩
  | .hbm, ⟨65, _⟩ => ⟨S8448x1x1024, .f32⟩
  | .hbm, ⟨66, _⟩ => ⟨S8448x1024, .f32⟩
  | .hbm, ⟨67, _⟩ => ⟨S8448x1x1024, .f32⟩
  | .hbm, ⟨68, _⟩ => ⟨S8448x1024, .f32⟩
  | .hbm, ⟨69, _⟩ => ⟨S8448x1x1024, .f32⟩
  | .hbm, ⟨70, _⟩ => ⟨S8448x1024, .f32⟩
  | .hbm, ⟨71, _⟩ => ⟨S8448x3x1024, .f32⟩
  | .hbm, ⟨72, _⟩ => ⟨S8448x3072, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_4 : Ref sig .tc := ⟨.hbm, 52, rfl⟩
abbrev main_call1_v0 : Ref sig .tc := ⟨.hbm, 53, rfl⟩
abbrev main_v21_1 : Ref sig .tc := ⟨.hbm, 54, rfl⟩
abbrev main_call1_v2 : Ref sig .tc := ⟨.hbm, 55, rfl⟩
abbrev main_v21_0 : Ref sig .tc := ⟨.hbm, 56, rfl⟩
abbrev main_call1_cst : Ref sig .tc := ⟨.hbm, 57, rfl⟩
abbrev main_v21_2 : Ref sig .tc := ⟨.hbm, 58, rfl⟩
abbrev main_call2_cst : Ref sig .tc := ⟨.hbm, 59, rfl⟩
abbrev main_call2_v0 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩

abbrev nD : Nat := 1
abbrev τ : Topo := Topo.v7x

variable {F : FTy → Type} [FloatOps F]
-- ==== AdamIn.lean ====
abbrev S4x1024x2438 : Shape := ⟨3, ![4, 1024, 2438]⟩
abbrev S4096x2438 : Shape := ⟨2, ![4096, 2438]⟩
abbrev S128x2438 : Shape := ⟨2, ![128, 2438]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2438, .f32⟩
  | .hbm, ⟨1, _⟩ => ⟨S4x1024x2438, .f32⟩
  | .hbm, ⟨2, _⟩ => ⟨S4x1024x2438, .f32⟩
  | .hbm, ⟨3, _⟩ => ⟨S4x1024x2438, .f32⟩
  | .hbm, ⟨4, _⟩ => ⟨S4096x2438, .f32⟩
  | .hbm, ⟨5, _⟩ => ⟨S4096x2438, .f32⟩
  | .hbm, ⟨6, _⟩ => ⟨S4096x2438, .f32⟩
  | .hbm, ⟨7, _⟩ => ⟨S4096x2438, .f32⟩
  | .hbm, ⟨8, _⟩ => ⟨S4096x2438, .f32⟩
  | .hbm, ⟨9, _⟩ => ⟨S4096x2438, .f32⟩
  | .hbm, ⟨10, _⟩ => ⟨S4096x2438, .f32⟩
  | .local _ .vmem, ⟨0, _⟩ => ⟨S128x2438, .f32⟩
  | .local _ .vmem, ⟨1, _⟩ => ⟨S128x2438, .f32⟩
  | .local _ .vmem, ⟨2, _⟩ => ⟨S128x2438, .f32⟩
  | .local _ .vmem, ⟨3, _⟩ => ⟨S128x2438, .f32⟩
  | .local _ .vmem, ⟨4, _⟩ => ⟨S128x2438, .f32⟩
  | .local _ .vmem, ⟨5, _⟩ => ⟨S128x2438, .f32⟩
  | .local _ .vmem, ⟨6, _⟩ => ⟨S128x2438, .f32⟩
  | .local _ .vmem, ⟨7, _⟩ => ⟨S128x2438, .f32⟩
  | .local _ .vmem, ⟨8, _⟩ => ⟨S128x2438, .f32⟩
  | .local _ .vmem, ⟨9, _⟩ => ⟨S128x2438, .f32⟩
  | .local _ .vmem, ⟨10, _⟩ => ⟨S128x2438, .f32⟩
  | .local _ .vmem, ⟨11, _⟩ => ⟨S128x2438, .f32⟩
  | .local _ .vmem, ⟨12, _⟩ => ⟨S128x2438, .f32⟩
  | .local _ .vmem, ⟨13, _⟩ => ⟨S128x2438, .f32⟩
  | _, _ => ⟨S4x1024x2438, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2438 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2438 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2438 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2438 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2438 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2438 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2438 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x1024x2438 : Shape := ⟨3, ![4, 1024, 2438]⟩
abbrev S4096x2438 : Shape := ⟨2, ![4096, 2438]⟩
abbrev S128x2438 : Shape := ⟨2, ![128, 2438]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x2438, .f32⟩
  | .hbm, ⟨1, _⟩ => ⟨S4x1024x2438, .f32⟩
  | .hbm, ⟨2, _⟩ => ⟨S4x1024x2438, .f32⟩
  | .hbm, ⟨3, _⟩ => ⟨S4x1024x2438, .f32⟩
  | .hbm, ⟨4, _⟩ => ⟨S4096x2438, .f32⟩
  | .hbm, ⟨5, _⟩ => ⟨S4096x2438, .f32⟩
  | .hbm, ⟨6, _⟩ => ⟨S4096x2438, .f32⟩
  | .hbm, ⟨7, _⟩ => ⟨S4096x2438, .f32⟩
  | .hbm, ⟨8, _⟩ => ⟨S4096x2438, .f32⟩
  | .hbm, ⟨9, _⟩ => ⟨S4096x2438, .f32⟩
  | .hbm, ⟨10, _⟩ => ⟨S4096x2438, .f32⟩
  | .local _ .vmem, ⟨0, _⟩ => ⟨S128x2438, .f32⟩
  | .local _ .vmem, ⟨1, _⟩ => ⟨S128x2438, .f32⟩
  | .local _ .vmem, ⟨2, _⟩ => ⟨S128x2438, .f32⟩
  | .local _ .vmem, ⟨3, _⟩ => ⟨S128x2438, .f32⟩
  | .local _ .vmem, ⟨4, _⟩ => ⟨S128x2438, .f32⟩
  | .local _ .vmem, ⟨5, _⟩ => ⟨S128x2438, .f32⟩
  | .local _ .vmem, ⟨6, _⟩ => ⟨S128x2438, .f32⟩
  | .local _ .vmem, ⟨7, _⟩ => ⟨S128x2438, .f32⟩
  | .local _ .vmem, ⟨8, _⟩ => ⟨S128x2438, .f32⟩
  | .local _ .vmem, ⟨9, _⟩ => ⟨S128x2438, .f32⟩
  | .local _ .vmem, ⟨10, _⟩ => ⟨S128x2438, .f32⟩
  | .local _ .vmem, ⟨11, _⟩ => ⟨S128x2438, .f32⟩
  | .local _ .vmem, ⟨12, _⟩ => ⟨S128x2438, .f32⟩
  | .local _ .vmem, ⟨13, _⟩ => ⟨S128x2438, .f32⟩
  | _, _ => ⟨S4x1024x2438, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2438 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2438 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2438 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2438 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2438 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2438 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2438 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4x1024x2438 : Shape := ⟨3, ![4, 1024, 2438]⟩
abbrev S_ : Shape := ⟨0, ![]⟩
abbrev S4096x2438 : Shape := ⟨2, ![4096, 2438]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2438, .f32⟩
  | .hbm, ⟨1, _⟩ => ⟨S4x1024x2438, .f32⟩
  | .hbm, ⟨2, _⟩ => ⟨S4x1024x2438, .f32⟩
  | .hbm, ⟨3, _⟩ => ⟨S4x1024x2438, .f32⟩
  | .hbm, ⟨4, _⟩ => ⟨S_, .f32⟩
  | .hbm, ⟨5, _⟩ => ⟨S4x1024x2438, .f32⟩
  | .hbm, ⟨6, _⟩ => ⟨S4x1024x2438, .f32⟩
  | .hbm, ⟨7, _⟩ => ⟨S_, .f32⟩
  | .hbm, ⟨8, _⟩ => ⟨S4x1024x2438, .f32⟩
  | .hbm, ⟨9, _⟩ => ⟨S4x1024x2438, .f32⟩
  | .hbm, ⟨10, _⟩ => ⟨S4x1024x2438, .f32⟩
  | .hbm, ⟨11, _⟩ => ⟨S_, .f32⟩
  | .hbm, ⟨12, _⟩ => ⟨S4x1024x2438, .f32⟩
  | .hbm, ⟨13, _⟩ => ⟨S4x1024x2438, .f32⟩
  | .hbm, ⟨14, _⟩ => ⟨S4x1024x2438, .f32⟩
  | .hbm, ⟨15, _⟩ => ⟨S_, .f32⟩
  | .hbm, ⟨16, _⟩ => ⟨S4x1024x2438, .f32⟩
  | .hbm, ⟨17, _⟩ => ⟨S4x1024x2438, .f32⟩
  | .hbm, ⟨18, _⟩ => ⟨S4x1024x2438, .f32⟩
  | .hbm, ⟨19, _⟩ => ⟨S_, .f32⟩
  | .hbm, ⟨20, _⟩ => ⟨S4x1024x2438, .f32⟩
  | .hbm, ⟨21, _⟩ => ⟨S4x1024x2438, .f32⟩
  | .hbm, ⟨22, _⟩ => ⟨S_, .f32⟩
  | .hbm, ⟨23, _⟩ => ⟨S4x1024x2438, .f32⟩
  | .hbm, ⟨24, _⟩ => ⟨S4x1024x2438, .f32⟩
  | .hbm, ⟨25, _⟩ => ⟨S4x1024x2438, .f32⟩
  | .hbm, ⟨26, _⟩ => ⟨S_, .f32⟩
  | .hbm, ⟨27, _⟩ => ⟨S4x1024x2438, .f32⟩
  | .hbm, ⟨28, _⟩ => ⟨S4x1024x2438, .f32⟩
  | .hbm, ⟨29, _⟩ => ⟨S4x1024x2438, .f32⟩
  | .hbm, ⟨30, _⟩ => ⟨S_, .f32⟩
  | .hbm, ⟨31, _⟩ => ⟨S4x1024x2438, .f32⟩
  | .hbm, ⟨32, _⟩ => ⟨S4x1024x2438, .f32⟩
  | .hbm, ⟨33, _⟩ => ⟨S4x1024x2438, .f32⟩
  | .hbm, ⟨34, _⟩ => ⟨S_, .f32⟩
  | .hbm, ⟨35, _⟩ => ⟨S4x1024x2438, .f32⟩
  | .hbm, ⟨36, _⟩ => ⟨S4x1024x2438, .f32⟩
  | .hbm, ⟨37, _⟩ => ⟨S4096x2438, .f32⟩
  | .hbm, ⟨38, _⟩ => ⟨S4096x2438, .f32⟩
  | .hbm, ⟨39, _⟩ => ⟨S4096x2438, .f32⟩
  | _, _ => ⟨S4x1024x2438, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRows.lean ====
abbrev S4x256x1024 : Shape := ⟨3, ![4, 256, 1024]⟩
abbrev S1024x1024 : Shape := ⟨2, ![1024, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRowsIdeal.lean ====
abbrev S4x256x1024 : Shape := ⟨3, ![4, 256, 1024]⟩
abbrev S1024x1024 : Shape := ⟨2, ![1024, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRowsRefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBranch.lean ====
abbrev S4x3x256x1024 : Shape := ⟨4, ![4, 3, 256, 1024]⟩
abbrev S3072x1024 : Shape := ⟨2, ![3072, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x3x256x1024, .f32⟩
  | .hbm, ⟨1, _⟩ => ⟨S4x3x256x1024, .f32⟩
  | .hbm, ⟨2, _⟩ => ⟨S4x3x256x1024, .f32⟩
  | .hbm, ⟨3, _⟩ => ⟨S4x3x256x1024, .f32⟩
  | .hbm, ⟨4, _⟩ => ⟨S3072x1024, .f32⟩
  | .hbm, ⟨5, _⟩ => ⟨S3072x1024, .f32⟩
  | .hbm, ⟨6, _⟩ => ⟨S3072x1024, .f32⟩
  | .hbm, ⟨7, _⟩ => ⟨S3072x1024, .f32⟩
  | .hbm, ⟨8, _⟩ => ⟨S3072x1024, .f32⟩
  | .hbm, ⟨9, _⟩ => ⟨S3072x1024, .f32⟩
  | .hbm, ⟨10, _⟩ => ⟨S3072x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x3x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S4x3x256x1024 : Shape := ⟨4, ![4, 3, 256, 1024]⟩
abbrev S3072x1024 : Shape := ⟨2, ![3072, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x3x256x1024, .f32⟩
  | .hbm, ⟨1, _⟩ => ⟨S4x3x256x1024, .f32⟩
  | .hbm, ⟨2, _⟩ => ⟨S4x3x256x1024, .f32⟩
  | .hbm, ⟨3, _⟩ => ⟨S4x3x256x1024, .f32⟩
  | .hbm, ⟨4, _⟩ => ⟨S3072x1024, .f32⟩
  | .hbm, ⟨5, _⟩ => ⟨S3072x1024, .f32⟩
  | .hbm, ⟨6, _⟩ => ⟨S3072x1024, .f32⟩
  | .hbm, ⟨7, _⟩ => ⟨S3072x1024, .f32⟩
  | .hbm, ⟨8, _⟩ => ⟨S3072x1024, .f32⟩
  | .hbm, ⟨9, _⟩ => ⟨S3072x1024, .f32⟩
  | .hbm, ⟨10, _⟩ => ⟨S3072x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x3x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S4x3x256x1024 : Shape := ⟨4, ![4, 3, 256, 1024]⟩
abbrev S_ : Shape := ⟨0, ![]⟩
abbrev S3072x1024 : Shape := ⟨2, ![3072, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x3x256x1024, .f32⟩
  | .hbm, ⟨1, _⟩ => ⟨S4x3x256x1024, .f32⟩
  | .hbm, ⟨2, _⟩ => ⟨S4x3x256x1024, .f32⟩
  | .hbm, ⟨3, _⟩ => ⟨S4x3x256x1024, .f32⟩
  | .hbm, ⟨4, _⟩ => ⟨S_, .f32⟩
  | .hbm, ⟨5, _⟩ => ⟨S4x3x256x1024, .f32⟩
  | .hbm, ⟨6, _⟩ => ⟨S4x3x256x1024, .f32⟩
  | .hbm, ⟨7, _⟩ => ⟨S_, .f32⟩
  | .hbm, ⟨8, _⟩ => ⟨S4x3x256x1024, .f32⟩
  | .hbm, ⟨9, _⟩ => ⟨S4x3x256x1024, .f32⟩
  | .hbm, ⟨10, _⟩ => ⟨S4x3x256x1024, .f32⟩
  | .hbm, ⟨11, _⟩ => ⟨S_, .f32⟩
  | .hbm, ⟨12, _⟩ => ⟨S4x3x256x1024, .f32⟩
  | .hbm, ⟨13, _⟩ => ⟨S4x3x256x1024, .f32⟩
  | .hbm, ⟨14, _⟩ => ⟨S4x3x256x1024, .f32⟩
  | .hbm, ⟨15, _⟩ => ⟨S_, .f32⟩
  | .hbm, ⟨16, _⟩ => ⟨S4x3x256x1024, .f32⟩
  | .hbm, ⟨17, _⟩ => ⟨S4x3x256x1024, .f32⟩
  | .hbm, ⟨18, _⟩ => ⟨S4x3x256x1024, .f32⟩
  | .hbm, ⟨19, _⟩ => ⟨S_, .f32⟩
  | .hbm, ⟨20, _⟩ => ⟨S4x3x256x1024, .f32⟩
  | .hbm, ⟨21, _⟩ => ⟨S4x3x256x1024, .f32⟩
  | .hbm, ⟨22, _⟩ => ⟨S_, .f32⟩
  | .hbm, ⟨23, _⟩ => ⟨S4x3x256x1024, .f32⟩
  | .hbm, ⟨24, _⟩ => ⟨S4x3x256x1024, .f32⟩
  | .hbm, ⟨25, _⟩ => ⟨S4x3x256x1024, .f32⟩
  | .hbm, ⟨26, _⟩ => ⟨S_, .f32⟩
  | .hbm, ⟨27, _⟩ => ⟨S4x3x256x1024, .f32⟩
  | .hbm, ⟨28, _⟩ => ⟨S4x3x256x1024, .f32⟩
  | .hbm, ⟨29, _⟩ => ⟨S4x3x256x1024, .f32⟩
  | .hbm, ⟨30, _⟩ => ⟨S_, .f32⟩
  | .hbm, ⟨31, _⟩ => ⟨S4x3x256x1024, .f32⟩
  | .hbm, ⟨32, _⟩ => ⟨S4x3x256x1024, .f32⟩
  | .hbm, ⟨33, _⟩ => ⟨S4x3x256x1024, .f32⟩
  | .hbm, ⟨34, _⟩ => ⟨S_, .f32⟩
  | .hbm, ⟨35, _⟩ => ⟨S4x3x256x1024, .f32⟩
  | .hbm, ⟨36, _⟩ => ⟨S4x3x256x1024, .f32⟩
  | .hbm, ⟨37, _⟩ => ⟨S3072x1024, .f32⟩
  | .hbm, ⟨38, _⟩ => ⟨S3072x1024, .f32⟩
  | .hbm, ⟨39, _⟩ => ⟨S3072x1024, .f32⟩
  | _, _ => ⟨S4x3x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFin.lean ====
abbrev S4x1024x1408 : Shape := ⟨3, ![4, 1024, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFinIdeal.lean ====
abbrev S4x1024x1408 : Shape := ⟨3, ![4, 1024, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFinRefIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFout.lean ====
abbrev S4x704x1024 : Shape := ⟨3, ![4, 704, 1024]⟩
abbrev S2816x1024 : Shape := ⟨2, ![2816, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFoutRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SwigluFwd.lean ====
abbrev S8448x2816 : Shape := ⟨2, ![8448, 2816]⟩
abbrev S128x2816 : Shape := ⟨2, ![128, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S8448x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluFwdRefIdeal.lean ====
abbrev S8448x2816 : Shape := ⟨2, ![8448, 2816]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S8448x2816, .f32⟩
  | .hbm, ⟨3, _⟩ => ⟨S8448x2816, .f32⟩
  | .hbm, ⟨4, _⟩ => ⟨S_, .f32⟩
  | .hbm, ⟨5, _⟩ => ⟨S8448x2816, .f32⟩
  | .hbm, ⟨6, _⟩ => ⟨S8448x2816, .f32⟩
  | .hbm, ⟨7, _⟩ => ⟨S_, .f32⟩
  | .hbm, ⟨8, _⟩ => ⟨S8448x2816, .f32⟩
  | .hbm, ⟨9, _⟩ => ⟨S8448x2816, .f32⟩
  | .hbm, ⟨10, _⟩ => ⟨S8448x2816, .f32⟩
  | .hbm, ⟨11, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== RmsFwd.lean ====
abbrev S8448x1024 : Shape := ⟨2, ![8448, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1x1024, .f32⟩
  | .hbm, ⟨3, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S8448x1024, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x1024, .f32⟩
  | .hbm, ⟨14, _⟩ => ⟨S8448x1024, .f32⟩
  | .hbm, ⟨15, _⟩ => ⟨S1x1024, .f32⟩
  | .hbm, ⟨16, _⟩ => ⟨S8448x1024, .f32⟩
  | .hbm, ⟨17, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PostFwd.lean ====
abbrev S8448x1024 : Shape := ⟨2, ![8448, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PostFwdRefIdeal.lean ====
abbrev S8448x1024 : Shape := ⟨2, ![8448, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S_, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== PreFwd.lean ====
abbrev S8448x1024 : Shape := ⟨2, ![8448, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1x1024, .f32⟩
  | .hbm, ⟨4, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PreFwdRefIdeal.lean ====
abbrev S8448x1024 : Shape := ⟨2, ![8448, 1024]⟩
abbrev S1024 : Shape := ⟨1, ![1024]⟩
abbrev S1x1024 : Shape := ⟨2, ![1, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MergeFwd.lean ====
abbrev S8448x1024 : Shape := ⟨2, ![8448, 1024]⟩
abbrev S8448x3072 : Shape := ⟨2, ![8448, 3072]⟩
abbrev S128x1024 : Shape := ⟨2, ![128, 1024]⟩
abbrev S128x3072 : Shape := ⟨2, ![128, 3072]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x3072, .f32⟩
  | .hbm, ⟨4, _⟩ => ⟨S8448x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x3072, .f32⟩
  | .local _ .vmem, ⟨7, _⟩ => ⟨S128x3072, .f32⟩
  | .local _ .vmem, ⟨8, _⟩ => ⟨S128x1024, .f32⟩
  | .local _ .vmem, ⟨9, _⟩ => ⟨S128x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFwdRefIdeal.lean ====
abbrev S8448x1024 : Shape := ⟨2, ![8448, 1024]⟩
abbrev S8448x3072 : Shape := ⟨2, ![8448, 3072]⟩
abbrev S8448x3x1024 : Shape := ⟨3, ![8448, 3, 1024]⟩
abbrev S_ : Shape := ⟨0, ![]⟩
abbrev S8448x1x1024 : Shape := ⟨3, ![8448, 1, 1024]⟩
abbrev S8448 : Shape := ⟨1, ![8448]⟩
abbrev S8448x1 : Shape := ⟨2, ![8448, 1]⟩

abbrev nBuf : Space → Nat
  | .hbm => 52
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x3072, .f32⟩
  | .hbm, ⟨4, _⟩ => ⟨S8448x3x1024, .f32⟩
  | .hbm, ⟨5, _⟩ => ⟨S8448x3x1024, .f32⟩
  | .hbm, ⟨6, _⟩ => ⟨S8448x3x1024, .f32⟩
  | .hbm, ⟨7, _⟩ => ⟨S_, .f32⟩
  | .hbm, ⟨8, _⟩ => ⟨S8448x3x1024, .f32⟩
  | .hbm, ⟨9, _⟩ => ⟨S8448x3x1024, .f32⟩
  | .hbm, ⟨10, _⟩ => ⟨S_, .f32⟩
  | .hbm, ⟨11, _⟩ => ⟨S8448x3x1024, .f32⟩
  | .hbm, ⟨12, _⟩ => ⟨S8448x3x1024, .f32⟩
  | .hbm, ⟨13, _⟩ => ⟨S8448x1x1024, .f32⟩
  | .hbm, ⟨14, _⟩ => ⟨S8448x1x1024, .f32⟩
  | .hbm, ⟨15, _⟩ => ⟨S8448x1x1024, .f32⟩
  | .hbm, ⟨16, _⟩ => ⟨S8448x3x1024, .f32⟩
  | .hbm, ⟨17, _⟩ => ⟨S8448x3x1024, .f32⟩
  | .hbm, ⟨18, _⟩ => ⟨S_, .f32⟩
  | .hbm, ⟨19, _⟩ => ⟨S8448x1024, .f32⟩
  | .hbm, ⟨20, _⟩ => ⟨S8448, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S8448, .i32⟩
  | .hbm, ⟨28, _⟩ => ⟨S8448, .i32⟩
  | .hbm, ⟨29, _⟩ => ⟨S_, .i32⟩
  | .hbm, ⟨30, _⟩ => ⟨S8448, .i32⟩
  | .hbm, ⟨31, _⟩ => ⟨S8448, .i1⟩
  | .hbm, ⟨32, _⟩ => ⟨S_, .i32⟩
  | .hbm, ⟨33, _⟩ => ⟨S8448, .i32⟩
  | .hbm, ⟨34, _⟩ => ⟨S8448, .i1⟩
  | .hbm, ⟨35, _⟩ => ⟨S_, .i32⟩
  | .hbm, ⟨36, _⟩ => ⟨S_, .i1⟩
  | .hbm, ⟨37, _⟩ => ⟨S8448, .i1⟩
  | .hbm, ⟨38, _⟩ => ⟨S8448, .i1⟩
  | .hbm, ⟨39, _⟩ => ⟨S8448, .i1⟩
  | .hbm, ⟨40, _⟩ => ⟨S8448, .i32⟩
  | .hbm, ⟨41, _⟩ => ⟨S8448, .i32⟩
  | .hbm, ⟨42, _⟩ => ⟨S8448, .i32⟩
  | .hbm, ⟨43, _⟩ => ⟨S_, .i32⟩
  | .hbm, ⟨44, _⟩ => ⟨S8448, .i32⟩
  | .hbm, ⟨45, _⟩ => ⟨S8448, .i1⟩
  | .hbm, ⟨46, _⟩ => ⟨S8448x1, .i1⟩
  | .hbm, ⟨47, _⟩ => ⟨S_, .f32⟩
  | .hbm, ⟨48, _⟩ => ⟨S_, .f32⟩
  | .hbm, ⟨49, _⟩ => ⟨S8448x1024, .i1⟩
  | .hbm, ⟨50, _⟩ => ⟨S8448x1024, .f32⟩
  | .hbm, ⟨51, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v14 : Ref sig .tc := ⟨.hbm, 42, rfl⟩
abbrev main_c_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v18 : Ref sig .tc := ⟨.hbm, 51, rfl⟩

abbrev nD : Nat := 1
abbrev τ : Topo := Topo.v7x

variable {F : FTy → Type} [FloatOps F]
-- ==== LossFwd.lean ====
abbrev S8448x1024 : Shape := ⟨2, ![8448, 1024]⟩
abbrev S1024 : Shape := ⟨1, ![1024]⟩
abbrev S1x1024 : Shape := ⟨2, ![1, 1024]⟩
abbrev S8448x1 : Shape := ⟨2, ![8448, 1]⟩
abbrev S256x1024 : Shape := ⟨2, ![256, 1024]⟩
abbrev S256x1 : Shape := ⟨2, ![256, 1]⟩
abbrev S256 : Shape := ⟨1, ![256]⟩

abbrev nBuf : Space → Nat
  | .hbm => 5
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S1x1024, .f32⟩
  | .hbm, ⟨4, _⟩ => ⟨S8448x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1, .f32⟩
  | .local _ .vmem, ⟨6, _⟩ => ⟨S256x1, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossFwdRefIdeal.lean ====
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S8448x1024, .f32⟩
  | .hbm, ⟨4, _⟩ => ⟨S_, .f32⟩
  | .hbm, ⟨5, _⟩ => ⟨S8448, .f32⟩
  | .hbm, ⟨6, _⟩ => ⟨S8448x1, .f32⟩
  | .hbm, ⟨7, _⟩ => ⟨S_, .f32⟩
  | .hbm, ⟨8, _⟩ => ⟨S8448x1, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S8448x1, .f32⟩
  | .hbm, ⟨14, _⟩ => ⟨S8448x1024, .f32⟩
  | .hbm, ⟨15, _⟩ => ⟨S8448x1024, .f32⟩
  | .hbm, ⟨16, _⟩ => ⟨S1x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S_, .f32⟩
  | .hbm, ⟨22, _⟩ => ⟨S8448, .f32⟩
  | .hbm, ⟨23, _⟩ => ⟨S8448x1, .f32⟩
  | .hbm, ⟨24, _⟩ => ⟨S_, .f32⟩
  | .hbm, ⟨25, _⟩ => ⟨S8448x1, .f32⟩
  | .hbm, ⟨26, _⟩ => ⟨S8448x1, .f32⟩
  | .hbm, ⟨27, _⟩ => ⟨S8448, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S8448, .i32⟩
  | .hbm, ⟨35, _⟩ => ⟨S8448, .i32⟩
  | .hbm, ⟨36, _⟩ => ⟨S_, .i32⟩
  | .hbm, ⟨37, _⟩ => ⟨S8448, .i32⟩
  | .hbm, ⟨38, _⟩ => ⟨S8448, .i1⟩
  | .hbm, ⟨39, _⟩ => ⟨S_, .i32⟩
  | .hbm, ⟨40, _⟩ => ⟨S8448, .i32⟩
  | .hbm, ⟨41, _⟩ => ⟨S8448, .i1⟩
  | .hbm, ⟨42, _⟩ => ⟨S_, .i32⟩
  | .hbm, ⟨43, _⟩ => ⟨S_, .i1⟩
  | .hbm, ⟨44, _⟩ => ⟨S8448, .i1⟩
  | .hbm, ⟨45, _⟩ => ⟨S8448, .i1⟩
  | .hbm, ⟨46, _⟩ => ⟨S8448, .i1⟩
  | .hbm, ⟨47, _⟩ => ⟨S8448, .i32⟩
  | .hbm, ⟨48, _⟩ => ⟨S8448, .i32⟩
  | .hbm, ⟨49, _⟩ => ⟨S8448, .i32⟩
  | .hbm, ⟨50, _⟩ => ⟨S_, .i32⟩
  | .hbm, ⟨51, _⟩ => ⟨S8448, .i32⟩
  | .hbm, ⟨52, _⟩ => ⟨S8448, .i1⟩
  | .hbm, ⟨53, _⟩ => ⟨S8448x1, .i1⟩
  | .hbm, ⟨54, _⟩ => ⟨S_, .f32⟩
  | .hbm, ⟨55, _⟩ => ⟨S8448x1, .f32⟩
  | .hbm, ⟨56, _⟩ => ⟨S8448x1, .f32⟩
  | .hbm, ⟨57, _⟩ => ⟨S_, .f32⟩
  | .hbm, ⟨58, _⟩ => ⟨S_, .f32⟩
  | .hbm, ⟨59, _⟩ => ⟨S8448x1, .f32⟩
  | .hbm, ⟨60, _⟩ => ⟨S8448x1, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_5 : Ref sig .tc := ⟨.hbm, 54, rfl⟩
abbrev main_v24 : Ref sig .tc := ⟨.hbm, 55, rfl⟩
abbrev main_v25 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Loss.lean ====
abbrev S8448x1024 : Shape := ⟨2, ![8448, 1024]⟩
abbrev S1024 : Shape := ⟨1, ![1024]⟩
abbrev S8448x1 : Shape := ⟨2, ![8448, 1]⟩
abbrev S1x1024 : Shape := ⟨2, ![1, 1024]⟩
abbrev S256x1024 : Shape := ⟨2, ![256, 1024]⟩
abbrev S256x1 : Shape := ⟨2, ![256, 1]⟩
abbrev S256 : Shape := ⟨1, ![256]⟩

abbrev nBuf : Space → Nat
  | .hbm => 8
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S8448x1, .f32⟩
  | .hbm, ⟨4, _⟩ => ⟨S1x1024, .f32⟩
  | .hbm, ⟨5, _⟩ => ⟨S8448x1024, .f32⟩
  | .hbm, ⟨6, _⟩ => ⟨S8448x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1, .f32⟩
  | .local _ .vmem, ⟨6, _⟩ => ⟨S256x1, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8448x1024 : Shape := ⟨2, ![8448, 1024]⟩
abbrev S1024 : Shape := ⟨1, ![1024]⟩
abbrev S8448x1 : Shape := ⟨2, ![8448, 1]⟩
abbrev S_ : Shape := ⟨0, ![]⟩
abbrev S8448 : Shape := ⟨1, ![8448]⟩
abbrev S1x1024 : Shape := ⟨2, ![1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024, .f32⟩
  | .hbm, ⟨3, _⟩ => ⟨S8448x1, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S1x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448, .f32⟩
  | .hbm, ⟨31, _⟩ => ⟨S8448x1, .f32⟩
  | .hbm, ⟨32, _⟩ => ⟨S_, .f32⟩
  | .hbm, ⟨33, _⟩ => ⟨S8448x1, .f32⟩
  | .hbm, ⟨34, _⟩ => ⟨S8448x1, .f32⟩
  | .hbm, ⟨35, _⟩ => ⟨S8448, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S8448, .i32⟩
  | .hbm, ⟨43, _⟩ => ⟨S8448, .i32⟩
  | .hbm, ⟨44, _⟩ => ⟨S_, .i32⟩
  | .hbm, ⟨45, _⟩ => ⟨S8448, .i32⟩
  | .hbm, ⟨46, _⟩ => ⟨S8448, .i1⟩
  | .hbm, ⟨47, _⟩ => ⟨S_, .i32⟩
  | .hbm, ⟨48, _⟩ => ⟨S8448, .i32⟩
  | .hbm, ⟨49, _⟩ => ⟨S8448, .i1⟩
  | .hbm, ⟨50, _⟩ => ⟨S_, .i32⟩
  | .hbm, ⟨51, _⟩ => ⟨S_, .i1⟩
  | .hbm, ⟨52, _⟩ => ⟨S8448, .i1⟩
  | .hbm, ⟨53, _⟩ => ⟨S8448, .i1⟩
  | .hbm, ⟨54, _⟩ => ⟨S8448, .i1⟩
  | .hbm, ⟨55, _⟩ => ⟨S8448, .i32⟩
  | .hbm, ⟨56, _⟩ => ⟨S8448, .i32⟩
  | .hbm, ⟨57, _⟩ => ⟨S8448, .i32⟩
  | .hbm, ⟨58, _⟩ => ⟨S_, .i32⟩
  | .hbm, ⟨59, _⟩ => ⟨S8448, .i32⟩
  | .hbm, ⟨60, _⟩ => ⟨S8448, .i1⟩
  | .hbm, ⟨61, _⟩ => ⟨S8448x1, .i1⟩
  | .hbm, ⟨62, _⟩ => ⟨S_, .f32⟩
  | .hbm, ⟨63, _⟩ => ⟨S8448x1, .f32⟩
  | .hbm, ⟨64, _⟩ => ⟨S8448x1, .f32⟩
  | .hbm, ⟨65, _⟩ => ⟨S_, .f32⟩
  | .hbm, ⟨66, _⟩ => ⟨S_, .f32⟩
  | .hbm, ⟨67, _⟩ => ⟨S8448x1, .f32⟩
  | .hbm, ⟨68, _⟩ => ⟨S8448x1, .f32⟩
  | .hbm, ⟨69, _⟩ => ⟨S_, .f32⟩
  | .hbm, ⟨70, _⟩ => ⟨S8448x1, .f32⟩
  | .hbm, ⟨71, _⟩ => ⟨S_, .f32⟩
  | .hbm, ⟨72, _⟩ => ⟨S8448x1, .f32⟩
  | .hbm, ⟨73, _⟩ => ⟨S8448x1, .f32⟩
  | .hbm, ⟨74, _⟩ => ⟨S_, .f32⟩
  | .hbm, ⟨75, _⟩ => ⟨S8448x1, .f32⟩
  | .hbm, ⟨76, _⟩ => ⟨S8448x1, .f32⟩
  | .hbm, ⟨77, _⟩ => ⟨S_, .f32⟩
  | .hbm, ⟨78, _⟩ => ⟨S8448x1, .f32⟩
  | .hbm, ⟨79, _⟩ => ⟨S8448x1, .f32⟩
  | .hbm, ⟨80, _⟩ => ⟨S_, .f32⟩
  | .hbm, ⟨81, _⟩ => ⟨S8448, .f32⟩
  | .hbm, ⟨82, _⟩ => ⟨S8448x1024, .f32⟩
  | .hbm, ⟨83, _⟩ => ⟨S8448x1024, .f32⟩
  | .hbm, ⟨84, _⟩ => ⟨S8448x1024, .f32⟩
  | .hbm, ⟨85, _⟩ => ⟨S8448x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S8448x1024, .f32⟩
  | .hbm, ⟨90, _⟩ => ⟨S8448x1024, .f32⟩
  | .hbm, ⟨91, _⟩ => ⟨S_, .f32⟩
  | .hbm, ⟨92, _⟩ => ⟨S1024, .f32⟩
  | .hbm, ⟨93, _⟩ => ⟨S8448x1024, .f32⟩
  | .hbm, ⟨94, _⟩ => ⟨S_, .f32⟩
  | .hbm, ⟨95, _⟩ => ⟨S8448, .f32⟩
  | .hbm, ⟨96, _⟩ => ⟨S8448x1, .f32⟩
  | .hbm, ⟨97, _⟩ => ⟨S8448x1024, .f32⟩
  | .hbm, ⟨98, _⟩ => ⟨S8448x1024, .f32⟩
  | .hbm, ⟨99, _⟩ => ⟨S8448x1, .f32⟩
  | .hbm, ⟨100, _⟩ => ⟨S_, .f32⟩
  | .hbm, ⟨101, _⟩ => ⟨S8448x1, .f32⟩
  | .hbm, ⟨102, _⟩ => ⟨S8448x1, .f32⟩
  | .hbm, ⟨103, _⟩ => ⟨S_, .f32⟩
  | .hbm, ⟨104, _⟩ => ⟨S8448, .f32⟩
  | .hbm, ⟨105, _⟩ => ⟨S8448x1024, .f32⟩
  | .hbm, ⟨106, _⟩ => ⟨S8448x1024, .f32⟩
  | .hbm, ⟨107, _⟩ => ⟨S8448x1024, .f32⟩
  | .hbm, ⟨108, _⟩ => ⟨S8448x1024, .f32⟩
  | .hbm, ⟨109, _⟩ => ⟨S8448x1024, .f32⟩
  | .hbm, ⟨110, _⟩ => ⟨S1x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_c_1 : Ref sig .tc := ⟨.hbm, 44, rfl⟩
abbrev main_call0_v5 : Ref sig .tc := ⟨.hbm, 45, rfl⟩
abbrev main_call0_v6 : Ref sig .tc := ⟨.hbm, 46, rfl⟩
abbrev main_call0_c_2 : Ref sig .tc := ⟨.hbm, 47, rfl⟩
abbrev main_call0_v7 : Ref sig .tc := ⟨.hbm, 48, rfl⟩
abbrev main_call0_v8 : Ref sig .tc := ⟨.hbm, 49, rfl⟩
abbrev main_call0_c_3 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_7 : Ref sig .tc := ⟨.hbm, 62, rfl⟩
abbrev main_v29 : Ref sig .tc := ⟨.hbm, 63, rfl⟩
abbrev main_v30 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_v31_0 : Ref sig .tc := ⟨.hbm, 68, rfl⟩
abbrev main_call1_cst : Ref sig .tc := ⟨.hbm, 69, rfl⟩
abbrev main_v31_1 : Ref sig .tc := ⟨.hbm, 70, rfl⟩
abbrev main_call2_cst : Ref sig .tc := ⟨.hbm, 71, rfl⟩
abbrev main_call2_v0 : Ref sig .tc := ⟨.hbm, 72, rfl⟩
abbrev main_v32 : Ref sig .tc := ⟨.hbm, 73, rfl⟩
abbrev main_cst_9 : Ref sig .tc := ⟨.hbm, 74, rfl⟩
abbrev main_v33 : Ref sig .tc := ⟨.hbm, 75, rfl⟩
abbrev main_v34 : Ref sig .tc := ⟨.hbm, 76, rfl⟩
abbrev main_cst_10 : Ref sig .tc := ⟨.hbm, 77, rfl⟩
abbrev main_v35 : Ref sig .tc := ⟨.hbm, 78, rfl⟩
abbrev main_v36 : Ref sig .tc := ⟨.hbm, 79, rfl⟩
abbrev main_cst_11 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_12 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_13 : Ref sig .tc := ⟨.hbm, 91, rfl⟩
abbrev main_v46 : Ref sig .tc := ⟨.hbm, 92, rfl⟩
abbrev main_v47 : Ref sig .tc := ⟨.hbm, 93, rfl⟩
abbrev main_cst_14 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_15 : Ref sig .tc := ⟨.hbm, 100, rfl⟩
abbrev main_v53 : Ref sig .tc := ⟨.hbm, 101, rfl⟩
abbrev main_v54 : Ref sig .tc := ⟨.hbm, 102, rfl⟩
abbrev main_cst_16 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩

abbrev nD : Nat := 1
abbrev τ : Topo := Topo.v7x

variable {F : FTy → Type} [FloatOps F]
-- ==== Fox.lean ====
abbrev S2x4224x1024 : Shape := ⟨3, ![2, 4224, 1024]⟩
abbrev S2x8x4224 : Shape := ⟨3, ![2, 8, 4224]⟩
abbrev S2x4224x8x128 : Shape := ⟨4, ![2, 4224, 8, 128]⟩
abbrev S2x8x4224x4224 : Shape := ⟨4, ![2, 8, 4224, 4224]⟩
abbrev S_ : Shape := ⟨0, ![]⟩
abbrev S2x8x4224x1 : Shape := ⟨4, ![2, 8, 4224, 1]⟩
abbrev S2x8x1x4224 : Shape := ⟨4, ![2, 8, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S2x8x128x4224 : Shape := ⟨4, ![2, 8, 128, 4224]⟩
abbrev S2x8x11x384 : Shape := ⟨4, ![2, 8, 11, 384]⟩
abbrev S2x8x11x1 : Shape := ⟨4, ![2, 8, 11, 1]⟩
abbrev S2x128x4224 : Shape := ⟨3, ![2, 128, 4224]⟩
abbrev S2x4224x3072 : Shape := ⟨3, ![2, 4224, 3072]⟩
abbrev S1x4224x128 : Shape := ⟨3, ![1, 4224, 128]⟩
abbrev S1x384x128 : Shape := ⟨3, ![1, 384, 128]⟩
abbrev S1x8x4224 : Shape := ⟨3, ![1, 8, 4224]⟩
abbrev S1x1x4224x1 : Shape := ⟨4, ![1, 1, 4224, 1]⟩
abbrev S1x1x1x384 : Shape := ⟨4, ![1, 1, 1, 384]⟩
abbrev S384x384 : Shape := ⟨2, ![384, 384]⟩
abbrev S384x1 : Shape := ⟨2, ![384, 1]⟩
abbrev S384x128 : Shape := ⟨2, ![384, 128]⟩
abbrev S1x8x384 : Shape := ⟨3, ![1, 8, 384]⟩
abbrev S8x384 : Shape := ⟨2, ![8, 384]⟩
abbrev S384 : Shape := ⟨1, ![384]⟩
abbrev S1x384 : Shape := ⟨2, ![1, 384]⟩
abbrev S4224x128 : Shape := ⟨2, ![4224, 128]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S1x1 : Shape := ⟨2, ![1, 1]⟩
abbrev S32x384 : Shape := ⟨2, ![32, 384]⟩
abbrev S1x1x32x1 : Shape := ⟨4, ![1, 1, 32, 1]⟩
abbrev S32x1 : Shape := ⟨2, ![32, 1]⟩
abbrev S32 : Shape := ⟨1, ![32]⟩

abbrev nBuf : Space → Nat
  | .hbm => 71
  | .vmem => 29
  | .smem => 0
  | _ => 0

abbrev bufTy : (tb : Table) → Fin (tcTables nBuf tb) → BufTy
  | .hbm, ⟨0, _⟩ => ⟨S2x4224x1024, .f32⟩
  | .hbm, ⟨1, _⟩ => ⟨S2x4224x1024, .f32⟩
  | .hbm, ⟨2, _⟩ => ⟨S2x4224x1024, .f32⟩
  | .hbm, ⟨3, _⟩ => ⟨S2x8x4224, .f32⟩
  | .hbm, ⟨4, _⟩ => ⟨S2x4224x1024, .f32⟩
  | .hbm, ⟨5, _⟩ => ⟨S2x4224x8x128, .f32⟩
  | .hbm, ⟨6, _⟩ => ⟨S2x4224x8x128, .f32⟩
  | .hbm, ⟨7, _⟩ => ⟨S2x8x4224x4224, .f32⟩
  | .hbm, ⟨8, _⟩ => ⟨S_, .f32⟩
  | .hbm, ⟨9, _⟩ => ⟨S2x8x4224x4224, .f32⟩
  | .hbm, ⟨10, _⟩ => ⟨S2x8x4224x4224, .f32⟩
  | .hbm, ⟨11, _⟩ => ⟨S2x8x4224x1, .f32⟩
  | .hbm, ⟨12, _⟩ => ⟨S2x8x4224x4224, .f32⟩
  | .hbm, ⟨13, _⟩ => ⟨S2x8x4224x4224, .f32⟩
  | .hbm, ⟨14, _⟩ => ⟨S2x8x1x4224, .f32⟩
  | .hbm, ⟨15, _⟩ => ⟨S2x8x4224x4224, .f32⟩
  | .hbm, ⟨16, _⟩ => ⟨S2x8x4224x4224, .f32⟩
  | .hbm, ⟨17, _⟩ => ⟨S4224, .i32⟩
  | .hbm, ⟨18, _⟩ => ⟨S1x4224, .i32⟩
  | .hbm, ⟨19, _⟩ => ⟨S4224x1, .i32⟩
  | .hbm, ⟨20, _⟩ => ⟨S4224x4224, .i32⟩
  | .hbm, ⟨21, _⟩ => ⟨S4224x4224, .i32⟩
  | .hbm, ⟨22, _⟩ => ⟨S4224x4224, .i1⟩
  | .hbm, ⟨23, _⟩ => ⟨S_, .i32⟩
  | .hbm, ⟨24, _⟩ => ⟨S4224, .i32⟩
  | .hbm, ⟨25, _⟩ => ⟨S4224, .i1⟩
  | .hbm, ⟨26, _⟩ => ⟨S1x4224, .i1⟩
  | .hbm, ⟨27, _⟩ => ⟨S4224x4224, .i1⟩
  | .hbm, ⟨28, _⟩ => ⟨S4224x4224, .i1⟩
  | .hbm, ⟨29, _⟩ => ⟨S_, .f32⟩
  | .hbm, ⟨30, _⟩ => ⟨S_, .f32⟩
  | .hbm, ⟨31, _⟩ => ⟨S2x8x4224x4224, .i1⟩
  | .hbm, ⟨32, _⟩ => ⟨S2x8x4224x4224, .f32⟩
  | .hbm, ⟨33, _⟩ => ⟨S2x8x4224x4224, .f32⟩
  | .hbm, ⟨34, _⟩ => ⟨S_, .f32⟩
  | .hbm, ⟨35, _⟩ => ⟨S2x8x4224, .f32⟩
  | .hbm, ⟨36, _⟩ => ⟨S2x8x4224x1, .f32⟩
  | .hbm, ⟨37, _⟩ => ⟨S2x8x4224x4224, .f32⟩
  | .hbm, ⟨38, _⟩ => ⟨S2x8x4224x4224, .f32⟩
  | .hbm, ⟨39, _⟩ => ⟨S2x8x4224x4224, .f32⟩
  | .hbm, ⟨40, _⟩ => ⟨S_, .f32⟩
  | .hbm, ⟨41, _⟩ => ⟨S2x8x4224, .f32⟩
  | .hbm, ⟨42, _⟩ => ⟨S2x8x4224x1, .f32⟩
  | .hbm, ⟨43, _⟩ => ⟨S2x8x4224x4224, .f32⟩
  | .hbm, ⟨44, _⟩ => ⟨S2x8x4224x4224, .f32⟩
  | .hbm, ⟨45, _⟩ => ⟨S2x4224x8x128, .f32⟩
  | .hbm, ⟨46, _⟩ => ⟨S2x8x128x4224, .f32⟩
  | .hbm, ⟨47, _⟩ => ⟨S2x4224x8x128, .f32⟩
  | .hbm, ⟨48, _⟩ => ⟨S2x4224x1024, .f32⟩
  | .hbm, ⟨49, _⟩ => ⟨S2x8x11x384, .f32⟩
  | .hbm, ⟨50, _⟩ => ⟨S2x8x11x1, .f32⟩
  | .hbm, ⟨51, _⟩ => ⟨S2x8x11x384, .f32⟩
  | .hbm, ⟨52, _⟩ => ⟨S2x8x4224, .f32⟩
  | .hbm, ⟨53, _⟩ => ⟨S2x8x4224x1, .f32⟩
  | .hbm, ⟨54, _⟩ => ⟨S2x8x4224x1, .f32⟩
  | .hbm, ⟨55, _⟩ => ⟨S2x8x4224x1, .f32⟩
  | .hbm, ⟨56, _⟩ => ⟨S2x8x4224x1, .f32⟩
  | .hbm, ⟨57, _⟩ => ⟨S2x8x4224x1, .f32⟩
  | .hbm, ⟨58, _⟩ => ⟨S2x8x4224x1, .f32⟩
  | .hbm, ⟨59, _⟩ => ⟨S_, .i32⟩
  | .hbm, ⟨60, _⟩ => ⟨S_, .f32⟩
  | .hbm, ⟨61, _⟩ => ⟨S2x128x4224, .f32⟩
  | .hbm, ⟨62, _⟩ => ⟨S2x4224x3072, .f32⟩
  | .hbm, ⟨63, _⟩ => ⟨S2x4224x1024, .f32⟩
  | .hbm, ⟨64, _⟩ => ⟨S2x4224x1024, .f32⟩
  | .hbm, ⟨65, _⟩ => ⟨S2x4224x1024, .f32⟩
  | .hbm, ⟨66, _⟩ => ⟨S2x8x1x4224, .f32⟩
  | .hbm, ⟨67, _⟩ => ⟨S2x8x4224x1, .f32⟩
  | .hbm, ⟨68, _⟩ => ⟨S2x8x4224, .f32⟩
  | .hbm, ⟨69, _⟩ => ⟨S2x8x4224, .f32⟩
  | .hbm, ⟨70, _⟩ => ⟨S2x8x4224, .f32⟩
  | .local _ .vmem, ⟨0, _⟩ => ⟨S1x4224x128, .f32⟩
  | .local _ .vmem, ⟨1, _⟩ => ⟨S1x4224x128, .f32⟩
  | .local _ .vmem, ⟨2, _⟩ => ⟨S1x384x128, .f32⟩
  | .local _ .vmem, ⟨3, _⟩ => ⟨S1x384x128, .f32⟩
  | .local _ .vmem, ⟨4, _⟩ => ⟨S1x384x128, .f32⟩
  | .local _ .vmem, ⟨5, _⟩ => ⟨S1x384x128, .f32⟩
  | .local _ .vmem, ⟨6, _⟩ => ⟨S1x8x4224, .f32⟩
  | .local _ .vmem, ⟨7, _⟩ => ⟨S1x8x4224, .f32⟩
  | .local _ .vmem, ⟨8, _⟩ => ⟨S1x4224x128, .f32⟩
  | .local _ .vmem, ⟨9, _⟩ => ⟨S1x4224x128, .f32⟩
  | .local _ .vmem, ⟨10, _⟩ => ⟨S1x1x4224x1, .f32⟩
  | .local _ .vmem, ⟨11, _⟩ => ⟨S1x1x4224x1, .f32⟩
  | .local _ .vmem, ⟨12, _⟩ => ⟨S1x4224x128, .f32⟩
  | .local _ .vmem, ⟨13, _⟩ => ⟨S1x4224x128, .f32⟩
  | .local _ .vmem, ⟨14, _⟩ => ⟨S1x4224x128, .f32⟩
  | .local _ .vmem, ⟨15, _⟩ => ⟨S1x4224x128, .f32⟩
  | .local _ .vmem, ⟨16, _⟩ => ⟨S1x384x128, .f32⟩
  | .local _ .vmem, ⟨17, _⟩ => ⟨S1x384x128, .f32⟩
  | .local _ .vmem, ⟨18, _⟩ => ⟨S1x384x128, .f32⟩
  | .local _ .vmem, ⟨19, _⟩ => ⟨S1x384x128, .f32⟩
  | .local _ .vmem, ⟨20, _⟩ => ⟨S1x1x1x384, .f32⟩
  | .local _ .vmem, ⟨21, _⟩ => ⟨S1x1x1x384, .f32⟩
  | .local _ .vmem, ⟨22, _⟩ => ⟨S1x1x4224x1, .f32⟩
  | .local _ .vmem, ⟨23, _⟩ => ⟨S1x1x4224x1, .f32⟩
  | .local _ .vmem, ⟨24, _⟩ => ⟨S384x384, .f32⟩
  | .local _ .vmem, ⟨25, _⟩ => ⟨S384x384, .f32⟩
  | .local _ .vmem, ⟨26, _⟩ => ⟨S384x384, .bf16⟩
  | .local _ .vmem, ⟨27, _⟩ => ⟨S384x384, .bf16⟩
  | .local _ .vmem, ⟨28, _⟩ => ⟨S384x1, .f32⟩
  | _, _ => ⟨S2x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_3 : Ref sig .tc := ⟨.hbm, 59, rfl⟩
abbrev main_call1_v0 : Ref sig .tc := ⟨.hbm, 60, rfl⟩
abbrev main_v46 : Ref sig .tc := ⟨.hbm, 61, rfl⟩
abbrev main_v47 : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev main_v48_3 : Ref sig .tc := ⟨.hbm, 66, rfl⟩
abbrev main_v48_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 8, 11], ![false, false, false]⟩

def k0_mult1 (i : grid0.Coords) : BitVec 32 :=
  let arg2 : BitVec 32 := BitVec.ofNat 32 (i 2).val
  let c384_i32 : BitVec 32 := 384#32
  let v0 : BitVec 32 := Scalar.muli arg2 c384_i32
  v0
def k0_off1 (i : grid0.Coords) : Fin 3 → Nat :=
  let c0_5 : Index := 0#32
  let c0_6 : Index := 0#32
  let arg2 : BitVec 32 := BitVec.ofNat 32 (i 2).val
  let c384_i32 : BitVec 32 := 384#32
  let v0 : BitVec 32 := Scalar.muli arg2 c384_i32
  let v1 : BitVec 32 := v0
  let v8 : Index := Scalar.indexCast v1
  ![0, 0, v8.toNat]
def k0_mult2 (i : grid0.Coords) : BitVec 32 :=
  let arg2 : BitVec 32 := BitVec.ofNat 32 (i 2).val
  let c384_i32_22 : BitVec 32 := 384#32
  let v33 : BitVec 32 := Scalar.muli arg2 c384_i32_22
  v33
def k0_off2 (i : grid0.Coords) : Fin 3 → Nat :=
  let c0_23 : Index := 0#32
  let arg2 : BitVec 32 := BitVec.ofNat 32 (i 2).val
  let c384_i32_22 : BitVec 32 := 384#32
  let v33 : BitVec 32 := Scalar.muli arg2 c384_i32_22
  let v34 : BitVec 32 := v33
  let v35 : Index := Scalar.indexCast v34
  let c0_24 : Index := 0#32
  ![0, v35.toNat, 0]
def k0_off3 (i : grid0.Coords) : Fin 3 → Nat :=
  let c0_32 : Index := 0#32
  let c0_33 : Index := 0#32
  let arg2 : BitVec 32 := BitVec.ofNat 32 (i 2).val
  let c384_i32_22 : BitVec 32 := 384#32
  let v33 : BitVec 32 := Scalar.muli arg2 c384_i32_22
  let v34 : BitVec 32 := v33
  let v52 : Index := Scalar.indexCast v34
  ![0, 0, v52.toNat]
def k0_off4 (i : grid0.Coords) (c0_i32_48 : BitVec 32) : Fin 4 → Nat :=
  let c0_49 : Index := 0#32
  let c0_50 : Index := 0#32
  let arg2 : BitVec 32 := BitVec.ofNat 32 (i 2).val
  let c384_i32_22 : BitVec 32 := 384#32
  let v33 : BitVec 32 := Scalar.muli arg2 c384_i32_22
  let v34 : BitVec 32 := v33
  let v92 : BitVec 32 := Scalar.addi v34 c0_i32_48
  let v93 : Index := Scalar.indexCast v92
  let c0_51 : Index := 0#32
  ![0, 0, v93.toNat, 0]
def k0_cond2 (i : grid0.Coords) : BitVec 1 :=
  let arg2 : BitVec 32 := BitVec.ofNat 32 (i 2).val
  let c0_i32_389 : BitVec 32 := 0#32
  let v754 : BitVec 1 := Scalar.cmpi .eq arg2 c0_i32_389
  let v755 : BitVec 32 := Scalar.extui v754
  let c0_i32_390 : BitVec 32 := 0#32
  let v756 : BitVec 1 := Scalar.cmpi .ne v755 c0_i32_390
  v756

@[reducible] def k0_t1_loop (i : grid0.Coords) : Scf.Loop 32 :=
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_395 : BitVec 32 := 1#32
  ⟨v760, v765, c1_i32_395⟩
def k0_mult3 (i : grid0.Coords) (k0_t1 : Fin (k0_t1_loop i).trips) : BitVec 32 :=
  let arg2 : BitVec 32 := BitVec.ofNat 32 (i 2).val
  let c1_i32 : BitVec 32 := 1#32
  let v760 : BitVec 32 := Scalar.addi arg2 c1_i32
  let c1_i32_395 : BitVec 32 := 1#32
  let arg20 : BitVec 32 := Scf.iv v760 c1_i32_395 k0_t1
  let c384_i32_397 : BitVec 32 := 384#32
  let v768 : BitVec 32 := Scalar.muli arg20 c384_i32_397
  v768
def k0_off5 (i : grid0.Coords) (k0_t1 : Fin (k0_t1_loop i).trips) : Fin 3 → Nat :=
  let c0_398 : Index := 0#32
  let arg2 : BitVec 32 := BitVec.ofNat 32 (i 2).val
  let c1_i32 : BitVec 32 := 1#32
  let v760 : BitVec 32 := Scalar.addi arg2 c1_i32
  let c1_i32_395 : BitVec 32 := 1#32
  let arg20 : BitVec 32 := Scf.iv v760 c1_i32_395 k0_t1
  let c384_i32_397 : BitVec 32 := 384#32
  let v768 : BitVec 32 := Scalar.muli arg20 c384_i32_397
  let v769 : BitVec 32 := v768
  let v770 : Index := Scalar.indexCast v769
  let c0_399 : Index := 0#32
  ![0, v770.toNat, 0]
def k0_off6 (i : grid0.Coords) (k0_t1 : Fin (k0_t1_loop i).trips) : Fin 3 → Nat :=
  let c0_407 : Index := 0#32
  let c0_408 : Index := 0#32
  let arg2 : BitVec 32 := BitVec.ofNat 32 (i 2).val
  let c1_i32 : BitVec 32 := 1#32
  let v760 : BitVec 32 := Scalar.addi arg2 c1_i32
  let c1_i32_395 : BitVec 32 := 1#32
  let arg20 : BitVec 32 := Scf.iv v760 c1_i32_395 k0_t1
  let c384_i32_397 : BitVec 32 := 384#32
  let v768 : BitVec 32 := Scalar.muli arg20 c384_i32_397
  let v769 : BitVec 32 := v768
  let v787 : Index := Scalar.indexCast v769
  ![0, 0, v787.toNat]
def k0_off7 (i : grid0.Coords) (k0_t1 : Fin (k0_t1_loop i).trips) (c0_i32_424 : BitVec 32) : Fin 4 → Nat :=
  let c0_425 : Index := 0#32
  let c0_426 : Index := 0#32
  let arg2 : BitVec 32 := BitVec.ofNat 32 (i 2).val
  let c1_i32 : BitVec 32 := 1#32
  let v760 : BitVec 32 := Scalar.addi arg2 c1_i32
  let c1_i32_395 : BitVec 32 := 1#32
  let arg20 : BitVec 32 := Scf.iv v760 c1_i32_395 k0_t1
  let c384_i32_397 : BitVec 32 := 384#32
  let v768 : BitVec 32 := Scalar.muli arg20 c384_i32_397
  let v769 : BitVec 32 := v768
  let v827 : BitVec 32 := Scalar.addi v769 c0_i32_424
  let v828 : Index := Scalar.indexCast v827
  let c0_427 : Index := 0#32
  ![0, 0, v828.toNat, 0]
@[reducible] def k0_t2_loop (i : grid0.Coords) : Scf.Loop 32 :=
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let v762 : BitVec 32 := Scalar.addi v760 v761
  let c1_i32_396 : BitVec 32 := 1#32
  ⟨v765, v762, c1_i32_396⟩
def k0_mult4 (i : grid0.Coords) (k0_t2 : Fin (k0_t2_loop i).trips) : BitVec 32 :=
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_396 : BitVec 32 := 1#32
  let arg20 : BitVec 32 := Scf.iv v765 c1_i32_396 k0_t2
  let c384_i32_397 : BitVec 32 := 384#32
  let v768 : BitVec 32 := Scalar.muli arg20 c384_i32_397
  v768
def k0_off8 (i : grid0.Coords) (k0_t2 : Fin (k0_t2_loop i).trips) : Fin 3 → Nat :=
  let c0_398 : Index := 0#32
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_396 : BitVec 32 := 1#32
  let arg20 : BitVec 32 := Scf.iv v765 c1_i32_396 k0_t2
  let c384_i32_397 : BitVec 32 := 384#32
  let v768 : BitVec 32 := Scalar.muli arg20 c384_i32_397
  let v769 : BitVec 32 := v768
  let v770 : Index := Scalar.indexCast v769
  let c0_399 : Index := 0#32
  ![0, v770.toNat, 0]
def k0_off9 (i : grid0.Coords) (k0_t2 : Fin (k0_t2_loop i).trips) : Fin 3 → Nat :=
  let c0_407 : Index := 0#32
  let c0_408 : Index := 0#32
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_396 : BitVec 32 := 1#32
  let arg20 : BitVec 32 := Scf.iv v765 c1_i32_396 k0_t2
  let c384_i32_397 : BitVec 32 := 384#32
  let v768 : BitVec 32 := Scalar.muli arg20 c384_i32_397
  let v769 : BitVec 32 := v768
  let v787 : Index := Scalar.indexCast v769
  ![0, 0, v787.toNat]
def k0_off10 (i : grid0.Coords) (k0_t2 : Fin (k0_t2_loop i).trips) (c0_i32_424 : BitVec 32) : Fin 4 → Nat :=
  let c0_425 : Index := 0#32
  let c0_426 : Index := 0#32
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_396 : BitVec 32 := 1#32
  let arg20 : BitVec 32 := Scf.iv v765 c1_i32_396 k0_t2
  let c384_i32_397 : BitVec 32 := 384#32
  let v768 : BitVec 32 := Scalar.muli arg20 c384_i32_397
  let v769 : BitVec 32 := v768
  let v827 : BitVec 32 := Scalar.addi v769 c0_i32_424
  let v828 : Index := Scalar.indexCast v827
  let c0_427 : Index := 0#32
  ![0, 0, v828.toNat, 0]
def k0_cond3 (i : grid0.Coords) : BitVec 1 :=
  let arg2 : BitVec 32 := BitVec.ofNat 32 (i 2).val
  let c0_i32_391 : BitVec 32 := 0#32
  let v757 : BitVec 1 := Scalar.cmpi .sgt arg2 c0_i32_391
  let v758 : BitVec 32 := Scalar.extui v757
  let c0_i32_392 : BitVec 32 := 0#32
  let v759 : BitVec 1 := Scalar.cmpi .ne v758 c0_i32_392
  v759

@[reducible] def k0_t3_loop (i : grid0.Coords) : Scf.Loop 32 :=
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_395 : BitVec 32 := 1#32
  ⟨v760, v765, c1_i32_395⟩
def k0_mult5 (i : grid0.Coords) (k0_t3 : Fin (k0_t3_loop i).trips) : BitVec 32 :=
  let arg2 : BitVec 32 := BitVec.ofNat 32 (i 2).val
  let c1_i32 : BitVec 32 := 1#32
  let v760 : BitVec 32 := Scalar.addi arg2 c1_i32
  let c1_i32_395 : BitVec 32 := 1#32
  let arg20 : BitVec 32 := Scf.iv v760 c1_i32_395 k0_t3
  let c384_i32_397 : BitVec 32 := 384#32
  let v768 : BitVec 32 := Scalar.muli arg20 c384_i32_397
  v768
def k0_off11 (i : grid0.Coords) (k0_t3 : Fin (k0_t3_loop i).trips) : Fin 3 → Nat :=
  let c0_398 : Index := 0#32
  let arg2 : BitVec 32 := BitVec.ofNat 32 (i 2).val
  let c1_i32 : BitVec 32 := 1#32
  let v760 : BitVec 32 := Scalar.addi arg2 c1_i32
  let c1_i32_395 : BitVec 32 := 1#32
  let arg20 : BitVec 32 := Scf.iv v760 c1_i32_395 k0_t3
  let c384_i32_397 : BitVec 32 := 384#32
  let v768 : BitVec 32 := Scalar.muli arg20 c384_i32_397
  let v769 : BitVec 32 := v768
  let v770 : Index := Scalar.indexCast v769
  let c0_399 : Index := 0#32
  ![0, v770.toNat, 0]
def k0_off12 (i : grid0.Coords) (k0_t3 : Fin (k0_t3_loop i).trips) : Fin 3 → Nat :=
  let c0_407 : Index := 0#32
  let c0_408 : Index := 0#32
  let arg2 : BitVec 32 := BitVec.ofNat 32 (i 2).val
  let c1_i32 : BitVec 32 := 1#32
  let v760 : BitVec 32 := Scalar.addi arg2 c1_i32
  let c1_i32_395 : BitVec 32 := 1#32
  let arg20 : BitVec 32 := Scf.iv v760 c1_i32_395 k0_t3
  let c384_i32_397 : BitVec 32 := 384#32
  let v768 : BitVec 32 := Scalar.muli arg20 c384_i32_397
  let v769 : BitVec 32 := v768
  let v787 : Index := Scalar.indexCast v769
  ![0, 0, v787.toNat]
def k0_off13 (i : grid0.Coords) (k0_t3 : Fin (k0_t3_loop i).trips) (c0_i32_422 : BitVec 32) : Fin 4 → Nat :=
  let c0_423 : Index := 0#32
  let c0_424 : Index := 0#32
  let arg2 : BitVec 32 := BitVec.ofNat 32 (i 2).val
  let c1_i32 : BitVec 32 := 1#32
  let v760 : BitVec 32 := Scalar.addi arg2 c1_i32
  let c1_i32_395 : BitVec 32 := 1#32
  let arg20 : BitVec 32 := Scf.iv v760 c1_i32_395 k0_t3
  let c384_i32_397 : BitVec 32 := 384#32
  let v768 : BitVec 32 := Scalar.muli arg20 c384_i32_397
  let v769 : BitVec 32 := v768
  let v815 : BitVec 32 := Scalar.addi v769 c0_i32_422
  let v816 : Index := Scalar.indexCast v815
  let c0_425 : Index := 0#32
  ![0, 0, v816.toNat, 0]
@[reducible] def k0_t4_loop (i : grid0.Coords) : Scf.Loop 32 :=
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let v762 : BitVec 32 := Scalar.addi v760 v761
  let c1_i32_396 : BitVec 32 := 1#32
  ⟨v765, v762, c1_i32_396⟩
def k0_mult6 (i : grid0.Coords) (k0_t4 : Fin (k0_t4_loop i).trips) : BitVec 32 :=
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_396 : BitVec 32 := 1#32
  let arg20 : BitVec 32 := Scf.iv v765 c1_i32_396 k0_t4
  let c384_i32_397 : BitVec 32 := 384#32
  let v768 : BitVec 32 := Scalar.muli arg20 c384_i32_397
  v768
def k0_off14 (i : grid0.Coords) (k0_t4 : Fin (k0_t4_loop i).trips) : Fin 3 → Nat :=
  let c0_398 : Index := 0#32
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_396 : BitVec 32 := 1#32
  let arg20 : BitVec 32 := Scf.iv v765 c1_i32_396 k0_t4
  let c384_i32_397 : BitVec 32 := 384#32
  let v768 : BitVec 32 := Scalar.muli arg20 c384_i32_397
  let v769 : BitVec 32 := v768
  let v770 : Index := Scalar.indexCast v769
  let c0_399 : Index := 0#32
  ![0, v770.toNat, 0]
def k0_off15 (i : grid0.Coords) (k0_t4 : Fin (k0_t4_loop i).trips) : Fin 3 → Nat :=
  let c0_407 : Index := 0#32
  let c0_408 : Index := 0#32
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_396 : BitVec 32 := 1#32
  let arg20 : BitVec 32 := Scf.iv v765 c1_i32_396 k0_t4
  let c384_i32_397 : BitVec 32 := 384#32
  let v768 : BitVec 32 := Scalar.muli arg20 c384_i32_397
  let v769 : BitVec 32 := v768
  let v787 : Index := Scalar.indexCast v769
  ![0, 0, v787.toNat]
def k0_off16 (i : grid0.Coords) (k0_t4 : Fin (k0_t4_loop i).trips) (c0_i32_422 : BitVec 32) : Fin 4 → Nat :=
  let c0_423 : Index := 0#32
  let c0_424 : Index := 0#32
  let arg2 : BitVec 32 := BitVec.ofNat 32 (i 2).val
  let c1_i32 : BitVec 32 := 1#32
  let v760 : BitVec 32 := Scalar.addi arg2 c1_i32
  let c11_i32 : BitVec 32 := 11#32
  let v761 : BitVec 32 := Scalar.subi c11_i32 v760
  let c1_i32_394 : BitVec 32 := 1#32
  let v763 : BitVec 32 := Scalar.divsi v761 c1_i32_394
  let v764 : BitVec 32 := Scalar.muli v763 c1_i32_394
  let v765 : BitVec 32 := Scalar.addi v760 v764
  let c1_i32_396 : BitVec 32 := 1#32
  let arg20 : BitVec 32 := Scf.iv v765 c1_i32_396 k0_t4
  let c384_i32_397 : BitVec 32 := 384#32
  let v768 : BitVec 32 := Scalar.muli arg20 c384_i32_397
  let v769 : BitVec 32 := v768
  let v815 : BitVec 32 := Scalar.addi v769 c0_i32_422
  let v816 : Index := Scalar.indexCast v815
  let c0_425 : Index := 0#32
  ![0, 0, v816.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg0.toNat, c2_i32.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4224x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4224x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4224x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x4224x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== FoxIdeal.lean ====
variable {F : FTy → Type} [FloatOps F] [Named F]
def κ : String → Option EReal := fun
  | "mask" => some ⊥
  | _ => none
-- ==== Proof.Products.lean ====
/- What the proofs of the products share: the three products of two matrices, their blocks, a block of kept rows, and a
   sum over blocks of rows carried from point to point. -/
module

public import Idealize.ShloMosaic.Lib.Pointwise

@[expose] public section

noncomputable section

namespace Cert.Products

open Idealize.ShloMosaic

theorem hz : (![0, 0] : Fin 2 → Nat) = fun _ => 0 := funext fun a => by match a with | ⟨0, _⟩ => rfl | ⟨1, _⟩ => rfl

/-- The places of a matrix of `r` rows and `c` columns. -/
abbrev At (r c : ℕ) := (⟨2, ![r, c]⟩ : Shape).Idx

/-- Two places with the same row and the same column are one. -/
theorem ext2 {r c : ℕ} {x y : At r c} (h0 : (x 0).val = (y 0).val) (h1 : (x 1).val = (y 1).val) : x = y :=
  funext fun a => Fin.ext (by match a with | ⟨0, _⟩ => exact h0 | ⟨1, _⟩ => exact h1)

/-- The product. -/
def nn {r k c : ℕ} (x : At r k → EReal) (w : At k c → EReal) (j : At r c) : EReal := ∑ l : Fin k, x (ix2 (j 0) l) * w (ix2 l (j 1))

/-- The product with the transpose of the right factor. -/
def nt {r k c : ℕ} (x : At r k → EReal) (w : At c k → EReal) (j : At r c) : EReal := ∑ l : Fin k, x (ix2 (j 0) l) * w (ix2 (j 1) l)

/-- The product of the transpose of the left factor. -/
def tn {r k c : ℕ} (x : At r k → EReal) (y : At r c → EReal) (j : At k c) : EReal := ∑ l : Fin r, x (ix2 l (j 0)) * y (ix2 l (j 1))

/-- `x` is the block of the matrix `A` in row block `p` and column block `q`. -/
def IsBlk {r c r' c' : ℕ} (p q : ℕ) (x : At r' c' → EReal) (A : At r c → EReal) : Prop :=
  ∀ (j : At r' c') (i : At r c), (i 0).val = p * r' + (j 0).val → (i 1).val = q * c' + (j 1).val → x j = A i

/-- What an embedding at a block's corner reads is that block. -/
theorem isBlk_emb {r c r' c' : ℕ} {A : At r c → EReal} {e : At r' c' → At r c} {P Q p q : ℕ} (hp : P = p) (hq : Q = q)
    (h0 : ∀ j, (e j 0).val = P * r' + 1 * (j 0).val) (h1 : ∀ j, (e j 1).val = Q * c' + 1 * (j 1).val) :
    IsBlk p q (fun j => A (e j)) A := fun j i k0 k1 => by
  subst hp hq
  exact congrArg A (ext2 (by rw [h0, k0, one_mul]) (by rw [h1, k1, one_mul]))

/-- A block is what an embedding at its corner reads. -/
theorem IsBlk.eq_emb {r c r' c' : ℕ} {x : At r' c' → EReal} {A : At r c → EReal} {e : At r' c' → At r c} {P Q p q : ℕ}
    (h : IsBlk p q x A) (hp : P = p) (hq : Q = q) (h0 : ∀ j, (e j 0).val = P * r' + 1 * (j 0).val)
    (h1 : ∀ j, (e j 1).val = Q * c' + 1 * (j 1).val) (j : At r' c') : x j = A (e j) := by
  subst hp hq
  exact h j _ (by rw [h0, one_mul]) (by rw [h1, one_mul])

theorem IsBlk.nn {r k c r' c' p q : ℕ} {x : At r' k → EReal} {A : At r k → EReal} {w : At k c' → EReal} {W : At k c → EReal}
    (hx : IsBlk p 0 x A) (hw : IsBlk 0 q w W) : IsBlk p q (nn x w) (nn A W) := fun j i h0 h1 =>
  Finset.sum_congr rfl fun l _ => congrArg₂ (· * ·) (hx _ _ h0 (show l.val = 0 * k + l.val by omega)) (hw _ _ (show l.val = 0 * k + l.val by omega) h1)

theorem IsBlk.nt {r k c r' c' p q : ℕ} {x : At r' k → EReal} {A : At r k → EReal} {w : At c' k → EReal} {W : At c k → EReal}
    (hx : IsBlk p 0 x A) (hw : IsBlk q 0 w W) : IsBlk p q (nt x w) (nt A W) := fun j i h0 h1 =>
  Finset.sum_congr rfl fun l _ => congrArg₂ (· * ·) (hx _ _ h0 (show l.val = 0 * k + l.val by omega)) (hw _ _ h1 (show l.val = 0 * k + l.val by omega))

/-- Rows kept at the first of `b` points and left as they are by the others are the rows of that group of points. -/
theorem kept {r c r' b N : ℕ} (A : At r c → EReal) (x s : ∀ n, n < N → At r' c → EReal)
    (hx : ∀ n hn, IsBlk (n / b) 0 (x n hn) A) (first : ∀ n hn, n % b = 0 → s n hn = x n hn)
    (later : ∀ n (hn : n < N), n % b ≠ 0 → s n hn = s (n - 1) (by omega)) :
    ∀ n hn, IsBlk (n / b) 0 (s n hn) A := by
  intro n
  induction n with
  | zero => intro hn; rw [first 0 hn (Nat.zero_mod b)]; exact hx 0 hn
  | succ n ih =>
    intro hn
    by_cases h : (n + 1) % b = 0
    · rw [first _ hn h]; exact hx _ hn
    · have e : (n + 1) / b = n / b := by
        rw [Nat.succ_div, if_neg fun hd => h (Nat.mod_eq_zero_of_dvd hd)]; rfl
      rw [later _ hn h, e]
      exact ih (by omega)

/-- A sum over blocks of equal length is the sum over all places. -/
theorem sum_blocks (n t : ℕ) (h : 0 < n * t) (f : Fin (n * t) → EReal) :
    ∑ r ∈ Finset.range n, ∑ k : Fin t, f ⟨(t * r + k.val) % (n * t), Nat.mod_lt _ h⟩ = ∑ R, f R := by
  rw [← Equiv.sum_comp finProdFinEquiv f, Fintype.sum_prod_type, ← Fin.sum_univ_eq_sum_range
    (fun r => ∑ k : Fin t, f ⟨(t * r + k.val) % (n * t), Nat.mod_lt _ h⟩) n]
  refine Finset.sum_congr rfl fun r _ => Finset.sum_congr rfl fun k _ => congrArg f (Fin.ext ?_)
  have hr := r.isLt
  have hk := k.isLt
  have hb : t * r.val + k.val < n * t := by
    calc t * r.val + k.val < t * r.val + t := by omega
      _ = t * (r.val + 1) := by ring
      _ ≤ t * n := Nat.mul_le_mul_left t hr
      _ = n * t := Nat.mul_comm t n
  show (t * r.val + k.val) % (n * t) = k.val + t * r.val
  rw [Nat.mod_eq_of_lt hb]; omega

/-- The share of the row block `p` in the product of the transpose, at row `i` and column `l` of the result. -/
def share (b t : ℕ) {k c : ℕ} (h : 0 < b * t) (A : At (b * t) k → EReal) (B : At (b * t) c → EReal) (i : Fin k) (l : Fin c) (p : ℕ) :
    EReal := ∑ u : Fin t, A (ix2 ⟨(t * p + u.val) % (b * t), Nat.mod_lt _ h⟩ i) * B (ix2 ⟨(t * p + u.val) % (b * t), Nat.mod_lt _ h⟩ l)

theorem tn_eq_share {b t k c c' p q : ℕ} (h : 0 < b * t) {x : At t k → EReal} {y : At t c' → EReal} {A : At (b * t) k → EReal}
    {B : At (b * t) c → EReal} (hp : p < b) (hx : IsBlk p 0 x A) (hy : IsBlk p q y B) (j : At k c') (l : Fin c)
    (hl : l.val = q * c' + (j 1).val) : tn x y j = share b t h A B (j 0) l p := by
  refine Finset.sum_congr rfl fun u _ => ?_
  have hb : t * p + u.val < b * t := by
    have hu := u.isLt
    calc t * p + u.val < t * p + t := by omega
      _ = t * (p + 1) := by ring
      _ ≤ t * b := Nat.mul_le_mul_left t hp
      _ = b * t := Nat.mul_comm t b
  have e : (t * p + u.val) % (b * t) = p * t + u.val := by rw [Nat.mod_eq_of_lt hb, Nat.mul_comm]
  exact congrArg₂ (· * ·) (hx _ _ e (show (j 0).val = 0 * k + (j 0).val by omega)) (hy _ _ e hl)

/-- The product of the transpose, its rows cut into `b` blocks: the scratch takes the first block's share, the later blocks
    add theirs, and the last point of a group has the group's columns of the whole product. -/
theorem scan {b t k c c' N : ℕ} (h : 0 < b * t) (hb : 1 < b) {A : At (b * t) k → EReal} {B : At (b * t) c → EReal}
    (x : ∀ n, n < N → At t k → EReal) (y : ∀ n, n < N → At t c' → EReal) (s : ∀ n, n < N → At k c' → EReal)
    (hx : ∀ n hn, IsBlk (n % b) 0 (x n hn) A) (hy : ∀ n hn, IsBlk (n % b) (n / b) (y n hn) B)
    (first : ∀ n hn, n % b = 0 → s n hn = tn (x n hn) (y n hn))
    (later : ∀ n (hn : n < N), n % b ≠ 0 → n % b ≠ b - 1 → s n hn = fun j => s (n - 1) (by omega) j + tn (x n hn) (y n hn) j)
    (n : ℕ) (hn : n < N) (hl : n % b = b - 1) :
    IsBlk 0 (n / b) (fun j => s (n - 1) (by omega) j + tn (x n hn) (y n hn) j) (tn A B) := by
  have hpos : 0 < b := by omega
  have step : ∀ n, (n + 1) % b ≠ 0 → (n + 1) / b = n / b ∧ (n + 1) % b = n % b + 1 := fun n h0 => by
    have e : (n + 1) / b = n / b := by
      rw [Nat.succ_div, if_neg fun hd => h0 (Nat.mod_eq_zero_of_dvd hd)]; rfl
    have d1 := Nat.div_add_mod (n + 1) b
    have d2 := Nat.div_add_mod n b
    rw [e] at d1
    exact ⟨e, by omega⟩
  have part : ∀ n (hn : n < N), n % b ≠ b - 1 → ∀ (j : At k c') (l : Fin c), l.val = n / b * c' + (j 1).val →
      s n hn j = ∑ r ∈ Finset.range (n % b + 1), share b t h A B (j 0) l r := by
    intro n
    induction n with
    | zero =>
      intro hn _ j l hl
      rw [first 0 hn (Nat.zero_mod b), Nat.zero_mod, Finset.sum_range_one]
      have := tn_eq_share h (Nat.mod_lt 0 hpos) (hx 0 hn) (hy 0 hn) j l hl
      rwa [Nat.zero_mod] at this
    | succ n ih =>
      intro hn h1 j l hl
      have key := tn_eq_share h (Nat.mod_lt (n + 1) hpos) (hx _ hn) (hy _ hn) j l hl
      by_cases h0 : (n + 1) % b = 0
      · rw [first _ hn h0, h0, Finset.sum_range_one]
        rwa [h0] at key
      · obtain ⟨e1, e2⟩ := step n h0
        rw [later _ hn h0 h1, Finset.sum_range_succ, ← key, e2]
        dsimp only
        congr 1
        have hm := Nat.mod_lt (n + 1) hpos
        exact ih (by omega) (by omega) j l (by rw [← e1]; exact hl)
  intro j i h0 h1
  obtain ⟨n, rfl⟩ : ∃ k, n = k + 1 := ⟨n - 1, by
    have : n ≠ 0 := fun e => by rw [e, Nat.zero_mod] at hl; omega
    omega⟩
  have hne : (n + 1) % b ≠ 0 := by omega
  obtain ⟨e1, e2⟩ := step n hne
  have ei : i 0 = j 0 := Fin.ext (by rw [h0, Nat.zero_mul, Nat.zero_add])
  have key := tn_eq_share h (Nat.mod_lt (n + 1) hpos) (hx _ hn) (hy _ hn) j (i 1) h1
  have kp := part n (by omega) (by omega) j (i 1) (by rw [← e1]; exact h1)
  show s n _ j + tn (x (n + 1) hn) (y (n + 1) hn) j = tn A B i
  rw [kp, key, ← e2, ← Finset.sum_range_succ, hl, show b - 1 + 1 = b from by omega]
  unfold tn
  rw [ei]
  exact sum_blocks b t h fun R => A (ix2 R (j 0)) * B (ix2 R (i 1))

end Cert.Products
end
-- ==== Proof.OutDxValue.lean ====
/- The gradient of the output and branch products in the left argument: each block of rows is
   multiplied by the transpose of the weights, in one block of columns. -/
module

public import proofs.«01_k».proof.Defs
public import proofs.«01_k».proof.Proof.Gen.OutDx.Frame
public import Idealize.ShloMosaic.Lib.Quiescent
public import proofs.«01_k».proof.Proof.Gen.OutDxIdeal.Value
public import proofs.«01_k».proof.Proof.Gen.OutDxRefIdeal.Read
public import proofs.«01_k».proof.Proof.Products

@[expose] public section

set_option maxRecDepth 16384

noncomputable section

namespace Cert.OutDxValue

open Cert.OutDxIdeal Cert.OutDxIdeal.Gen Idealize.ShloMosaic Idealize.ShloMosaic.TcCoe
open Idealize.SL.Sem Cert.Products

theorem out_eq (c : Dev nD) (i : grid0.Coords) (arg2 : Memref sig .tc .vmem S768x1024 .f32) (h2 : arg2.IsWhole)
    (arg3 : Memref sig .tc .vmem S1024x1024 .bf16) (h3 : arg3.IsWhole) (arg4 : Memref sig .tc .vmem S768x1024 .f32) (h4 : arg4.IsWhole)
    (arg5 : Memref sig .tc .vmem S768x1024 .bf16) (h5 : arg5.IsWhole) (hc0 : cond0_0 i)
    (x : Vec Ideal S768x1024 .f32) (w : Vec Ideal S1024x1024 .bf16) :
    out0_A_2 c i arg2 h2 arg3 h3 arg4 h4 arg5 h5 hc0 x w = nt (r := 768) (k := 1024) (c := 1024) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x1024) hz, View.ld_unit_zero (S := S1024x1024) hz]
  unfold k0_pay2 k0_pay1 nt
  simp only [pointwise]
  exact zero_add _

variable (m : (ℓ : Loc nD τ sig) → Buf (Elt Ideal) ℓ)

/-- The whole result. -/
abbrev G (w : Vec Ideal S1024x1024 .f32) (a : Vec Ideal S8448x1024 .f32) : Vec Ideal S8448x1024 .f32 := nt (r := 8448) (k := 1024) (c := 1024) a w

theorem idx_facts : ∀ t : Fin cfg0.N, win0_0.index t (0 : Fin 2) = win0_2.index t (0 : Fin 2)
    ∧ win0_0.index t (1 : Fin 2) = 0 ∧ win0_1.index t (0 : Fin 2) = win0_2.index t (1 : Fin 2)
    ∧ win0_1.index t (1 : Fin 2) = 0 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

theorem idx_onto : ∀ (q : Fin 11), ∃ t : Fin cfg0.N, (cfg0.win 2).flush t = true ∧ win0_2.index t = ![q.val, 0] :=
  (by decide +kernel : ∀ (q : Fin 11), ∃ t : Fin grid0.N, win0_2.flush t = true ∧ win0_2.index t = ![q.val, 0])

theorem mem_blk (t : Fin cfg0.N) (i : S8448x1024.Idx) : i ∈ ((cfg0.win 2).blk t).view.set ↔ ∀ a : Fin 2,
    win0_2.index t a * S768x1024.size a ≤ (i a).val ∧ (i a).val < win0_2.index t a * S768x1024.size a + S768x1024.size a := by
  show i ∈ ((View.whole main_v1).slice (win0_2.rect t)).set ↔ _
  rw [View.set_slice_whole, Rect.mem_set_unit]
  exact Iff.rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => ?_
  · obtain ⟨e0, e1, e2, e3⟩ := idx_facts t
    rw [Value.flushed2_A, out_eq]
    refine funext (IsBlk.eq_emb (IsBlk.nt (A := m ((c : Thread nD τ).loc main_arg1)) (W := m ((c : Thread nD τ).loc main_arg0)) ?_ ?_)
      (e := ((cfg0.win 2).blk t).view.emb) (P := win0_2.index t (0 : Fin 2)) (Q := win0_2.index t (1 : Fin 2)) rfl rfl (fun _ => rfl) fun _ => rfl)
    · rw [← V_main_arg1 m c]; exact isBlk_emb (e := ((cfg0.win 0).blk t).view.emb) e0 e1 (fun _ => rfl) fun _ => rfl
    · rw [← V_w m c]; exact isBlk_emb (e := ((cfg0.win 1).blk t).view.emb) e2 e3 (fun _ => rfl) fun _ => rfl
  · have h0 : (i 0).val < 8448 := (i 0).isLt
    have h1 : (i 1).val < 1024 := (i 1).isLt
    obtain ⟨t, hf, ht⟩ := idx_onto ⟨(i 0).val / 768, by omega⟩
    refine ⟨t, hf, ?_⟩
    rw [mem_blk]
    intro a
    rw [ht]
    match a with
    | ⟨0, _⟩ => show (i 0).val / 768 * 768 ≤ (i 0).val ∧ (i 0).val < (i 0).val / 768 * 768 + 768; omega
    | ⟨1, _⟩ => show 0 * 1024 ≤ (i 1).val ∧ (i 1).val < 0 * 1024 + 1024; omega

theorem ref_eq (w : Vec Ideal S1024x1024 .f32) (a : Vec Ideal S8448x1024 .f32) :
    Cert.OutDxRefIdeal.Read.val_main_v2 (F := Ideal) w a = G w a := by
  funext i
  rw [Cert.OutDxRefIdeal.Read.val_main_v2_apply]
  exact Finset.sum_congr rfl fun k _ => congrArg₂ (· * ·) (congrArg a (ext2 rfl rfl)) (congrArg w (ext2 rfl rfl))

/-! ## The claims of this call -/

theorem frame_p : Cert.quiescent_OutDx := fun m ρ _ => Cert.OutDx.Gen.frame m ρ

theorem frame_pi : Cert.quiescent_OutDxIdeal := fun m ρ _ => Cert.OutDxIdeal.Gen.frame m ρ

theorem frame_ri : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem algebraic : Cert.algebraic_OutDxIdeal_OutDxRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.OutDxRefIdeal.defs _ _).mono (fun _ h c => ⟨(h c).1.trans (by
        rw [Cert.OutDxRefIdeal.Read.val_main_v2_eq, (hagree c).1, (hagree c).2]
        exact ref_eq _ _), (h c).2⟩) (Cert.OutDxRefIdeal.Value.run (F := Ideal) m' ρ')⟩

end Cert.OutDxValue
end
-- ==== Proof.OutDwValue.lean ====
/- The gradient of the output and branch products in the weights: the transpose of the rows
   times the cotangent, summed over the blocks of rows in a carried scratch and written out after the last. -/
module

public import proofs.«01_k».proof.Defs
public import proofs.«01_k».proof.Proof.Gen.OutDw.Frame
public import Idealize.ShloMosaic.Lib.Quiescent
public import proofs.«01_k».proof.Proof.Gen.OutDwIdeal.Value
public import proofs.«01_k».proof.Proof.Gen.OutDwRefIdeal.Read
public import proofs.«01_k».proof.Proof.Products

@[expose] public section

set_option maxRecDepth 16384

noncomputable section

namespace Cert.OutDwValue

open Cert.OutDwIdeal Cert.OutDwIdeal.Gen Idealize.ShloMosaic Idealize.ShloMosaic.TcCoe
open Idealize.SL.Sem Cert.Products

section Points

variable (c : Dev nD) (i : grid0.Coords) (arg2 : Memref sig .tc .vmem S768x1024 .f32) (h2 : arg2.IsWhole)
    (arg3 : Memref sig .tc .vmem S768x1024 .f32) (h3 : arg3.IsWhole) (arg4 : Memref sig .tc .vmem S1024x1024 .f32) (h4 : arg4.IsWhole)
    (arg5 : Memref sig .tc .vmem S1024x1024 .f32) (h5 : arg5.IsWhole) (x : Vec Ideal S768x1024 .f32) (y : Vec Ideal S768x1024 .f32)

theorem pay_eq (s : Vec Ideal S1024x1024 .f32) (j : S1024x1024.Idx) :
    k0_pay2 s x y j = s j + tn (r := 768) (k := 1024) (c := 1024) x y j := by
  unfold k0_pay2 tn
  simp only [pointwise]
  rw [zero_add]

/-- The first block: the scratch is zeroed before it. -/
theorem sout_A (hc0 : cond0_0 i) (hc1 : ¬cond0_1 i) :
    sout0_A_0 c i arg2 h2 arg3 h3 arg4 h4 arg5 h5 hc0 hc1 x y = tn (r := 768) (k := 1024) (c := 1024) x y := by
  funext j
  unfold sout0_A_0
  rw [View.read_writes_junk_eq_canon]
  unfold kernelRun0_A
  dsimp only
  sl_unfold_words
  rw [View.canon_cons_unit_zero hz, View.readCov_unit_zero _ hz, View.readAt_eq_ld, View.readAt_eq_ld, h2.read_unread, h3.read_unread,
    View.ld_unit_zero (S := S768x1024) hz, View.ld_unit_zero (S := S768x1024) hz, pay_eq]
  unfold k0_pay1
  simp only [pointwise]
  rw [zero_add]

/-- A later block adds to the scratch. -/
theorem sout_B (hc0 : ¬cond0_0 i) (hc1 : ¬cond0_1 i) (s : Vec Ideal S1024x1024 .f32) :
    sout0_B_0 c i arg2 h2 arg3 h3 arg4 h4 arg5 h5 hc0 hc1 x y s = fun j => s j + tn (r := 768) (k := 1024) (c := 1024) x y j := by
  funext j
  unfold sout0_B_0
  rw [View.read_writes_junk_eq_canon]
  unfold kernelRun0_B
  dsimp only
  sl_unfold_words
  rw [View.canon_unit_zero hz, View.readAt_eq_ld, View.readAt_eq_ld, View.readAt_eq_ld, h2.read_unread, h3.read_unread, h5.read_unread,
    View.ld_unit_zero (S := S1024x1024) hz, View.ld_unit_zero (S := S768x1024) hz, View.ld_unit_zero (S := S768x1024) hz]
  exact pay_eq _ _ _ _

/-- The last block adds to the scratch and writes it out. -/
theorem out_C (hc0 : ¬cond0_0 i) (hc1 : cond0_1 i) (s : Vec Ideal S1024x1024 .f32) :
    out0_C_2 c i arg2 h2 arg3 h3 arg4 h4 arg5 h5 hc0 hc1 x y s = fun j => s j + tn (r := 768) (k := 1024) (c := 1024) x y j := by
  funext j
  unfold out0_C_2
  rw [View.read_writes_junk_eq_canon]
  unfold kernelRun0_C
  dsimp only
  sl_unfold_words
  rw [View.canon_unit_zero hz, View.readCov_unit_zero _ hz, View.readAt_eq_ld, View.readAt_eq_ld, View.readAt_eq_ld, h2.read_unread,
    h3.read_unread, h5.read_unread, View.ld_unit_zero (S := S1024x1024) hz, View.ld_unit_zero (S := S768x1024) hz,
    View.ld_unit_zero (S := S768x1024) hz]
  exact pay_eq _ _ _ _

end Points

variable (m : (ℓ : Loc nD τ sig) → Buf (Elt Ideal) ℓ)

/-- The whole result. -/
abbrev G (x : Vec Ideal S8448x1024 .f32) (y : Vec Ideal S8448x1024 .f32) : Vec Ideal S1024x1024 .f32 := tn (r := 8448) (k := 1024) (c := 1024) x y

theorem idx_facts : ∀ t : Fin cfg0.N, win0_0.index t (0 : Fin 2) = t.val % 11 ∧ win0_0.index t (1 : Fin 2) = 0
    ∧ win0_1.index t (0 : Fin 2) = t.val % 11 ∧ win0_1.index t (1 : Fin 2) = t.val / 11
    ∧ win0_2.index t (0 : Fin 2) = 0 ∧ win0_2.index t (1 : Fin 2) = t.val / 11 :=
  (by decide +kernel : ∀ t : Fin grid0.N, _)

/-- What the last point of a block of columns writes: its scratch, and the last row block's share. -/
theorem block (c : Dev nD) (n : ℕ) (hn : n < cfg0.N) (hl : n % 11 = 10) : IsBlk (r' := 1024) (c' := 1024) 0 (n / 11)
    (fun j => (outsAt0 m c (n - 1) (by omega)).2 j
      + tn (r := 768) (k := 1024) (c := 1024) (iblk m c 0 (⟨n, hn⟩ : Fin cfg0.N)) (iblk m c 1 (⟨n, hn⟩ : Fin cfg0.N)) j)
    (G (m ((c : Thread nD τ).loc main_arg0)) (m ((c : Thread nD τ).loc main_arg1))) :=
  scan (b := 11) (t := 768) (by decide) (by decide) (fun n hn => iblk m c 0 (⟨n, hn⟩ : Fin cfg0.N))
    (fun n hn => iblk m c 1 (⟨n, hn⟩ : Fin cfg0.N)) (fun n hn => (outsAt0 m c n hn).2)
    (fun n hn => by
      obtain ⟨e0, e1, -⟩ := idx_facts ⟨n, hn⟩
      rw [← V_main_arg0 m c]; exact isBlk_emb (e := ((cfg0.win 0).blk ⟨n, hn⟩).view.emb) e0 e1 (fun _ => rfl) fun _ => rfl)
    (fun n hn => by
      obtain ⟨-, -, e2, e3, -⟩ := idx_facts ⟨n, hn⟩
      rw [← V_main_arg1 m c]; exact isBlk_emb (e := ((cfg0.win 1).blk ⟨n, hn⟩).view.emb) e2 e3 (fun _ => rfl) fun _ => rfl)
    (fun n hn h => by
      rw [outsAt0_A m c ⟨n, hn⟩ h (by show ¬n % 11 = 10; omega)]
      dsimp only
      rw [sout_A])
    (fun n hn h h1 => by
      rw [outsAt0_B m c ⟨n, hn⟩ h h1]
      dsimp only
      rw [sout_B])
    n hn hl

theorem final (c : Dev nD) : (dats m 0 c).arrAt 2 cfg0.N
    = G (m ((c : Thread nD τ).loc main_arg0)) (m ((c : Thread nD τ).loc main_arg1)) := by
  refine (dats m 0 c).arrAt_eq_of_cover 2 _ (fun t hf => ?_) fun i => (Value.covered_iff2 i).2 ?_
  · have h1 : t.val % 11 = 10 := (flush0_2 t).mp hf
    obtain ⟨-, -, -, -, e4, e5⟩ := idx_facts t
    rw [Value.flushed2_C m c t (by omega) h1, out_C]
    exact funext ((block m c t.val t.isLt h1).eq_emb (e := ((cfg0.win 2).blk t).view.emb) e4 e5 (fun _ => rfl) fun _ => rfl)
  · have h0 : (i 0).val < 1024 := (i 0).isLt
    have h1 : (i 1).val < 1024 := (i 1).isLt
    omega

theorem ref_eq (x : Vec Ideal S8448x1024 .f32) (y : Vec Ideal S8448x1024 .f32) :
    Cert.OutDwRefIdeal.Read.val_main_v3 (F := Ideal) x y = G x y := by
  funext i
  rw [Cert.OutDwRefIdeal.Read.val_main_v3_apply, Cert.OutDwRefIdeal.Read.val_main_v2_apply]
  refine Finset.sum_congr rfl fun k _ => ?_
  rw [mul_comm]
  exact congrArg₂ (· * ·) (congrArg x (ext2 rfl rfl)) (congrArg y (ext2 rfl rfl))

/-! ## The claims of this call -/

theorem frame_p : Cert.quiescent_OutDw := fun m ρ _ => Cert.OutDw.Gen.frame m ρ

theorem frame_pi : Cert.quiescent_OutDwIdeal := fun m ρ _ => Cert.OutDwIdeal.Gen.frame m ρ

theorem frame_ri : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem algebraic : Cert.algebraic_OutDwIdeal_OutDwRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.OutDwRefIdeal.defs _ _).mono (fun _ h c => ⟨(h c).1.trans (by
        rw [Cert.OutDwRefIdeal.Read.val_main_v3_eq, (hagree c).1, (hagree c).2]
        exact ref_eq _ _), (h c).2⟩) (Cert.OutDwRefIdeal.Value.run (F := Ideal) m' ρ')⟩

end Cert.OutDwValue
end
-- ==== Proof.OutMmValue.lean ====
/- The output and branch products: each block of rows is multiplied by the
   weights, in one block of columns. -/
module

public import proofs.«01_k».proof.Defs
public import proofs.«01_k».proof.Proof.Gen.OutMm.Frame
public import Idealize.ShloMosaic.Lib.Quiescent
public import proofs.«01_k».proof.Proof.Gen.OutMmIdeal.Value
public import proofs.«01_k».proof.Proof.Gen.OutMmRefIdeal.Read
public import proofs.«01_k».proof.Proof.Products

@[expose] public section

set_option maxRecDepth 16384

noncomputable section

namespace Cert.OutMmValue

open Cert.OutMmIdeal Cert.OutMmIdeal.Gen Idealize.ShloMosaic Idealize.ShloMosaic.TcCoe
open Idealize.SL.Sem Cert.Products

theorem out_eq (c : Dev nD) (i : grid0.Coords) (arg2 : Memref sig .tc .vmem S768x1024 .f32) (h2 : arg2.IsWhole)
    (arg3 : Memref sig .tc .vmem S1024x1024 .bf16) (h3 : arg3.IsWhole) (arg4 : Memref sig .tc .vmem S768x1024 .f32) (h4 : arg4.IsWhole)
    (arg5 : Memref sig .tc .vmem S768x1024 .bf16) (h5 : arg5.IsWhole) (hc0 : cond0_0 i)
    (x : Vec Ideal S768x1024 .f32) (w : Vec Ideal S1024x1024 .bf16) :
    out0_A_2 c i arg2 h2 arg3 h3 arg4 h4 arg5 h5 hc0 x w = nn (r := 768) (k := 1024) (c := 1024) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x1024) hz, View.ld_unit_zero (S := S1024x1024) hz]
  unfold k0_pay2 k0_pay1 nn
  simp only [pointwise]
  exact zero_add _

variable (m : (ℓ : Loc nD τ sig) → Buf (Elt Ideal) ℓ)

/-- The whole result. -/
abbrev G (w : Vec Ideal S1024x1024 .f32) (a : Vec Ideal S8448x1024 .f32) : Vec Ideal S8448x1024 .f32 := nn (r := 8448) (k := 1024) (c := 1024) a w

theorem idx_facts : ∀ t : Fin cfg0.N, win0_0.index t (0 : Fin 2) = win0_2.index t (0 : Fin 2)
    ∧ win0_0.index t (1 : Fin 2) = 0 ∧ win0_1.index t (1 : Fin 2) = win0_2.index t (1 : Fin 2)
    ∧ win0_1.index t (0 : Fin 2) = 0 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

theorem idx_onto : ∀ (q : Fin 11), ∃ t : Fin cfg0.N, (cfg0.win 2).flush t = true ∧ win0_2.index t = ![q.val, 0] :=
  (by decide +kernel : ∀ (q : Fin 11), ∃ t : Fin grid0.N, win0_2.flush t = true ∧ win0_2.index t = ![q.val, 0])

theorem mem_blk (t : Fin cfg0.N) (i : S8448x1024.Idx) : i ∈ ((cfg0.win 2).blk t).view.set ↔ ∀ a : Fin 2,
    win0_2.index t a * S768x1024.size a ≤ (i a).val ∧ (i a).val < win0_2.index t a * S768x1024.size a + S768x1024.size a := by
  show i ∈ ((View.whole main_v1).slice (win0_2.rect t)).set ↔ _
  rw [View.set_slice_whole, Rect.mem_set_unit]
  exact Iff.rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => ?_
  · obtain ⟨e0, e1, e2, e3⟩ := idx_facts t
    rw [Value.flushed2_A, out_eq]
    refine funext (IsBlk.eq_emb (IsBlk.nn (A := m ((c : Thread nD τ).loc main_arg1)) (W := m ((c : Thread nD τ).loc main_arg0)) ?_ ?_)
      (e := ((cfg0.win 2).blk t).view.emb) (P := win0_2.index t (0 : Fin 2)) (Q := win0_2.index t (1 : Fin 2)) rfl rfl (fun _ => rfl) fun _ => rfl)
    · rw [← V_main_arg1 m c]; exact isBlk_emb (e := ((cfg0.win 0).blk t).view.emb) e0 e1 (fun _ => rfl) fun _ => rfl
    · rw [← V_w m c]; exact isBlk_emb (e := ((cfg0.win 1).blk t).view.emb) e3 e2 (fun _ => rfl) fun _ => rfl
  · have h0 : (i 0).val < 8448 := (i 0).isLt
    have h1 : (i 1).val < 1024 := (i 1).isLt
    obtain ⟨t, hf, ht⟩ := idx_onto ⟨(i 0).val / 768, by omega⟩
    refine ⟨t, hf, ?_⟩
    rw [mem_blk]
    intro a
    rw [ht]
    match a with
    | ⟨0, _⟩ => show (i 0).val / 768 * 768 ≤ (i 0).val ∧ (i 0).val < (i 0).val / 768 * 768 + 768; omega
    | ⟨1, _⟩ => show 0 * 1024 ≤ (i 1).val ∧ (i 1).val < 0 * 1024 + 1024; omega

theorem ref_eq (w : Vec Ideal S1024x1024 .f32) (a : Vec Ideal S8448x1024 .f32) :
    Cert.OutMmRefIdeal.Read.val_main_v0 (F := Ideal) w a = G w a := by
  funext i
  rw [Cert.OutMmRefIdeal.Read.val_main_v0_apply]
  exact Finset.sum_congr rfl fun k _ => congrArg₂ (· * ·) (congrArg a (ext2 rfl rfl)) (congrArg w (ext2 rfl rfl))

/-! ## The claims of this call -/

theorem frame_p : Cert.quiescent_OutMm := fun m ρ _ => Cert.OutMm.Gen.frame m ρ

theorem frame_pi : Cert.quiescent_OutMmIdeal := fun m ρ _ => Cert.OutMmIdeal.Gen.frame m ρ

theorem frame_ri : Cert.quiescent_OutMmRefIdeal := fun m ρ _ =>
  (θ_run Cert.OutMmRefIdeal.defs _ _).mono (fun r h => ⟨fun c => (h c).2, sem_eq_zero_of_no_sems (by decide) r.2⟩)
    (Cert.OutMmRefIdeal.Value.run (F := Ideal) m ρ)

theorem algebraic : Cert.algebraic_OutMmIdeal_OutMmRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.OutMmRefIdeal.defs _ _).mono (fun _ h c => ⟨(h c).1.trans (by
        rw [Cert.OutMmRefIdeal.Read.val_main_v0_eq, (hagree c).1, (hagree c).2]
        exact ref_eq _ _), (h c).2⟩) (Cert.OutMmRefIdeal.Value.run (F := Ideal) m' ρ')⟩

end Cert.OutMmValue
end
-- ==== Proof.FfDxValue.lean ====
/- The gradient of the gate and up products of the feed-forward part in the left argument: each block of rows is
   multiplied by the transpose of the weights, in one block of columns. -/
module

public import proofs.«01_k».proof.Defs
public import proofs.«01_k».proof.Proof.Gen.FfDx.Frame
public import Idealize.ShloMosaic.Lib.Quiescent
public import proofs.«01_k».proof.Proof.Gen.FfDxIdeal.Value
public import proofs.«01_k».proof.Proof.Gen.FfDxRefIdeal.Read
public import proofs.«01_k».proof.Proof.Products

@[expose] public section

set_option maxRecDepth 16384

noncomputable section

namespace Cert.FfDxValue

open Cert.FfDxIdeal Cert.FfDxIdeal.Gen Idealize.ShloMosaic Idealize.ShloMosaic.TcCoe
open Idealize.SL.Sem Cert.Products

theorem out_eq (c : Dev nD) (i : grid0.Coords) (arg2 : Memref sig .tc .vmem S768x2816 .f32) (h2 : arg2.IsWhole)
    (arg3 : Memref sig .tc .vmem S1024x2816 .bf16) (h3 : arg3.IsWhole) (arg4 : Memref sig .tc .vmem S768x1024 .f32) (h4 : arg4.IsWhole)
    (arg5 : Memref sig .tc .vmem S768x2816 .bf16) (h5 : arg5.IsWhole) (hc0 : cond0_0 i)
    (x : Vec Ideal S768x2816 .f32) (w : Vec Ideal S1024x2816 .bf16) :
    out0_A_2 c i arg2 h2 arg3 h3 arg4 h4 arg5 h5 hc0 x w = nt (r := 768) (k := 2816) (c := 1024) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x2816) hz, View.ld_unit_zero (S := S1024x2816) hz]
  unfold k0_pay2 k0_pay1 nt
  simp only [pointwise]
  exact zero_add _

variable (m : (ℓ : Loc nD τ sig) → Buf (Elt Ideal) ℓ)

/-- The whole result. -/
abbrev G (w : Vec Ideal S1024x2816 .f32) (a : Vec Ideal S8448x2816 .f32) : Vec Ideal S8448x1024 .f32 := nt (r := 8448) (k := 2816) (c := 1024) a w

theorem idx_facts : ∀ t : Fin cfg0.N, win0_0.index t (0 : Fin 2) = win0_2.index t (0 : Fin 2)
    ∧ win0_0.index t (1 : Fin 2) = 0 ∧ win0_1.index t (0 : Fin 2) = win0_2.index t (1 : Fin 2)
    ∧ win0_1.index t (1 : Fin 2) = 0 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

theorem idx_onto : ∀ (q : Fin 11), ∃ t : Fin cfg0.N, (cfg0.win 2).flush t = true ∧ win0_2.index t = ![q.val, 0] :=
  (by decide +kernel : ∀ (q : Fin 11), ∃ t : Fin grid0.N, win0_2.flush t = true ∧ win0_2.index t = ![q.val, 0])

theorem mem_blk (t : Fin cfg0.N) (i : S8448x1024.Idx) : i ∈ ((cfg0.win 2).blk t).view.set ↔ ∀ a : Fin 2,
    win0_2.index t a * S768x1024.size a ≤ (i a).val ∧ (i a).val < win0_2.index t a * S768x1024.size a + S768x1024.size a := by
  show i ∈ ((View.whole main_v1).slice (win0_2.rect t)).set ↔ _
  rw [View.set_slice_whole, Rect.mem_set_unit]
  exact Iff.rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => ?_
  · obtain ⟨e0, e1, e2, e3⟩ := idx_facts t
    rw [Value.flushed2_A, out_eq]
    refine funext (IsBlk.eq_emb (IsBlk.nt (A := m ((c : Thread nD τ).loc main_arg1)) (W := m ((c : Thread nD τ).loc main_arg0)) ?_ ?_)
      (e := ((cfg0.win 2).blk t).view.emb) (P := win0_2.index t (0 : Fin 2)) (Q := win0_2.index t (1 : Fin 2)) rfl rfl (fun _ => rfl) fun _ => rfl)
    · rw [← V_main_arg1 m c]; exact isBlk_emb (e := ((cfg0.win 0).blk t).view.emb) e0 e1 (fun _ => rfl) fun _ => rfl
    · rw [← V_w m c]; exact isBlk_emb (e := ((cfg0.win 1).blk t).view.emb) e2 e3 (fun _ => rfl) fun _ => rfl
  · have h0 : (i 0).val < 8448 := (i 0).isLt
    have h1 : (i 1).val < 1024 := (i 1).isLt
    obtain ⟨t, hf, ht⟩ := idx_onto ⟨(i 0).val / 768, by omega⟩
    refine ⟨t, hf, ?_⟩
    rw [mem_blk]
    intro a
    rw [ht]
    match a with
    | ⟨0, _⟩ => show (i 0).val / 768 * 768 ≤ (i 0).val ∧ (i 0).val < (i 0).val / 768 * 768 + 768; omega
    | ⟨1, _⟩ => show 0 * 1024 ≤ (i 1).val ∧ (i 1).val < 0 * 1024 + 1024; omega

theorem ref_eq (w : Vec Ideal S1024x2816 .f32) (a : Vec Ideal S8448x2816 .f32) :
    Cert.FfDxRefIdeal.Read.val_main_v2 (F := Ideal) w a = G w a := by
  funext i
  rw [Cert.FfDxRefIdeal.Read.val_main_v2_apply]
  exact Finset.sum_congr rfl fun k _ => congrArg₂ (· * ·) (congrArg a (ext2 rfl rfl)) (congrArg w (ext2 rfl rfl))

/-! ## The claims of this call -/

theorem frame_p : Cert.quiescent_FfDx := fun m ρ _ => Cert.FfDx.Gen.frame m ρ

theorem frame_pi : Cert.quiescent_FfDxIdeal := fun m ρ _ => Cert.FfDxIdeal.Gen.frame m ρ

theorem frame_ri : Cert.quiescent_FfDxRefIdeal := fun m ρ _ =>
  (θ_run Cert.FfDxRefIdeal.defs _ _).mono (fun r h => ⟨fun c => (h c).2, sem_eq_zero_of_no_sems (by decide) r.2⟩)
    (Cert.FfDxRefIdeal.Value.run (F := Ideal) m ρ)

theorem algebraic : Cert.algebraic_FfDxIdeal_FfDxRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.FfDxRefIdeal.defs _ _).mono (fun _ h c => ⟨(h c).1.trans (by
        rw [Cert.FfDxRefIdeal.Read.val_main_v2_eq, (hagree c).1, (hagree c).2]
        exact ref_eq _ _), (h c).2⟩) (Cert.FfDxRefIdeal.Value.run (F := Ideal) m' ρ')⟩

end Cert.FfDxValue
end
-- ==== Proof.FfDwValue.lean ====
/- The gradient of the gate and up products of the feed-forward part in the weights: the transpose of the rows
   times the cotangent, summed over the blocks of rows in a carried scratch and written out after the last. -/
module

public import proofs.«01_k».proof.Defs
public import proofs.«01_k».proof.Proof.Gen.FfDw.Frame
public import Idealize.ShloMosaic.Lib.Quiescent
public import proofs.«01_k».proof.Proof.Gen.FfDwIdeal.Value
public import proofs.«01_k».proof.Proof.Gen.FfDwRefIdeal.Read
public import proofs.«01_k».proof.Proof.Products

@[expose] public section

set_option maxRecDepth 16384

noncomputable section

namespace Cert.FfDwValue

open Cert.FfDwIdeal Cert.FfDwIdeal.Gen Idealize.ShloMosaic Idealize.ShloMosaic.TcCoe
open Idealize.SL.Sem Cert.Products

section Points

variable (c : Dev nD) (i : grid0.Coords) (arg2 : Memref sig .tc .vmem S768x1024 .f32) (h2 : arg2.IsWhole)
    (arg3 : Memref sig .tc .vmem S768x1408 .f32) (h3 : arg3.IsWhole) (arg4 : Memref sig .tc .vmem S1024x1408 .f32) (h4 : arg4.IsWhole)
    (arg5 : Memref sig .tc .vmem S1024x1408 .f32) (h5 : arg5.IsWhole) (x : Vec Ideal S768x1024 .f32) (y : Vec Ideal S768x1408 .f32)

theorem pay_eq (s : Vec Ideal S1024x1408 .f32) (j : S1024x1408.Idx) :
    k0_pay2 s x y j = s j + tn (r := 768) (k := 1024) (c := 1408) x y j := by
  unfold k0_pay2 tn
  simp only [pointwise]
  rw [zero_add]

/-- The first block: the scratch is zeroed before it. -/
theorem sout_A (hc0 : cond0_0 i) (hc1 : ¬cond0_1 i) :
    sout0_A_0 c i arg2 h2 arg3 h3 arg4 h4 arg5 h5 hc0 hc1 x y = tn (r := 768) (k := 1024) (c := 1408) x y := by
  funext j
  unfold sout0_A_0
  rw [View.read_writes_junk_eq_canon]
  unfold kernelRun0_A
  dsimp only
  sl_unfold_words
  rw [View.canon_cons_unit_zero hz, View.readCov_unit_zero _ hz, View.readAt_eq_ld, View.readAt_eq_ld, h2.read_unread, h3.read_unread,
    View.ld_unit_zero (S := S768x1024) hz, View.ld_unit_zero (S := S768x1408) hz, pay_eq]
  unfold k0_pay1
  simp only [pointwise]
  rw [zero_add]

/-- A later block adds to the scratch. -/
theorem sout_B (hc0 : ¬cond0_0 i) (hc1 : ¬cond0_1 i) (s : Vec Ideal S1024x1408 .f32) :
    sout0_B_0 c i arg2 h2 arg3 h3 arg4 h4 arg5 h5 hc0 hc1 x y s = fun j => s j + tn (r := 768) (k := 1024) (c := 1408) x y j := by
  funext j
  unfold sout0_B_0
  rw [View.read_writes_junk_eq_canon]
  unfold kernelRun0_B
  dsimp only
  sl_unfold_words
  rw [View.canon_unit_zero hz, View.readAt_eq_ld, View.readAt_eq_ld, View.readAt_eq_ld, h2.read_unread, h3.read_unread, h5.read_unread,
    View.ld_unit_zero (S := S1024x1408) hz, View.ld_unit_zero (S := S768x1024) hz, View.ld_unit_zero (S := S768x1408) hz]
  exact pay_eq _ _ _ _

/-- The last block adds to the scratch and writes it out. -/
theorem out_C (hc0 : ¬cond0_0 i) (hc1 : cond0_1 i) (s : Vec Ideal S1024x1408 .f32) :
    out0_C_2 c i arg2 h2 arg3 h3 arg4 h4 arg5 h5 hc0 hc1 x y s = fun j => s j + tn (r := 768) (k := 1024) (c := 1408) x y j := by
  funext j
  unfold out0_C_2
  rw [View.read_writes_junk_eq_canon]
  unfold kernelRun0_C
  dsimp only
  sl_unfold_words
  rw [View.canon_unit_zero hz, View.readCov_unit_zero _ hz, View.readAt_eq_ld, View.readAt_eq_ld, View.readAt_eq_ld, h2.read_unread,
    h3.read_unread, h5.read_unread, View.ld_unit_zero (S := S1024x1408) hz, View.ld_unit_zero (S := S768x1024) hz,
    View.ld_unit_zero (S := S768x1408) hz]
  exact pay_eq _ _ _ _

end Points

variable (m : (ℓ : Loc nD τ sig) → Buf (Elt Ideal) ℓ)

/-- The whole result. -/
abbrev G (x : Vec Ideal S8448x1024 .f32) (y : Vec Ideal S8448x2816 .f32) : Vec Ideal S1024x2816 .f32 := tn (r := 8448) (k := 1024) (c := 2816) x y

theorem idx_facts : ∀ t : Fin cfg0.N, win0_0.index t (0 : Fin 2) = t.val % 11 ∧ win0_0.index t (1 : Fin 2) = 0
    ∧ win0_1.index t (0 : Fin 2) = t.val % 11 ∧ win0_1.index t (1 : Fin 2) = t.val / 11
    ∧ win0_2.index t (0 : Fin 2) = 0 ∧ win0_2.index t (1 : Fin 2) = t.val / 11 :=
  (by decide +kernel : ∀ t : Fin grid0.N, _)

/-- What the last point of a block of columns writes: its scratch, and the last row block's share. -/
theorem block (c : Dev nD) (n : ℕ) (hn : n < cfg0.N) (hl : n % 11 = 10) : IsBlk (r' := 1024) (c' := 1408) 0 (n / 11)
    (fun j => (outsAt0 m c (n - 1) (by omega)).2 j
      + tn (r := 768) (k := 1024) (c := 1408) (iblk m c 0 (⟨n, hn⟩ : Fin cfg0.N)) (iblk m c 1 (⟨n, hn⟩ : Fin cfg0.N)) j)
    (G (m ((c : Thread nD τ).loc main_arg0)) (m ((c : Thread nD τ).loc main_arg1))) :=
  scan (b := 11) (t := 768) (by decide) (by decide) (fun n hn => iblk m c 0 (⟨n, hn⟩ : Fin cfg0.N))
    (fun n hn => iblk m c 1 (⟨n, hn⟩ : Fin cfg0.N)) (fun n hn => (outsAt0 m c n hn).2)
    (fun n hn => by
      obtain ⟨e0, e1, -⟩ := idx_facts ⟨n, hn⟩
      rw [← V_main_arg0 m c]; exact isBlk_emb (e := ((cfg0.win 0).blk ⟨n, hn⟩).view.emb) e0 e1 (fun _ => rfl) fun _ => rfl)
    (fun n hn => by
      obtain ⟨-, -, e2, e3, -⟩ := idx_facts ⟨n, hn⟩
      rw [← V_main_arg1 m c]; exact isBlk_emb (e := ((cfg0.win 1).blk ⟨n, hn⟩).view.emb) e2 e3 (fun _ => rfl) fun _ => rfl)
    (fun n hn h => by
      rw [outsAt0_A m c ⟨n, hn⟩ h (by show ¬n % 11 = 10; omega)]
      dsimp only
      rw [sout_A])
    (fun n hn h h1 => by
      rw [outsAt0_B m c ⟨n, hn⟩ h h1]
      dsimp only
      rw [sout_B])
    n hn hl

theorem final (c : Dev nD) : (dats m 0 c).arrAt 2 cfg0.N
    = G (m ((c : Thread nD τ).loc main_arg0)) (m ((c : Thread nD τ).loc main_arg1)) := by
  refine (dats m 0 c).arrAt_eq_of_cover 2 _ (fun t hf => ?_) fun i => (Value.covered_iff2 i).2 ?_
  · have h1 : t.val % 11 = 10 := (flush0_2 t).mp hf
    obtain ⟨-, -, -, -, e4, e5⟩ := idx_facts t
    rw [Value.flushed2_C m c t (by omega) h1, out_C]
    exact funext ((block m c t.val t.isLt h1).eq_emb (e := ((cfg0.win 2).blk t).view.emb) e4 e5 (fun _ => rfl) fun _ => rfl)
  · have h0 : (i 0).val < 1024 := (i 0).isLt
    have h1 : (i 1).val < 2816 := (i 1).isLt
    omega

theorem ref_eq (x : Vec Ideal S8448x1024 .f32) (y : Vec Ideal S8448x2816 .f32) :
    Cert.FfDwRefIdeal.Read.val_main_v3 (F := Ideal) x y = G x y := by
  funext i
  rw [Cert.FfDwRefIdeal.Read.val_main_v3_apply, Cert.FfDwRefIdeal.Read.val_main_v2_apply]
  refine Finset.sum_congr rfl fun k _ => ?_
  rw [mul_comm]
  exact congrArg₂ (· * ·) (congrArg x (ext2 rfl rfl)) (congrArg y (ext2 rfl rfl))

/-! ## The claims of this call -/

theorem frame_p : Cert.quiescent_FfDw := fun m ρ _ => Cert.FfDw.Gen.frame m ρ

theorem frame_pi : Cert.quiescent_FfDwIdeal := fun m ρ _ => Cert.FfDwIdeal.Gen.frame m ρ

theorem frame_ri : Cert.quiescent_FfDwRefIdeal := fun m ρ _ =>
  (θ_run Cert.FfDwRefIdeal.defs _ _).mono (fun r h => ⟨fun c => (h c).2, sem_eq_zero_of_no_sems (by decide) r.2⟩)
    (Cert.FfDwRefIdeal.Value.run (F := Ideal) m ρ)

theorem algebraic : Cert.algebraic_FfDwIdeal_FfDwRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.FfDwRefIdeal.defs _ _).mono (fun _ h c => ⟨(h c).1.trans (by
        rw [Cert.FfDwRefIdeal.Read.val_main_v3_eq, (hagree c).1, (hagree c).2]
        exact ref_eq _ _), (h c).2⟩) (Cert.FfDwRefIdeal.Value.run (F := Ideal) m' ρ')⟩

end Cert.FfDwValue
end
-- ==== Proof.FfMmValue.lean ====
/- The gate and up products of the feed-forward part: two blocks of columns a row block, the
   rounded rows kept in a scratch from the first on. -/
module

public import proofs.«01_k».proof.Defs
public import proofs.«01_k».proof.Proof.Gen.FfMm.Frame
public import Idealize.ShloMosaic.Lib.Quiescent
public import proofs.«01_k».proof.Proof.Gen.FfMmIdeal.Value
public import proofs.«01_k».proof.Proof.Gen.FfMmRefIdeal.Read
public import proofs.«01_k».proof.Proof.Products

@[expose] public section

set_option maxRecDepth 16384

noncomputable section

namespace Cert.FfMmValue

open Cert.FfMmIdeal Cert.FfMmIdeal.Gen Idealize.ShloMosaic Idealize.ShloMosaic.TcCoe
open Idealize.SL.Sem Cert.Products

section Points

variable (c : Dev nD) (i : grid0.Coords) (arg2 : Memref sig .tc .vmem S768x1024 .f32) (h2 : arg2.IsWhole)
    (arg3 : Memref sig .tc .vmem S1024x1408 .bf16) (h3 : arg3.IsWhole) (arg4 : Memref sig .tc .vmem S768x1408 .f32) (h4 : arg4.IsWhole)
    (arg5 : Memref sig .tc .vmem S768x1024 .bf16) (h5 : arg5.IsWhole) (x : Vec Ideal S768x1024 .f32) (w : Vec Ideal S1024x1408 .bf16)

/-- The first block of columns rounds the rows and multiplies them. -/
theorem out_A (hc0 : cond0_0 i) :
    out0_A_2 c i arg2 h2 arg3 h3 arg4 h4 arg5 h5 hc0 x w = nn (r := 768) (k := 1024) (c := 1408) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x1024) hz, View.ld_unit_zero (S := S1024x1408) hz]
  unfold k0_pay2 k0_pay1 nn
  simp only [pointwise]
  exact zero_add _

/-- … and keeps the rounded rows, which are the rows. -/
theorem sout_A (hc0 : cond0_0 i) : sout0_A_0 c i arg2 h2 arg3 h3 arg4 h4 arg5 h5 hc0 x w = x := by
  funext j
  unfold sout0_A_0
  rw [View.read_writes_junk_eq_canon]
  unfold kernelRun0_A
  dsimp only
  sl_unfold_words
  rw [View.canon_unit_zero hz, View.readAt_eq_ld, h2.read_unread, View.ld_unit_zero (S := S768x1024) hz]
  unfold k0_pay1
  simp only [pointwise]

/-- A later block of columns multiplies the kept rows. -/
theorem out_B (hc0 : ¬cond0_0 i) (s : Vec Ideal S768x1024 .bf16) :
    out0_B_2 c i arg2 h2 arg3 h3 arg4 h4 arg5 h5 hc0 x w s = nn (r := 768) (k := 1024) (c := 1408) s w := by
  funext j
  unfold out0_B_2
  rw [View.read_writes_junk_eq_canon]
  unfold kernelRun0_B
  dsimp only
  sl_unfold_words
  rw [View.canon_unit_zero hz, View.readAt_eq_ld, View.readAt_eq_ld, h3.read_unread, h5.read_unread,
    View.ld_unit_zero (S := S768x1024) hz, View.ld_unit_zero (S := S1024x1408) hz]
  unfold k0_pay2 nn
  simp only [pointwise]
  exact zero_add _

end Points

variable (m : (ℓ : Loc nD τ sig) → Buf (Elt Ideal) ℓ)

/-- The whole result. -/
abbrev G (w : Vec Ideal S1024x2816 .f32) (a : Vec Ideal S8448x1024 .f32) : Vec Ideal S8448x2816 .f32 := nn (r := 8448) (k := 1024) (c := 2816) a w

theorem idx_facts : ∀ t : Fin cfg0.N, win0_0.index t (0 : Fin 2) = t.val / 2 ∧ win0_0.index t (1 : Fin 2) = 0
    ∧ win0_1.index t (1 : Fin 2) = t.val % 2 ∧ win0_1.index t (0 : Fin 2) = 0
    ∧ win0_2.index t (0 : Fin 2) = t.val / 2 ∧ win0_2.index t (1 : Fin 2) = t.val % 2 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

/-- The rows a point's region reads. -/
theorem rows_blk (c : Dev nD) (t : Fin cfg0.N) : IsBlk (r' := 768) (c' := 1024) (t.val / 2) 0 (iblk m c 0 t)
    (m ((c : Thread nD τ).loc main_arg1) : Vec Ideal S8448x1024 .f32) := by
  obtain ⟨e0, e1, -⟩ := idx_facts t
  rw [← V_main_arg1 m c]; exact isBlk_emb (e := ((cfg0.win 0).blk t).view.emb) e0 e1 (fun _ => rfl) fun _ => rfl

/-- The kept rows after a point are its row block. -/
theorem scratch (c : Dev nD) : ∀ n hn, IsBlk (r' := 768) (c' := 1024) (n / 2) 0 (outsAt0 m c n hn).2
    (m ((c : Thread nD τ).loc main_arg1) : Vec Ideal S8448x1024 .f32) :=
  kept _ (fun n hn => iblk m c 0 (⟨n, hn⟩ : Fin cfg0.N)) (fun n hn => (outsAt0 m c n hn).2) (fun n hn => rows_blk m c ⟨n, hn⟩)
    (fun n hn h => by
      rw [outsAt0_A m c ⟨n, hn⟩ h]
      dsimp only
      rw [sout_A])
    (fun n hn h => by
      rw [outsAt0_B m c ⟨n, hn⟩ h]
      rfl)

/-- A block of the result from its rows. -/
theorem block (c : Dev nD) (t : Fin cfg0.N) (x : At 768 1024 → EReal)
    (hx : IsBlk (t.val / 2) 0 x (m ((c : Thread nD τ).loc main_arg1) : Vec Ideal S8448x1024 .f32)) :
    nn (r := 768) (k := 1024) (c := 1408) x (iblk m c 1 t) = fun y => G (m ((c : Thread nD τ).loc main_arg0)) (m ((c : Thread nD τ).loc main_arg1))
      (((cfg0.win 2).blk t).view.emb y) := by
  obtain ⟨-, -, e2, e3, e4, e5⟩ := idx_facts t
  refine funext (IsBlk.eq_emb (IsBlk.nn hx (W := m ((c : Thread nD τ).loc main_arg0)) ?_)
    (e := ((cfg0.win 2).blk t).view.emb) e4 e5 (fun _ => rfl) fun _ => rfl)
  rw [← V_w m c]; exact isBlk_emb (e := ((cfg0.win 1).blk t).view.emb) e3 e2 (fun _ => rfl) fun _ => rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => (Value.covered_iff2 i).2 ?_
  · by_cases h0 : t.val % 2 = 0
    · rw [Value.flushed2_A m c t h0, out_A]
      exact block m c t _ (rows_blk m c t)
    · rw [Value.flushed2_B m c t h0, out_B]
      exact block m c t _ (by
        rw [show t.val / 2 = (t.val - 1) / 2 from by omega]
        exact scratch m c _ _)
  · have h0 : (i 0).val < 8448 := (i 0).isLt
    have h1 : (i 1).val < 2816 := (i 1).isLt
    omega

theorem ref_eq (w : Vec Ideal S1024x2816 .f32) (a : Vec Ideal S8448x1024 .f32) :
    Cert.FfMmRefIdeal.Read.val_main_v0 (F := Ideal) w a = G w a := by
  funext i
  rw [Cert.FfMmRefIdeal.Read.val_main_v0_apply]
  exact Finset.sum_congr rfl fun k _ => congrArg₂ (· * ·) (congrArg a (ext2 rfl rfl)) (congrArg w (ext2 rfl rfl))

/-! ## The claims of this call -/

theorem frame_p : Cert.quiescent_FfMm := fun m ρ _ => Cert.FfMm.Gen.frame m ρ

theorem frame_pi : Cert.quiescent_FfMmIdeal := fun m ρ _ => Cert.FfMmIdeal.Gen.frame m ρ

theorem frame_ri : Cert.quiescent_FfMmRefIdeal := fun m ρ _ =>
  (θ_run Cert.FfMmRefIdeal.defs _ _).mono (fun r h => ⟨fun c => (h c).2, sem_eq_zero_of_no_sems (by decide) r.2⟩)
    (Cert.FfMmRefIdeal.Value.run (F := Ideal) m ρ)

theorem algebraic : Cert.algebraic_FfMmIdeal_FfMmRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.FfMmRefIdeal.defs _ _).mono (fun _ h c => ⟨(h c).1.trans (by
        rw [Cert.FfMmRefIdeal.Read.val_main_v0_eq, (hagree c).1, (hagree c).2]
        exact ref_eq _ _), (h c).2⟩) (Cert.FfMmRefIdeal.Value.run (F := Ideal) m' ρ')⟩

end Cert.FfMmValue
end
-- ==== Proof.FfoDxValue.lean ====
/- The gradient of the down product of the feed-forward part in the left argument: two blocks of columns a row block, the
   rounded rows kept in a scratch from the first on. -/
module

public import proofs.«01_k».proof.Defs
public import proofs.«01_k».proof.Proof.Gen.FfoDx.Frame
public import Idealize.ShloMosaic.Lib.Quiescent
public import proofs.«01_k».proof.Proof.Gen.FfoDxIdeal.Value
public import proofs.«01_k».proof.Proof.Gen.FfoDxRefIdeal.Read
public import proofs.«01_k».proof.Proof.Products

@[expose] public section

set_option maxRecDepth 16384

noncomputable section

namespace Cert.FfoDxValue

open Cert.FfoDxIdeal Cert.FfoDxIdeal.Gen Idealize.ShloMosaic Idealize.ShloMosaic.TcCoe
open Idealize.SL.Sem Cert.Products

section Points

variable (c : Dev nD) (i : grid0.Coords) (arg2 : Memref sig .tc .vmem S768x1024 .f32) (h2 : arg2.IsWhole)
    (arg3 : Memref sig .tc .vmem S1408x1024 .bf16) (h3 : arg3.IsWhole) (arg4 : Memref sig .tc .vmem S768x1408 .f32) (h4 : arg4.IsWhole)
    (arg5 : Memref sig .tc .vmem S768x1024 .bf16) (h5 : arg5.IsWhole) (x : Vec Ideal S768x1024 .f32) (w : Vec Ideal S1408x1024 .bf16)

/-- The first block of columns rounds the rows and multiplies them. -/
theorem out_A (hc0 : cond0_0 i) :
    out0_A_2 c i arg2 h2 arg3 h3 arg4 h4 arg5 h5 hc0 x w = nt (r := 768) (k := 1024) (c := 1408) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x1024) hz, View.ld_unit_zero (S := S1408x1024) hz]
  unfold k0_pay2 k0_pay1 nt
  simp only [pointwise]
  exact zero_add _

/-- … and keeps the rounded rows, which are the rows. -/
theorem sout_A (hc0 : cond0_0 i) : sout0_A_0 c i arg2 h2 arg3 h3 arg4 h4 arg5 h5 hc0 x w = x := by
  funext j
  unfold sout0_A_0
  rw [View.read_writes_junk_eq_canon]
  unfold kernelRun0_A
  dsimp only
  sl_unfold_words
  rw [View.canon_unit_zero hz, View.readAt_eq_ld, h2.read_unread, View.ld_unit_zero (S := S768x1024) hz]
  unfold k0_pay1
  simp only [pointwise]

/-- A later block of columns multiplies the kept rows. -/
theorem out_B (hc0 : ¬cond0_0 i) (s : Vec Ideal S768x1024 .bf16) :
    out0_B_2 c i arg2 h2 arg3 h3 arg4 h4 arg5 h5 hc0 x w s = nt (r := 768) (k := 1024) (c := 1408) s w := by
  funext j
  unfold out0_B_2
  rw [View.read_writes_junk_eq_canon]
  unfold kernelRun0_B
  dsimp only
  sl_unfold_words
  rw [View.canon_unit_zero hz, View.readAt_eq_ld, View.readAt_eq_ld, h3.read_unread, h5.read_unread,
    View.ld_unit_zero (S := S768x1024) hz, View.ld_unit_zero (S := S1408x1024) hz]
  unfold k0_pay2 nt
  simp only [pointwise]
  exact zero_add _

end Points

variable (m : (ℓ : Loc nD τ sig) → Buf (Elt Ideal) ℓ)

/-- The whole result. -/
abbrev G (w : Vec Ideal S2816x1024 .f32) (a : Vec Ideal S8448x1024 .f32) : Vec Ideal S8448x2816 .f32 := nt (r := 8448) (k := 1024) (c := 2816) a w

theorem idx_facts : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

/-- The rows a point's region reads. -/
theorem rows_blk (c : Dev nD) (t : Fin cfg0.N) : IsBlk (r' := 768) (c' := 1024) (t.val / 2) 0 (iblk m c 0 t)
    (m ((c : Thread nD τ).loc main_arg1) : Vec Ideal S8448x1024 .f32) := by
  obtain ⟨e0, e1, -⟩ := idx_facts t
  rw [← V_main_arg1 m c]; exact isBlk_emb (e := ((cfg0.win 0).blk t).view.emb) e0 e1 (fun _ => rfl) fun _ => rfl

/-- The kept rows after a point are its row block. -/
theorem scratch (c : Dev nD) : ∀ n hn, IsBlk (r' := 768) (c' := 1024) (n / 2) 0 (outsAt0 m c n hn).2
    (m ((c : Thread nD τ).loc main_arg1) : Vec Ideal S8448x1024 .f32) :=
  kept _ (fun n hn => iblk m c 0 (⟨n, hn⟩ : Fin cfg0.N)) (fun n hn => (outsAt0 m c n hn).2) (fun n hn => rows_blk m c ⟨n, hn⟩)
    (fun n hn h => by
      rw [outsAt0_A m c ⟨n, hn⟩ h]
      dsimp only
      rw [sout_A])
    (fun n hn h => by
      rw [outsAt0_B m c ⟨n, hn⟩ h]
      rfl)

/-- A block of the result from its rows. -/
theorem block (c : Dev nD) (t : Fin cfg0.N) (x : At 768 1024 → EReal)
    (hx : IsBlk (t.val / 2) 0 x (m ((c : Thread nD τ).loc main_arg1) : Vec Ideal S8448x1024 .f32)) :
    nt (r := 768) (k := 1024) (c := 1408) x (iblk m c 1 t) = fun y => G (m ((c : Thread nD τ).loc main_arg0)) (m ((c : Thread nD τ).loc main_arg1))
      (((cfg0.win 2).blk t).view.emb y) := by
  obtain ⟨-, -, e2, e3, e4, e5⟩ := idx_facts t
  refine funext (IsBlk.eq_emb (IsBlk.nt hx (W := m ((c : Thread nD τ).loc main_arg0)) ?_)
    (e := ((cfg0.win 2).blk t).view.emb) e4 e5 (fun _ => rfl) fun _ => rfl)
  rw [← V_w m c]; exact isBlk_emb (e := ((cfg0.win 1).blk t).view.emb) e2 e3 (fun _ => rfl) fun _ => rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => (Value.covered_iff2 i).2 ?_
  · by_cases h0 : t.val % 2 = 0
    · rw [Value.flushed2_A m c t h0, out_A]
      exact block m c t _ (rows_blk m c t)
    · rw [Value.flushed2_B m c t h0, out_B]
      exact block m c t _ (by
        rw [show t.val / 2 = (t.val - 1) / 2 from by omega]
        exact scratch m c _ _)
  · have h0 : (i 0).val < 8448 := (i 0).isLt
    have h1 : (i 1).val < 2816 := (i 1).isLt
    omega

theorem ref_eq (w : Vec Ideal S2816x1024 .f32) (a : Vec Ideal S8448x1024 .f32) :
    Cert.FfoDxRefIdeal.Read.val_main_v2 (F := Ideal) w a = G w a := by
  funext i
  rw [Cert.FfoDxRefIdeal.Read.val_main_v2_apply]
  exact Finset.sum_congr rfl fun k _ => congrArg₂ (· * ·) (congrArg a (ext2 rfl rfl)) (congrArg w (ext2 rfl rfl))

/-! ## The claims of this call -/

theorem frame_p : Cert.quiescent_FfoDx := fun m ρ _ => Cert.FfoDx.Gen.frame m ρ

theorem frame_pi : Cert.quiescent_FfoDxIdeal := fun m ρ _ => Cert.FfoDxIdeal.Gen.frame m ρ

theorem frame_ri : Cert.quiescent_FfoDxRefIdeal := fun m ρ _ =>
  (θ_run Cert.FfoDxRefIdeal.defs _ _).mono (fun r h => ⟨fun c => (h c).2, sem_eq_zero_of_no_sems (by decide) r.2⟩)
    (Cert.FfoDxRefIdeal.Value.run (F := Ideal) m ρ)

theorem algebraic : Cert.algebraic_FfoDxIdeal_FfoDxRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.FfoDxRefIdeal.defs _ _).mono (fun _ h c => ⟨(h c).1.trans (by
        rw [Cert.FfoDxRefIdeal.Read.val_main_v2_eq, (hagree c).1, (hagree c).2]
        exact ref_eq _ _), (h c).2⟩) (Cert.FfoDxRefIdeal.Value.run (F := Ideal) m' ρ')⟩

end Cert.FfoDxValue
end
-- ==== Proof.FfoDwValue.lean ====
/- The gradient of the down product of the feed-forward part in the weights: the transpose of the rows
   times the cotangent, summed over the blocks of rows in a carried scratch and written out after the last. -/
module

public import proofs.«01_k».proof.Defs
public import proofs.«01_k».proof.Proof.Gen.FfoDw.Frame
public import Idealize.ShloMosaic.Lib.Quiescent
public import proofs.«01_k».proof.Proof.Gen.FfoDwIdeal.Value
public import proofs.«01_k».proof.Proof.Gen.FfoDwRefIdeal.Read
public import proofs.«01_k».proof.Proof.Products

@[expose] public section

set_option maxRecDepth 16384

noncomputable section

namespace Cert.FfoDwValue

open Cert.FfoDwIdeal Cert.FfoDwIdeal.Gen Idealize.ShloMosaic Idealize.ShloMosaic.TcCoe
open Idealize.SL.Sem Cert.Products

section Points

variable (c : Dev nD) (i : grid0.Coords) (arg2 : Memref sig .tc .vmem S768x2816 .f32) (h2 : arg2.IsWhole)
    (arg3 : Memref sig .tc .vmem S768x1024 .f32) (h3 : arg3.IsWhole) (arg4 : Memref sig .tc .vmem S2816x1024 .f32) (h4 : arg4.IsWhole)
    (arg5 : Memref sig .tc .vmem S2816x1024 .f32) (h5 : arg5.IsWhole) (x : Vec Ideal S768x2816 .f32) (y : Vec Ideal S768x1024 .f32)

theorem pay_eq (s : Vec Ideal S2816x1024 .f32) (j : S2816x1024.Idx) :
    k0_pay2 s x y j = s j + tn (r := 768) (k := 2816) (c := 1024) x y j := by
  unfold k0_pay2 tn
  simp only [pointwise]
  rw [zero_add]

/-- The first block: the scratch is zeroed before it. -/
theorem sout_A (hc0 : cond0_0 i) (hc1 : ¬cond0_1 i) :
    sout0_A_0 c i arg2 h2 arg3 h3 arg4 h4 arg5 h5 hc0 hc1 x y = tn (r := 768) (k := 2816) (c := 1024) x y := by
  funext j
  unfold sout0_A_0
  rw [View.read_writes_junk_eq_canon]
  unfold kernelRun0_A
  dsimp only
  sl_unfold_words
  rw [View.canon_cons_unit_zero hz, View.readCov_unit_zero _ hz, View.readAt_eq_ld, View.readAt_eq_ld, h2.read_unread, h3.read_unread,
    View.ld_unit_zero (S := S768x2816) hz, View.ld_unit_zero (S := S768x1024) hz, pay_eq]
  unfold k0_pay1
  simp only [pointwise]
  rw [zero_add]

/-- A later block adds to the scratch. -/
theorem sout_B (hc0 : ¬cond0_0 i) (hc1 : ¬cond0_1 i) (s : Vec Ideal S2816x1024 .f32) :
    sout0_B_0 c i arg2 h2 arg3 h3 arg4 h4 arg5 h5 hc0 hc1 x y s = fun j => s j + tn (r := 768) (k := 2816) (c := 1024) x y j := by
  funext j
  unfold sout0_B_0
  rw [View.read_writes_junk_eq_canon]
  unfold kernelRun0_B
  dsimp only
  sl_unfold_words
  rw [View.canon_unit_zero hz, View.readAt_eq_ld, View.readAt_eq_ld, View.readAt_eq_ld, h2.read_unread, h3.read_unread, h5.read_unread,
    View.ld_unit_zero (S := S2816x1024) hz, View.ld_unit_zero (S := S768x2816) hz, View.ld_unit_zero (S := S768x1024) hz]
  exact pay_eq _ _ _ _

/-- The last block adds to the scratch and writes it out. -/
theorem out_C (hc0 : ¬cond0_0 i) (hc1 : cond0_1 i) (s : Vec Ideal S2816x1024 .f32) :
    out0_C_2 c i arg2 h2 arg3 h3 arg4 h4 arg5 h5 hc0 hc1 x y s = fun j => s j + tn (r := 768) (k := 2816) (c := 1024) x y j := by
  funext j
  unfold out0_C_2
  rw [View.read_writes_junk_eq_canon]
  unfold kernelRun0_C
  dsimp only
  sl_unfold_words
  rw [View.canon_unit_zero hz, View.readCov_unit_zero _ hz, View.readAt_eq_ld, View.readAt_eq_ld, View.readAt_eq_ld, h2.read_unread,
    h3.read_unread, h5.read_unread, View.ld_unit_zero (S := S2816x1024) hz, View.ld_unit_zero (S := S768x2816) hz,
    View.ld_unit_zero (S := S768x1024) hz]
  exact pay_eq _ _ _ _

end Points

variable (m : (ℓ : Loc nD τ sig) → Buf (Elt Ideal) ℓ)

/-- The whole result. -/
abbrev G (x : Vec Ideal S8448x2816 .f32) (y : Vec Ideal S8448x1024 .f32) : Vec Ideal S2816x1024 .f32 := tn (r := 8448) (k := 2816) (c := 1024) x y

theorem idx_facts : ∀ t : Fin cfg0.N, win0_0.index t (0 : Fin 2) = t.val % 11 ∧ win0_0.index t (1 : Fin 2) = 0
    ∧ win0_1.index t (0 : Fin 2) = t.val % 11 ∧ win0_1.index t (1 : Fin 2) = t.val / 11
    ∧ win0_2.index t (0 : Fin 2) = 0 ∧ win0_2.index t (1 : Fin 2) = t.val / 11 :=
  (by decide +kernel : ∀ t : Fin grid0.N, _)

/-- What the last point of a block of columns writes: its scratch, and the last row block's share. -/
theorem block (c : Dev nD) (n : ℕ) (hn : n < cfg0.N) (hl : n % 11 = 10) : IsBlk (r' := 2816) (c' := 1024) 0 (n / 11)
    (fun j => (outsAt0 m c (n - 1) (by omega)).2 j
      + tn (r := 768) (k := 2816) (c := 1024) (iblk m c 0 (⟨n, hn⟩ : Fin cfg0.N)) (iblk m c 1 (⟨n, hn⟩ : Fin cfg0.N)) j)
    (G (m ((c : Thread nD τ).loc main_arg0)) (m ((c : Thread nD τ).loc main_arg1))) :=
  scan (b := 11) (t := 768) (by decide) (by decide) (fun n hn => iblk m c 0 (⟨n, hn⟩ : Fin cfg0.N))
    (fun n hn => iblk m c 1 (⟨n, hn⟩ : Fin cfg0.N)) (fun n hn => (outsAt0 m c n hn).2)
    (fun n hn => by
      obtain ⟨e0, e1, -⟩ := idx_facts ⟨n, hn⟩
      rw [← V_main_arg0 m c]; exact isBlk_emb (e := ((cfg0.win 0).blk ⟨n, hn⟩).view.emb) e0 e1 (fun _ => rfl) fun _ => rfl)
    (fun n hn => by
      obtain ⟨-, -, e2, e3, -⟩ := idx_facts ⟨n, hn⟩
      rw [← V_main_arg1 m c]; exact isBlk_emb (e := ((cfg0.win 1).blk ⟨n, hn⟩).view.emb) e2 e3 (fun _ => rfl) fun _ => rfl)
    (fun n hn h => by
      rw [outsAt0_A m c ⟨n, hn⟩ h (by show ¬n % 11 = 10; omega)]
      dsimp only
      rw [sout_A])
    (fun n hn h h1 => by
      rw [outsAt0_B m c ⟨n, hn⟩ h h1]
      dsimp only
      rw [sout_B])
    n hn hl

theorem final (c : Dev nD) : (dats m 0 c).arrAt 2 cfg0.N
    = G (m ((c : Thread nD τ).loc main_arg0)) (m ((c : Thread nD τ).loc main_arg1)) := by
  refine (dats m 0 c).arrAt_eq_of_cover 2 _ (fun t hf => ?_) fun i => (Value.covered_iff2 i).2 ?_
  · have h1 : t.val % 11 = 10 := (flush0_2 t).mp hf
    obtain ⟨-, -, -, -, e4, e5⟩ := idx_facts t
    rw [Value.flushed2_C m c t (by omega) h1, out_C]
    exact funext ((block m c t.val t.isLt h1).eq_emb (e := ((cfg0.win 2).blk t).view.emb) e4 e5 (fun _ => rfl) fun _ => rfl)
  · have h0 : (i 0).val < 2816 := (i 0).isLt
    have h1 : (i 1).val < 1024 := (i 1).isLt
    omega

theorem ref_eq (x : Vec Ideal S8448x2816 .f32) (y : Vec Ideal S8448x1024 .f32) :
    Cert.FfoDwRefIdeal.Read.val_main_v3 (F := Ideal) x y = G x y := by
  funext i
  rw [Cert.FfoDwRefIdeal.Read.val_main_v3_apply, Cert.FfoDwRefIdeal.Read.val_main_v2_apply]
  refine Finset.sum_congr rfl fun k _ => ?_
  rw [mul_comm]
  exact congrArg₂ (· * ·) (congrArg x (ext2 rfl rfl)) (congrArg y (ext2 rfl rfl))

/-! ## The claims of this call -/

theorem frame_p : Cert.quiescent_FfoDw := fun m ρ _ => Cert.FfoDw.Gen.frame m ρ

theorem frame_pi : Cert.quiescent_FfoDwIdeal := fun m ρ _ => Cert.FfoDwIdeal.Gen.frame m ρ

theorem frame_ri : Cert.quiescent_FfoDwRefIdeal := fun m ρ _ =>
  (θ_run Cert.FfoDwRefIdeal.defs _ _).mono (fun r h => ⟨fun c => (h c).2, sem_eq_zero_of_no_sems (by decide) r.2⟩)
    (Cert.FfoDwRefIdeal.Value.run (F := Ideal) m ρ)

theorem algebraic : Cert.algebraic_FfoDwIdeal_FfoDwRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.FfoDwRefIdeal.defs _ _).mono (fun _ h c => ⟨(h c).1.trans (by
        rw [Cert.FfoDwRefIdeal.Read.val_main_v3_eq, (hagree c).1, (hagree c).2]
        exact ref_eq _ _), (h c).2⟩) (Cert.FfoDwRefIdeal.Value.run (F := Ideal) m' ρ')⟩

end Cert.FfoDwValue
end
-- ==== Proof.FfoMmValue.lean ====
/- The down product of the feed-forward part: each block of rows is multiplied by the
   weights, in one block of columns. -/
module

public import proofs.«01_k».proof.Defs
public import proofs.«01_k».proof.Proof.Gen.FfoMm.Frame
public import Idealize.ShloMosaic.Lib.Quiescent
public import proofs.«01_k».proof.Proof.Gen.FfoMmIdeal.Value
public import proofs.«01_k».proof.Proof.Gen.FfoMmRefIdeal.Read
public import proofs.«01_k».proof.Proof.Products

@[expose] public section

set_option maxRecDepth 16384

noncomputable section

namespace Cert.FfoMmValue

open Cert.FfoMmIdeal Cert.FfoMmIdeal.Gen Idealize.ShloMosaic Idealize.ShloMosaic.TcCoe
open Idealize.SL.Sem Cert.Products

theorem out_eq (c : Dev nD) (i : grid0.Coords) (arg2 : Memref sig .tc .vmem S768x2816 .f32) (h2 : arg2.IsWhole)
    (arg3 : Memref sig .tc .vmem S2816x1024 .bf16) (h3 : arg3.IsWhole) (arg4 : Memref sig .tc .vmem S768x1024 .f32) (h4 : arg4.IsWhole)
    (arg5 : Memref sig .tc .vmem S768x2816 .bf16) (h5 : arg5.IsWhole) (hc0 : cond0_0 i)
    (x : Vec Ideal S768x2816 .f32) (w : Vec Ideal S2816x1024 .bf16) :
    out0_A_2 c i arg2 h2 arg3 h3 arg4 h4 arg5 h5 hc0 x w = nn (r := 768) (k := 2816) (c := 1024) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x2816) hz, View.ld_unit_zero (S := S2816x1024) hz]
  unfold k0_pay2 k0_pay1 nn
  simp only [pointwise]
  exact zero_add _

variable (m : (ℓ : Loc nD τ sig) → Buf (Elt Ideal) ℓ)

/-- The whole result. -/
abbrev G (w : Vec Ideal S2816x1024 .f32) (a : Vec Ideal S8448x2816 .f32) : Vec Ideal S8448x1024 .f32 := nn (r := 8448) (k := 2816) (c := 1024) a w

theorem idx_facts : ∀ t : Fin cfg0.N, win0_0.index t (0 : Fin 2) = win0_2.index t (0 : Fin 2)
    ∧ win0_0.index t (1 : Fin 2) = 0 ∧ win0_1.index t (1 : Fin 2) = win0_2.index t (1 : Fin 2)
    ∧ win0_1.index t (0 : Fin 2) = 0 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

theorem idx_onto : ∀ (q : Fin 11), ∃ t : Fin cfg0.N, (cfg0.win 2).flush t = true ∧ win0_2.index t = ![q.val, 0] :=
  (by decide +kernel : ∀ (q : Fin 11), ∃ t : Fin grid0.N, win0_2.flush t = true ∧ win0_2.index t = ![q.val, 0])

theorem mem_blk (t : Fin cfg0.N) (i : S8448x1024.Idx) : i ∈ ((cfg0.win 2).blk t).view.set ↔ ∀ a : Fin 2,
    win0_2.index t a * S768x1024.size a ≤ (i a).val ∧ (i a).val < win0_2.index t a * S768x1024.size a + S768x1024.size a := by
  show i ∈ ((View.whole main_v1).slice (win0_2.rect t)).set ↔ _
  rw [View.set_slice_whole, Rect.mem_set_unit]
  exact Iff.rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => ?_
  · obtain ⟨e0, e1, e2, e3⟩ := idx_facts t
    rw [Value.flushed2_A, out_eq]
    refine funext (IsBlk.eq_emb (IsBlk.nn (A := m ((c : Thread nD τ).loc main_arg1)) (W := m ((c : Thread nD τ).loc main_arg0)) ?_ ?_)
      (e := ((cfg0.win 2).blk t).view.emb) (P := win0_2.index t (0 : Fin 2)) (Q := win0_2.index t (1 : Fin 2)) rfl rfl (fun _ => rfl) fun _ => rfl)
    · rw [← V_main_arg1 m c]; exact isBlk_emb (e := ((cfg0.win 0).blk t).view.emb) e0 e1 (fun _ => rfl) fun _ => rfl
    · rw [← V_w m c]; exact isBlk_emb (e := ((cfg0.win 1).blk t).view.emb) e3 e2 (fun _ => rfl) fun _ => rfl
  · have h0 : (i 0).val < 8448 := (i 0).isLt
    have h1 : (i 1).val < 1024 := (i 1).isLt
    obtain ⟨t, hf, ht⟩ := idx_onto ⟨(i 0).val / 768, by omega⟩
    refine ⟨t, hf, ?_⟩
    rw [mem_blk]
    intro a
    rw [ht]
    match a with
    | ⟨0, _⟩ => show (i 0).val / 768 * 768 ≤ (i 0).val ∧ (i 0).val < (i 0).val / 768 * 768 + 768; omega
    | ⟨1, _⟩ => show 0 * 1024 ≤ (i 1).val ∧ (i 1).val < 0 * 1024 + 1024; omega

theorem ref_eq (w : Vec Ideal S2816x1024 .f32) (a : Vec Ideal S8448x2816 .f32) :
    Cert.FfoMmRefIdeal.Read.val_main_v0 (F := Ideal) w a = G w a := by
  funext i
  rw [Cert.FfoMmRefIdeal.Read.val_main_v0_apply]
  exact Finset.sum_congr rfl fun k _ => congrArg₂ (· * ·) (congrArg a (ext2 rfl rfl)) (congrArg w (ext2 rfl rfl))

/-! ## The claims of this call -/

theorem frame_p : Cert.quiescent_FfoMm := fun m ρ _ => Cert.FfoMm.Gen.frame m ρ

theorem frame_pi : Cert.quiescent_FfoMmIdeal := fun m ρ _ => Cert.FfoMmIdeal.Gen.frame m ρ

theorem frame_ri : Cert.quiescent_FfoMmRefIdeal := fun m ρ _ =>
  (θ_run Cert.FfoMmRefIdeal.defs _ _).mono (fun r h => ⟨fun c => (h c).2, sem_eq_zero_of_no_sems (by decide) r.2⟩)
    (Cert.FfoMmRefIdeal.Value.run (F := Ideal) m ρ)

theorem algebraic : Cert.algebraic_FfoMmIdeal_FfoMmRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.FfoMmRefIdeal.defs _ _).mono (fun _ h c => ⟨(h c).1.trans (by
        rw [Cert.FfoMmRefIdeal.Read.val_main_v0_eq, (hagree c).1, (hagree c).2]
        exact ref_eq _ _), (h c).2⟩) (Cert.FfoMmRefIdeal.Value.run (F := Ideal) m' ρ')⟩

end Cert.FfoMmValue
end
-- ==== Proof.QkvDxValue.lean ====
/- The gradient of the projections of the attention in the left argument: each block of rows is
   multiplied by the transpose of the weights, in one block of columns. -/
module

public import proofs.«01_k».proof.Defs
public import proofs.«01_k».proof.Proof.Gen.QkvDx.Frame
public import Idealize.ShloMosaic.Lib.Quiescent
public import proofs.«01_k».proof.Proof.Gen.QkvDxIdeal.Value
public import proofs.«01_k».proof.Proof.Gen.QkvDxRefIdeal.Read
public import proofs.«01_k».proof.Proof.Products

@[expose] public section

set_option maxRecDepth 16384

noncomputable section

namespace Cert.QkvDxValue

open Cert.QkvDxIdeal Cert.QkvDxIdeal.Gen Idealize.ShloMosaic Idealize.ShloMosaic.TcCoe
open Idealize.SL.Sem Cert.Products

theorem out_eq (c : Dev nD) (i : grid0.Coords) (arg2 : Memref sig .tc .vmem S768x3072 .f32) (h2 : arg2.IsWhole)
    (arg3 : Memref sig .tc .vmem S1024x3072 .bf16) (h3 : arg3.IsWhole) (arg4 : Memref sig .tc .vmem S768x1024 .f32) (h4 : arg4.IsWhole)
    (arg5 : Memref sig .tc .vmem S768x3072 .bf16) (h5 : arg5.IsWhole) (hc0 : cond0_0 i)
    (x : Vec Ideal S768x3072 .f32) (w : Vec Ideal S1024x3072 .bf16) :
    out0_A_2 c i arg2 h2 arg3 h3 arg4 h4 arg5 h5 hc0 x w = nt (r := 768) (k := 3072) (c := 1024) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x3072) hz, View.ld_unit_zero (S := S1024x3072) hz]
  unfold k0_pay2 k0_pay1 nt
  simp only [pointwise]
  exact zero_add _

variable (m : (ℓ : Loc nD τ sig) → Buf (Elt Ideal) ℓ)

/-- The whole result. -/
abbrev G (w : Vec Ideal S1024x3072 .f32) (a : Vec Ideal S8448x3072 .f32) : Vec Ideal S8448x1024 .f32 := nt (r := 8448) (k := 3072) (c := 1024) a w

theorem idx_facts : ∀ t : Fin cfg0.N, win0_0.index t (0 : Fin 2) = win0_2.index t (0 : Fin 2)
    ∧ win0_0.index t (1 : Fin 2) = 0 ∧ win0_1.index t (0 : Fin 2) = win0_2.index t (1 : Fin 2)
    ∧ win0_1.index t (1 : Fin 2) = 0 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

theorem idx_onto : ∀ (q : Fin 11), ∃ t : Fin cfg0.N, (cfg0.win 2).flush t = true ∧ win0_2.index t = ![q.val, 0] :=
  (by decide +kernel : ∀ (q : Fin 11), ∃ t : Fin grid0.N, win0_2.flush t = true ∧ win0_2.index t = ![q.val, 0])

theorem mem_blk (t : Fin cfg0.N) (i : S8448x1024.Idx) : i ∈ ((cfg0.win 2).blk t).view.set ↔ ∀ a : Fin 2,
    win0_2.index t a * S768x1024.size a ≤ (i a).val ∧ (i a).val < win0_2.index t a * S768x1024.size a + S768x1024.size a := by
  show i ∈ ((View.whole main_v1).slice (win0_2.rect t)).set ↔ _
  rw [View.set_slice_whole, Rect.mem_set_unit]
  exact Iff.rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => ?_
  · obtain ⟨e0, e1, e2, e3⟩ := idx_facts t
    rw [Value.flushed2_A, out_eq]
    refine funext (IsBlk.eq_emb (IsBlk.nt (A := m ((c : Thread nD τ).loc main_arg1)) (W := m ((c : Thread nD τ).loc main_arg0)) ?_ ?_)
      (e := ((cfg0.win 2).blk t).view.emb) (P := win0_2.index t (0 : Fin 2)) (Q := win0_2.index t (1 : Fin 2)) rfl rfl (fun _ => rfl) fun _ => rfl)
    · rw [← V_main_arg1 m c]; exact isBlk_emb (e := ((cfg0.win 0).blk t).view.emb) e0 e1 (fun _ => rfl) fun _ => rfl
    · rw [← V_w m c]; exact isBlk_emb (e := ((cfg0.win 1).blk t).view.emb) e2 e3 (fun _ => rfl) fun _ => rfl
  · have h0 : (i 0).val < 8448 := (i 0).isLt
    have h1 : (i 1).val < 1024 := (i 1).isLt
    obtain ⟨t, hf, ht⟩ := idx_onto ⟨(i 0).val / 768, by omega⟩
    refine ⟨t, hf, ?_⟩
    rw [mem_blk]
    intro a
    rw [ht]
    match a with
    | ⟨0, _⟩ => show (i 0).val / 768 * 768 ≤ (i 0).val ∧ (i 0).val < (i 0).val / 768 * 768 + 768; omega
    | ⟨1, _⟩ => show 0 * 1024 ≤ (i 1).val ∧ (i 1).val < 0 * 1024 + 1024; omega

theorem ref_eq (w : Vec Ideal S1024x3072 .f32) (a : Vec Ideal S8448x3072 .f32) :
    Cert.QkvDxRefIdeal.Read.val_main_v2 (F := Ideal) w a = G w a := by
  funext i
  rw [Cert.QkvDxRefIdeal.Read.val_main_v2_apply]
  exact Finset.sum_congr rfl fun k _ => congrArg₂ (· * ·) (congrArg a (ext2 rfl rfl)) (congrArg w (ext2 rfl rfl))

/-! ## The claims of this call -/

theorem frame_p : Cert.quiescent_QkvDx := fun m ρ _ => Cert.QkvDx.Gen.frame m ρ

theorem frame_pi : Cert.quiescent_QkvDxIdeal := fun m ρ _ => Cert.QkvDxIdeal.Gen.frame m ρ

theorem frame_ri : Cert.quiescent_QkvDxRefIdeal := fun m ρ _ =>
  (θ_run Cert.QkvDxRefIdeal.defs _ _).mono (fun r h => ⟨fun c => (h c).2, sem_eq_zero_of_no_sems (by decide) r.2⟩)
    (Cert.QkvDxRefIdeal.Value.run (F := Ideal) m ρ)

theorem algebraic : Cert.algebraic_QkvDxIdeal_QkvDxRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.QkvDxRefIdeal.defs _ _).mono (fun _ h c => ⟨(h c).1.trans (by
        rw [Cert.QkvDxRefIdeal.Read.val_main_v2_eq, (hagree c).1, (hagree c).2]
        exact ref_eq _ _), (h c).2⟩) (Cert.QkvDxRefIdeal.Value.run (F := Ideal) m' ρ')⟩

end Cert.QkvDxValue
end
-- ==== Proof.QkvDwValue.lean ====
/- The gradient of the projections of the attention in the weights: the transpose of the rows
   times the cotangent, summed over the blocks of rows in a carried scratch and written out after the last. -/
module

public import proofs.«01_k».proof.Defs
public import proofs.«01_k».proof.Proof.Gen.QkvDw.Frame
public import Idealize.ShloMosaic.Lib.Quiescent
public import proofs.«01_k».proof.Proof.Gen.QkvDwIdeal.Value
public import proofs.«01_k».proof.Proof.Gen.QkvDwRefIdeal.Read
public import proofs.«01_k».proof.Proof.Products

@[expose] public section

set_option maxRecDepth 16384

noncomputable section

namespace Cert.QkvDwValue

open Cert.QkvDwIdeal Cert.QkvDwIdeal.Gen Idealize.ShloMosaic Idealize.ShloMosaic.TcCoe
open Idealize.SL.Sem Cert.Products

section Points

variable (c : Dev nD) (i : grid0.Coords) (arg2 : Memref sig .tc .vmem S768x1024 .f32) (h2 : arg2.IsWhole)
    (arg3 : Memref sig .tc .vmem S768x1024 .f32) (h3 : arg3.IsWhole) (arg4 : Memref sig .tc .vmem S1024x1024 .f32) (h4 : arg4.IsWhole)
    (arg5 : Memref sig .tc .vmem S1024x1024 .f32) (h5 : arg5.IsWhole) (x : Vec Ideal S768x1024 .f32) (y : Vec Ideal S768x1024 .f32)

theorem pay_eq (s : Vec Ideal S1024x1024 .f32) (j : S1024x1024.Idx) :
    k0_pay2 s x y j = s j + tn (r := 768) (k := 1024) (c := 1024) x y j := by
  unfold k0_pay2 tn
  simp only [pointwise]
  rw [zero_add]

/-- The first block: the scratch is zeroed before it. -/
theorem sout_A (hc0 : cond0_0 i) (hc1 : ¬cond0_1 i) :
    sout0_A_0 c i arg2 h2 arg3 h3 arg4 h4 arg5 h5 hc0 hc1 x y = tn (r := 768) (k := 1024) (c := 1024) x y := by
  funext j
  unfold sout0_A_0
  rw [View.read_writes_junk_eq_canon]
  unfold kernelRun0_A
  dsimp only
  sl_unfold_words
  rw [View.canon_cons_unit_zero hz, View.readCov_unit_zero _ hz, View.readAt_eq_ld, View.readAt_eq_ld, h2.read_unread, h3.read_unread,
    View.ld_unit_zero (S := S768x1024) hz, View.ld_unit_zero (S := S768x1024) hz, pay_eq]
  unfold k0_pay1
  simp only [pointwise]
  rw [zero_add]

/-- A later block adds to the scratch. -/
theorem sout_B (hc0 : ¬cond0_0 i) (hc1 : ¬cond0_1 i) (s : Vec Ideal S1024x1024 .f32) :
    sout0_B_0 c i arg2 h2 arg3 h3 arg4 h4 arg5 h5 hc0 hc1 x y s = fun j => s j + tn (r := 768) (k := 1024) (c := 1024) x y j := by
  funext j
  unfold sout0_B_0
  rw [View.read_writes_junk_eq_canon]
  unfold kernelRun0_B
  dsimp only
  sl_unfold_words
  rw [View.canon_unit_zero hz, View.readAt_eq_ld, View.readAt_eq_ld, View.readAt_eq_ld, h2.read_unread, h3.read_unread, h5.read_unread,
    View.ld_unit_zero (S := S1024x1024) hz, View.ld_unit_zero (S := S768x1024) hz, View.ld_unit_zero (S := S768x1024) hz]
  exact pay_eq _ _ _ _

/-- The last block adds to the scratch and writes it out. -/
theorem out_C (hc0 : ¬cond0_0 i) (hc1 : cond0_1 i) (s : Vec Ideal S1024x1024 .f32) :
    out0_C_2 c i arg2 h2 arg3 h3 arg4 h4 arg5 h5 hc0 hc1 x y s = fun j => s j + tn (r := 768) (k := 1024) (c := 1024) x y j := by
  funext j
  unfold out0_C_2
  rw [View.read_writes_junk_eq_canon]
  unfold kernelRun0_C
  dsimp only
  sl_unfold_words
  rw [View.canon_unit_zero hz, View.readCov_unit_zero _ hz, View.readAt_eq_ld, View.readAt_eq_ld, View.readAt_eq_ld, h2.read_unread,
    h3.read_unread, h5.read_unread, View.ld_unit_zero (S := S1024x1024) hz, View.ld_unit_zero (S := S768x1024) hz,
    View.ld_unit_zero (S := S768x1024) hz]
  exact pay_eq _ _ _ _

end Points

variable (m : (ℓ : Loc nD τ sig) → Buf (Elt Ideal) ℓ)

/-- The whole result. -/
abbrev G (x : Vec Ideal S8448x1024 .f32) (y : Vec Ideal S8448x3072 .f32) : Vec Ideal S1024x3072 .f32 := tn (r := 8448) (k := 1024) (c := 3072) x y

theorem idx_facts : ∀ t : Fin cfg0.N, win0_0.index t (0 : Fin 2) = t.val % 11 ∧ win0_0.index t (1 : Fin 2) = 0
    ∧ win0_1.index t (0 : Fin 2) = t.val % 11 ∧ win0_1.index t (1 : Fin 2) = t.val / 11
    ∧ win0_2.index t (0 : Fin 2) = 0 ∧ win0_2.index t (1 : Fin 2) = t.val / 11 :=
  (by decide +kernel : ∀ t : Fin grid0.N, _)

/-- What the last point of a block of columns writes: its scratch, and the last row block's share. -/
theorem block (c : Dev nD) (n : ℕ) (hn : n < cfg0.N) (hl : n % 11 = 10) : IsBlk (r' := 1024) (c' := 1024) 0 (n / 11)
    (fun j => (outsAt0 m c (n - 1) (by omega)).2 j
      + tn (r := 768) (k := 1024) (c := 1024) (iblk m c 0 (⟨n, hn⟩ : Fin cfg0.N)) (iblk m c 1 (⟨n, hn⟩ : Fin cfg0.N)) j)
    (G (m ((c : Thread nD τ).loc main_arg0)) (m ((c : Thread nD τ).loc main_arg1))) :=
  scan (b := 11) (t := 768) (by decide) (by decide) (fun n hn => iblk m c 0 (⟨n, hn⟩ : Fin cfg0.N))
    (fun n hn => iblk m c 1 (⟨n, hn⟩ : Fin cfg0.N)) (fun n hn => (outsAt0 m c n hn).2)
    (fun n hn => by
      obtain ⟨e0, e1, -⟩ := idx_facts ⟨n, hn⟩
      rw [← V_main_arg0 m c]; exact isBlk_emb (e := ((cfg0.win 0).blk ⟨n, hn⟩).view.emb) e0 e1 (fun _ => rfl) fun _ => rfl)
    (fun n hn => by
      obtain ⟨-, -, e2, e3, -⟩ := idx_facts ⟨n, hn⟩
      rw [← V_main_arg1 m c]; exact isBlk_emb (e := ((cfg0.win 1).blk ⟨n, hn⟩).view.emb) e2 e3 (fun _ => rfl) fun _ => rfl)
    (fun n hn h => by
      rw [outsAt0_A m c ⟨n, hn⟩ h (by show ¬n % 11 = 10; omega)]
      dsimp only
      rw [sout_A])
    (fun n hn h h1 => by
      rw [outsAt0_B m c ⟨n, hn⟩ h h1]
      dsimp only
      rw [sout_B])
    n hn hl

theorem final (c : Dev nD) : (dats m 0 c).arrAt 2 cfg0.N
    = G (m ((c : Thread nD τ).loc main_arg0)) (m ((c : Thread nD τ).loc main_arg1)) := by
  refine (dats m 0 c).arrAt_eq_of_cover 2 _ (fun t hf => ?_) fun i => (Value.covered_iff2 i).2 ?_
  · have h1 : t.val % 11 = 10 := (flush0_2 t).mp hf
    obtain ⟨-, -, -, -, e4, e5⟩ := idx_facts t
    rw [Value.flushed2_C m c t (by omega) h1, out_C]
    exact funext ((block m c t.val t.isLt h1).eq_emb (e := ((cfg0.win 2).blk t).view.emb) e4 e5 (fun _ => rfl) fun _ => rfl)
  · have h0 : (i 0).val < 1024 := (i 0).isLt
    have h1 : (i 1).val < 3072 := (i 1).isLt
    omega

theorem ref_eq (x : Vec Ideal S8448x1024 .f32) (y : Vec Ideal S8448x3072 .f32) :
    Cert.QkvDwRefIdeal.Read.val_main_v3 (F := Ideal) x y = G x y := by
  funext i
  rw [Cert.QkvDwRefIdeal.Read.val_main_v3_apply, Cert.QkvDwRefIdeal.Read.val_main_v2_apply]
  refine Finset.sum_congr rfl fun k _ => ?_
  rw [mul_comm]
  exact congrArg₂ (· * ·) (congrArg x (ext2 rfl rfl)) (congrArg y (ext2 rfl rfl))

/-! ## The claims of this call -/

theorem frame_p : Cert.quiescent_QkvDw := fun m ρ _ => Cert.QkvDw.Gen.frame m ρ

theorem frame_pi : Cert.quiescent_QkvDwIdeal := fun m ρ _ => Cert.QkvDwIdeal.Gen.frame m ρ

theorem frame_ri : Cert.quiescent_QkvDwRefIdeal := fun m ρ _ =>
  (θ_run Cert.QkvDwRefIdeal.defs _ _).mono (fun r h => ⟨fun c => (h c).2, sem_eq_zero_of_no_sems (by decide) r.2⟩)
    (Cert.QkvDwRefIdeal.Value.run (F := Ideal) m ρ)

theorem algebraic : Cert.algebraic_QkvDwIdeal_QkvDwRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.QkvDwRefIdeal.defs _ _).mono (fun _ h c => ⟨(h c).1.trans (by
        rw [Cert.QkvDwRefIdeal.Read.val_main_v3_eq, (hagree c).1, (hagree c).2]
        exact ref_eq _ _), (h c).2⟩) (Cert.QkvDwRefIdeal.Value.run (F := Ideal) m' ρ')⟩

end Cert.QkvDwValue
end
-- ==== Proof.QkvMmValue.lean ====
/- The projections of the attention: three blocks of columns a row block, the
   rounded rows kept in a scratch from the first on. -/
module

public import proofs.«01_k».proof.Defs
public import proofs.«01_k».proof.Proof.Gen.QkvMm.Frame
public import Idealize.ShloMosaic.Lib.Quiescent
public import proofs.«01_k».proof.Proof.Gen.QkvMmIdeal.Value
public import proofs.«01_k».proof.Proof.Gen.QkvMmRefIdeal.Read
public import proofs.«01_k».proof.Proof.Products

@[expose] public section

set_option maxRecDepth 16384

noncomputable section

namespace Cert.QkvMmValue

open Cert.QkvMmIdeal Cert.QkvMmIdeal.Gen Idealize.ShloMosaic Idealize.ShloMosaic.TcCoe
open Idealize.SL.Sem Cert.Products

section Points

variable (c : Dev nD) (i : grid0.Coords) (arg2 : Memref sig .tc .vmem S768x1024 .f32) (h2 : arg2.IsWhole)
    (arg3 : Memref sig .tc .vmem S1024x1024 .bf16) (h3 : arg3.IsWhole) (arg4 : Memref sig .tc .vmem S768x1024 .f32) (h4 : arg4.IsWhole)
    (arg5 : Memref sig .tc .vmem S768x1024 .bf16) (h5 : arg5.IsWhole) (x : Vec Ideal S768x1024 .f32) (w : Vec Ideal S1024x1024 .bf16)

/-- The first block of columns rounds the rows and multiplies them. -/
theorem out_A (hc0 : cond0_0 i) :
    out0_A_2 c i arg2 h2 arg3 h3 arg4 h4 arg5 h5 hc0 x w = nn (r := 768) (k := 1024) (c := 1024) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x1024) hz, View.ld_unit_zero (S := S1024x1024) hz]
  unfold k0_pay2 k0_pay1 nn
  simp only [pointwise]
  exact zero_add _

/-- … and keeps the rounded rows, which are the rows. -/
theorem sout_A (hc0 : cond0_0 i) : sout0_A_0 c i arg2 h2 arg3 h3 arg4 h4 arg5 h5 hc0 x w = x := by
  funext j
  unfold sout0_A_0
  rw [View.read_writes_junk_eq_canon]
  unfold kernelRun0_A
  dsimp only
  sl_unfold_words
  rw [View.canon_unit_zero hz, View.readAt_eq_ld, h2.read_unread, View.ld_unit_zero (S := S768x1024) hz]
  unfold k0_pay1
  simp only [pointwise]

/-- A later block of columns multiplies the kept rows. -/
theorem out_B (hc0 : ¬cond0_0 i) (s : Vec Ideal S768x1024 .bf16) :
    out0_B_2 c i arg2 h2 arg3 h3 arg4 h4 arg5 h5 hc0 x w s = nn (r := 768) (k := 1024) (c := 1024) s w := by
  funext j
  unfold out0_B_2
  rw [View.read_writes_junk_eq_canon]
  unfold kernelRun0_B
  dsimp only
  sl_unfold_words
  rw [View.canon_unit_zero hz, View.readAt_eq_ld, View.readAt_eq_ld, h3.read_unread, h5.read_unread,
    View.ld_unit_zero (S := S768x1024) hz, View.ld_unit_zero (S := S1024x1024) hz]
  unfold k0_pay2 nn
  simp only [pointwise]
  exact zero_add _

end Points

variable (m : (ℓ : Loc nD τ sig) → Buf (Elt Ideal) ℓ)

/-- The whole result. -/
abbrev G (w : Vec Ideal S1024x3072 .f32) (a : Vec Ideal S8448x1024 .f32) : Vec Ideal S8448x3072 .f32 := nn (r := 8448) (k := 1024) (c := 3072) a w

theorem idx_facts : ∀ t : Fin cfg0.N, win0_0.index t (0 : Fin 2) = t.val / 3 ∧ win0_0.index t (1 : Fin 2) = 0
    ∧ win0_1.index t (1 : Fin 2) = t.val % 3 ∧ win0_1.index t (0 : Fin 2) = 0
    ∧ win0_2.index t (0 : Fin 2) = t.val / 3 ∧ win0_2.index t (1 : Fin 2) = t.val % 3 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

/-- The rows a point's region reads. -/
theorem rows_blk (c : Dev nD) (t : Fin cfg0.N) : IsBlk (r' := 768) (c' := 1024) (t.val / 3) 0 (iblk m c 0 t)
    (m ((c : Thread nD τ).loc main_arg1) : Vec Ideal S8448x1024 .f32) := by
  obtain ⟨e0, e1, -⟩ := idx_facts t
  rw [← V_main_arg1 m c]; exact isBlk_emb (e := ((cfg0.win 0).blk t).view.emb) e0 e1 (fun _ => rfl) fun _ => rfl

/-- The kept rows after a point are its row block. -/
theorem scratch (c : Dev nD) : ∀ n hn, IsBlk (r' := 768) (c' := 1024) (n / 3) 0 (outsAt0 m c n hn).2
    (m ((c : Thread nD τ).loc main_arg1) : Vec Ideal S8448x1024 .f32) :=
  kept _ (fun n hn => iblk m c 0 (⟨n, hn⟩ : Fin cfg0.N)) (fun n hn => (outsAt0 m c n hn).2) (fun n hn => rows_blk m c ⟨n, hn⟩)
    (fun n hn h => by
      rw [outsAt0_A m c ⟨n, hn⟩ h]
      dsimp only
      rw [sout_A])
    (fun n hn h => by
      rw [outsAt0_B m c ⟨n, hn⟩ h]
      rfl)

/-- A block of the result from its rows. -/
theorem block (c : Dev nD) (t : Fin cfg0.N) (x : At 768 1024 → EReal)
    (hx : IsBlk (t.val / 3) 0 x (m ((c : Thread nD τ).loc main_arg1) : Vec Ideal S8448x1024 .f32)) :
    nn (r := 768) (k := 1024) (c := 1024) x (iblk m c 1 t) = fun y => G (m ((c : Thread nD τ).loc main_arg0)) (m ((c : Thread nD τ).loc main_arg1))
      (((cfg0.win 2).blk t).view.emb y) := by
  obtain ⟨-, -, e2, e3, e4, e5⟩ := idx_facts t
  refine funext (IsBlk.eq_emb (IsBlk.nn hx (W := m ((c : Thread nD τ).loc main_arg0)) ?_)
    (e := ((cfg0.win 2).blk t).view.emb) e4 e5 (fun _ => rfl) fun _ => rfl)
  rw [← V_w m c]; exact isBlk_emb (e := ((cfg0.win 1).blk t).view.emb) e3 e2 (fun _ => rfl) fun _ => rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => (Value.covered_iff2 i).2 ?_
  · by_cases h0 : t.val % 3 = 0
    · rw [Value.flushed2_A m c t h0, out_A]
      exact block m c t _ (rows_blk m c t)
    · rw [Value.flushed2_B m c t h0, out_B]
      exact block m c t _ (by
        rw [show t.val / 3 = (t.val - 1) / 3 from by omega]
        exact scratch m c _ _)
  · have h0 : (i 0).val < 8448 := (i 0).isLt
    have h1 : (i 1).val < 3072 := (i 1).isLt
    omega

theorem ref_eq (w : Vec Ideal S1024x3072 .f32) (a : Vec Ideal S8448x1024 .f32) :
    Cert.QkvMmRefIdeal.Read.val_main_v0 (F := Ideal) w a = G w a := by
  funext i
  rw [Cert.QkvMmRefIdeal.Read.val_main_v0_apply]
  exact Finset.sum_congr rfl fun k _ => congrArg₂ (· * ·) (congrArg a (ext2 rfl rfl)) (congrArg w (ext2 rfl rfl))

/-! ## The claims of this call -/

theorem frame_p : Cert.quiescent_QkvMm := fun m ρ _ => Cert.QkvMm.Gen.frame m ρ

theorem frame_pi : Cert.quiescent_QkvMmIdeal := fun m ρ _ => Cert.QkvMmIdeal.Gen.frame m ρ

theorem frame_ri : Cert.quiescent_QkvMmRefIdeal := fun m ρ _ =>
  (θ_run Cert.QkvMmRefIdeal.defs _ _).mono (fun r h => ⟨fun c => (h c).2, sem_eq_zero_of_no_sems (by decide) r.2⟩)
    (Cert.QkvMmRefIdeal.Value.run (F := Ideal) m ρ)

theorem algebraic : Cert.algebraic_QkvMmIdeal_QkvMmRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.QkvMmRefIdeal.defs _ _).mono (fun _ h c => ⟨(h c).1.trans (by
        rw [Cert.QkvMmRefIdeal.Read.val_main_v0_eq, (hagree c).1, (hagree c).2]
        exact ref_eq _ _), (h c).2⟩) (Cert.QkvMmRefIdeal.Value.run (F := Ideal) m' ρ')⟩

end Cert.QkvMmValue
end
-- ==== Proof.SsdDxValue.lean ====
/- The gradient of the projection of the state-space branch in the left argument: each block of rows is
   multiplied by the transpose of the weights, in one block of columns. -/
module

public import proofs.«01_k».proof.Defs
public import proofs.«01_k».proof.Proof.Gen.SsdDx.Frame
public import Idealize.ShloMosaic.Lib.Quiescent
public import proofs.«01_k».proof.Proof.Gen.SsdDxIdeal.Value
public import proofs.«01_k».proof.Proof.Gen.SsdDxRefIdeal.Read
public import proofs.«01_k».proof.Proof.Products

@[expose] public section

set_option maxRecDepth 16384

noncomputable section

namespace Cert.SsdDxValue

open Cert.SsdDxIdeal Cert.SsdDxIdeal.Gen Idealize.ShloMosaic Idealize.ShloMosaic.TcCoe
open Idealize.SL.Sem Cert.Products

theorem out_eq (c : Dev nD) (i : grid0.Coords) (arg2 : Memref sig .tc .vmem S768x2688 .f32) (h2 : arg2.IsWhole)
    (arg3 : Memref sig .tc .vmem S1024x2688 .bf16) (h3 : arg3.IsWhole) (arg4 : Memref sig .tc .vmem S768x1024 .f32) (h4 : arg4.IsWhole)
    (arg5 : Memref sig .tc .vmem S768x2688 .bf16) (h5 : arg5.IsWhole) (hc0 : cond0_0 i)
    (x : Vec Ideal S768x2688 .f32) (w : Vec Ideal S1024x2688 .bf16) :
    out0_A_2 c i arg2 h2 arg3 h3 arg4 h4 arg5 h5 hc0 x w = nt (r := 768) (k := 2688) (c := 1024) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x2688) hz, View.ld_unit_zero (S := S1024x2688) hz]
  unfold k0_pay2 k0_pay1 nt
  simp only [pointwise]
  exact zero_add _

variable (m : (ℓ : Loc nD τ sig) → Buf (Elt Ideal) ℓ)

/-- The whole result. -/
abbrev G (w : Vec Ideal S1024x2688 .f32) (a : Vec Ideal S8448x2688 .f32) : Vec Ideal S8448x1024 .f32 := nt (r := 8448) (k := 2688) (c := 1024) a w

theorem idx_facts : ∀ t : Fin cfg0.N, win0_0.index t (0 : Fin 2) = win0_2.index t (0 : Fin 2)
    ∧ win0_0.index t (1 : Fin 2) = 0 ∧ win0_1.index t (0 : Fin 2) = win0_2.index t (1 : Fin 2)
    ∧ win0_1.index t (1 : Fin 2) = 0 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

theorem idx_onto : ∀ (q : Fin 11), ∃ t : Fin cfg0.N, (cfg0.win 2).flush t = true ∧ win0_2.index t = ![q.val, 0] :=
  (by decide +kernel : ∀ (q : Fin 11), ∃ t : Fin grid0.N, win0_2.flush t = true ∧ win0_2.index t = ![q.val, 0])

theorem mem_blk (t : Fin cfg0.N) (i : S8448x1024.Idx) : i ∈ ((cfg0.win 2).blk t).view.set ↔ ∀ a : Fin 2,
    win0_2.index t a * S768x1024.size a ≤ (i a).val ∧ (i a).val < win0_2.index t a * S768x1024.size a + S768x1024.size a := by
  show i ∈ ((View.whole main_v1).slice (win0_2.rect t)).set ↔ _
  rw [View.set_slice_whole, Rect.mem_set_unit]
  exact Iff.rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => ?_
  · obtain ⟨e0, e1, e2, e3⟩ := idx_facts t
    rw [Value.flushed2_A, out_eq]
    refine funext (IsBlk.eq_emb (IsBlk.nt (A := m ((c : Thread nD τ).loc main_arg1)) (W := m ((c : Thread nD τ).loc main_arg0)) ?_ ?_)
      (e := ((cfg0.win 2).blk t).view.emb) (P := win0_2.index t (0 : Fin 2)) (Q := win0_2.index t (1 : Fin 2)) rfl rfl (fun _ => rfl) fun _ => rfl)
    · rw [← V_main_arg1 m c]; exact isBlk_emb (e := ((cfg0.win 0).blk t).view.emb) e0 e1 (fun _ => rfl) fun _ => rfl
    · rw [← V_w m c]; exact isBlk_emb (e := ((cfg0.win 1).blk t).view.emb) e2 e3 (fun _ => rfl) fun _ => rfl
  · have h0 : (i 0).val < 8448 := (i 0).isLt
    have h1 : (i 1).val < 1024 := (i 1).isLt
    obtain ⟨t, hf, ht⟩ := idx_onto ⟨(i 0).val / 768, by omega⟩
    refine ⟨t, hf, ?_⟩
    rw [mem_blk]
    intro a
    rw [ht]
    match a with
    | ⟨0, _⟩ => show (i 0).val / 768 * 768 ≤ (i 0).val ∧ (i 0).val < (i 0).val / 768 * 768 + 768; omega
    | ⟨1, _⟩ => show 0 * 1024 ≤ (i 1).val ∧ (i 1).val < 0 * 1024 + 1024; omega

theorem ref_eq (w : Vec Ideal S1024x2688 .f32) (a : Vec Ideal S8448x2688 .f32) :
    Cert.SsdDxRefIdeal.Read.val_main_v2 (F := Ideal) w a = G w a := by
  funext i
  rw [Cert.SsdDxRefIdeal.Read.val_main_v2_apply]
  exact Finset.sum_congr rfl fun k _ => congrArg₂ (· * ·) (congrArg a (ext2 rfl rfl)) (congrArg w (ext2 rfl rfl))

/-! ## The claims of this call -/

theorem frame_p : Cert.quiescent_SsdDx := fun m ρ _ => Cert.SsdDx.Gen.frame m ρ

theorem frame_pi : Cert.quiescent_SsdDxIdeal := fun m ρ _ => Cert.SsdDxIdeal.Gen.frame m ρ

theorem frame_ri : Cert.quiescent_SsdDxRefIdeal := fun m ρ _ =>
  (θ_run Cert.SsdDxRefIdeal.defs _ _).mono (fun r h => ⟨fun c => (h c).2, sem_eq_zero_of_no_sems (by decide) r.2⟩)
    (Cert.SsdDxRefIdeal.Value.run (F := Ideal) m ρ)

theorem algebraic : Cert.algebraic_SsdDxIdeal_SsdDxRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.SsdDxRefIdeal.defs _ _).mono (fun _ h c => ⟨(h c).1.trans (by
        rw [Cert.SsdDxRefIdeal.Read.val_main_v2_eq, (hagree c).1, (hagree c).2]
        exact ref_eq _ _), (h c).2⟩) (Cert.SsdDxRefIdeal.Value.run (F := Ideal) m' ρ')⟩

end Cert.SsdDxValue
end
-- ==== Proof.SsdDwValue.lean ====
/- The gradient of the projection of the state-space branch in the weights: the transpose of the rows
   times the cotangent, summed over the blocks of rows in a carried scratch and written out after the last. -/
module

public import proofs.«01_k».proof.Defs
public import proofs.«01_k».proof.Proof.Gen.SsdDw.Frame
public import Idealize.ShloMosaic.Lib.Quiescent
public import proofs.«01_k».proof.Proof.Gen.SsdDwIdeal.Value
public import proofs.«01_k».proof.Proof.Gen.SsdDwRefIdeal.Read
public import proofs.«01_k».proof.Proof.Products

@[expose] public section

set_option maxRecDepth 16384

noncomputable section

namespace Cert.SsdDwValue

open Cert.SsdDwIdeal Cert.SsdDwIdeal.Gen Idealize.ShloMosaic Idealize.ShloMosaic.TcCoe
open Idealize.SL.Sem Cert.Products

section Points

variable (c : Dev nD) (i : grid0.Coords) (arg2 : Memref sig .tc .vmem S768x1024 .f32) (h2 : arg2.IsWhole)
    (arg3 : Memref sig .tc .vmem S768x896 .f32) (h3 : arg3.IsWhole) (arg4 : Memref sig .tc .vmem S1024x896 .f32) (h4 : arg4.IsWhole)
    (arg5 : Memref sig .tc .vmem S1024x896 .f32) (h5 : arg5.IsWhole) (x : Vec Ideal S768x1024 .f32) (y : Vec Ideal S768x896 .f32)

theorem pay_eq (s : Vec Ideal S1024x896 .f32) (j : S1024x896.Idx) :
    k0_pay2 s x y j = s j + tn (r := 768) (k := 1024) (c := 896) x y j := by
  unfold k0_pay2 tn
  simp only [pointwise]
  rw [zero_add]

/-- The first block: the scratch is zeroed before it. -/
theorem sout_A (hc0 : cond0_0 i) (hc1 : ¬cond0_1 i) :
    sout0_A_0 c i arg2 h2 arg3 h3 arg4 h4 arg5 h5 hc0 hc1 x y = tn (r := 768) (k := 1024) (c := 896) x y := by
  funext j
  unfold sout0_A_0
  rw [View.read_writes_junk_eq_canon]
  unfold kernelRun0_A
  dsimp only
  sl_unfold_words
  rw [View.canon_cons_unit_zero hz, View.readCov_unit_zero _ hz, View.readAt_eq_ld, View.readAt_eq_ld, h2.read_unread, h3.read_unread,
    View.ld_unit_zero (S := S768x1024) hz, View.ld_unit_zero (S := S768x896) hz, pay_eq]
  unfold k0_pay1
  simp only [pointwise]
  rw [zero_add]

/-- A later block adds to the scratch. -/
theorem sout_B (hc0 : ¬cond0_0 i) (hc1 : ¬cond0_1 i) (s : Vec Ideal S1024x896 .f32) :
    sout0_B_0 c i arg2 h2 arg3 h3 arg4 h4 arg5 h5 hc0 hc1 x y s = fun j => s j + tn (r := 768) (k := 1024) (c := 896) x y j := by
  funext j
  unfold sout0_B_0
  rw [View.read_writes_junk_eq_canon]
  unfold kernelRun0_B
  dsimp only
  sl_unfold_words
  rw [View.canon_unit_zero hz, View.readAt_eq_ld, View.readAt_eq_ld, View.readAt_eq_ld, h2.read_unread, h3.read_unread, h5.read_unread,
    View.ld_unit_zero (S := S1024x896) hz, View.ld_unit_zero (S := S768x1024) hz, View.ld_unit_zero (S := S768x896) hz]
  exact pay_eq _ _ _ _

/-- The last block adds to the scratch and writes it out. -/
theorem out_C (hc0 : ¬cond0_0 i) (hc1 : cond0_1 i) (s : Vec Ideal S1024x896 .f32) :
    out0_C_2 c i arg2 h2 arg3 h3 arg4 h4 arg5 h5 hc0 hc1 x y s = fun j => s j + tn (r := 768) (k := 1024) (c := 896) x y j := by
  funext j
  unfold out0_C_2
  rw [View.read_writes_junk_eq_canon]
  unfold kernelRun0_C
  dsimp only
  sl_unfold_words
  rw [View.canon_unit_zero hz, View.readCov_unit_zero _ hz, View.readAt_eq_ld, View.readAt_eq_ld, View.readAt_eq_ld, h2.read_unread,
    h3.read_unread, h5.read_unread, View.ld_unit_zero (S := S1024x896) hz, View.ld_unit_zero (S := S768x1024) hz,
    View.ld_unit_zero (S := S768x896) hz]
  exact pay_eq _ _ _ _

end Points

variable (m : (ℓ : Loc nD τ sig) → Buf (Elt Ideal) ℓ)

/-- The whole result. -/
abbrev G (x : Vec Ideal S8448x1024 .f32) (y : Vec Ideal S8448x2688 .f32) : Vec Ideal S1024x2688 .f32 := tn (r := 8448) (k := 1024) (c := 2688) x y

theorem idx_facts : ∀ t : Fin cfg0.N, win0_0.index t (0 : Fin 2) = t.val % 11 ∧ win0_0.index t (1 : Fin 2) = 0
    ∧ win0_1.index t (0 : Fin 2) = t.val % 11 ∧ win0_1.index t (1 : Fin 2) = t.val / 11
    ∧ win0_2.index t (0 : Fin 2) = 0 ∧ win0_2.index t (1 : Fin 2) = t.val / 11 :=
  (by decide +kernel : ∀ t : Fin grid0.N, _)

/-- What the last point of a block of columns writes: its scratch, and the last row block's share. -/
theorem block (c : Dev nD) (n : ℕ) (hn : n < cfg0.N) (hl : n % 11 = 10) : IsBlk (r' := 1024) (c' := 896) 0 (n / 11)
    (fun j => (outsAt0 m c (n - 1) (by omega)).2 j
      + tn (r := 768) (k := 1024) (c := 896) (iblk m c 0 (⟨n, hn⟩ : Fin cfg0.N)) (iblk m c 1 (⟨n, hn⟩ : Fin cfg0.N)) j)
    (G (m ((c : Thread nD τ).loc main_arg0)) (m ((c : Thread nD τ).loc main_arg1))) :=
  scan (b := 11) (t := 768) (by decide) (by decide) (fun n hn => iblk m c 0 (⟨n, hn⟩ : Fin cfg0.N))
    (fun n hn => iblk m c 1 (⟨n, hn⟩ : Fin cfg0.N)) (fun n hn => (outsAt0 m c n hn).2)
    (fun n hn => by
      obtain ⟨e0, e1, -⟩ := idx_facts ⟨n, hn⟩
      rw [← V_main_arg0 m c]; exact isBlk_emb (e := ((cfg0.win 0).blk ⟨n, hn⟩).view.emb) e0 e1 (fun _ => rfl) fun _ => rfl)
    (fun n hn => by
      obtain ⟨-, -, e2, e3, -⟩ := idx_facts ⟨n, hn⟩
      rw [← V_main_arg1 m c]; exact isBlk_emb (e := ((cfg0.win 1).blk ⟨n, hn⟩).view.emb) e2 e3 (fun _ => rfl) fun _ => rfl)
    (fun n hn h => by
      rw [outsAt0_A m c ⟨n, hn⟩ h (by show ¬n % 11 = 10; omega)]
      dsimp only
      rw [sout_A])
    (fun n hn h h1 => by
      rw [outsAt0_B m c ⟨n, hn⟩ h h1]
      dsimp only
      rw [sout_B])
    n hn hl

theorem final (c : Dev nD) : (dats m 0 c).arrAt 2 cfg0.N
    = G (m ((c : Thread nD τ).loc main_arg0)) (m ((c : Thread nD τ).loc main_arg1)) := by
  refine (dats m 0 c).arrAt_eq_of_cover 2 _ (fun t hf => ?_) fun i => (Value.covered_iff2 i).2 ?_
  · have h1 : t.val % 11 = 10 := (flush0_2 t).mp hf
    obtain ⟨-, -, -, -, e4, e5⟩ := idx_facts t
    rw [Value.flushed2_C m c t (by omega) h1, out_C]
    exact funext ((block m c t.val t.isLt h1).eq_emb (e := ((cfg0.win 2).blk t).view.emb) e4 e5 (fun _ => rfl) fun _ => rfl)
  · have h0 : (i 0).val < 1024 := (i 0).isLt
    have h1 : (i 1).val < 2688 := (i 1).isLt
    omega

theorem ref_eq (x : Vec Ideal S8448x1024 .f32) (y : Vec Ideal S8448x2688 .f32) :
    Cert.SsdDwRefIdeal.Read.val_main_v3 (F := Ideal) x y = G x y := by
  funext i
  rw [Cert.SsdDwRefIdeal.Read.val_main_v3_apply, Cert.SsdDwRefIdeal.Read.val_main_v2_apply]
  refine Finset.sum_congr rfl fun k _ => ?_
  rw [mul_comm]
  exact congrArg₂ (· * ·) (congrArg x (ext2 rfl rfl)) (congrArg y (ext2 rfl rfl))

/-! ## The claims of this call -/

theorem frame_p : Cert.quiescent_SsdDw := fun m ρ _ => Cert.SsdDw.Gen.frame m ρ

theorem frame_pi : Cert.quiescent_SsdDwIdeal := fun m ρ _ => Cert.SsdDwIdeal.Gen.frame m ρ

theorem frame_ri : Cert.quiescent_SsdDwRefIdeal := fun m ρ _ =>
  (θ_run Cert.SsdDwRefIdeal.defs _ _).mono (fun r h => ⟨fun c => (h c).2, sem_eq_zero_of_no_sems (by decide) r.2⟩)
    (Cert.SsdDwRefIdeal.Value.run (F := Ideal) m ρ)

theorem algebraic : Cert.algebraic_SsdDwIdeal_SsdDwRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.SsdDwRefIdeal.defs _ _).mono (fun _ h c => ⟨(h c).1.trans (by
        rw [Cert.SsdDwRefIdeal.Read.val_main_v3_eq, (hagree c).1, (hagree c).2]
        exact ref_eq _ _), (h c).2⟩) (Cert.SsdDwRefIdeal.Value.run (F := Ideal) m' ρ')⟩

end Cert.SsdDwValue
end
-- ==== Proof.SsdMmValue.lean ====
/- The projection of the state-space branch: three blocks of columns a row block, the
   rounded rows kept in a scratch from the first on. -/
module

public import proofs.«01_k».proof.Defs
public import proofs.«01_k».proof.Proof.Gen.SsdMm.Frame
public import Idealize.ShloMosaic.Lib.Quiescent
public import proofs.«01_k».proof.Proof.Gen.SsdMmIdeal.Value
public import proofs.«01_k».proof.Proof.Gen.SsdMmRefIdeal.Read
public import proofs.«01_k».proof.Proof.Products

@[expose] public section

set_option maxRecDepth 16384

noncomputable section

namespace Cert.SsdMmValue

open Cert.SsdMmIdeal Cert.SsdMmIdeal.Gen Idealize.ShloMosaic Idealize.ShloMosaic.TcCoe
open Idealize.SL.Sem Cert.Products

section Points

variable (c : Dev nD) (i : grid0.Coords) (arg2 : Memref sig .tc .vmem S768x1024 .f32) (h2 : arg2.IsWhole)
    (arg3 : Memref sig .tc .vmem S1024x896 .bf16) (h3 : arg3.IsWhole) (arg4 : Memref sig .tc .vmem S768x896 .f32) (h4 : arg4.IsWhole)
    (arg5 : Memref sig .tc .vmem S768x1024 .bf16) (h5 : arg5.IsWhole) (x : Vec Ideal S768x1024 .f32) (w : Vec Ideal S1024x896 .bf16)

/-- The first block of columns rounds the rows and multiplies them. -/
theorem out_A (hc0 : cond0_0 i) :
    out0_A_2 c i arg2 h2 arg3 h3 arg4 h4 arg5 h5 hc0 x w = nn (r := 768) (k := 1024) (c := 896) x w := by
  funext j
  unfold out0_A_2
  rw [View.read_writes_junk_eq_canon]
  unfold kernelRun0_A
  dsimp only
  sl_unfold_words
  rw [View.canon_unit_zero hz, View.readCov_unit_zero _ hz, View.readAt_eq_ld, View.readAt_eq_ld, h2.read_unread, h3.read_unread,
    View.ld_unit_zero (S := S768x1024) hz, View.ld_unit_zero (S := S1024x896) hz]
  unfold k0_pay2 k0_pay1 nn
  simp only [pointwise]
  exact zero_add _

/-- … and keeps the rounded rows, which are the rows. -/
theorem sout_A (hc0 : cond0_0 i) : sout0_A_0 c i arg2 h2 arg3 h3 arg4 h4 arg5 h5 hc0 x w = x := by
  funext j
  unfold sout0_A_0
  rw [View.read_writes_junk_eq_canon]
  unfold kernelRun0_A
  dsimp only
  sl_unfold_words
  rw [View.canon_unit_zero hz, View.readAt_eq_ld, h2.read_unread, View.ld_unit_zero (S := S768x1024) hz]
  unfold k0_pay1
  simp only [pointwise]

/-- A later block of columns multiplies the kept rows. -/
theorem out_B (hc0 : ¬cond0_0 i) (s : Vec Ideal S768x1024 .bf16) :
    out0_B_2 c i arg2 h2 arg3 h3 arg4 h4 arg5 h5 hc0 x w s = nn (r := 768) (k := 1024) (c := 896) s w := by
  funext j
  unfold out0_B_2
  rw [View.read_writes_junk_eq_canon]
  unfold kernelRun0_B
  dsimp only
  sl_unfold_words
  rw [View.canon_unit_zero hz, View.readAt_eq_ld, View.readAt_eq_ld, h3.read_unread, h5.read_unread,
    View.ld_unit_zero (S := S768x1024) hz, View.ld_unit_zero (S := S1024x896) hz]
  unfold k0_pay2 nn
  simp only [pointwise]
  exact zero_add _

end Points

variable (m : (ℓ : Loc nD τ sig) → Buf (Elt Ideal) ℓ)

/-- The whole result. -/
abbrev G (w : Vec Ideal S1024x2688 .f32) (a : Vec Ideal S8448x1024 .f32) : Vec Ideal S8448x2688 .f32 := nn (r := 8448) (k := 1024) (c := 2688) a w

theorem idx_facts : ∀ t : Fin cfg0.N, win0_0.index t (0 : Fin 2) = t.val / 3 ∧ win0_0.index t (1 : Fin 2) = 0
    ∧ win0_1.index t (1 : Fin 2) = t.val % 3 ∧ win0_1.index t (0 : Fin 2) = 0
    ∧ win0_2.index t (0 : Fin 2) = t.val / 3 ∧ win0_2.index t (1 : Fin 2) = t.val % 3 :=
  (by decide +kernel : ∀ t : Fin grid0.N, _)

/-- The weights as the kernel's region finds them: the argument, rounded. -/
theorem V_w (c : Dev nD) : V m c main_v0 = m ((c : Thread nD τ).loc main_arg0) := by
  show StableHlo.after _ _ (Proc.devRef .tc main_v0) = _
  after_results
  rfl

/-- The rows a point's region reads. -/
theorem rows_blk (c : Dev nD) (t : Fin cfg0.N) : IsBlk (r' := 768) (c' := 1024) (t.val / 3) 0 (iblk m c 0 t)
    (m ((c : Thread nD τ).loc main_arg1) : Vec Ideal S8448x1024 .f32) := by
  obtain ⟨e0, e1, -⟩ := idx_facts t
  rw [← V_main_arg1 m c]; exact isBlk_emb (e := ((cfg0.win 0).blk t).view.emb) e0 e1 (fun _ => rfl) fun _ => rfl

/-- The kept rows after a point are its row block. -/
theorem scratch (c : Dev nD) : ∀ n hn, IsBlk (r' := 768) (c' := 1024) (n / 3) 0 (outsAt0 m c n hn).2
    (m ((c : Thread nD τ).loc main_arg1) : Vec Ideal S8448x1024 .f32) :=
  kept _ (fun n hn => iblk m c 0 (⟨n, hn⟩ : Fin cfg0.N)) (fun n hn => (outsAt0 m c n hn).2) (fun n hn => rows_blk m c ⟨n, hn⟩)
    (fun n hn h => by
      rw [outsAt0_A m c ⟨n, hn⟩ h]
      dsimp only
      rw [sout_A])
    (fun n hn h => by
      rw [outsAt0_B m c ⟨n, hn⟩ h]
      rfl)

/-- A block of the result from its rows. -/
theorem block (c : Dev nD) (t : Fin cfg0.N) (x : At 768 1024 → EReal)
    (hx : IsBlk (t.val / 3) 0 x (m ((c : Thread nD τ).loc main_arg1) : Vec Ideal S8448x1024 .f32)) :
    nn (r := 768) (k := 1024) (c := 896) x (iblk m c 1 t) = fun y => G (m ((c : Thread nD τ).loc main_arg0)) (m ((c : Thread nD τ).loc main_arg1))
      (((cfg0.win 2).blk t).view.emb y) := by
  obtain ⟨-, -, e2, e3, e4, e5⟩ := idx_facts t
  refine funext (IsBlk.eq_emb (IsBlk.nn hx (W := m ((c : Thread nD τ).loc main_arg0)) ?_)
    (e := ((cfg0.win 2).blk t).view.emb) e4 e5 (fun _ => rfl) fun _ => rfl)
  rw [← V_w m c]; exact isBlk_emb (e := ((cfg0.win 1).blk t).view.emb) e3 e2 (fun _ => rfl) fun _ => rfl

theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) fun i => (Value.covered_iff2 i).2 ?_
  · by_cases h0 : t.val % 3 = 0
    · rw [Value.flushed2_A m c t h0, out_A]
      exact block m c t _ (rows_blk m c t)
    · rw [Value.flushed2_B m c t h0, out_B]
      exact block m c t _ (by
        rw [show t.val / 3 = (t.val - 1) / 3 from by omega]
        exact scratch m c _ _)
  · have h0 : (i 0).val < 8448 := (i 0).isLt
    have h1 : (i 1).val < 2688 := (i 1).isLt
    omega

theorem ref_eq (w : Vec Ideal S1024x2688 .f32) (a : Vec Ideal S8448x1024 .f32) :
    Cert.SsdMmRefIdeal.Read.val_main_v0 (F := Ideal) w a = G w a := by
  funext i
  rw [Cert.SsdMmRefIdeal.Read.val_main_v0_apply]
  exact Finset.sum_congr rfl fun k _ => congrArg₂ (· * ·) (congrArg a (ext2 rfl rfl)) (congrArg w (ext2 rfl rfl))

/-! ## The claims of this call -/

theorem frame_p : Cert.quiescent_SsdMm := fun m ρ _ => Cert.SsdMm.Gen.frame m ρ

theorem frame_pi : Cert.quiescent_SsdMmIdeal := fun m ρ _ => Cert.SsdMmIdeal.Gen.frame m ρ

theorem frame_ri : Cert.quiescent_SsdMmRefIdeal := fun m ρ _ =>
  (θ_run Cert.SsdMmRefIdeal.defs _ _).mono (fun r h => ⟨fun c => (h c).2, sem_eq_zero_of_no_sems (by decide) r.2⟩)
    (Cert.SsdMmRefIdeal.Value.run (F := Ideal) m ρ)

theorem algebraic : Cert.algebraic_SsdMmIdeal_SsdMmRefIdeal := fun m ρ m' ρ' _ hagree =>
  ⟨fun c => G (m ((c : Thread nD τ).loc main_arg0)) (m ((c : Thread nD τ).loc main_arg1)),
    (θ_run defs _ _).mono (fun _ h c => ⟨(h c).1.trans (final m c), (h c).2⟩) (Value.run_blocks m ρ),
    (θ_run Cert.SsdMmRefIdeal.defs _ _).mono (fun _ h c => ⟨(h c).1.trans (by
        rw [Cert.SsdMmRefIdeal.Read.val_main_v0_eq, (hagree c).1, (hagree c).2]
        exact ref_eq _ _), (h c).2⟩) (Cert.SsdMmRefIdeal.Value.run (F := Ideal) m' ρ')⟩

end Cert.SsdMmValue
end
-- ==== Proof.Gates.lean ====
/- The derivative of the logistic function, in the two forms the programs compute it in. -/
module

public import Idealize.ShloMosaic.Lib.Pointwise

@[expose] public section

noncomputable section

namespace Cert.Gates

open Idealize.ShloMosaic

/-- With `e = exp (-x)`: `e / (1 + e)²` is `s * (1 - s)`, at the infinities too. -/
theorem logistic_grad (x : EReal) : Ideal.div 1 ((1 + Ideal.exp (-x)) * (1 + Ideal.exp (-x))) * Ideal.exp (-x)
    = Ideal.logistic x * (1 - Ideal.logistic x) := by
  unfold Ideal.logistic
  induction x using EReal.rec with
  | bot =>
    rw [EReal.neg_bot]
    show Ideal.div 1 ((1 + ⊤) * (1 + ⊤)) * ⊤ = Ideal.div 1 (1 + ⊤) * (1 - Ideal.div 1 (1 + ⊤))
    have h : (1 : EReal) + ⊤ = ⊤ := rfl
    rw [h, EReal.top_mul_top]
    have h0 : Ideal.div 1 ⊤ = 0 := by
      unfold Ideal.div; rw [if_neg EReal.top_ne_zero, EReal.inv_top, mul_zero]
    rw [h0, zero_mul, zero_mul]
  | top =>
    rw [EReal.neg_top]
    show Ideal.div 1 ((1 + 0) * (1 + 0)) * 0 = Ideal.div 1 (1 + 0) * (1 - Ideal.div 1 (1 + 0))
    have h1 : Ideal.div 1 1 = 1 := by
      unfold Ideal.div; rw [if_neg one_ne_zero, inv_one, mul_one]
    have h2 : (1 : EReal) - 1 = 0 := by
      rw [← EReal.coe_one, ← EReal.coe_sub, sub_self, EReal.coe_zero]
    rw [add_zero, h1, h2, mul_zero, mul_zero]
  | coe r =>
    have hp : (0 : ℝ) < 1 + Real.exp (-r) := by positivity
    have hd : ∀ y : ℝ, y ≠ 0 → Ideal.div 1 (y : EReal) = ((1 / y : ℝ) : EReal) := fun y hy => by
      unfold Ideal.div
      rw [if_neg (by exact_mod_cast hy), one_mul, one_div, EReal.coe_inv]
    have he : Ideal.exp (-(r : EReal)) = ((Real.exp (-r) : ℝ) : EReal) := rfl
    rw [he, ← EReal.coe_one, ← EReal.coe_add, ← EReal.coe_mul]
    rw [EReal.coe_one, hd _ (ne_of_gt (mul_pos hp hp)), hd _ (ne_of_gt hp), ← EReal.coe_one]
    rw [← EReal.coe_mul, ← EReal.coe_sub, ← EReal.coe_mul]
    congr 1
    field_simp
    ring

/-- The gradient of a gate as the kernel writes it: the quotient's rule with the square in the denominator. -/
theorem gate_grad (a x : EReal) : 0 - (0 - a * Ideal.div 1 ((1 + Ideal.exp (0 - x)) * (1 + Ideal.exp (0 - x))) * 1) * Ideal.exp (0 - x)
    = a * (Ideal.div 1 (1 + Ideal.exp (-x)) * (1 - Ideal.div 1 (1 + Ideal.exp (-x)))) := by
  simp only [zero_sub, mul_one, EReal.neg_mul, neg_neg]
  rw [mul_assoc]
  exact congrArg (a * ·) (logistic_grad x)

end Cert.Gates
end
-- ==== Proof.SwigluValue.lean ====
/- The gradient of the gated unit `g * sigmoid g * u`, row by row. -/
module

public import proofs.«01_k».proof.Defs
public import proofs.«01_k».proof.Proof.Gen.Swiglu.Frame
public import Idealize.ShloMosaic.Lib.Quiescent
public import proofs.«01_k».proof.Proof.Gen.SwigluIdeal.Value
public import proofs.«01_k».proof.Proof.Gen.SwigluRefIdeal.Read
public import proofs.«01_k».proof.Proof.Gates

@[expose] public section

noncomputable section

namespace Cert.SwigluValue

open Cert.SwigluRefIdeal.Read Cert.SwigluIdeal Cert.SwigluIdeal.Gen Idealize.ShloMosaic Idealize.ShloMosaic.TcCoe
open Idealize.SL.Sem Cert.Gates

theorem dg_eq (g u ct : Vec Ideal S8448x2816 .f32) : val_main_v4 (F := Ideal) g u ct = Value.G3 (F := Ideal) g u ct := by
  funext i
  simp only [val_main_v4_apply, val_main_call1_v2_apply, val_main_call1_v1_apply, val_main_call1_v0_apply, val_main_v3_apply,
    val_main_v0_1_apply, val_main_call0_v7_apply, val_main_call0_v6_apply, val_main_call0_cst_1_apply, val_main_v0_2_apply,
    val_main_call0_v4_apply, val_main_call0_cst_0_apply, val_main_call0_v3_apply, val_main_call0_v2_apply, val_main_call0_cst_apply,
    val_main_call0_v1_apply, val_main_call0_v0_apply, pointwise]
  rw [gate_grad, zero_sub]

theorem du_eq (g ct : Vec Ideal S8448x2816 .f32) : val_main_v2 (F := Ideal) g ct = Value.G4 (F := Ideal) g ct := by
  funext i
  simp only [val_main_v2_apply, val_main_v0_0_apply, val_main_v0_2_apply, val_main_call0_v4_apply, val_main_call0_cst_0_apply,
    val_main_call0_v3_apply, val_main_call0_v2_apply, val_main_call0_cst_apply, val_main_call0_v1_apply, val_main_call0_v0_apply,
    pointwise]
  rw [zero_sub]

/-! ## The claims of this call -/

theorem frame_p : Cert.quiescent_Swiglu := fun m ρ _ => Cert.Swiglu.Gen.frame m ρ

theorem frame_pi : Cert.quiescent_SwigluIdeal := fun m ρ _ => Cert.SwigluIdeal.Gen.frame m ρ

theorem frame_ri : Cert.quiescent_SwigluRefIdeal := fun m ρ _ =>
  (θ_run Cert.SwigluRefIdeal.defs _ _).mono (fun r h => ⟨fun c => (h c).2.2, sem_eq_zero_of_no_sems (by decide) r.2⟩)
    (Cert.SwigluRefIdeal.Value.run (F := Ideal) m ρ)

theorem algebraic : Cert.algebraic_SwigluIdeal_SwigluRefIdeal := fun m ρ m' ρ' _ hagree =>
  ⟨_, _, Value.run m ρ,
    (θ_run Cert.SwigluRefIdeal.defs _ _).mono (fun _ h c => ⟨(h c).1.trans (by
        rw [val_main_v4_eq, (hagree c).1, (hagree c).2.1, (hagree c).2.2]
        exact dg_eq _ _ _), (h c).2.1.trans (by
        rw [val_main_v2_eq, (hagree c).1, (hagree c).2.2]
        exact du_eq _ _), (h c).2.2⟩) (Cert.SwigluRefIdeal.Value.run (F := Ideal) m' ρ')⟩

end Cert.SwigluValue
end
-- ==== Proof.Rows.lean ====
/- Rows of a matrix, and the sum of a matrix over its rows as the product with a column of ones. -/
module

public import proofs.«01_k».proof.Proof.Products

@[expose] public section

noncomputable section

namespace Cert.Rows

open Idealize.ShloMosaic Cert.Products

/-- A row of a matrix. -/
abbrev row {r c : ℕ} (x : At r c → EReal) (a : Fin r) : Fin c → EReal := fun k => x (ix2 a k)

/-- A column of ones. -/
abbrev ones (r : ℕ) : At r 1 → EReal := fun _ => 1

theorem tn_ones {r c : ℕ} (y : At r c → EReal) (j : At 1 c) : tn (ones r) y j = ∑ l : Fin r, y (ix2 l (j 1)) :=
  Finset.sum_congr rfl fun _ _ => one_mul _

/-- A block's rows are rows of the matrix. -/
theorem row_blk {r R c p : ℕ} {x : At r c → EReal} {A : At R c → EReal} (h : IsBlk p 0 x A) (a : Fin r) (b : Fin R)
    (hb : b.val = p * r + a.val) : row x a = row A b :=
  funext fun k => h _ _ hb (show k.val = 0 * c + k.val by omega)

/-- A block of full width has the matrix's columns. -/
theorem col_blk {r R c : ℕ} {j : At r c} {i : At R c} (h : (i 1).val = 0 * c + (j 1).val) : i 1 = j 1 :=
  Fin.ext (by rw [h, Nat.zero_mul, Nat.zero_add])

/-- What the last of `b` points leaves when the first writes the sum of its rows and each later one adds its own: the sum of
    all rows. -/
theorem row_sum {b t c N : ℕ} (h : 0 < b * t) (hb : 1 < b) (hN : N ≤ b) {A : At (b * t) c → EReal} (x : ∀ n, n < N → At t c → EReal)
    (s : ∀ n, n < N → At 1 c → EReal) (hx : ∀ n hn, IsBlk n 0 (x n hn) A)
    (first : ∀ n hn, n % b = 0 → s n hn = tn (ones t) (x n hn))
    (later : ∀ n (hn : n < N), n % b ≠ 0 → s n hn = fun j => s (n - 1) (by omega) j + tn (ones t) (x n hn) j)
    (n : ℕ) (hn : n < N) (hl : n % b = b - 1) :
    IsBlk 0 0 (fun j => s (n - 1) (by omega) j + tn (ones t) (x n hn) j) (tn (ones (b * t)) A) := by
  have small : ∀ n, n < N → n / b = 0 ∧ n % b = n := fun n hn => ⟨Nat.div_eq_of_lt (by omega), Nat.mod_eq_of_lt (by omega)⟩
  have := scan h hb (A := ones (b * t)) (fun _ _ => ones t) x s (fun _ _ _ _ _ _ => rfl)
    (fun n hn => by rw [(small n hn).1, (small n hn).2]; exact hx n hn) first (fun n hn h0 _ => later n hn h0) n hn hl
  rwa [(small n hn).1] at this

end Cert.Rows
end
-- ==== Proof.RmsValue.lean ====
/- The gradient of the root-mean-square norm. -/
module

public import proofs.«01_k».proof.Defs
public import proofs.«01_k».proof.Proof.Gen.Rms.Frame
public import Idealize.ShloMosaic.Lib.Quiescent
public import proofs.«01_k».proof.Proof.Gen.RmsIdeal.Value
public import proofs.«01_k».proof.Proof.Gen.RmsRefIdeal.Read
public import proofs.«01_k».proof.Proof.Rows

@[expose] public section

set_option maxRecDepth 16384

noncomputable section

namespace Cert.RmsValue

open Cert.RmsRefIdeal.Read Cert.RmsIdeal Cert.RmsIdeal.Gen Idealize.ShloMosaic Idealize.ShloMosaic.TcCoe
open Idealize.SL.Sem Cert.Products Cert.Rows

/-- The mean square of a row, with the small constant. -/
def var (x : Fin 1024 → EReal) : EReal :=
  Ideal.div (∑ k, x k * x k) (Ideal.ofBits .f32 0x44800000#32) + Ideal.ofBits .f32 0x358637BD#32

/-- What a row's scale sends back to each of its squares. -/
def back (x w g : Fin 1024 → EReal) : EReal := ∑ _k : Fin 1,
  Ideal.div ((∑ k, x k * (g k * w k)) * (Ideal.ofBits .f32 0xBF000000#32 * Ideal.div (Ideal.rsqrt (var x)) (var x)))
    (Ideal.ofBits .f32 0x44800000#32)

/-- The gradient of a row. -/
def dx (x w g : Fin 1024 → EReal) (l : Fin 1024) : EReal :=
  g l * w l * Ideal.rsqrt (var x) + x l * back x w g + back x w g * x l

/-- A row's share of the gradient of the weights. -/
def dw (x g : Fin 1024 → EReal) (l : Fin 1024) : EReal := x l * Ideal.rsqrt (var x) * g l

theorem pay3_eq (x : Vec Ideal S256x1024 .f32) (j : S256x1.Idx) : k0_pay3 x j = var (row (r := 256) (c := 1024) x (j 0)) := by
  unfold k0_pay3
  simp only [pointwise]
  rfl

theorem pay5_eq (x g : Vec Ideal S256x1024 .f32) (j : S1x1024.Idx) : k0_pay5 x g j
    = ∑ k : Fin 256, dw (row (r := 256) (c := 1024) x k) (row (r := 256) (c := 1024) g k) (j 1) := by
  unfold k0_pay5 k0_pay4
  simp only [pointwise, pay3_eq]
  rfl

theorem pay6_eq (x g : Vec Ideal S256x1024 .f32) (w : Vec Ideal S1x1024 .f32) (a : Fin 256) (l : Fin 1024) :
    k0_pay6 x w g (ix2 a l) = dx (row (r := 256) (c := 1024) x a) (row (r := 1) (c := 1024) w 0) (row (r := 256) (c := 1024) g a) l := by
  unfold k0_pay6 k0_pay4
  simp only [pointwise, pay3_eq]
  rfl

section Points

variable (c : Dev nD) (i : grid0.Coords) (arg1 : Memref sig .tc .vmem S256x1024 .f32) (h1 : arg1.IsWhole)
    (arg2 : Memref sig .tc .vmem S1x1024 .f32) (h2 : arg2.IsWhole) (arg3 : Memref sig .tc .vmem S256x1024 .f32) (h3 : arg3.IsWhole)
    (arg4 : Memref sig .tc .vmem S256x1024 .f32) (h4 : arg4.IsWhole) (arg5 : Memref sig .tc .vmem S1x1024 .f32) (h5 : arg5.IsWhole)
    (x : Vec Ideal S256x1024 .f32) (w : Vec Ideal S1x1024 .f32) (g : Vec Ideal S256x1024 .f32)

/-- The rows' shares before they are summed. -/
abbrev shares {r : ℕ} (x g : At r 1024 → EReal) : At r 1024 → EReal := fun j => dw (row x (j 0)) (row g (j 0)) (j 1)

/-- The rows' gradients. -/
abbrev grads {r : ℕ} (x : At r 1024 → EReal) (w : Fin 1024 → EReal) (g : At r 1024 → EReal) : At r 1024 → EReal :=
  fun j => dx (row x (j 0)) w (row g (j 0)) (j 1)

theorem pay6_fun : k0_pay6 x w g = grads (r := 256) x (row (r := 1) (c := 1024) w 0) g :=
  funext fun j => (congrArg (k0_pay6 x w g) (ext2 (x := j) (y := ix2 (j 0) (j 1)) rfl rfl)).trans (pay6_eq x g w (j 0) (j 1))

theorem pay2_eq (s : Vec Ideal S1x1024 .f32) (j : S1x1024.Idx) :
    k0_pay2 (k0_pay5 x g) s j = s j + tn (ones 256) (shares (r := 256) x g) j := by
  rw [tn_ones]
  unfold k0_pay2
  simp only [pointwise]
  exact congrArg (s j + ·) (pay5_eq x g j)

theorem out_A3 (hc0 : cond0_0 i) : out0_A_3 c i arg1 h1 arg2 h2 arg3 h3 arg4 h4 arg5 h5 hc0 x w g
    = grads (r := 256) x (row (r := 1) (c := 1024) w 0) g := by
  unfold out0_A_3
  rw [View.read_writes_junk_eq_canon]
  unfold kernelRun0_A
  dsimp only
  sl_unfold_words
  rw [View.canon_unit_zero hz, View.readAt_eq_ld, View.readAt_eq_ld, View.readAt_eq_ld, h1.read_unread, h2.read_unread, h3.read_unread,
    View.ld_unit_zero (S := S256x1024) hz, View.ld_unit_zero (S := S1x1024) hz, View.ld_unit_zero (S := S256x1024) hz]
  exact pay6_fun x w g

theorem out_B3 (hc0 : ¬cond0_0 i) (s : Vec Ideal S1x1024 .f32) : out0_B_3 c i arg1 h1 arg2 h2 arg3 h3 arg4 h4 arg5 h5 hc0 x w g s
    = grads (r := 256) x (row (r := 1) (c := 1024) w 0) g := by
  unfold out0_B_3
  rw [View.read_writes_junk_eq_canon]
  unfold kernelRun0_B
  dsimp only
  sl_unfold_words
  rw [View.canon_unit_zero hz, View.readAt_eq_ld, View.readAt_eq_ld, View.readAt_eq_ld, h1.read_unread, h2.read_unread, h3.read_unread,
    View.ld_unit_zero (S := S256x1024) hz, View.ld_unit_zero (S := S1x1024) hz, View.ld_unit_zero (S := S256x1024) hz]
  exact pay6_fun x w g

theorem out_A4 (hc0 : cond0_0 i) : out0_A_4 c i arg1 h1 arg2 h2 arg3 h3 arg4 h4 arg5 h5 hc0 x w g
    = tn (ones 256) (shares (r := 256) x g) := by
  funext j
  unfold out0_A_4
  rw [View.read_writes_junk_eq_canon]
  unfold kernelRun0_A
  dsimp only
  sl_unfold_words
  rw [View.canon_cons_unit_zero hz, View.readCov_unit_zero _ hz, View.readAt_eq_ld, View.readAt_eq_ld, h1.read_unread, h3.read_unread,
    View.ld_unit_zero (S := S256x1024) hz, View.ld_unit_zero (S := S256x1024) hz]
  refine (pay2_eq _ _ _ _).trans ?_
  unfold k0_pay1
  simp only [pointwise]
  rw [zero_add]

theorem out_B4 (hc0 : ¬cond0_0 i) (s : Vec Ideal S1x1024 .f32) : out0_B_4 c i arg1 h1 arg2 h2 arg3 h3 arg4 h4 arg5 h5 hc0 x w g s
    = fun j => s j + tn (ones 256) (shares (r := 256) x g) j := by
  funext j
  unfold out0_B_4
  rw [View.read_writes_junk_eq_canon]
  unfold kernelRun0_B
  dsimp only
  sl_unfold_words
  rw [View.canon_unit_zero hz, View.readAt_eq_ld, View.readAt_eq_ld, View.readAt_eq_ld, h1.read_unread, h3.read_unread, h5.read_unread,
    View.ld_unit_zero (S := S1x1024) hz, View.ld_unit_zero (S := S256x1024) hz, View.ld_unit_zero (S := S256x1024) hz]
  exact pay2_eq _ _ _ _

end Points

/-! ## The plain formula -/

theorem ref_var (x : Vec Ideal S8448x1024 .f32) (i : At 8448 1) : val_main_v6 (F := Ideal) x i = var (row (r := 8448) (c := 1024) x (i 0)) := by
  simp only [val_main_v6_apply, val_main_v5_apply, val_main_cst_1_apply, val_main_v4_apply, val_main_v3_apply, val_main_cst_0_apply,
    val_main_v2_apply, val_main_v1_apply, val_main_v0_apply, val_main_cst_apply, pointwise]
  rw [zero_add]
  have e : ∀ k : Fin 1024, x (idx_main_v1 (idx_main_v2 i) k) = x (ix2 (i 0) k) := fun k => congrArg x (ext2 rfl rfl)
  simp only [e]
  rfl

theorem ref_scale (x : Vec Ideal S8448x1024 .f32) (i : At 8448 1) :
    val_main_v7 (F := Ideal) x i = Ideal.rsqrt (var (row (r := 8448) (c := 1024) x (i 0))) := by
  simp only [val_main_v7_apply, ref_var, pointwise]

theorem ref_dw (x g : Vec Ideal S8448x1024 .f32) (j : S1x1024.Idx) :
    val_main_v36 (F := Ideal) x g j = tn (ones 8448) (shares (r := 8448) x g) j := by
  rw [tn_ones]
  simp only [val_main_v36_apply, val_main_v21_apply, val_main_cst_4_apply, val_main_v18_apply, val_main_v17_apply, val_main_cst_3_apply,
    val_main_v16_apply, val_main_v12_apply, val_main_v11_apply, ref_scale, pointwise]
  rw [zero_add, Fin.sum_univ_one, zero_add]
  have e : ∀ k : Fin 8448, idx_main_v17 (idx_main_v18 (idx_main_v21 (idx_main_v36 j) 0)) k = ix2 k (j 1) := fun k => ext2 rfl (by
    have h : (j 0).val < 1 := (j 0).isLt
    show 0 * 1024 + ((j 0).val * 1024 + (j 1).val) = (j 1).val
    omega)
  simp only [e]
  rfl

theorem ref_dx (x : Vec Ideal S8448x1024 .f32) (w : Vec Ideal S1024 .f32) (g : Vec Ideal S8448x1024 .f32) :
    val_main_v35 (F := Ideal) x w g = grads (r := 8448) x (fun l => w (ix1 l)) g := by
  funext j
  obtain ⟨a, b, rfl⟩ : ∃ a b, j = ix2 a b := ⟨j 0, j 1, ext2 rfl rfl⟩
  simp only [val_main_v35_apply, val_main_v34_apply, val_main_v33_apply, val_main_v32_apply, val_main_v31_apply, val_main_v30_apply,
    val_main_cst_7_apply, val_main_v29_apply, val_main_v28_apply, val_main_cst_6_apply, val_main_v27_apply, val_main_v26_apply,
    val_main_v25_apply, val_main_v24_apply, val_main_v23_apply, val_main_cst_5_apply, val_main_v22_apply, val_main_v20_apply,
    val_main_v19_apply, val_main_v13_apply, val_main_v10_apply, val_main_v9_apply, val_main_cst_2_apply, val_main_v8_apply, ref_scale,
    ref_var, pointwise]
  have er : ∀ (k : Fin 1) (l : Fin 1024), idx_main_v23 (idx_main_v24 (idx_main_v30 (idx_main_v31 (ix2 a b)) k)) l = ix2 a l :=
    fun k l => ext2 (show a.val * 1 + k.val = a.val by omega) rfl
  have ew : ∀ i : At 8448 1024, w (idx_main_v13 (idx_main_v19 i)) = w (ix1 (i 1)) := fun i =>
    congrArg w (funext fun d => by match d with | ⟨0, _⟩ => rfl)
  simp only [er, ew, zero_add]
  rfl

/-! ## The whole results -/

variable (m : (ℓ : Loc nD τ sig) → Buf (Elt Ideal) ℓ)

theorem V_w (c : Dev nD) (l : Fin 1024) : V m c main_v0 (ix2 0 l) = m ((c : Thread nD τ).loc main_arg1) (ix1 l) := by
  have h : V m c main_v0 = shapeCast S1x1024 (m ((c : Thread nD τ).loc main_arg1)) shapeCasts_S1024_S1x1024 := by
    show StableHlo.after _ _ (Proc.devRef .tc main_v0) = _
    after_results
    rfl
  rw [h]
  exact shapeCast_apply _ shapeCasts_S1024_S1x1024 (ix2 0 l) (ix1 l) (by
    rewrite [Shape.rowMajor_val_one, Shape.rowMajor_val_two]; show l.val = 0 * 1024 + l.val; omega)

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

theorem grads_blk {p : ℕ} {x g : At 256 1024 → EReal} {A B : At 8448 1024 → EReal} (w : Fin 1024 → EReal) (hx : IsBlk p 0 x A)
    (hg : IsBlk p 0 g B) : IsBlk p 0 (grads x w g) (grads A w B) := fun j i h0 h1 => by
  unfold grads
  rw [row_blk hx (j 0) (i 0) h0, row_blk hg (j 0) (i 0) h0, col_blk h1]

theorem shares_blk {p : ℕ} {x g : At 256 1024 → EReal} {A B : At 8448 1024 → EReal} (hx : IsBlk p 0 x A) (hg : IsBlk p 0 g B) :
    IsBlk p 0 (shares x g) (shares A B) := fun j i h0 h1 => by
  unfold shares
  rw [row_blk hx (j 0) (i 0) h0, row_blk hg (j 0) (i 0) h0, col_blk h1]

theorem blk_x (c : Dev nD) (t : Fin cfg0.N) : IsBlk (r' := 256) (c' := 1024) t.val 0 (iblk m c 0 t)
    (m ((c : Thread nD τ).loc main_arg0) : At 8448 1024 → EReal) := by
  obtain ⟨e0, e1, -⟩ := idx_facts t
  rw [← V_main_arg0 m c]; exact isBlk_emb (e := ((cfg0.win 0).blk t).view.emb) e0 e1 (fun _ => rfl) fun _ => rfl

theorem blk_g (c : Dev nD) (t : Fin cfg0.N) : IsBlk (r' := 256) (c' := 1024) t.val 0 (iblk m c 2 t)
    (m ((c : Thread nD τ).loc main_arg2) : At 8448 1024 → EReal) := by
  obtain ⟨-, -, -, -, e0, e1, -⟩ := idx_facts t
  rw [← V_main_arg2 m c]; exact isBlk_emb (e := ((cfg0.win 2).blk t).view.emb) e0 e1 (fun _ => rfl) fun _ => rfl

theorem blk_w (c : Dev nD) (t : Fin cfg0.N) : row (r := 1) (c := 1024) (iblk m c 1 t) 0 = fun l => m ((c : Thread nD τ).loc main_arg1) (ix1 l) := by
  obtain ⟨-, -, e0, e1, -⟩ := idx_facts t
  have h : IsBlk (r' := 1) (c' := 1024) 0 0 (iblk m c 1 t) (V m c main_v0 : At 1 1024 → EReal) :=
    isBlk_emb (A := V m c main_v0) (e := ((cfg0.win 1).blk t).view.emb) e0 e1 (fun _ => rfl) fun _ => rfl
  exact funext fun l => (h (ix2 0 l) (ix2 0 l) rfl (show l.val = 0 * 1024 + l.val by omega)).trans (V_w m c l)

/-- The gradient of the rows. -/
abbrev G3 (c : Dev nD) : Vec Ideal S8448x1024 .f32 := grads (r := 8448) (m ((c : Thread nD τ).loc main_arg0))
  (fun l => m ((c : Thread nD τ).loc main_arg1) (ix1 l)) (m ((c : Thread nD τ).loc main_arg2))

/-- The gradient of the weights. -/
abbrev G4 (c : Dev nD) : Vec Ideal S1x1024 .f32 :=
  tn (ones 8448) (shares (r := 8448) (m ((c : Thread nD τ).loc main_arg0)) (m ((c : Thread nD τ).loc main_arg2)))

theorem idx_onto : ∀ (q : Fin 33), ∃ t : Fin cfg0.N, (cfg0.win 3).flush t = true ∧ win0_3.index t = ![q.val, 0] :=
  (by decide +kernel : ∀ (q : Fin 33), ∃ t : Fin grid0.N, win0_3.flush t = true ∧ win0_3.index t = ![q.val, 0])

theorem mem_blk (t : Fin cfg0.N) (i : S8448x1024.Idx) : i ∈ ((cfg0.win 3).blk t).view.set ↔ ∀ a : Fin 2,
    win0_3.index t a * S256x1024.size a ≤ (i a).val ∧ (i a).val < win0_3.index t a * S256x1024.size a + S256x1024.size a := by
  show i ∈ ((View.whole main_v1_0).slice (win0_3.rect t)).set ↔ _
  rw [View.set_slice_whole, Rect.mem_set_unit]
  exact Iff.rfl

theorem mem_blk4 (t : Fin cfg0.N) (i : S1x1024.Idx) : i ∈ ((cfg0.win 4).blk t).view.set ↔ ∀ a : Fin 2,
    win0_4.index t a * S1x1024.size a ≤ (i a).val ∧ (i a).val < win0_4.index t a * S1x1024.size a + S1x1024.size a := by
  show i ∈ ((View.whole main_v1_1).slice (win0_4.rect t)).set ↔ _
  rw [View.set_slice_whole, Rect.mem_set_unit]
  exact Iff.rfl

theorem final3 (c : Dev nD) : (dats m 0 c).arrAt 3 cfg0.N = G3 m c := by
  refine (dats m 0 c).arrAt_eq_of_cover 3 _ (fun t _ => ?_) fun i => ?_
  · obtain ⟨-, -, -, -, -, -, e0, e1, -⟩ := idx_facts t
    have h := (grads_blk (fun l => m ((c : Thread nD τ).loc main_arg1) (ix1 l)) (blk_x m c t) (blk_g m c t)).eq_emb
      (e := ((cfg0.win 3).blk t).view.emb) e0 e1 (fun _ => rfl) fun _ => rfl
    by_cases h0 : t.val % 33 = 0
    · rw [Value.flushed3_A m c t h0, out_A3, blk_w]; exact funext h
    · rw [Value.flushed3_B m c t h0, out_B3, blk_w]; exact funext h
  · have h0 : (i 0).val < 8448 := (i 0).isLt
    have h1 : (i 1).val < 1024 := (i 1).isLt
    obtain ⟨t, hf, ht⟩ := idx_onto ⟨(i 0).val / 256, by omega⟩
    refine ⟨t, hf, ?_⟩
    rw [mem_blk]
    intro a
    rw [ht]
    match a with
    | ⟨0, _⟩ => show (i 0).val / 256 * 256 ≤ (i 0).val ∧ (i 0).val < (i 0).val / 256 * 256 + 256; omega
    | ⟨1, _⟩ => show 0 * 1024 ≤ (i 1).val ∧ (i 1).val < 0 * 1024 + 1024; omega

/-- What the last point leaves of the gradient of the weights. -/
theorem total (c : Dev nD) (n : ℕ) (hn : n < cfg0.N) (hl : n % 33 = 32) : IsBlk (r' := 1) (c' := 1024) 0 0
    (fun j => (outsAt0 m c (n - 1) (by omega)).2 j
      + tn (ones 256) (shares (r := 256) (iblk m c 0 (⟨n, hn⟩ : Fin cfg0.N)) (iblk m c 2 (⟨n, hn⟩ : Fin cfg0.N))) j) (G4 m c) :=
  row_sum (b := 33) (t := 256) (by decide) (by decide) (le_refl 33)
    (fun n hn => shares (r := 256) (iblk m c 0 (⟨n, hn⟩ : Fin cfg0.N)) (iblk m c 2 (⟨n, hn⟩ : Fin cfg0.N)))
    (fun n hn => (outsAt0 m c n hn).2) (fun n hn => shares_blk (blk_x m c ⟨n, hn⟩) (blk_g m c ⟨n, hn⟩))
    (fun n hn h => by
      rw [outsAt0_A m c ⟨n, hn⟩ h]
      dsimp only
      rw [out_A4])
    (fun n hn h => by
      rw [outsAt0_B m c ⟨n, hn⟩ h]
      dsimp only
      rw [out_B4])
    n hn hl

theorem final4 (c : Dev nD) : (dats m 0 c).arrAt 4 cfg0.N = G4 m c := by
  refine (dats m 0 c).arrAt_eq_of_cover 4 _ (fun t hf => ?_) fun i => ?_
  · have h1 : t.val % 33 = 32 := (flush0_4 t).mp hf
    obtain ⟨-, -, -, -, -, -, -, -, e0, e1⟩ := idx_facts t
    rw [Value.flushed4_B m c t (by omega), out_B4]
    exact funext ((total m c t.val t.isLt h1).eq_emb (e := ((cfg0.win 4).blk t).view.emb) e0 e1 (fun _ => rfl) fun _ => rfl)
  · have h0 : (i 0).val < 1 := (i 0).isLt
    have h1 : (i 1).val < 1024 := (i 1).isLt
    obtain ⟨t, ht⟩ : ∃ t : Fin cfg0.N, t.val = 32 := ⟨⟨32, by decide⟩, rfl⟩
    refine ⟨t, (flush0_4 t).mpr (by rw [ht]), ?_⟩
    rw [mem_blk4]
    obtain ⟨-, -, -, -, -, -, -, -, e0, e1⟩ := idx_facts t
    intro a
    match a with
    | ⟨0, _⟩ => show win0_4.index t (0 : Fin 2) * 1 ≤ (i 0).val ∧ (i 0).val < win0_4.index t (0 : Fin 2) * 1 + 1; rw [e0]; omega
    | ⟨1, _⟩ =>
      show win0_4.index t (1 : Fin 2) * 1024 ≤ (i 1).val ∧ (i 1).val < win0_4.index t (1 : Fin 2) * 1024 + 1024
      rw [e1]; omega

/-! ## The claims of this call -/

theorem frame_p : Cert.quiescent_Rms := fun m ρ _ => Cert.Rms.Gen.frame m ρ

theorem frame_pi : Cert.quiescent_RmsIdeal := fun m ρ _ => Cert.RmsIdeal.Gen.frame m ρ

theorem frame_ri : Cert.quiescent_RmsRefIdeal := fun m ρ _ =>
  (θ_run Cert.RmsRefIdeal.defs _ _).mono (fun r h => ⟨fun c => (h c).2.2, sem_eq_zero_of_no_sems (by decide) r.2⟩)
    (Cert.RmsRefIdeal.Value.run (F := Ideal) m ρ)

theorem algebraic : Cert.algebraic_RmsIdeal_RmsRefIdeal := fun m ρ m' ρ' _ hagree =>
  ⟨G3 m, G4 m, (θ_run defs _ _).mono (fun _ h c => ⟨(h c).1.trans (final3 m c), (h c).2.1.trans (final4 m c), (h c).2.2⟩)
      (Value.run_blocks m ρ),
    (θ_run Cert.RmsRefIdeal.defs _ _).mono (fun _ h c => ⟨(h c).1.trans (by
        rw [val_main_v35_eq, (hagree c).1, (hagree c).2.1, (hagree c).2.2]
        exact ref_dx _ _ _), (h c).2.1.trans (by
        rw [val_main_v36_eq, (hagree c).1, (hagree c).2.2]
        exact funext fun j => ref_dw _ _ j), (h c).2.2⟩) (Cert.RmsRefIdeal.Value.run (F := Ideal) m' ρ')⟩

end Cert.RmsValue
end
-- ==== Proof.PostValue.lean ====
/- The gradient of the gate `y * sigmoid t`, row by row. -/
module

public import proofs.«01_k».proof.Defs
public import proofs.«01_k».proof.Proof.Gen.Post.Frame
public import Idealize.ShloMosaic.Lib.Quiescent
public import proofs.«01_k».proof.Proof.Gen.PostIdeal.Value
public import proofs.«01_k».proof.Proof.Gen.PostRefIdeal.Read
public import proofs.«01_k».proof.Proof.Gates

@[expose] public section

noncomputable section

namespace Cert.PostValue

open Cert.PostRefIdeal.Read Cert.PostIdeal Cert.PostIdeal.Gen Idealize.ShloMosaic Idealize.ShloMosaic.TcCoe
open Idealize.SL.Sem Cert.Gates

theorem dy_eq (t ct : Vec Ideal S8448x1024 .f32) : val_main_v11 (F := Ideal) t ct = Value.G3 (F := Ideal) t ct := by
  funext i
  simp only [val_main_v11_apply, val_main_v5_apply, val_main_v4_apply, val_main_v3_apply, val_main_v2_apply, val_main_v1_apply,
    val_main_v0_apply, val_main_cst_apply, val_main_cst_0_apply, pointwise]
  rw [zero_sub]

theorem dt_eq (y t ct : Vec Ideal S8448x1024 .f32) : val_main_v12 (F := Ideal) y t ct = Value.G4 (F := Ideal) y t ct := by
  funext i
  simp only [val_main_v12_apply, val_main_v10_apply, val_main_v8_apply, val_main_v7_apply, val_main_v6_apply, val_main_v5_apply,
    val_main_v4_apply, val_main_v3_apply, val_main_v2_apply, val_main_v1_apply, val_main_v0_apply, val_main_cst_apply,
    val_main_cst_0_apply, val_main_cst_1_apply, pointwise]
  exact (gate_grad _ _).symm

/-! ## The claims of this call -/

theorem frame_p : Cert.quiescent_Post := fun m ρ _ => Cert.Post.Gen.frame m ρ

theorem frame_pi : Cert.quiescent_PostIdeal := fun m ρ _ => Cert.PostIdeal.Gen.frame m ρ

theorem frame_ri : Cert.quiescent_PostRefIdeal := fun m ρ _ =>
  (θ_run Cert.PostRefIdeal.defs _ _).mono (fun r h => ⟨fun c => (h c).2.2, sem_eq_zero_of_no_sems (by decide) r.2⟩)
    (Cert.PostRefIdeal.Value.run (F := Ideal) m ρ)

theorem algebraic : Cert.algebraic_PostIdeal_PostRefIdeal := fun m ρ m' ρ' _ hagree =>
  ⟨_, _, Value.run m ρ,
    (θ_run Cert.PostRefIdeal.defs _ _).mono (fun _ h c => ⟨(h c).1.trans (by
        rw [val_main_v11_eq, (hagree c).2.1, (hagree c).2.2]
        exact dy_eq _ _), (h c).2.1.trans (by
        rw [val_main_v12_eq, (hagree c).1, (hagree c).2.1, (hagree c).2.2]
        exact dt_eq _ _ _), (h c).2.2⟩) (Cert.PostRefIdeal.Value.run (F := Ideal) m' ρ')⟩

end Cert.PostValue
end
-- ==== Proof.PreValue.lean ====
/- The gradient of the gelu of `y + d * u`, row by row, and the gradient of `d` summed over the blocks of rows. -/
module

public import proofs.«01_k».proof.Defs
public import proofs.«01_k».proof.Proof.Gen.Pre.Frame
public import Idealize.ShloMosaic.Lib.Quiescent
public import proofs.«01_k».proof.Proof.Gen.PreIdeal.Value
public import proofs.«01_k».proof.Proof.Gen.PreRefIdeal.Read
public import proofs.«01_k».proof.Proof.Rows

@[expose] public section

set_option maxRecDepth 16384

noncomputable section

namespace Cert.PreValue

open Cert.PreRefIdeal.Read Cert.PreIdeal Cert.PreIdeal.Gen Idealize.ShloMosaic Idealize.ShloMosaic.TcCoe
open Idealize.SL.Sem Cert.Products Cert.Rows

/-- The hyperbolic tangent the gelu of `z` holds. -/
def bend (z : EReal) : EReal :=
  Ideal.tanh (Ideal.ofBits .f32 0x3F4C422A#32 * (z + Ideal.ofBits .f32 0x3D372713#32 * (z * z * z)))

/-- The same with the cube taken factor by factor. -/
def bend₁ (z : EReal) : EReal :=
  Ideal.tanh (Ideal.ofBits .f32 0x3F4C422A#32 * (z + Ideal.ofBits .f32 0x3D372713#32 * z * z * z))

theorem bend₁_eq (z : EReal) : bend₁ z = bend z := by
  unfold bend₁ bend
  rw [mul_assoc (_ * z) z z, mul_assoc _ z (z * z), mul_assoc z z z]

/-- What the tangent's argument receives of the cotangent `g`. -/
def inner (z g : EReal) : EReal :=
  Ideal.ofBits .f32 0x3F4C422A#32 * (Ideal.ofBits .f32 0x3F000000#32 * (z * g) * ((1 + bend z) * (1 - bend z)))

/-- The gradient of the gelu. -/
def slope (z g : EReal) : EReal :=
  g * (Ideal.ofBits .f32 0x3F000000#32 * (1 + bend z)) + inner z g
    + Ideal.ofBits .f32 0x3D372713#32 * inner z g * (Ideal.ofBits .f32 0x40400000#32 * (z * z))

theorem three : Ideal.ofBits .f32 0x40400000#32 = 1 + 1 + 1 := by
  have h : Ideal.ofBits .f32 0x40400000#32 = ((3 : ℝ) : EReal) := by
    simp [Ideal.ofBits, Ideal.ieee, -EReal.coe_mul]; norm_num
  rw [h, ← EReal.coe_one, ← EReal.coe_add, ← EReal.coe_add]
  norm_num

theorem thrice (x : EReal) : Ideal.ofBits .f32 0x40400000#32 * x = x + x + x := by
  rw [three, EReal.right_distrib_of_nonneg (by norm_num) (by norm_num), EReal.right_distrib_of_nonneg (by norm_num) (by norm_num), one_mul]

/-- The gelu's gradient with the cube's derivative taken factor by factor. -/
theorem slope_eq (z g : EReal) :
    (Ideal.ofBits .f32 0x3F4C422A#32 * (Ideal.ofBits .f32 0x3F000000#32 * z * g * ((1 + bend₁ z) * (1 - bend₁ z)))
      + Ideal.ofBits .f32 0x3D372713#32 * z * z
        * (Ideal.ofBits .f32 0x3F4C422A#32 * (Ideal.ofBits .f32 0x3F000000#32 * z * g * ((1 + bend₁ z) * (1 - bend₁ z))))
      + Ideal.ofBits .f32 0x3D372713#32 * z
        * (Ideal.ofBits .f32 0x3F4C422A#32 * (Ideal.ofBits .f32 0x3F000000#32 * z * g * ((1 + bend₁ z) * (1 - bend₁ z))) * z)
      + Ideal.ofBits .f32 0x3D372713#32
        * (Ideal.ofBits .f32 0x3F4C422A#32 * (Ideal.ofBits .f32 0x3F000000#32 * z * g * ((1 + bend₁ z) * (1 - bend₁ z))) * z * z)
      + Ideal.ofBits .f32 0x3F000000#32 * (g * (1 + bend₁ z))) = slope z g := by
  rw [bend₁_eq]
  rw [mul_assoc (Ideal.ofBits .f32 0x3F000000#32) z g]
  show inner z g + Ideal.ofBits .f32 0x3D372713#32 * z * z * inner z g + Ideal.ofBits .f32 0x3D372713#32 * z * (inner z g * z)
    + Ideal.ofBits .f32 0x3D372713#32 * (inner z g * z * z) + Ideal.ofBits .f32 0x3F000000#32 * (g * (1 + bend z)) = slope z g
  unfold slope
  rw [mul_left_comm _ _ (z * z), thrice, mul_left_comm g]
  generalize Ideal.ofBits .f32 0x3D372713#32 = a
  generalize inner z g = w
  generalize Ideal.ofBits .f32 0x3F000000#32 * (g * (1 + bend z)) = v
  have e1 : a * z * z * w = a * w * (z * z) := by ac_rfl
  have e2 : a * z * (w * z) = a * w * (z * z) := by ac_rfl
  have e3 : a * (w * z * z) = a * w * (z * z) := by ac_rfl
  have e4 : z * z * (a * w) = a * w * (z * z) := by ac_rfl
  rw [e1, e2, e3]
  simp only [mul_comm, mul_left_comm, add_assoc, add_comm, add_left_comm]

theorem pay5_eq (y u g : Vec Ideal S256x1024 .f32) (d : Vec Ideal S1x1024 .f32) (a : Fin 256) (l : Fin 1024) :
    k0_pay5 y u d g (ix2 a l) = slope (y (ix2 a l) + d (ix2 0 l) * u (ix2 a l)) (g (ix2 a l)) := by
  rw [← slope_eq]
  unfold k0_pay5 k0_pay4
  simp only [pointwise]
  rfl

/-- The argument of the gelu. -/
abbrev arg {r : ℕ} (y u : At r 1024 → EReal) (d : Fin 1024 → EReal) : At r 1024 → EReal := fun j => y j + d (j 1) * u j

/-- The gradient of `y`. -/
abbrev gy {r : ℕ} (y u : At r 1024 → EReal) (d : Fin 1024 → EReal) (g : At r 1024 → EReal) : At r 1024 → EReal :=
  fun j => slope (arg y u d j) (g j)

/-- The gradient of `u`. -/
abbrev gu {r : ℕ} (y u : At r 1024 → EReal) (d : Fin 1024 → EReal) (g : At r 1024 → EReal) : At r 1024 → EReal :=
  fun j => d (j 1) * gy y u d g j

/-- The places' shares of the gradient of `d`. -/
abbrev gd {r : ℕ} (y u : At r 1024 → EReal) (d : Fin 1024 → EReal) (g : At r 1024 → EReal) : At r 1024 → EReal :=
  fun j => gy y u d g j * u j

section Points

variable (c : Dev nD) (i : grid0.Coords) (arg1 : Memref sig .tc .vmem S256x1024 .f32) (h1 : arg1.IsWhole)
    (arg2 : Memref sig .tc .vmem S256x1024 .f32) (h2 : arg2.IsWhole) (arg3 : Memref sig .tc .vmem S1x1024 .f32) (h3 : arg3.IsWhole)
    (arg4 : Memref sig .tc .vmem S256x1024 .f32) (h4 : arg4.IsWhole) (arg5 : Memref sig .tc .vmem S256x1024 .f32) (h5 : arg5.IsWhole)
    (arg6 : Memref sig .tc .vmem S256x1024 .f32) (h6 : arg6.IsWhole) (arg7 : Memref sig .tc .vmem S1x1024 .f32) (h7 : arg7.IsWhole)
    (y u : Vec Ideal S256x1024 .f32) (d : Vec Ideal S1x1024 .f32) (g : Vec Ideal S256x1024 .f32)

theorem pay5_fun : k0_pay5 y u d g = gy (r := 256) y u (row (r := 1) (c := 1024) d 0) g := by
  funext j
  obtain ⟨a, b, rfl⟩ : ∃ a b, j = ix2 a b := ⟨j 0, j 1, ext2 rfl rfl⟩
  exact pay5_eq y u g d a b

theorem pay1_fun : k0_pay1 (k0_pay4 d) (k0_pay5 y u d g) = gu (r := 256) y u (row (r := 1) (c := 1024) d 0) g := by
  rw [pay5_fun]
  funext j
  obtain ⟨a, b, rfl⟩ : ∃ a b, j = ix2 a b := ⟨j 0, j 1, ext2 rfl rfl⟩
  unfold k0_pay1 k0_pay4
  simp only [pointwise]
  rfl

theorem pay3_eq (s : Vec Ideal S1x1024 .f32) (j : S1x1024.Idx) :
    k0_pay3 u (k0_pay5 y u d g) s j = s j + tn (ones 256) (gd (r := 256) y u (row (r := 1) (c := 1024) d 0) g) j := by
  rw [pay5_fun, tn_ones]
  unfold k0_pay3
  simp only [pointwise]

theorem out_A4 (hc0 : cond0_0 i) : out0_A_4 c i arg1 h1 arg2 h2 arg3 h3 arg4 h4 arg5 h5 arg6 h6 arg7 h7 hc0 y u d g
    = gy (r := 256) y u (row (r := 1) (c := 1024) d 0) g := by
  unfold out0_A_4
  rw [View.read_writes_junk_eq_canon]
  unfold kernelRun0_A
  dsimp only
  sl_unfold_words
  rw [View.canon_unit_zero hz]
  simp only [View.readAt_eq_ld, h1.read_unread, h2.read_unread, h3.read_unread, h4.read_unread]
  rw [View.ld_unit_zero (S := S256x1024) hz, View.ld_unit_zero (S := S256x1024) hz, View.ld_unit_zero (S := S1x1024) hz,
    View.ld_unit_zero (S := S256x1024) hz]
  exact pay5_fun y u d g

theorem out_B4 (hc0 : ¬cond0_0 i) (s : Vec Ideal S1x1024 .f32) :
    out0_B_4 c i arg1 h1 arg2 h2 arg3 h3 arg4 h4 arg5 h5 arg6 h6 arg7 h7 hc0 y u d g s
    = gy (r := 256) y u (row (r := 1) (c := 1024) d 0) g := by
  unfold out0_B_4
  rw [View.read_writes_junk_eq_canon]
  unfold kernelRun0_B
  dsimp only
  sl_unfold_words
  rw [View.canon_unit_zero hz]
  simp only [View.readAt_eq_ld, h1.read_unread, h2.read_unread, h3.read_unread, h4.read_unread]
  rw [View.ld_unit_zero (S := S256x1024) hz, View.ld_unit_zero (S := S256x1024) hz, View.ld_unit_zero (S := S1x1024) hz,
    View.ld_unit_zero (S := S256x1024) hz]
  exact pay5_fun y u d g

theorem out_A5 (hc0 : cond0_0 i) : out0_A_5 c i arg1 h1 arg2 h2 arg3 h3 arg4 h4 arg5 h5 arg6 h6 arg7 h7 hc0 y u d g
    = gu (r := 256) y u (row (r := 1) (c := 1024) d 0) g := by
  unfold out0_A_5
  rw [View.read_writes_junk_eq_canon]
  unfold kernelRun0_A
  dsimp only
  sl_unfold_words
  rw [View.canon_unit_zero hz]
  simp only [View.readAt_eq_ld, h1.read_unread, h2.read_unread, h3.read_unread, h4.read_unread]
  rw [View.ld_unit_zero (S := S256x1024) hz, View.ld_unit_zero (S := S256x1024) hz, View.ld_unit_zero (S := S1x1024) hz,
    View.ld_unit_zero (S := S256x1024) hz]
  exact pay1_fun y u d g

theorem out_B5 (hc0 : ¬cond0_0 i) (s : Vec Ideal S1x1024 .f32) :
    out0_B_5 c i arg1 h1 arg2 h2 arg3 h3 arg4 h4 arg5 h5 arg6 h6 arg7 h7 hc0 y u d g s
    = gu (r := 256) y u (row (r := 1) (c := 1024) d 0) g := by
  unfold out0_B_5
  rw [View.read_writes_junk_eq_canon]
  unfold kernelRun0_B
  dsimp only
  sl_unfold_words
  rw [View.canon_unit_zero hz]
  simp only [View.readAt_eq_ld, h1.read_unread, h2.read_unread, h3.read_unread, h4.read_unread]
  rw [View.ld_unit_zero (S := S256x1024) hz, View.ld_unit_zero (S := S256x1024) hz, View.ld_unit_zero (S := S1x1024) hz,
    View.ld_unit_zero (S := S256x1024) hz]
  exact pay1_fun y u d g

theorem out_A6 (hc0 : cond0_0 i) : out0_A_6 c i arg1 h1 arg2 h2 arg3 h3 arg4 h4 arg5 h5 arg6 h6 arg7 h7 hc0 y u d g
    = tn (ones 256) (gd (r := 256) y u (row (r := 1) (c := 1024) d 0) g) := by
  funext j
  unfold out0_A_6
  rw [View.read_writes_junk_eq_canon]
  unfold kernelRun0_A
  dsimp only
  sl_unfold_words
  rw [View.canon_cons_unit_zero hz, View.readCov_unit_zero _ hz]
  simp only [View.readAt_eq_ld, h1.read_unread, h2.read_unread, h3.read_unread, h4.read_unread]
  rw [View.ld_unit_zero (S := S256x1024) hz, View.ld_unit_zero (S := S256x1024) hz, View.ld_unit_zero (S := S1x1024) hz,
    View.ld_unit_zero (S := S256x1024) hz]
  refine (pay3_eq _ _ _ _ _ _).trans ?_
  unfold k0_pay2
  simp only [pointwise]
  rw [zero_add]

theorem out_B6 (hc0 : ¬cond0_0 i) (s : Vec Ideal S1x1024 .f32) :
    out0_B_6 c i arg1 h1 arg2 h2 arg3 h3 arg4 h4 arg5 h5 arg6 h6 arg7 h7 hc0 y u d g s
    = fun j => s j + tn (ones 256) (gd (r := 256) y u (row (r := 1) (c := 1024) d 0) g) j := by
  funext j
  unfold out0_B_6
  rw [View.read_writes_junk_eq_canon]
  unfold kernelRun0_B
  dsimp only
  sl_unfold_words
  rw [View.canon_unit_zero hz]
  simp only [View.readAt_eq_ld, h1.read_unread, h2.read_unread, h3.read_unread, h4.read_unread, h7.read_unread]
  rw [View.ld_unit_zero (S := S256x1024) hz, View.ld_unit_zero (S := S256x1024) hz, View.ld_unit_zero (S := S1x1024) hz,
    View.ld_unit_zero (S := S256x1024) hz, View.ld_unit_zero (S := S1x1024) hz]
  exact pay3_eq _ _ _ _ _ _

end Points

/-! ## The plain formula -/

theorem ref_y (y u : Vec Ideal S8448x1024 .f32) (d : Vec Ideal S1024 .f32) (g : Vec Ideal S8448x1024 .f32) :
    val_main_v36 (F := Ideal) y u d g = gy (r := 8448) y u (fun l => d (ix1 l)) g := by
  funext j
  obtain ⟨a, b, rfl⟩ : ∃ a b, j = ix2 a b := ⟨j 0, j 1, ext2 rfl rfl⟩
  simp only [val_main_v36_apply, val_main_v35_apply, val_main_v34_apply, val_main_v33_apply, val_main_cst_8_apply, val_main_v32_apply,
    val_main_v31_apply, val_main_v30_apply, val_main_cst_7_apply, val_main_v29_apply, val_main_v28_apply, val_main_v27_apply,
    val_main_cst_6_apply, val_main_v26_apply, val_main_v25_apply, val_main_v23_apply, val_main_v22_apply,
    val_main_cst_5_apply, val_main_v21_apply, val_main_v20_apply, val_main_cst_4_apply, val_main_v19_apply, val_main_v18_apply,
    val_main_v17_apply, val_main_cst_3_apply, val_main_v16_apply, val_main_v15_apply, val_main_cst_2_apply, val_main_v14_apply,
    val_main_v13_apply, val_main_v12_apply, val_main_cst_1_apply, val_main_v11_apply, val_main_v10_apply, val_main_v9_apply,
    val_main_cst_0_apply, val_main_v8_apply, val_main_v7_apply, val_main_cst_apply, val_main_v6_apply, val_main_v5_apply,
    val_main_v4_apply, val_main_v3_apply, val_main_v2_apply, val_main_v1_apply, val_main_v0_apply, pointwise]
  have ed : d (idx_main_v0 (idx_main_v1 (ix2 a b))) = d (ix1 b) := congrArg d (funext fun k => by match k with | ⟨0, _⟩ => rfl)
  simp only [ed]
  rfl

theorem ref_u (y u : Vec Ideal S8448x1024 .f32) (d : Vec Ideal S1024 .f32) (g : Vec Ideal S8448x1024 .f32) :
    val_main_v38 (F := Ideal) y u d g = gu (r := 8448) y u (fun l => d (ix1 l)) g := by
  funext j
  simp only [val_main_v38_apply, val_main_v37_apply, val_main_v0_apply, ref_y, pointwise]
  have ed : d (idx_main_v0 (idx_main_v37 j)) = d (ix1 (j 1)) := congrArg d (funext fun k => by match k with | ⟨0, _⟩ => rfl)
  rw [ed]

theorem ref_d (y u : Vec Ideal S8448x1024 .f32) (d : Vec Ideal S1024 .f32) (g : Vec Ideal S8448x1024 .f32) :
    val_main_v43 (F := Ideal) y u d g = tn (ones 8448) (gd (r := 8448) y u (fun l => d (ix1 l)) g) := by
  funext j
  rw [tn_ones]
  simp only [val_main_v43_apply, val_main_v42_apply, val_main_cst_10_apply, val_main_v41_apply, val_main_v40_apply, val_main_cst_9_apply,
    val_main_v39_apply, ref_y, pointwise]
  rw [zero_add, Fin.sum_univ_one, zero_add]
  have e : ∀ k : Fin 8448, idx_main_v40 (idx_main_v41 (idx_main_v42 (idx_main_v43 j) 0)) k = ix2 k (j 1) := fun k => ext2 rfl (by
    have h : (j 0).val < 1 := (j 0).isLt
    show 0 * 1024 + ((j 0).val * 1024 + (j 1).val) = (j 1).val
    omega)
  simp only [e]
  rfl

/-! ## The whole results -/

variable (m : (ℓ : Loc nD τ sig) → Buf (Elt Ideal) ℓ)

theorem V_d (c : Dev nD) (l : Fin 1024) : V m c main_v0 (ix2 0 l) = m ((c : Thread nD τ).loc main_arg2) (ix1 l) := by
  have h : V m c main_v0 = shapeCast S1x1024 (m ((c : Thread nD τ).loc main_arg2)) shapeCasts_S1024_S1x1024 := by
    show StableHlo.after _ _ (Proc.devRef .tc main_v0) = _
    after_results
    rfl
  rw [h]
  exact shapeCast_apply _ shapeCasts_S1024_S1x1024 (ix2 0 l) (ix1 l) (by
    rewrite [Shape.rowMajor_val_one, Shape.rowMajor_val_two]; show l.val = 0 * 1024 + l.val; omega)

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem out_facts : ∀ t : Fin cfg0.N, win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

section Blocks

variable {p : ℕ} {y u g : At 256 1024 → EReal} {Y U G : At 8448 1024 → EReal} (d : Fin 1024 → EReal) (hy : IsBlk p 0 y Y)
    (hu : IsBlk p 0 u U) (hg : IsBlk p 0 g G)
include hy hu hg

theorem gy_blk : IsBlk p 0 (gy y u d g) (gy Y U d G) := fun j i h0 h1 => by
  unfold gy arg
  rw [hy j i h0 h1, hu j i h0 h1, hg j i h0 h1, col_blk h1]

theorem gu_blk : IsBlk p 0 (gu y u d g) (gu Y U d G) := fun j i h0 h1 => by
  unfold gu
  rw [gy_blk d hy hu hg j i h0 h1, col_blk h1]

theorem gd_blk : IsBlk p 0 (gd y u d g) (gd Y U d G) := fun j i h0 h1 => by
  unfold gd
  rw [gy_blk d hy hu hg j i h0 h1, hu j i h0 h1]

end Blocks

theorem blk_y (c : Dev nD) (t : Fin cfg0.N) : IsBlk (r' := 256) (c' := 1024) t.val 0 (iblk m c 0 t)
    (m ((c : Thread nD τ).loc main_arg0) : At 8448 1024 → EReal) := by
  obtain ⟨e0, e1, -⟩ := idx_facts t
  rw [← V_main_arg0 m c]; exact isBlk_emb (e := ((cfg0.win 0).blk t).view.emb) e0 e1 (fun _ => rfl) fun _ => rfl

theorem blk_u (c : Dev nD) (t : Fin cfg0.N) : IsBlk (r' := 256) (c' := 1024) t.val 0 (iblk m c 1 t)
    (m ((c : Thread nD τ).loc main_arg1) : At 8448 1024 → EReal) := by
  obtain ⟨-, -, e0, e1, -⟩ := idx_facts t
  rw [← V_main_arg1 m c]; exact isBlk_emb (e := ((cfg0.win 1).blk t).view.emb) e0 e1 (fun _ => rfl) fun _ => rfl

theorem blk_g (c : Dev nD) (t : Fin cfg0.N) : IsBlk (r' := 256) (c' := 1024) t.val 0 (iblk m c 3 t)
    (m ((c : Thread nD τ).loc main_arg3) : At 8448 1024 → EReal) := by
  obtain ⟨-, -, -, -, -, -, e0, e1⟩ := idx_facts t
  rw [← V_main_arg3 m c]; exact isBlk_emb (e := ((cfg0.win 3).blk t).view.emb) e0 e1 (fun _ => rfl) fun _ => rfl

theorem blk_d (c : Dev nD) (t : Fin cfg0.N) : row (r := 1) (c := 1024) (iblk m c 2 t) 0 = fun l => m ((c : Thread nD τ).loc main_arg2) (ix1 l) := by
  obtain ⟨-, -, -, -, e0, e1, -⟩ := idx_facts t
  have h : IsBlk (r' := 1) (c' := 1024) 0 0 (iblk m c 2 t) (V m c main_v0 : At 1 1024 → EReal) :=
    isBlk_emb (A := V m c main_v0) (e := ((cfg0.win 2).blk t).view.emb) e0 e1 (fun _ => rfl) fun _ => rfl
  exact funext fun l => (h (ix2 0 l) (ix2 0 l) rfl (show l.val = 0 * 1024 + l.val by omega)).trans (V_d m c l)

/-- The gradient of `y`, of `u` and of `d`. -/
abbrev G4 (c : Dev nD) : Vec Ideal S8448x1024 .f32 := gy (r := 8448) (m ((c : Thread nD τ).loc main_arg0))
  (m ((c : Thread nD τ).loc main_arg1)) (fun l => m ((c : Thread nD τ).loc main_arg2) (ix1 l)) (m ((c : Thread nD τ).loc main_arg3))

abbrev G5 (c : Dev nD) : Vec Ideal S8448x1024 .f32 := gu (r := 8448) (m ((c : Thread nD τ).loc main_arg0))
  (m ((c : Thread nD τ).loc main_arg1)) (fun l => m ((c : Thread nD τ).loc main_arg2) (ix1 l)) (m ((c : Thread nD τ).loc main_arg3))

abbrev G6 (c : Dev nD) : Vec Ideal S1x1024 .f32 := tn (ones 8448) (gd (r := 8448) (m ((c : Thread nD τ).loc main_arg0))
  (m ((c : Thread nD τ).loc main_arg1)) (fun l => m ((c : Thread nD τ).loc main_arg2) (ix1 l)) (m ((c : Thread nD τ).loc main_arg3)))

theorem onto4 : ∀ (q : Fin 33), ∃ t : Fin cfg0.N, (cfg0.win 4).flush t = true ∧ win0_4.index t = ![q.val, 0] :=
  (by decide +kernel : ∀ (q : Fin 33), ∃ t : Fin grid0.N, win0_4.flush t = true ∧ win0_4.index t = ![q.val, 0])

theorem onto5 : ∀ (q : Fin 33), ∃ t : Fin cfg0.N, (cfg0.win 5).flush t = true ∧ win0_5.index t = ![q.val, 0] :=
  (by decide +kernel : ∀ (q : Fin 33), ∃ t : Fin grid0.N, win0_5.flush t = true ∧ win0_5.index t = ![q.val, 0])

theorem mem4 (t : Fin cfg0.N) (i : S8448x1024.Idx) : i ∈ ((cfg0.win 4).blk t).view.set ↔ ∀ a : Fin 2,
    win0_4.index t a * S256x1024.size a ≤ (i a).val ∧ (i a).val < win0_4.index t a * S256x1024.size a + S256x1024.size a := by
  show i ∈ ((View.whole main_v1_0).slice (win0_4.rect t)).set ↔ _
  rw [View.set_slice_whole, Rect.mem_set_unit]
  exact Iff.rfl

theorem mem5 (t : Fin cfg0.N) (i : S8448x1024.Idx) : i ∈ ((cfg0.win 5).blk t).view.set ↔ ∀ a : Fin 2,
    win0_5.index t a * S256x1024.size a ≤ (i a).val ∧ (i a).val < win0_5.index t a * S256x1024.size a + S256x1024.size a := by
  show i ∈ ((View.whole main_v1_1).slice (win0_5.rect t)).set ↔ _
  rw [View.set_slice_whole, Rect.mem_set_unit]
  exact Iff.rfl

theorem mem6 (t : Fin cfg0.N) (i : S1x1024.Idx) : i ∈ ((cfg0.win 6).blk t).view.set ↔ ∀ a : Fin 2,
    win0_6.index t a * S1x1024.size a ≤ (i a).val ∧ (i a).val < win0_6.index t a * S1x1024.size a + S1x1024.size a := by
  show i ∈ ((View.whole main_v1_2).slice (win0_6.rect t)).set ↔ _
  rw [View.set_slice_whole, Rect.mem_set_unit]
  exact Iff.rfl

/-- A place lies in its row block. -/
theorem inside (i : At 8448 1024) (a : Fin 2) :
    (![(i 0).val / 256, 0] : Fin 2 → ℕ) a * S256x1024.size a ≤ (i a).val
      ∧ (i a).val < (![(i 0).val / 256, 0] : Fin 2 → ℕ) a * S256x1024.size a + S256x1024.size a := by
  have h1 : (i 1).val < 1024 := (i 1).isLt
  match a with
  | ⟨0, _⟩ => show (i 0).val / 256 * 256 ≤ (i 0).val ∧ (i 0).val < (i 0).val / 256 * 256 + 256; omega
  | ⟨1, _⟩ => show 0 * 1024 ≤ (i 1).val ∧ (i 1).val < 0 * 1024 + 1024; omega

theorem final4 (c : Dev nD) : (dats m 0 c).arrAt 4 cfg0.N = G4 m c := by
  refine (dats m 0 c).arrAt_eq_of_cover 4 _ (fun t _ => ?_) fun i => ?_
  · obtain ⟨e0, e1, -⟩ := out_facts t
    have h := (gy_blk (fun l => m ((c : Thread nD τ).loc main_arg2) (ix1 l)) (blk_y m c t) (blk_u m c t) (blk_g m c t)).eq_emb
      (e := ((cfg0.win 4).blk t).view.emb) e0 e1 (fun _ => rfl) fun _ => rfl
    by_cases h0 : t.val % 33 = 0
    · rw [Value.flushed4_A m c t h0, out_A4, blk_d]; exact funext h
    · rw [Value.flushed4_B m c t h0, out_B4, blk_d]; exact funext h
  · have h0 : (i 0).val < 8448 := (i 0).isLt
    obtain ⟨t, hf, ht⟩ := onto4 ⟨(i 0).val / 256, by omega⟩
    refine ⟨t, hf, (mem4 t i).mpr ?_⟩
    rw [ht]
    exact inside i

theorem final5 (c : Dev nD) : (dats m 0 c).arrAt 5 cfg0.N = G5 m c := by
  refine (dats m 0 c).arrAt_eq_of_cover 5 _ (fun t _ => ?_) fun i => ?_
  · obtain ⟨-, -, e0, e1, -⟩ := out_facts t
    have h := (gu_blk (fun l => m ((c : Thread nD τ).loc main_arg2) (ix1 l)) (blk_y m c t) (blk_u m c t) (blk_g m c t)).eq_emb
      (e := ((cfg0.win 5).blk t).view.emb) e0 e1 (fun _ => rfl) fun _ => rfl
    by_cases h0 : t.val % 33 = 0
    · rw [Value.flushed5_A m c t h0, out_A5, blk_d]; exact funext h
    · rw [Value.flushed5_B m c t h0, out_B5, blk_d]; exact funext h
  · have h0 : (i 0).val < 8448 := (i 0).isLt
    obtain ⟨t, hf, ht⟩ := onto5 ⟨(i 0).val / 256, by omega⟩
    refine ⟨t, hf, (mem5 t i).mpr ?_⟩
    rw [ht]
    exact inside i

/-- What the last point leaves of the gradient of `d`. -/
theorem total (c : Dev nD) (n : ℕ) (hn : n < cfg0.N) (hl : n % 33 = 32) : IsBlk (r' := 1) (c' := 1024) 0 0
    (fun j => (outsAt0 m c (n - 1) (by omega)).2.2 j + tn (ones 256) (gd (r := 256) (iblk m c 0 (⟨n, hn⟩ : Fin cfg0.N))
      (iblk m c 1 (⟨n, hn⟩ : Fin cfg0.N)) (fun l => m ((c : Thread nD τ).loc main_arg2) (ix1 l)) (iblk m c 3 (⟨n, hn⟩ : Fin cfg0.N))) j) (G6 m c) :=
  row_sum (b := 33) (t := 256) (by decide) (by decide) (le_refl 33)
    (fun n hn => gd (r := 256) (iblk m c 0 (⟨n, hn⟩ : Fin cfg0.N)) (iblk m c 1 (⟨n, hn⟩ : Fin cfg0.N))
      (fun l => m ((c : Thread nD τ).loc main_arg2) (ix1 l)) (iblk m c 3 (⟨n, hn⟩ : Fin cfg0.N)))
    (fun n hn => (outsAt0 m c n hn).2.2) (fun n hn => gd_blk _ (blk_y m c ⟨n, hn⟩) (blk_u m c ⟨n, hn⟩) (blk_g m c ⟨n, hn⟩))
    (fun n hn h => by
      rw [outsAt0_A m c ⟨n, hn⟩ h]
      dsimp only
      rw [out_A6, blk_d])
    (fun n hn h => by
      rw [outsAt0_B m c ⟨n, hn⟩ h]
      dsimp only
      rw [out_B6, blk_d])
    n hn hl

theorem final6 (c : Dev nD) : (dats m 0 c).arrAt 6 cfg0.N = G6 m c := by
  refine (dats m 0 c).arrAt_eq_of_cover 6 _ (fun t hf => ?_) fun i => ?_
  · have h1 : t.val % 33 = 32 := (flush0_6 t).mp hf
    obtain ⟨-, -, -, -, e0, e1⟩ := out_facts t
    rw [Value.flushed6_B m c t (by omega), out_B6, blk_d]
    exact funext ((total m c t.val t.isLt h1).eq_emb (e := ((cfg0.win 6).blk t).view.emb) e0 e1 (fun _ => rfl) fun _ => rfl)
  · have h0 : (i 0).val < 1 := (i 0).isLt
    have h1 : (i 1).val < 1024 := (i 1).isLt
    obtain ⟨t, ht⟩ : ∃ t : Fin cfg0.N, t.val = 32 := ⟨⟨32, by decide⟩, rfl⟩
    refine ⟨t, (flush0_6 t).mpr (by rw [ht]), (mem6 t i).mpr ?_⟩
    obtain ⟨-, -, -, -, e0, e1⟩ := out_facts t
    intro a
    match a with
    | ⟨0, _⟩ => show win0_6.index t (0 : Fin 2) * 1 ≤ (i 0).val ∧ (i 0).val < win0_6.index t (0 : Fin 2) * 1 + 1; rw [e0]; omega
    | ⟨1, _⟩ =>
      show win0_6.index t (1 : Fin 2) * 1024 ≤ (i 1).val ∧ (i 1).val < win0_6.index t (1 : Fin 2) * 1024 + 1024
      rw [e1]; omega

/-! ## The claims of this call -/

theorem frame_p : Cert.quiescent_Pre := fun m ρ _ => Cert.Pre.Gen.frame m ρ

theorem frame_pi : Cert.quiescent_PreIdeal := fun m ρ _ => Cert.PreIdeal.Gen.frame m ρ

theorem frame_ri : Cert.quiescent_PreRefIdeal := fun m ρ _ =>
  (θ_run Cert.PreRefIdeal.defs _ _).mono (fun r h => ⟨fun c => (h c).2.2.2, sem_eq_zero_of_no_sems (by decide) r.2⟩)
    (Cert.PreRefIdeal.Value.run (F := Ideal) m ρ)

theorem algebraic : Cert.algebraic_PreIdeal_PreRefIdeal := fun m ρ m' ρ' _ hagree =>
  ⟨G4 m, G5 m, G6 m, (θ_run defs _ _).mono (fun _ h c => ⟨(h c).1.trans (final4 m c), (h c).2.1.trans (final5 m c),
      (h c).2.2.1.trans (final6 m c), (h c).2.2.2⟩) (Value.run_blocks m ρ),
    (θ_run Cert.PreRefIdeal.defs _ _).mono (fun _ h c => ⟨(h c).1.trans (by
        rw [val_main_v36_eq, (hagree c).1, (hagree c).2.1, (hagree c).2.2.1, (hagree c).2.2.2]
        exact ref_y _ _ _ _), (h c).2.1.trans (by
        rw [val_main_v38_eq, (hagree c).1, (hagree c).2.1, (hagree c).2.2.1, (hagree c).2.2.2]
        exact ref_u _ _ _ _), (h c).2.2.1.trans (by
        rw [val_main_v43_eq, (hagree c).1, (hagree c).2.1, (hagree c).2.2.1, (hagree c).2.2.2]
        exact ref_d _ _ _ _), (h c).2.2.2⟩) (Cert.PreRefIdeal.Value.run (F := Ideal) m' ρ')⟩

end Cert.PreValue
end
-- ==== Proof.MergeValue.lean ====
/- The gradient of the gated sum of the three branches, with the first places of each sequence left out. -/
module

public import proofs.«01_k».proof.Defs
public import proofs.«01_k».proof.Proof.Gen.Merge.Frame
public import Idealize.ShloMosaic.Lib.Quiescent
public import proofs.«01_k».proof.Proof.Gen.MergeIdeal.Value
public import proofs.«01_k».proof.Proof.Gen.MergeRefIdeal.Read
public import proofs.«01_k».proof.Proof.Products
public import proofs.«01_k».proof.Proof.Gates

@[expose] public section

set_option maxRecDepth 16384

noncomputable section

namespace Cert.MergeValue

open Cert.MergeRefIdeal.Read Cert.MergeIdeal Cert.MergeIdeal.Gen Idealize.ShloMosaic Idealize.ShloMosaic.TcCoe
open Idealize.SL.Sem Cert.Products Cert.Gates

/-- A gate. -/
def gate (x : EReal) : EReal := Ideal.div 1 (1 + Ideal.exp (-x))

/-- The value at row `p`, zero at the first 112 places of each sequence. -/
def cut (p : ℕ) (x : EReal) : EReal := if 112 ≤ p % 4224 then x else 0

/-- The gradient of branch `q`, the rows counted from row block `p`. -/
def gb {r : ℕ} (p : ℕ) (q : Fin 3) (G : At r 3072 → EReal) (ct : At r 1024 → EReal) : At r 1024 → EReal := fun j =>
  gate (G (ix2 (j 0) ⟨q.val * 1024 + (j 1).val, by have := q.isLt; have : (j 1).val < 1024 := (j 1).isLt; omega⟩)) * cut (p * r + (j 0).val) (ct j)

/-- The gradient of the gates, the rows counted from row block `p`; the gates of a branch stand side by side. -/
def gg {r : ℕ} (p : ℕ) (B : Fin 3 → At r 1024 → EReal) (G : At r 3072 → EReal) (ct : At r 1024 → EReal) : At r 3072 → EReal := fun j =>
  cut (p * r + (j 0).val) (ct (ix2 (j 0) ⟨(j 1).val % 1024, Nat.mod_lt _ (by decide)⟩))
    * B ⟨(j 1).val / 1024, by have : (j 1).val < 3072 := (j 1).isLt; omega⟩ (ix2 (j 0) ⟨(j 1).val % 1024, Nat.mod_lt _ (by decide)⟩)
    * (gate (G j) * (1 - gate (G j)))

/-! ## The word a row's mask is computed in -/

theorem rem_word (u : ArithUnit) (p : ℕ) (hp : p < 2 ^ 31) : IntOp.remsi u (BitVec.ofNat 32 p) 4224#32 = BitVec.ofNat 32 (p % 4224) := by
  apply BitVec.eq_of_toNat_eq
  have hx : (BitVec.ofNat 32 p).toNat = p := by rw [BitVec.toNat_ofNat]; omega
  rw [IntOp.toNat_remsi u (by rw [hx]; omega) 4224 (by decide) (by decide), hx, BitVec.toNat_ofNat]
  omega

theorem word_facts : ∀ q : Fin 4224, IntOp.cmpi .slt (BitVec.ofNat 32 q.val) 0#32 = 0#1
    ∧ IntOp.cmpi .sge (BitVec.ofNat 32 q.val) 112#32 = if 112 ≤ q.val then 1#1 else 0#1 := by decide +kernel

theorem select_cut (p : ℕ) (x : EReal) :
    Scalar.select (IntOp.cmpi .sge (BitVec.ofNat 32 (p % 4224)) 112#32) x 0 = cut p x := by
  rw [(word_facts ⟨p % 4224, Nat.mod_lt _ (by decide)⟩).2]
  unfold cut
  dsimp only
  by_cases h : 112 ≤ p % 4224
  · rw [if_pos h, if_pos h]; rfl
  · rw [if_neg h, if_neg h]; rfl

/-! ## A grid point -/

theorem pay3_eq (i : grid0.Coords) (a : Fin 128) : k0_pay3 i (ix2 a 0) = BitVec.ofNat 32 (((i 0).val * 128 + a.val) % 4224) := by
  have hi : (i 0).val < 66 := (i 0).isLt
  have hw : IntOp.addi (Scalar.muli (BitVec.ofNat 32 (i 0).val) 128#32) (BitVec.ofNat 32 a.val) = BitVec.ofNat 32 ((i 0).val * 128 + a.val) := by
    rw [BitVec.ofNat_add, BitVec.ofNat_mul]; rfl
  have hc : Scalar.select (Scalar.cmpi .eq 4224#32 0#32) 1#32 4224#32 = 4224#32 := by decide
  have hz : ∀ y : BitVec 1, IntOp.andi (IntOp.xori 0#1 (Scalar.cmpi .slt 4224#32 0#32)) y = 0#1 := by decide
  unfold k0_pay3
  simp only [pointwise]
  generalize hn : List.foldl _ 0 _ = n
  obtain rfl : n = a.val := by rw [← hn]; show 0 * 128 + a.val = a.val; omega
  have h0 : IntOp.cmpi .slt (BitVec.ofNat 32 (((i 0).val * 128 + a.val) % 4224)) 0#32 = 0#1 :=
    (word_facts ⟨((i 0).val * 128 + a.val) % 4224, Nat.mod_lt _ (by decide)⟩).1
  rw [hw, hc, rem_word _ _ (by omega), h0, hz]
  rfl

theorem pay14_eq (i : grid0.Coords) (g : Vec Ideal S128x1024 .f32) (a : Fin 128) (b : Fin 1024) :
    k0_pay14 (k0_pay3 i) g (ix2 a b) = cut ((i 0).val * 128 + a.val) (g (ix2 a b)) := by
  rw [← select_cut, ← pay3_eq]
  unfold k0_pay14
  simp only [pointwise]
  rfl

/-- A place of two matrices side by side, in the left one. -/
theorem join_left {r c₁ c₂ c : ℕ} (x : At r c₁ → EReal) (y : At r c₂ → EReal)
    (h : Shape.Concatenates [(⟨2, ![r, c₁]⟩ : Shape), ⟨2, ![r, c₂]⟩] ⟨2, ![r, c]⟩ 1) (a : Fin r) (b : Fin c) (l : Fin c₁) (hb : l.val = b.val) :
    concatenate ⟨2, ![r, c]⟩ 1 [⟨⟨2, ![r, c₁]⟩, x⟩, ⟨⟨2, ![r, c₂]⟩, y⟩] h (ix2 a b) = x (ix2 a l) :=
  concatenate_pair_apply_left 1 x y h (ix2 a b) rfl (ix2 a l) fun k => by
    match k with
    | ⟨0, _⟩ => rfl
    | ⟨1, _⟩ => exact hb

/-- A place of two matrices side by side, in the right one. -/
theorem join_right {r c₁ c₂ c : ℕ} (x : At r c₁ → EReal) (y : At r c₂ → EReal)
    (h : Shape.Concatenates [(⟨2, ![r, c₁]⟩ : Shape), ⟨2, ![r, c₂]⟩] ⟨2, ![r, c]⟩ 1) (a : Fin r) (b : Fin c) (l : Fin c₂) (hb : l.val + c₁ = b.val) :
    concatenate ⟨2, ![r, c]⟩ 1 [⟨⟨2, ![r, c₁]⟩, x⟩, ⟨⟨2, ![r, c₂]⟩, y⟩] h (ix2 a b) = y (ix2 a l) :=
  concatenate_pair_apply_right 1 x y h (ix2 a b) rfl rfl (ix2 a l) (fun k hk => by
    match k, hk with
    | ⟨0, _⟩, _ => rfl
    | ⟨1, _⟩, hk => exact absurd rfl hk) hb

/-- The first of three pieces laid side by side, each padded with zeros and the three added. -/
theorem lay0 (v20 v29 v36 v63 v73 v81 : Vec Ideal S128x1024 .f32) (a : Fin 128) (b : Fin 3072) (l : Fin 1024)
    (hb : b.val = l.val) : k0_pay2 v20 v29 v36 v63 v73 v81 (Scalar.ofBits .f32 0x00000000#32) (ix2 a b)
      = 0 - (0 - v63 (ix2 a l) * v20 (ix2 a l) * v36 (ix2 a l) * 1) * v29 (ix2 a l) := by
  have hl : l.val < 1024 := l.isLt
  unfold k0_pay2
  refine (congrArg₂ (fun x y : EReal => x + y) (congrArg₂ (fun x y : EReal => x + y) (join_left _ _ _ a b (⟨l.val, by omega⟩ : Fin 2048) hb.symm)
    ((join_left _ _ _ a b (⟨l.val, by omega⟩ : Fin 2048) hb.symm).trans (join_left _ _ _ a _ l rfl))) (join_left _ _ _ a b l hb.symm)).trans ?_
  simp only [pointwise]
  rw [zero_add, zero_add]

/-- The second. -/
theorem lay1 (v20 v29 v36 v63 v73 v81 : Vec Ideal S128x1024 .f32) (a : Fin 128) (b : Fin 3072) (l : Fin 1024)
    (hb : b.val = 1024 + l.val) : k0_pay2 v20 v29 v36 v63 v73 v81 (Scalar.ofBits .f32 0x00000000#32) (ix2 a b)
      = 0 - v81 (ix2 a l) := by
  have hl : l.val < 1024 := l.isLt
  unfold k0_pay2
  refine (congrArg₂ (fun x y : EReal => x + y) (congrArg₂ (fun x y : EReal => x + y) (join_left _ _ _ a b (⟨1024 + l.val, by omega⟩ : Fin 2048) hb.symm)
    ((join_left _ _ _ a b (⟨1024 + l.val, by omega⟩ : Fin 2048) hb.symm).trans (join_right _ _ _ a _ l (by show l.val + 1024 = 1024 + l.val; omega))))
    (join_right _ _ _ a b (⟨l.val, by omega⟩ : Fin 2048) (by show l.val + 1024 = b.val; omega))).trans ?_
  simp only [pointwise]
  rw [zero_add, add_zero]

/-- The third. -/
theorem lay2 (v20 v29 v36 v63 v73 v81 : Vec Ideal S128x1024 .f32) (a : Fin 128) (b : Fin 3072) (l : Fin 1024)
    (hb : b.val = 2048 + l.val) : k0_pay2 v20 v29 v36 v63 v73 v81 (Scalar.ofBits .f32 0x00000000#32) (ix2 a b)
      = v73 (ix2 a l) := by
  have hl : l.val < 1024 := l.isLt
  unfold k0_pay2
  refine (congrArg₂ (fun x y : EReal => x + y) (congrArg₂ (fun x y : EReal => x + y) (join_right _ _ _ a b l (by omega))
    (join_right _ _ _ a b l (by omega)))
    (join_right _ _ _ a b (⟨1024 + l.val, by omega⟩ : Fin 2048) (by show 1024 + l.val + 1024 = b.val; omega))).trans ?_
  simp only [pointwise]
  rw [add_zero, add_zero]

/-- Branch `q`'s gates. -/
abbrev part (G : Vec Ideal S128x3072 .f32) (q : Fin 3) (a : Fin 128) (l : Fin 1024) : EReal :=
  G (ix2 a ⟨q.val * 1024 + l.val, by have := q.isLt; have := l.isLt; omega⟩)

theorem part_val (G : Vec Ideal S128x3072 .f32) (q : Fin 3) (a : Fin 128) (l : Fin 1024) (b : Fin 3072) (hb : b.val = q.val * 1024 + l.val) :
    G (ix2 a b) = part G q a l := congrArg G (ext2 rfl hb)

section Points

variable (i : grid0.Coords) (b0 b1 b2 : Vec Ideal S128x1024 .f32) (G : Vec Ideal S128x3072 .f32) (ct : Vec Ideal S128x1024 .f32)

theorem out5 : out0_5 i b0 b1 b2 G ct = gb (r := 128) (i 0).val 0 G ct := by
  unfold out0_5 k0_pay22 k0_pay19
  rw [View.canon_unit_zero hz, View.ld_unit_zero (S := S128x3072) hz, View.ld_unit_zero (S := S128x1024) hz]
  funext j
  obtain ⟨a, b, rfl⟩ : ∃ a b, j = ix2 a b := ⟨j 0, j 1, ext2 rfl rfl⟩
  unfold k0_pay1 k0_pay7 k0_pay6 k0_pay5
  simp only [pay14_eq, pointwise]
  rw [zero_sub]
  exact (congrArg (fun x => gate x * cut ((i 0).val * 128 + a.val) (ct (ix2 a b))) (congrArg G (ext2 (by show 0 + a.val = a.val; omega)
    (by show 0 + b.val = 0 * 1024 + b.val; omega)))).trans rfl

theorem out6 : out0_6 i b0 b1 b2 G ct = gb (r := 128) (i 0).val 1 G ct := by
  unfold out0_6 k0_pay21 k0_pay19
  rw [View.canon_unit_zero hz, View.ld_unit_zero (S := S128x3072) hz, View.ld_unit_zero (S := S128x1024) hz]
  funext j
  obtain ⟨a, b, rfl⟩ : ∃ a b, j = ix2 a b := ⟨j 0, j 1, ext2 rfl rfl⟩
  unfold k0_pay17 k0_pay11 k0_pay10 k0_pay9
  simp only [pay14_eq, pointwise]
  rw [zero_sub]
  exact (congrArg (fun x => gate x * cut ((i 0).val * 128 + a.val) (ct (ix2 a b))) (congrArg G (ext2 (by show 0 + a.val = a.val; omega)
    (by show 1024 + b.val = 1 * 1024 + b.val; omega)))).trans rfl

theorem out7 : out0_7 i b0 b1 b2 G ct = gb (r := 128) (i 0).val 2 G ct := by
  unfold out0_7 k0_pay20 k0_pay19
  rw [View.canon_unit_zero hz, View.ld_unit_zero (S := S128x3072) hz, View.ld_unit_zero (S := S128x1024) hz]
  funext j
  obtain ⟨a, b, rfl⟩ : ∃ a b, j = ix2 a b := ⟨j 0, j 1, ext2 rfl rfl⟩
  unfold k0_pay15 k0_pay13 k0_pay12 k0_pay4
  simp only [pay14_eq, pointwise]
  rw [zero_sub]
  exact (congrArg (fun x => gate x * cut ((i 0).val * 128 + a.val) (ct (ix2 a b))) (congrArg G (ext2 (by show 0 + a.val = a.val; omega)
    (by show 2048 + b.val = 2 * 1024 + b.val; omega)))).trans rfl

theorem gate0 (a : Fin 128) (l : Fin 1024) : 0 - (0 - k0_pay14 (k0_pay3 i) ct (ix2 a l) * b0 (ix2 a l) * k0_pay8 G (ix2 a l) * 1) * k0_pay5 G (ix2 a l)
    = cut ((i 0).val * 128 + a.val) (ct (ix2 a l)) * b0 (ix2 a l) * (gate (part G 0 a l) * (1 - gate (part G 0 a l))) := by
  refine Eq.trans ?_ (gate_grad _ _)
  unfold k0_pay8 k0_pay6 k0_pay5
  simp only [pay14_eq, pointwise]
  exact congrArg (fun x => 0 - (0 - cut ((i 0).val * 128 + a.val) (ct (ix2 a l)) * b0 (ix2 a l)
    * Ideal.div 1 ((1 + Ideal.exp (0 - x)) * (1 + Ideal.exp (0 - x))) * 1) * Ideal.exp (0 - x))
    (congrArg G (ext2 (by show 0 + a.val = a.val; omega) (by show 0 + l.val = 0 * 1024 + l.val; omega)))

theorem gate1 (a : Fin 128) (l : Fin 1024) : 0 - k0_pay18 (k0_pay3 i) b1 (k0_pay9 G) ct (ix2 a l)
    = cut ((i 0).val * 128 + a.val) (ct (ix2 a l)) * b1 (ix2 a l) * (gate (part G 1 a l) * (1 - gate (part G 1 a l))) := by
  refine Eq.trans ?_ (gate_grad _ _)
  unfold k0_pay18 k0_pay11 k0_pay10 k0_pay9
  simp only [pay14_eq, pointwise]
  exact congrArg (fun x => 0 - (0 - cut ((i 0).val * 128 + a.val) (ct (ix2 a l)) * b1 (ix2 a l)
    * Ideal.div 1 ((1 + Ideal.exp (0 - x)) * (1 + Ideal.exp (0 - x))) * 1) * Ideal.exp (0 - x))
    (congrArg G (ext2 (by show 0 + a.val = a.val; omega) (by show 1024 + l.val = 1 * 1024 + l.val; omega)))

theorem gate2 (a : Fin 128) (l : Fin 1024) : k0_pay16 (k0_pay3 i) b2 (k0_pay4 G) ct (ix2 a l)
    = cut ((i 0).val * 128 + a.val) (ct (ix2 a l)) * b2 (ix2 a l) * (gate (part G 2 a l) * (1 - gate (part G 2 a l))) := by
  refine Eq.trans ?_ (gate_grad _ _)
  unfold k0_pay16 k0_pay13 k0_pay12 k0_pay4
  simp only [pay14_eq, pointwise]
  exact congrArg (fun x => 0 - (0 - cut ((i 0).val * 128 + a.val) (ct (ix2 a l)) * b2 (ix2 a l)
    * Ideal.div 1 ((1 + Ideal.exp (0 - x)) * (1 + Ideal.exp (0 - x))) * 1) * Ideal.exp (0 - x))
    (congrArg G (ext2 (by show 0 + a.val = a.val; omega) (by show 2048 + l.val = 2 * 1024 + l.val; omega)))

/-- The gradient of the gates at place `l` of branch `q`. -/
theorem gg_at {r p : ℕ} (B : Fin 3 → At r 1024 → EReal) (G : At r 3072 → EReal) (ct : At r 1024 → EReal) (a : Fin r) (b : Fin 3072) (q : Fin 3)
    (l : Fin 1024) (hb : b.val = q.val * 1024 + l.val) : gg p B G ct (ix2 a b)
      = cut (p * r + a.val) (ct (ix2 a l)) * B q (ix2 a l) * (gate (G (ix2 a b)) * (1 - gate (G (ix2 a b)))) := by
  have hl : l.val < 1024 := l.isLt
  have h1 : b.val % 1024 < 1024 := Nat.mod_lt _ (by decide)
  have h2 : b.val / 1024 < 3 := by have := b.isLt; omega
  have e1 : (⟨b.val % 1024, h1⟩ : Fin 1024) = l := Fin.ext (by show b.val % 1024 = l.val; omega)
  have e2 : (⟨b.val / 1024, h2⟩ : Fin 3) = q := Fin.ext (by show b.val / 1024 = q.val; omega)
  show cut (p * r + a.val) (ct (ix2 a ⟨b.val % 1024, h1⟩)) * B ⟨b.val / 1024, h2⟩ (ix2 a ⟨b.val % 1024, h1⟩)
    * (gate (G (ix2 a b)) * (1 - gate (G (ix2 a b)))) = _
  rw [e1, e2]

theorem out8 : out0_8 i b0 b1 b2 G ct = gg (r := 128) (i 0).val ![b0, b1, b2] G ct := by
  unfold out0_8 k0_pay22 k0_pay21 k0_pay20 k0_pay19
  rw [View.canon_unit_zero hz, View.ld_unit_zero (S := S128x3072) hz, View.ld_unit_zero (S := S128x1024) hz, View.ld_unit_zero (S := S128x1024) hz,
    View.ld_unit_zero (S := S128x1024) hz, View.ld_unit_zero (S := S128x1024) hz]
  funext j
  obtain ⟨a, b, rfl⟩ : ∃ a b, j = ix2 a b := ⟨j 0, j 1, ext2 rfl rfl⟩
  have hj : b.val < 3072 := b.isLt
  obtain ⟨q, l, hb⟩ : ∃ (q : Fin 3) (l : Fin 1024), b.val = q.val * 1024 + l.val :=
    ⟨⟨b.val / 1024, by omega⟩, ⟨b.val % 1024, Nat.mod_lt _ (by decide)⟩, by show b.val = b.val / 1024 * 1024 + b.val % 1024; omega⟩
  rw [gg_at _ G ct a b q l hb, part_val G q a l b hb]
  have hq : ∀ q : Fin 3, q = 0 ∨ q = 1 ∨ q = 2 := by decide
  rcases hq q with rfl | rfl | rfl
  · exact (lay0 _ _ _ _ _ _ a b l (by rw [hb]; show 0 * 1024 + l.val = l.val; omega)).trans (gate0 i b0 G ct a l)
  · exact (lay1 _ _ _ _ _ _ a b l (by rw [hb]; show 1 * 1024 + l.val = 1024 + l.val; omega)).trans (gate1 i b1 G ct a l)
  · exact (lay2 _ _ _ _ _ _ a b l (by rw [hb]; show 2 * 1024 + l.val = 2048 + l.val; omega)).trans (gate2 i b2 G ct a l)

end Points

/-! ## The plain formula -/

/-- Two places of a stack with the same three coordinates are one. -/
theorem ext3 {n : Fin 3 → ℕ} {x y : (⟨3, n⟩ : Shape).Idx} (h0 : (x 0).val = (y 0).val) (h1 : (x 1).val = (y 1).val) (h2 : (x 2).val = (y 2).val) :
    x = y := funext fun a => Fin.ext (by match a with | ⟨0, _⟩ => exact h0 | ⟨1, _⟩ => exact h1 | ⟨2, _⟩ => exact h2)

theorem ref_mask (p : Fin 8448) : val_main_v19 (F := Ideal) (ix1 p) = IntOp.cmpi .sge (BitVec.ofNat 32 (p.val % 4224)) 112#32 := by
  have hp : p.val < 8448 := p.isLt
  have hr : val_main_call0_v4 (F := Ideal) (ix1 p) = BitVec.ofNat 32 (p.val % 4224) := by
    simp only [val_main_call0_v4_apply, val_main_v16_apply, val_main_call0_v3_apply, val_main_call0_v2_apply, val_main_call0_v1_apply,
      val_main_call0_v0_apply, val_main_c_apply, val_main_call0_c_apply, val_main_call0_c_0_apply]
    rw [show Scalar.select (IntOp.cmpi .eq 4224#32 0#32) 1#32 4224#32 = 4224#32 by decide]
    exact rem_word .host p.val (by omega)
  simp only [val_main_v19_apply, val_main_v18_apply, val_main_c_3_apply, val_main_v17_apply, val_main_call0_v12_apply, val_main_call0_v11_apply,
    val_main_call0_v8_apply, val_main_call0_v7_apply, val_main_call0_c_2_apply, val_main_call0_v10_apply, val_main_call0_v9_apply,
    val_main_call0_v2_apply, val_main_call0_v1_apply, val_main_call0_v0_apply, val_main_c_apply, val_main_call0_c_apply,
    val_main_call0_c_0_apply, val_main_call0_c_3_apply, hr]
  rw [(word_facts ⟨p.val % 4224, Nat.mod_lt _ (by decide)⟩).1, (by decide : ∀ y : BitVec 1, IntOp.andi (IntOp.cmpi .ne 0#1
    (IntOp.cmpi .slt (Scalar.select (IntOp.cmpi .eq 4224#32 0#32) 1#32 4224#32) 0#32)) y = 0#1)]
  rfl

theorem ref_ct (ct : Vec Ideal S8448x1024 .f32) (a : Fin 8448) (l : Fin 1024) :
    val_main_v22 (F := Ideal) ct (ix2 a l) = cut a.val (ct (ix2 a l)) := by
  have e : idx_main_v20 (idx_main_v21_1 (ix2 a l)) = ix1 a := funext fun k => by match k with | ⟨0, _⟩ => rfl
  simp only [val_main_v22_apply, val_main_v21_1_apply, val_main_v20_apply, e, ref_mask, val_main_call2_v0_apply, val_main_call2_cst_apply,
    pointwise]
  exact select_cut _ _

theorem ref_gate (G : Vec Ideal S8448x3072 .f32) (a : Fin 8448) (q : Fin 3) (l : Fin 1024) (b : Fin 3072) (hb : b.val = q.val * 1024 + l.val) :
    val_main_v6 (F := Ideal) G (ix3 a q l) = gate (G (ix2 a b)) := by
  have hl : l.val < 1024 := l.isLt
  have hq : q.val < 3 := q.isLt
  have e : idx_main_v0 (ix3 a q l) = ix2 a b := ext2 (by show ((a.val * 3 + q.val) * 1024 + l.val) / 3072 = a.val; omega)
    (by show ((a.val * 3 + q.val) * 1024 + l.val) % 3072 = b.val; omega)
  simp only [val_main_v6_apply, val_main_v5_apply, val_main_cst_0_apply, val_main_v4_apply, val_main_v3_apply, val_main_cst_apply,
    val_main_v2_apply, val_main_v1_apply, val_main_v0_apply, e, pointwise]
  rfl

theorem ref_stack (b0 b1 b2 : Vec Ideal S8448x1024 .f32) (a : Fin 8448) (q : Fin 3) (l : Fin 1024) :
    val_main_v13 (F := Ideal) b0 b1 b2 (ix3 a q l) = (![b0, b1, b2] : Fin 3 → At 8448 1024 → EReal) q (ix2 a l) := by
  have ho : ∀ (q : Fin 3) (b : Fin 3), b.cast (rfl : (3 : ℕ) = 3) ≠ (1 : Fin 3) →
      ((ix3 a 0 l : Cert.MergeRefIdeal.S8448x1x1024.Idx) b).val = ((ix3 a q l : Cert.MergeRefIdeal.S8448x3x1024.Idx) (b.cast rfl)).val := fun q b h => by
    match b, h with
    | ⟨0, _⟩, _ => rfl
    | ⟨1, _⟩, h => exact absurd rfl h
    | ⟨2, _⟩, _ => rfl
  unfold val_main_v13
  match q with
  | ⟨0, _⟩ =>
    refine Eq.trans (concatenate_apply_piece 1 _ _ (ix3 a (0 : Fin 3) l) 0 (by show 0 < 3; decide) Cert.MergeRefIdeal.S8448x1x1024 _ rfl rfl 0 rfl (ix3 a 0 l) (ho 0) rfl) ?_
    rw [val_main_v10_apply]
    exact congrArg b0 (ext2 rfl rfl)
  | ⟨1, _⟩ =>
    refine Eq.trans (concatenate_apply_piece 1 _ _ (ix3 a (1 : Fin 3) l) 1 (by show 1 < 3; decide) Cert.MergeRefIdeal.S8448x1x1024 _ rfl rfl 1 rfl (ix3 a 0 l) (ho 1) rfl) ?_
    rw [val_main_v11_apply]
    exact congrArg b1 (ext2 rfl rfl)
  | ⟨2, _⟩ =>
    refine Eq.trans (concatenate_apply_piece 1 _ _ (ix3 a (2 : Fin 3) l) 2 (by show 2 < 3; decide) Cert.MergeRefIdeal.S8448x1x1024 _ rfl rfl 2 rfl (ix3 a 0 l) (ho 2) rfl) ?_
    rw [val_main_v12_apply]
    exact congrArg b2 (ext2 rfl rfl)

/-- The gradient the branches have in common. -/
theorem ref_v24 (G : Vec Ideal S8448x3072 .f32) (ct : Vec Ideal S8448x1024 .f32) (a : Fin 8448) (q : Fin 3) (l : Fin 1024) :
    val_main_v24 (F := Ideal) G ct (ix3 a q l) = gb (r := 8448) 0 q G ct (ix2 a l) := by
  have e : idx_main_v23 (ix3 a q l) = ix2 a l := ext2 rfl rfl
  rw [val_main_v24_apply, val_main_v23_apply, e, ref_ct, ref_gate G a q l ⟨q.val * 1024 + l.val, by have := q.isLt; have := l.isLt; omega⟩ rfl]
  unfold gb
  rw [zero_mul, zero_add]
  rfl

theorem ref_b0 (G : Vec Ideal S8448x3072 .f32) (ct : Vec Ideal S8448x1024 .f32) : val_main_v27 (F := Ideal) G ct = gb (r := 8448) 0 0 G ct := by
  funext j
  obtain ⟨a, l, rfl⟩ : ∃ a l, j = ix2 a l := ⟨j 0, j 1, ext2 rfl rfl⟩
  have hl : l.val < 1024 := l.isLt
  have e : idx_main_v26 (idx_main_v27 (ix2 a l)) = ix3 a 0 l := ext3 (by show (a.val * 1024 + l.val) / 1024 = a.val; omega) rfl
    (by show (a.val * 1024 + l.val) % 1024 = l.val; omega)
  rw [val_main_v27_apply, val_main_v26_apply, e, ref_v24]

theorem ref_b1 (G : Vec Ideal S8448x3072 .f32) (ct : Vec Ideal S8448x1024 .f32) : val_main_v29 (F := Ideal) G ct = gb (r := 8448) 0 1 G ct := by
  funext j
  obtain ⟨a, l, rfl⟩ : ∃ a l, j = ix2 a l := ⟨j 0, j 1, ext2 rfl rfl⟩
  have hl : l.val < 1024 := l.isLt
  have e : idx_main_v28 (idx_main_v29 (ix2 a l)) = ix3 a 1 l := ext3 (by show (a.val * 1024 + l.val) / 1024 = a.val; omega) rfl
    (by show (a.val * 1024 + l.val) % 1024 = l.val; omega)
  rw [val_main_v29_apply, val_main_v28_apply, e, ref_v24]

theorem ref_b2 (G : Vec Ideal S8448x3072 .f32) (ct : Vec Ideal S8448x1024 .f32) : val_main_v31 (F := Ideal) G ct = gb (r := 8448) 0 2 G ct := by
  funext j
  obtain ⟨a, l, rfl⟩ : ∃ a l, j = ix2 a l := ⟨j 0, j 1, ext2 rfl rfl⟩
  have hl : l.val < 1024 := l.isLt
  have e : idx_main_v30 (idx_main_v31 (ix2 a l)) = ix3 a 2 l := ext3 (by show (a.val * 1024 + l.val) / 1024 = a.val; omega) rfl
    (by show (a.val * 1024 + l.val) % 1024 = l.val; omega)
  rw [val_main_v31_apply, val_main_v30_apply, e, ref_v24]

theorem ref_g (b0 b1 b2 : Vec Ideal S8448x1024 .f32) (G : Vec Ideal S8448x3072 .f32) (ct : Vec Ideal S8448x1024 .f32) :
    val_main_v33 (F := Ideal) b0 b1 b2 G ct = gg (r := 8448) 0 ![b0, b1, b2] G ct := by
  funext j
  obtain ⟨a, b, rfl⟩ : ∃ a b, j = ix2 a b := ⟨j 0, j 1, ext2 rfl rfl⟩
  have hb : b.val < 3072 := b.isLt
  have hq : b.val / 1024 < 3 := by omega
  have hl : b.val % 1024 < 1024 := Nat.mod_lt _ (by decide)
  have e : idx_main_v33 (ix2 a b) = ix3 a ⟨b.val / 1024, hq⟩ ⟨b.val % 1024, hl⟩ :=
    ext3 (by show (a.val * 3072 + b.val) / 3072 = a.val; omega) (by show (a.val * 3072 + b.val) / 1024 % 3 = b.val / 1024; omega)
      (by show (a.val * 3072 + b.val) % 1024 = b.val % 1024; omega)
  have e3 : idx_main_v23 (ix3 a ⟨b.val / 1024, hq⟩ ⟨b.val % 1024, hl⟩) = ix2 a ⟨b.val % 1024, hl⟩ := ext2 rfl rfl
  rw [val_main_v33_apply, e, val_main_v32_apply, val_main_v25_apply, val_main_v23_apply, e3, ref_ct, ref_stack, val_main_v9_apply,
    val_main_v8_apply, ref_gate G a _ _ b (by show b.val = b.val / 1024 * 1024 + b.val % 1024; omega)]
  simp only [val_main_v7_apply, val_main_cst_1_apply, pointwise]
  unfold gg
  rw [zero_mul, zero_add]
  rfl

/-! ## The whole results -/

variable (m : (ℓ : Loc nD τ sig) → Buf (Elt Ideal) ℓ)

theorem idx_facts : ∀ t : Fin cfg0.N, (grid0.coords t 0).val = t.val
    ∧ win0_0.index t (0 : Fin 2) = t.val ∧ win0_0.index t (1 : Fin 2) = 0 ∧ win0_1.index t (0 : Fin 2) = t.val ∧ win0_1.index t (1 : Fin 2) = 0
    ∧ win0_2.index t (0 : Fin 2) = t.val ∧ win0_2.index t (1 : Fin 2) = 0 ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem out_facts : ∀ t : Fin cfg0.N, win0_5.index t (0 : Fin 2) = t.val ∧ win0_5.index t (1 : Fin 2) = 0
    ∧ win0_6.index t (0 : Fin 2) = t.val ∧ win0_6.index t (1 : Fin 2) = 0 ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem gb_blk {p : ℕ} (q : Fin 3) {G : At 128 3072 → EReal} {G' : At 8448 3072 → EReal} {ct : At 128 1024 → EReal} {ct' : At 8448 1024 → EReal}
    (hG : IsBlk p 0 G G') (hc : IsBlk p 0 ct ct') : IsBlk p 0 (gb p q G ct) (gb 0 q G' ct') := fun j i h0 h1 => by
  unfold gb
  rw [hG (ix2 (j 0) _) (ix2 (i 0) ⟨q.val * 1024 + (i 1).val, by have := q.isLt; have : (i 1).val < 1024 := (i 1).isLt; omega⟩) h0
    (by show q.val * 1024 + (i 1).val = 0 * 3072 + (q.val * 1024 + (j 1).val); omega), hc j i h0 h1, zero_mul, zero_add, h0]

theorem gg_blk {p : ℕ} {B : Fin 3 → At 128 1024 → EReal} {B' : Fin 3 → At 8448 1024 → EReal} {G : At 128 3072 → EReal} {G' : At 8448 3072 → EReal}
    {ct : At 128 1024 → EReal} {ct' : At 8448 1024 → EReal} (hB : ∀ q, IsBlk p 0 (B q) (B' q)) (hG : IsBlk p 0 G G') (hc : IsBlk p 0 ct ct') :
    IsBlk p 0 (gg p B G ct) (gg 0 B' G' ct') := fun j i h0 h1 => by
  have hk : (i 1).val = (j 1).val := by omega
  have e : (i 1).val % 1024 = 0 * 1024 + (j 1).val % 1024 := by rw [hk]; omega
  have hq : (⟨(j 1).val / 1024, by have : (j 1).val < 3072 := (j 1).isLt; omega⟩ : Fin 3)
      = ⟨(i 1).val / 1024, by have : (i 1).val < 3072 := (i 1).isLt; omega⟩ := Fin.ext (by show (j 1).val / 1024 = (i 1).val / 1024; rw [hk])
  have ec : ct (ix2 (j 0) ⟨(j 1).val % 1024, Nat.mod_lt _ (by decide)⟩) = ct' (ix2 (i 0) ⟨(i 1).val % 1024, Nat.mod_lt _ (by decide)⟩) :=
    hc _ _ h0 e
  have eB : ∀ q, B q (ix2 (j 0) ⟨(j 1).val % 1024, Nat.mod_lt _ (by decide)⟩) = B' q (ix2 (i 0) ⟨(i 1).val % 1024, Nat.mod_lt _ (by decide)⟩) :=
    fun q => hB q _ _ h0 e
  unfold gg
  rw [hG j i h0 h1, ec, hq, eB, zero_mul, zero_add, h0]

theorem blk0 (c : Dev nD) (t : Fin cfg0.N) : IsBlk (r' := 128) (c' := 1024) t.val 0 (iblk m c 0 t)
    (m ((c : Thread nD τ).loc main_arg0) : At 8448 1024 → EReal) := by
  obtain ⟨-, e0, e1, -⟩ := idx_facts t
  rw [← V_main_arg0 m c]; exact isBlk_emb (e := ((cfg0.win 0).blk t).view.emb) e0 e1 (fun _ => rfl) fun _ => rfl

theorem blk1 (c : Dev nD) (t : Fin cfg0.N) : IsBlk (r' := 128) (c' := 1024) t.val 0 (iblk m c 1 t)
    (m ((c : Thread nD τ).loc main_arg1) : At 8448 1024 → EReal) := by
  obtain ⟨-, -, -, e0, e1, -⟩ := idx_facts t
  rw [← V_main_arg1 m c]; exact isBlk_emb (e := ((cfg0.win 1).blk t).view.emb) e0 e1 (fun _ => rfl) fun _ => rfl

theorem blk2 (c : Dev nD) (t : Fin cfg0.N) : IsBlk (r' := 128) (c' := 1024) t.val 0 (iblk m c 2 t)
    (m ((c : Thread nD τ).loc main_arg2) : At 8448 1024 → EReal) := by
  obtain ⟨-, -, -, -, -, e0, e1, -⟩ := idx_facts t
  rw [← V_main_arg2 m c]; exact isBlk_emb (e := ((cfg0.win 2).blk t).view.emb) e0 e1 (fun _ => rfl) fun _ => rfl

theorem blk3 (c : Dev nD) (t : Fin cfg0.N) : IsBlk (r' := 128) (c' := 3072) t.val 0 (iblk m c 3 t)
    (m ((c : Thread nD τ).loc main_arg3) : At 8448 3072 → EReal) := by
  obtain ⟨-, -, -, -, -, -, -, e0, e1, -⟩ := idx_facts t
  rw [← V_main_arg3 m c]; exact isBlk_emb (e := ((cfg0.win 3).blk t).view.emb) e0 e1 (fun _ => rfl) fun _ => rfl

theorem blk4 (c : Dev nD) (t : Fin cfg0.N) : IsBlk (r' := 128) (c' := 1024) t.val 0 (iblk m c 4 t)
    (m ((c : Thread nD τ).loc main_arg4) : At 8448 1024 → EReal) := by
  obtain ⟨-, -, -, -, -, -, -, -, -, e0, e1⟩ := idx_facts t
  rw [← V_main_arg4 m c]; exact isBlk_emb (e := ((cfg0.win 4).blk t).view.emb) e0 e1 (fun _ => rfl) fun _ => rfl

/-- The gradients of the branches and of the gates. -/
abbrev GB (q : Fin 3) (c : Dev nD) : Vec Ideal S8448x1024 .f32 :=
  gb (r := 8448) 0 q (m ((c : Thread nD τ).loc main_arg3)) (m ((c : Thread nD τ).loc main_arg4))

abbrev GG (c : Dev nD) : Vec Ideal S8448x3072 .f32 := gg (r := 8448) 0
  ![m ((c : Thread nD τ).loc main_arg0), m ((c : Thread nD τ).loc main_arg1), m ((c : Thread nD τ).loc main_arg2)]
  (m ((c : Thread nD τ).loc main_arg3)) (m ((c : Thread nD τ).loc main_arg4))

theorem flushed : ∀ t : Fin cfg0.N, (cfg0.win 5).flush t = true ∧ (cfg0.win 6).flush t = true ∧ (cfg0.win 7).flush t = true
    ∧ (cfg0.win 8).flush t = true :=
  (by decide +kernel : ∀ t : Fin grid0.N, win0_5.flush t = true ∧ win0_6.flush t = true ∧ win0_7.flush t = true ∧ win0_8.flush t = true)

/-- The point that writes a row's block, and that the row lies in it. -/
theorem point {w : ℕ} (i : At 8448 w) : ∃ t : Fin cfg0.N, t.val * 128 ≤ (i 0).val ∧ (i 0).val < t.val * 128 + 128 := by
  have h0 : (i 0).val < 8448 := (i 0).isLt
  obtain ⟨t, ht⟩ : ∃ t : Fin cfg0.N, t.val = (i 0).val / 128 :=
    ⟨⟨(i 0).val / 128, show (i 0).val / 128 < grid0.N by rw [(by decide +kernel : grid0.N = 66)]; omega⟩, rfl⟩
  exact ⟨t, by omega, by omega⟩

theorem mem5 (t : Fin cfg0.N) (i : S8448x1024.Idx) : i ∈ ((cfg0.win 5).blk t).view.set ↔ ∀ a : Fin 2,
    win0_5.index t a * S128x1024.size a ≤ (i a).val ∧ (i a).val < win0_5.index t a * S128x1024.size a + S128x1024.size a := by
  show i ∈ ((View.whole main_v0_0).slice (win0_5.rect t)).set ↔ _
  rw [View.set_slice_whole, Rect.mem_set_unit]
  exact Iff.rfl

theorem final5 (c : Dev nD) : (dats m 0 c).arrAt 5 cfg0.N = GB m 0 c := by
  refine (dats m 0 c).arrAt_eq_of_cover 5 _ (fun t _ => ?_) fun i => ?_
  · obtain ⟨e0, e1, -⟩ := out_facts t
    have h := (gb_blk 0 (blk3 m c t) (blk4 m c t)).eq_emb
      (e := ((cfg0.win 5).blk t).view.emb) e0 e1 (fun _ => rfl) fun _ => rfl
    rw [Value.flushed5 m c t, out5, (idx_facts t).1]
    exact funext h
  · obtain ⟨t, k0, k1⟩ := point i
    have h1 : (i 1).val < 1024 := (i 1).isLt
    obtain ⟨hf, -⟩ := flushed t
    obtain ⟨e0, e1, -⟩ := out_facts t
    refine ⟨t, hf, (mem5 t i).mpr fun a => ?_⟩
    match a with
    | ⟨0, _⟩ => show win0_5.index t (0 : Fin 2) * 128 ≤ (i 0).val ∧ (i 0).val < win0_5.index t (0 : Fin 2) * 128 + 128; rw [e0]; exact ⟨k0, k1⟩
    | ⟨1, _⟩ => show win0_5.index t (1 : Fin 2) * 1024 ≤ (i 1).val ∧ (i 1).val < win0_5.index t (1 : Fin 2) * 1024 + 1024; rw [e1]; omega

theorem mem6 (t : Fin cfg0.N) (i : S8448x1024.Idx) : i ∈ ((cfg0.win 6).blk t).view.set ↔ ∀ a : Fin 2,
    win0_6.index t a * S128x1024.size a ≤ (i a).val ∧ (i a).val < win0_6.index t a * S128x1024.size a + S128x1024.size a := by
  show i ∈ ((View.whole main_v0_1).slice (win0_6.rect t)).set ↔ _
  rw [View.set_slice_whole, Rect.mem_set_unit]
  exact Iff.rfl

theorem final6 (c : Dev nD) : (dats m 0 c).arrAt 6 cfg0.N = GB m 1 c := by
  refine (dats m 0 c).arrAt_eq_of_cover 6 _ (fun t _ => ?_) fun i => ?_
  · obtain ⟨-, -, e0, e1, -⟩ := out_facts t
    have h := (gb_blk 1 (blk3 m c t) (blk4 m c t)).eq_emb
      (e := ((cfg0.win 6).blk t).view.emb) e0 e1 (fun _ => rfl) fun _ => rfl
    rw [Value.flushed6 m c t, out6, (idx_facts t).1]
    exact funext h
  · obtain ⟨t, k0, k1⟩ := point i
    have h1 : (i 1).val < 1024 := (i 1).isLt
    obtain ⟨-, hf, -⟩ := flushed t
    obtain ⟨-, -, e0, e1, -⟩ := out_facts t
    refine ⟨t, hf, (mem6 t i).mpr fun a => ?_⟩
    match a with
    | ⟨0, _⟩ => show win0_6.index t (0 : Fin 2) * 128 ≤ (i 0).val ∧ (i 0).val < win0_6.index t (0 : Fin 2) * 128 + 128; rw [e0]; exact ⟨k0, k1⟩
    | ⟨1, _⟩ => show win0_6.index t (1 : Fin 2) * 1024 ≤ (i 1).val ∧ (i 1).val < win0_6.index t (1 : Fin 2) * 1024 + 1024; rw [e1]; omega

theorem mem7 (t : Fin cfg0.N) (i : S8448x1024.Idx) : i ∈ ((cfg0.win 7).blk t).view.set ↔ ∀ a : Fin 2,
    win0_7.index t a * S128x1024.size a ≤ (i a).val ∧ (i a).val < win0_7.index t a * S128x1024.size a + S128x1024.size a := by
  show i ∈ ((View.whole main_v0_2).slice (win0_7.rect t)).set ↔ _
  rw [View.set_slice_whole, Rect.mem_set_unit]
  exact Iff.rfl

theorem final7 (c : Dev nD) : (dats m 0 c).arrAt 7 cfg0.N = GB m 2 c := by
  refine (dats m 0 c).arrAt_eq_of_cover 7 _ (fun t _ => ?_) fun i => ?_
  · obtain ⟨-, -, -, -, e0, e1, -⟩ := out_facts t
    have h := (gb_blk 2 (blk3 m c t) (blk4 m c t)).eq_emb
      (e := ((cfg0.win 7).blk t).view.emb) e0 e1 (fun _ => rfl) fun _ => rfl
    rw [Value.flushed7 m c t, out7, (idx_facts t).1]
    exact funext h
  · obtain ⟨t, k0, k1⟩ := point i
    have h1 : (i 1).val < 1024 := (i 1).isLt
    obtain ⟨-, -, hf, -⟩ := flushed t
    obtain ⟨-, -, -, -, e0, e1, -⟩ := out_facts t
    refine ⟨t, hf, (mem7 t i).mpr fun a => ?_⟩
    match a with
    | ⟨0, _⟩ => show win0_7.index t (0 : Fin 2) * 128 ≤ (i 0).val ∧ (i 0).val < win0_7.index t (0 : Fin 2) * 128 + 128; rw [e0]; exact ⟨k0, k1⟩
    | ⟨1, _⟩ => show win0_7.index t (1 : Fin 2) * 1024 ≤ (i 1).val ∧ (i 1).val < win0_7.index t (1 : Fin 2) * 1024 + 1024; rw [e1]; omega

theorem mem8 (t : Fin cfg0.N) (i : S8448x3072.Idx) : i ∈ ((cfg0.win 8).blk t).view.set ↔ ∀ a : Fin 2,
    win0_8.index t a * S128x3072.size a ≤ (i a).val ∧ (i a).val < win0_8.index t a * S128x3072.size a + S128x3072.size a := by
  show i ∈ ((View.whole main_v0_3).slice (win0_8.rect t)).set ↔ _
  rw [View.set_slice_whole, Rect.mem_set_unit]
  exact Iff.rfl

theorem final8 (c : Dev nD) : (dats m 0 c).arrAt 8 cfg0.N = GG m c := by
  refine (dats m 0 c).arrAt_eq_of_cover 8 _ (fun t _ => ?_) fun i => ?_
  · obtain ⟨-, -, -, -, -, -, e0, e1⟩ := out_facts t
    have h := (gg_blk (B := ![iblk m c 0 t, iblk m c 1 t, iblk m c 2 t])
        (B' := ![m ((c : Thread nD τ).loc main_arg0), m ((c : Thread nD τ).loc main_arg1), m ((c : Thread nD τ).loc main_arg2)])
        (fun q => by match q with | ⟨0, _⟩ => exact blk0 m c t | ⟨1, _⟩ => exact blk1 m c t | ⟨2, _⟩ => exact blk2 m c t) (blk3 m c t) (blk4 m c t)).eq_emb
      (e := ((cfg0.win 8).blk t).view.emb) e0 e1 (fun _ => rfl) fun _ => rfl
    rw [Value.flushed8 m c t, out8, (idx_facts t).1]
    exact funext h
  · obtain ⟨t, k0, k1⟩ := point i
    have h1 : (i 1).val < 3072 := (i 1).isLt
    obtain ⟨-, -, -, hf⟩ := flushed t
    obtain ⟨-, -, -, -, -, -, e0, e1⟩ := out_facts t
    refine ⟨t, hf, (mem8 t i).mpr fun a => ?_⟩
    match a with
    | ⟨0, _⟩ => show win0_8.index t (0 : Fin 2) * 128 ≤ (i 0).val ∧ (i 0).val < win0_8.index t (0 : Fin 2) * 128 + 128; rw [e0]; exact ⟨k0, k1⟩
    | ⟨1, _⟩ => show win0_8.index t (1 : Fin 2) * 3072 ≤ (i 1).val ∧ (i 1).val < win0_8.index t (1 : Fin 2) * 3072 + 3072; rw [e1]; omega

/-! ## The claims of this call -/

theorem frame_p : Cert.quiescent_Merge := fun m ρ _ => Cert.Merge.Gen.frame m ρ

theorem frame_pi : Cert.quiescent_MergeIdeal := fun m ρ _ => Cert.MergeIdeal.Gen.frame m ρ

theorem frame_ri : Cert.quiescent_MergeRefIdeal := fun m ρ _ =>
  (θ_run Cert.MergeRefIdeal.defs _ _).mono (fun r h => ⟨fun c => (h c).2.2.2.2, sem_eq_zero_of_no_sems (by decide) r.2⟩)
    (Cert.MergeRefIdeal.Value.run (F := Ideal) m ρ)

theorem algebraic : Cert.algebraic_MergeIdeal_MergeRefIdeal := fun m ρ m' ρ' _ hagree =>
  ⟨GB m 0, GB m 1, GB m 2, GG m, (θ_run defs _ _).mono (fun _ h c => ⟨(h c).1.trans (final5 m c), (h c).2.1.trans (final6 m c),
      (h c).2.2.1.trans (final7 m c), (h c).2.2.2.1.trans (final8 m c), (h c).2.2.2.2⟩) (Value.run_blocks m ρ),
    (θ_run Cert.MergeRefIdeal.defs _ _).mono (fun _ h c => ⟨(h c).1.trans (by
        rw [val_main_v27_eq, (hagree c).2.2.2.1, (hagree c).2.2.2.2]
        exact ref_b0 _ _), (h c).2.1.trans (by
        rw [val_main_v29_eq, (hagree c).2.2.2.1, (hagree c).2.2.2.2]
        exact ref_b1 _ _), (h c).2.2.1.trans (by
        rw [val_main_v31_eq, (hagree c).2.2.2.1, (hagree c).2.2.2.2]
        exact ref_b2 _ _), (h c).2.2.2.1.trans (by
        rw [val_main_v33_eq, (hagree c).1, (hagree c).2.1, (hagree c).2.2.1, (hagree c).2.2.2.1, (hagree c).2.2.2.2]
        exact ref_g _ _ _ _ _), (h c).2.2.2.2⟩) (Cert.MergeRefIdeal.Value.run (F := Ideal) m' ρ')⟩

end Cert.MergeValue
end
-- ==== Proof.Adam.lean ====
/- One step of the update of a weight, at one place. -/
module

public import Idealize.ShloMosaic.Lib.Pipeline.ValueKit.Geometry
public import proofs.«01_k».proof.Proof.Products

@[expose] public section

noncomputable section

namespace Cert.Adam

open Idealize.ShloMosaic

/-- The value of a word. -/
abbrev word (b : BitVec 32) : EReal := Scalar.ofBits (F := Ideal) .f32 b

/-- The new first moment, with the gradient `g` and the old moment `m`. -/
def newM (g m : EReal) : EReal := word 0x3F666666#32 * m + word 0x3DCCCCCD#32 * g

/-- The new second moment, with the gradient `g` and the old moment `v`. -/
def newV (g v : EReal) : EReal := word 0x3F7FBE77#32 * v + word 0x3A83126F#32 * (g * g)

/-- The change of the weight `x`. -/
def delta (x g m v : EReal) : EReal := word 0xBA83126F#32
  * (Ideal.div (Ideal.div (newM g m) (word 0x3F26BD02#32)) (Ideal.sqrt (Ideal.div (newV g v) (word 0x3C231ACC#32)) + word 0x322BCC77#32)
    + word 0x3C23D70A#32 * x)

end Cert.Adam
end
-- ==== Proof.AdamInValue.lean ====
/- The update of the combined input weights. -/
module

public import proofs.«01_k».proof.Defs
public import proofs.«01_k».proof.Proof.Gen.AdamIn.Frame
public import Idealize.ShloMosaic.Lib.Quiescent
public import proofs.«01_k».proof.Proof.Gen.AdamInIdeal.Value
public import proofs.«01_k».proof.Proof.Gen.AdamInRefIdeal.Read
public import proofs.«01_k».proof.Proof.Adam

@[expose] public section

noncomputable section

namespace Cert.AdamInValue

open Cert.AdamInIdeal Cert.AdamInIdeal.Gen Idealize.ShloMosaic Idealize.ShloMosaic.TcCoe Idealize.SL.Sem Cert.Products Cert.Adam

/-! ## A grid point -/

section Point

variable (x g m v : Vec Ideal S128x2438 .f32)

theorem out4 : out0_4 x g m v = fun j => delta (x j) (g j) (m j) (v j) := by
  unfold out0_4 k0_pay4 k0_pay3 k0_pay2 k0_pay1
  rw [View.canon_unit_zero hz]
  simp only [View.ld_unit_zero (S := S128x2438) hz]
  funext j
  simp only [pointwise]
  rfl

theorem out5 : out0_5 x g m v = fun j => newM (g j) (m j) := by
  unfold out0_5 k0_pay2 k0_pay1
  rw [View.canon_unit_zero hz]
  simp only [View.ld_unit_zero (S := S128x2438) hz]
  funext j
  simp only [pointwise]
  rfl

theorem out6 : out0_6 x g m v = fun j => newV (g j) (v j) := by
  unfold out0_6 k0_pay3 k0_pay1
  rw [View.canon_unit_zero hz]
  simp only [View.ld_unit_zero (S := S128x2438) hz]
  funext j
  simp only [pointwise]
  rfl

end Point

/-! ## The whole results -/

/-- An array as a matrix. -/
abbrev mat (x : Vec Ideal S4x1024x2438 .f32) : Vec Ideal S4096x2438 .f32 := shapeCast S4096x2438 x shapeCasts_S4x1024x2438_S4096x2438

variable (m : (ℓ : Loc nD τ sig) → Buf (Elt Ideal) ℓ)

theorem V0 (c : Dev nD) : V m c main_v0 = mat (m ((c : Thread nD τ).loc main_arg0)) := by
  show StableHlo.after _ _ (Proc.devRef .tc main_v0) = _
  after_results
  rfl

theorem V1 (c : Dev nD) : V m c main_v1 = mat (m ((c : Thread nD τ).loc main_arg1)) := by
  show StableHlo.after _ _ (Proc.devRef .tc main_v1) = _
  after_results
  rfl

theorem V2 (c : Dev nD) : V m c main_v2 = mat (m ((c : Thread nD τ).loc main_arg2)) := by
  show StableHlo.after _ _ (Proc.devRef .tc main_v2) = _
  after_results
  rfl

theorem V3 (c : Dev nD) : V m c main_v3 = mat (m ((c : Thread nD τ).loc main_arg3)) := by
  show StableHlo.after _ _ (Proc.devRef .tc main_v3) = _
  after_results
  rfl

/-- The three results. -/
abbrev D (c : Dev nD) : Vec Ideal S4096x2438 .f32 := fun i => delta (mat (m ((c : Thread nD τ).loc main_arg0)) i)
  (mat (m ((c : Thread nD τ).loc main_arg1)) i) (mat (m ((c : Thread nD τ).loc main_arg2)) i) (mat (m ((c : Thread nD τ).loc main_arg3)) i)

abbrev M (c : Dev nD) : Vec Ideal S4096x2438 .f32 := fun i => newM (mat (m ((c : Thread nD τ).loc main_arg1)) i)
  (mat (m ((c : Thread nD τ).loc main_arg2)) i)

abbrev W (c : Dev nD) : Vec Ideal S4096x2438 .f32 := fun i => newV (mat (m ((c : Thread nD τ).loc main_arg1)) i)
  (mat (m ((c : Thread nD τ).loc main_arg3)) i)

theorem final4 (c : Dev nD) : (dats m 0 c).arrAt 4 cfg0.N = D m c := by
  refine (dats m 0 c).arrAt_eq_of_covers 4 _ (by decide +kernel) fun t _ y => ?_
  rw [after0_4, out4]
  show delta (V m c main_v0 _) (V m c main_v1 _) (V m c main_v2 _) (V m c main_v3 _) = _
  rw [V0, V1, V2, V3]
  rfl

theorem final5 (c : Dev nD) : (dats m 0 c).arrAt 5 cfg0.N = M m c := by
  refine (dats m 0 c).arrAt_eq_of_covers 5 _ (by decide +kernel) fun t _ y => ?_
  rw [after0_5, out5]
  show newM (V m c main_v1 _) (V m c main_v2 _) = _
  rw [V1, V2]
  rfl

theorem final6 (c : Dev nD) : (dats m 0 c).arrAt 6 cfg0.N = W m c := by
  refine (dats m 0 c).arrAt_eq_of_covers 6 _ (by decide +kernel) fun t _ y => ?_
  rw [after0_6, out6]
  show newV (V m c main_v1 _) (V m c main_v3 _) = _
  rw [V1, V3]
  rfl

/-! ## The claims of this call -/

theorem frame_p : Cert.quiescent_AdamIn := fun m ρ _ => Cert.AdamIn.Gen.frame m ρ

theorem frame_pi : Cert.quiescent_AdamInIdeal := fun m ρ _ => Cert.AdamInIdeal.Gen.frame m ρ

theorem frame_ri : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

theorem algebraic : Cert.algebraic_AdamInIdeal_AdamInRefIdeal := fun m ρ m' ρ' _ hagree =>
  ⟨D m, M m, W m, (θ_run defs _ _).mono (fun _ h c => ⟨(h c).1.trans (final4 m c), (h c).2.1.trans (final5 m c), (h c).2.2.1.trans (final6 m c),
      (h c).2.2.2⟩) (Value.run_blocks m ρ),
    (θ_run Cert.AdamInRefIdeal.defs _ _).mono (fun _ h c => ⟨(h c).1.trans (by
        rw [(hagree c).1, (hagree c).2.1, (hagree c).2.2.1, (hagree c).2.2.2]
        rfl), (h c).2.1.trans (by
        rw [(hagree c).2.1, (hagree c).2.2.1]
        rfl), (h c).2.2.1.trans (by
        rw [(hagree c).2.1, (hagree c).2.2.2]
        rfl), (h c).2.2.2⟩) (Cert.AdamInRefIdeal.Value.run (F := Ideal) m' ρ')⟩

end Cert.AdamInValue
end
-- ==== Proof.AdamRowsValue.lean ====
/- The update of the S5 gate's and the output's weights, which have one shape. -/
module

public import proofs.«01_k».proof.Defs
public import proofs.«01_k».proof.Proof.Gen.AdamRows.Frame
public import Idealize.ShloMosaic.Lib.Quiescent
public import proofs.«01_k».proof.Proof.Gen.AdamRowsIdeal.Value
public import proofs.«01_k».proof.Proof.Gen.AdamRowsRefIdeal.Read
public import proofs.«01_k».proof.Proof.Adam

@[expose] public section

noncomputable section

namespace Cert.AdamRowsValue

open Cert.AdamRowsIdeal Cert.AdamRowsIdeal.Gen Idealize.ShloMosaic Idealize.ShloMosaic.TcCoe Idealize.SL.Sem Cert.Products Cert.Adam

/-! ## A grid point -/

section Point

variable (x g m v : Vec Ideal S128x1024 .f32)

theorem out4 : out0_4 x g m v = fun j => delta (x j) (g j) (m j) (v j) := by
  unfold out0_4 k0_pay4 k0_pay3 k0_pay2 k0_pay1
  rw [View.canon_unit_zero hz]
  simp only [View.ld_unit_zero (S := S128x1024) hz]
  funext j
  simp only [pointwise]
  rfl

theorem out5 : out0_5 x g m v = fun j => newM (g j) (m j) := by
  unfold out0_5 k0_pay2 k0_pay1
  rw [View.canon_unit_zero hz]
  simp only [View.ld_unit_zero (S := S128x1024) hz]
  funext j
  simp only [pointwise]
  rfl

theorem out6 : out0_6 x g m v = fun j => newV (g j) (v j) := by
  unfold out0_6 k0_pay3 k0_pay1
  rw [View.canon_unit_zero hz]
  simp only [View.ld_unit_zero (S := S128x1024) hz]
  funext j
  simp only [pointwise]
  rfl

end Point

/-! ## The whole results -/

/-- An array as a matrix. -/
abbrev mat (x : Vec Ideal S4x256x1024 .f32) : Vec Ideal S1024x1024 .f32 := shapeCast S1024x1024 x shapeCasts_S4x256x1024_S1024x1024

variable (m : (ℓ : Loc nD τ sig) → Buf (Elt Ideal) ℓ)

theorem V0 (c : Dev nD) : V m c main_v0 = mat (m ((c : Thread nD τ).loc main_arg0)) := by
  show StableHlo.after _ _ (Proc.devRef .tc main_v0) = _
  after_results
  rfl

theorem V1 (c : Dev nD) : V m c main_v1 = mat (m ((c : Thread nD τ).loc main_arg1)) := by
  show StableHlo.after _ _ (Proc.devRef .tc main_v1) = _
  after_results
  rfl

theorem V2 (c : Dev nD) : V m c main_v2 = mat (m ((c : Thread nD τ).loc main_arg2)) := by
  show StableHlo.after _ _ (Proc.devRef .tc main_v2) = _
  after_results
  rfl

theorem V3 (c : Dev nD) : V m c main_v3 = mat (m ((c : Thread nD τ).loc main_arg3)) := by
  show StableHlo.after _ _ (Proc.devRef .tc main_v3) = _
  after_results
  rfl

/-- The three results. -/
abbrev D (c : Dev nD) : Vec Ideal S1024x1024 .f32 := fun i => delta (mat (m ((c : Thread nD τ).loc main_arg0)) i)
  (mat (m ((c : Thread nD τ).loc main_arg1)) i) (mat (m ((c : Thread nD τ).loc main_arg2)) i) (mat (m ((c : Thread nD τ).loc main_arg3)) i)

abbrev M (c : Dev nD) : Vec Ideal S1024x1024 .f32 := fun i => newM (mat (m ((c : Thread nD τ).loc main_arg1)) i)
  (mat (m ((c : Thread nD τ).loc main_arg2)) i)

abbrev W (c : Dev nD) : Vec Ideal S1024x1024 .f32 := fun i => newV (mat (m ((c : Thread nD τ).loc main_arg1)) i)
  (mat (m ((c : Thread nD τ).loc main_arg3)) i)

theorem final4 (c : Dev nD) : (dats m 0 c).arrAt 4 cfg0.N = D m c := by
  refine (dats m 0 c).arrAt_eq_of_covers 4 _ (by decide +kernel) fun t _ y => ?_
  rw [after0_4, out4]
  show delta (V m c main_v0 _) (V m c main_v1 _) (V m c main_v2 _) (V m c main_v3 _) = _
  rw [V0, V1, V2, V3]
  rfl

theorem final5 (c : Dev nD) : (dats m 0 c).arrAt 5 cfg0.N = M m c := by
  refine (dats m 0 c).arrAt_eq_of_covers 5 _ (by decide +kernel) fun t _ y => ?_
  rw [after0_5, out5]
  show newM (V m c main_v1 _) (V m c main_v2 _) = _
  rw [V1, V2]
  rfl

theorem final6 (c : Dev nD) : (dats m 0 c).arrAt 6 cfg0.N = W m c := by
  refine (dats m 0 c).arrAt_eq_of_covers 6 _ (by decide +kernel) fun t _ y => ?_
  rw [after0_6, out6]
  show newV (V m c main_v1 _) (V m c main_v3 _) = _
  rw [V1, V3]
  rfl

/-! ## The claims of this call -/

theorem frame_p : Cert.quiescent_AdamRows := fun m ρ _ => Cert.AdamRows.Gen.frame m ρ

theorem frame_pi : Cert.quiescent_AdamRowsIdeal := fun m ρ _ => Cert.AdamRowsIdeal.Gen.frame m ρ

theorem frame_ri : Cert.quiescent_AdamRowsRefIdeal := fun m ρ _ =>
  (θ_run Cert.AdamRowsRefIdeal.defs _ _).mono (fun r h => ⟨fun c => (h c).2.2.2, sem_eq_zero_of_no_sems (by decide) r.2⟩)
    (Cert.AdamRowsRefIdeal.Value.run (F := Ideal) m ρ)

theorem algebraic : Cert.algebraic_AdamRowsIdeal_AdamRowsRefIdeal := fun m ρ m' ρ' _ hagree =>
  ⟨D m, M m, W m, (θ_run defs _ _).mono (fun _ h c => ⟨(h c).1.trans (final4 m c), (h c).2.1.trans (final5 m c), (h c).2.2.1.trans (final6 m c),
      (h c).2.2.2⟩) (Value.run_blocks m ρ),
    (θ_run Cert.AdamRowsRefIdeal.defs _ _).mono (fun _ h c => ⟨(h c).1.trans (by
        rw [(hagree c).1, (hagree c).2.1, (hagree c).2.2.1, (hagree c).2.2.2]
        rfl), (h c).2.1.trans (by
        rw [(hagree c).2.1, (hagree c).2.2.1]
        rfl), (h c).2.2.1.trans (by
        rw [(hagree c).2.1, (hagree c).2.2.2]
        rfl), (h c).2.2.2⟩) (Cert.AdamRowsRefIdeal.Value.run (F := Ideal) m' ρ')⟩

end Cert.AdamRowsValue
end
-- ==== Proof.AdamBranchValue.lean ====
/- The update of the branches' weights. -/
module

public import proofs.«01_k».proof.Defs
public import proofs.«01_k».proof.Proof.Gen.AdamBranch.Frame
public import Idealize.ShloMosaic.Lib.Quiescent
public import proofs.«01_k».proof.Proof.Gen.AdamBranchIdeal.Value
public import proofs.«01_k».proof.Proof.Gen.AdamBranchRefIdeal.Read
public import proofs.«01_k».proof.Proof.Adam

@[expose] public section

noncomputable section

namespace Cert.AdamBranchValue

open Cert.AdamBranchIdeal Cert.AdamBranchIdeal.Gen Idealize.ShloMosaic Idealize.ShloMosaic.TcCoe Idealize.SL.Sem Cert.Products Cert.Adam

/-! ## A grid point -/

section Point

variable (x g m v : Vec Ideal S128x1024 .f32)

theorem out4 : out0_4 x g m v = fun j => delta (x j) (g j) (m j) (v j) := by
  unfold out0_4 k0_pay4 k0_pay3 k0_pay2 k0_pay1
  rw [View.canon_unit_zero hz]
  simp only [View.ld_unit_zero (S := S128x1024) hz]
  funext j
  simp only [pointwise]
  rfl

theorem out5 : out0_5 x g m v = fun j => newM (g j) (m j) := by
  unfold out0_5 k0_pay2 k0_pay1
  rw [View.canon_unit_zero hz]
  simp only [View.ld_unit_zero (S := S128x1024) hz]
  funext j
  simp only [pointwise]
  rfl

theorem out6 : out0_6 x g m v = fun j => newV (g j) (v j) := by
  unfold out0_6 k0_pay3 k0_pay1
  rw [View.canon_unit_zero hz]
  simp only [View.ld_unit_zero (S := S128x1024) hz]
  funext j
  simp only [pointwise]
  rfl

end Point

/-! ## The whole results -/

/-- An array as a matrix. -/
abbrev mat (x : Vec Ideal S4x3x256x1024 .f32) : Vec Ideal S3072x1024 .f32 := shapeCast S3072x1024 x shapeCasts_S4x3x256x1024_S3072x1024

variable (m : (ℓ : Loc nD τ sig) → Buf (Elt Ideal) ℓ)

theorem V0 (c : Dev nD) : V m c main_v0 = mat (m ((c : Thread nD τ).loc main_arg0)) := by
  show StableHlo.after _ _ (Proc.devRef .tc main_v0) = _
  after_results
  rfl

theorem V1 (c : Dev nD) : V m c main_v1 = mat (m ((c : Thread nD τ).loc main_arg1)) := by
  show StableHlo.after _ _ (Proc.devRef .tc main_v1) = _
  after_results
  rfl

theorem V2 (c : Dev nD) : V m c main_v2 = mat (m ((c : Thread nD τ).loc main_arg2)) := by
  show StableHlo.after _ _ (Proc.devRef .tc main_v2) = _
  after_results
  rfl

theorem V3 (c : Dev nD) : V m c main_v3 = mat (m ((c : Thread nD τ).loc main_arg3)) := by
  show StableHlo.after _ _ (Proc.devRef .tc main_v3) = _
  after_results
  rfl

/-- The three results. -/
abbrev D (c : Dev nD) : Vec Ideal S3072x1024 .f32 := fun i => delta (mat (m ((c : Thread nD τ).loc main_arg0)) i)
  (mat (m ((c : Thread nD τ).loc main_arg1)) i) (mat (m ((c : Thread nD τ).loc main_arg2)) i) (mat (m ((c : Thread nD τ).loc main_arg3)) i)

abbrev M (c : Dev nD) : Vec Ideal S3072x1024 .f32 := fun i => newM (mat (m ((c : Thread nD τ).loc main_arg1)) i)
  (mat (m ((c : Thread nD τ).loc main_arg2)) i)

abbrev W (c : Dev nD) : Vec Ideal S3072x1024 .f32 := fun i => newV (mat (m ((c : Thread nD τ).loc main_arg1)) i)
  (mat (m ((c : Thread nD τ).loc main_arg3)) i)

theorem final4 (c : Dev nD) : (dats m 0 c).arrAt 4 cfg0.N = D m c := by
  refine (dats m 0 c).arrAt_eq_of_covers 4 _ (by decide +kernel) fun t _ y => ?_
  rw [after0_4, out4]
  show delta (V m c main_v0 _) (V m c main_v1 _) (V m c main_v2 _) (V m c main_v3 _) = _
  rw [V0, V1, V2, V3]
  rfl

theorem final5 (c : Dev nD) : (dats m 0 c).arrAt 5 cfg0.N = M m c := by
  refine (dats m 0 c).arrAt_eq_of_covers 5 _ (by decide +kernel) fun t _ y => ?_
  rw [after0_5, out5]
  show newM (V m c main_v1 _) (V m c main_v2 _) = _
  rw [V1, V2]
  rfl

theorem final6 (c : Dev nD) : (dats m 0 c).arrAt 6 cfg0.N = W m c := by
  refine (dats m 0 c).arrAt_eq_of_covers 6 _ (by decide +kernel) fun t _ y => ?_
  rw [after0_6, out6]
  show newV (V m c main_v1 _) (V m c main_v3 _) = _
  rw [V1, V3]
  rfl

/-! ## The claims of this call -/

theorem frame_p : Cert.quiescent_AdamBranch := fun m ρ _ => Cert.AdamBranch.Gen.frame m ρ

theorem frame_pi : Cert.quiescent_AdamBranchIdeal := fun m ρ _ => Cert.AdamBranchIdeal.Gen.frame m ρ

theorem frame_ri : Cert.quiescent_AdamBranchRefIdeal := fun m ρ _ =>
  (θ_run Cert.AdamBranchRefIdeal.defs _ _).mono (fun r h => ⟨fun c => (h c).2.2.2, sem_eq_zero_of_no_sems (by decide) r.2⟩)
    (Cert.AdamBranchRefIdeal.Value.run (F := Ideal) m ρ)

theorem algebraic : Cert.algebraic_AdamBranchIdeal_AdamBranchRefIdeal := fun m ρ m' ρ' _ hagree =>
  ⟨D m, M m, W m, (θ_run defs _ _).mono (fun _ h c => ⟨(h c).1.trans (final4 m c), (h c).2.1.trans (final5 m c), (h c).2.2.1.trans (final6 m c),
      (h c).2.2.2⟩) (Value.run_blocks m ρ),
    (θ_run Cert.AdamBranchRefIdeal.defs _ _).mono (fun _ h c => ⟨(h c).1.trans (by
        rw [(hagree c).1, (hagree c).2.1, (hagree c).2.2.1, (hagree c).2.2.2]
        rfl), (h c).2.1.trans (by
        rw [(hagree c).2.1, (hagree c).2.2.1]
        rfl), (h c).2.2.1.trans (by
        rw [(hagree c).2.1, (hagree c).2.2.2]
        rfl), (h c).2.2.2⟩) (Cert.AdamBranchRefIdeal.Value.run (F := Ideal) m' ρ')⟩

end Cert.AdamBranchValue
end
-- ==== Proof.AdamFinValue.lean ====
/- The update of the feed-forward's input weights. -/
module

public import proofs.«01_k».proof.Defs
public import proofs.«01_k».proof.Proof.Gen.AdamFin.Frame
public import Idealize.ShloMosaic.Lib.Quiescent
public import proofs.«01_k».proof.Proof.Gen.AdamFinIdeal.Value
public import proofs.«01_k».proof.Proof.Gen.AdamFinRefIdeal.Read
public import proofs.«01_k».proof.Proof.Adam

@[expose] public section

noncomputable section

namespace Cert.AdamFinValue

open Cert.AdamFinIdeal Cert.AdamFinIdeal.Gen Idealize.ShloMosaic Idealize.ShloMosaic.TcCoe Idealize.SL.Sem Cert.Products Cert.Adam

/-! ## A grid point -/

section Point

variable (x g m v : Vec Ideal S128x1408 .f32)

theorem out4 : out0_4 x g m v = fun j => delta (x j) (g j) (m j) (v j) := by
  unfold out0_4 k0_pay4 k0_pay3 k0_pay2 k0_pay1
  rw [View.canon_unit_zero hz]
  simp only [View.ld_unit_zero (S := S128x1408) hz]
  funext j
  simp only [pointwise]
  rfl

theorem out5 : out0_5 x g m v = fun j => newM (g j) (m j) := by
  unfold out0_5 k0_pay2 k0_pay1
  rw [View.canon_unit_zero hz]
  simp only [View.ld_unit_zero (S := S128x1408) hz]
  funext j
  simp only [pointwise]
  rfl

theorem out6 : out0_6 x g m v = fun j => newV (g j) (v j) := by
  unfold out0_6 k0_pay3 k0_pay1
  rw [View.canon_unit_zero hz]
  simp only [View.ld_unit_zero (S := S128x1408) hz]
  funext j
  simp only [pointwise]
  rfl

end Point

/-! ## The whole results -/

/-- An array as a matrix. -/
abbrev mat (x : Vec Ideal S4x1024x1408 .f32) : Vec Ideal S4096x1408 .f32 := shapeCast S4096x1408 x shapeCasts_S4x1024x1408_S4096x1408

variable (m : (ℓ : Loc nD τ sig) → Buf (Elt Ideal) ℓ)

theorem V0 (c : Dev nD) : V m c main_v0 = mat (m ((c : Thread nD τ).loc main_arg0)) := by
  show StableHlo.after _ _ (Proc.devRef .tc main_v0) = _
  after_results
  rfl

theorem V1 (c : Dev nD) : V m c main_v1 = mat (m ((c : Thread nD τ).loc main_arg1)) := by
  show StableHlo.after _ _ (Proc.devRef .tc main_v1) = _
  after_results
  rfl

theorem V2 (c : Dev nD) : V m c main_v2 = mat (m ((c : Thread nD τ).loc main_arg2)) := by
  show StableHlo.after _ _ (Proc.devRef .tc main_v2) = _
  after_results
  rfl

theorem V3 (c : Dev nD) : V m c main_v3 = mat (m ((c : Thread nD τ).loc main_arg3)) := by
  show StableHlo.after _ _ (Proc.devRef .tc main_v3) = _
  after_results
  rfl

/-- The three results. -/
abbrev D (c : Dev nD) : Vec Ideal S4096x1408 .f32 := fun i => delta (mat (m ((c : Thread nD τ).loc main_arg0)) i)
  (mat (m ((c : Thread nD τ).loc main_arg1)) i) (mat (m ((c : Thread nD τ).loc main_arg2)) i) (mat (m ((c : Thread nD τ).loc main_arg3)) i)

abbrev M (c : Dev nD) : Vec Ideal S4096x1408 .f32 := fun i => newM (mat (m ((c : Thread nD τ).loc main_arg1)) i)
  (mat (m ((c : Thread nD τ).loc main_arg2)) i)

abbrev W (c : Dev nD) : Vec Ideal S4096x1408 .f32 := fun i => newV (mat (m ((c : Thread nD τ).loc main_arg1)) i)
  (mat (m ((c : Thread nD τ).loc main_arg3)) i)

theorem final4 (c : Dev nD) : (dats m 0 c).arrAt 4 cfg0.N = D m c := by
  refine (dats m 0 c).arrAt_eq_of_covers 4 _ (by decide +kernel) fun t _ y => ?_
  rw [after0_4, out4]
  show delta (V m c main_v0 _) (V m c main_v1 _) (V m c main_v2 _) (V m c main_v3 _) = _
  rw [V0, V1, V2, V3]
  rfl

theorem final5 (c : Dev nD) : (dats m 0 c).arrAt 5 cfg0.N = M m c := by
  refine (dats m 0 c).arrAt_eq_of_covers 5 _ (by decide +kernel) fun t _ y => ?_
  rw [after0_5, out5]
  show newM (V m c main_v1 _) (V m c main_v2 _) = _
  rw [V1, V2]
  rfl

theorem final6 (c : Dev nD) : (dats m 0 c).arrAt 6 cfg0.N = W m c := by
  refine (dats m 0 c).arrAt_eq_of_covers 6 _ (by decide +kernel) fun t _ y => ?_
  rw [after0_6, out6]
  show newV (V m c main_v1 _) (V m c main_v3 _) = _
  rw [V1, V3]
  rfl

/-! ## The claims of this call -/

theorem frame_p : Cert.quiescent_AdamFin := fun m ρ _ => Cert.AdamFin.Gen.frame m ρ

theorem frame_pi : Cert.quiescent_AdamFinIdeal := fun m ρ _ => Cert.AdamFinIdeal.Gen.frame m ρ

theorem frame_ri : Cert.quiescent_AdamFinRefIdeal := fun m ρ _ =>
  (θ_run Cert.AdamFinRefIdeal.defs _ _).mono (fun r h => ⟨fun c => (h c).2.2.2, sem_eq_zero_of_no_sems (by decide) r.2⟩)
    (Cert.AdamFinRefIdeal.Value.run (F := Ideal) m ρ)

theorem algebraic : Cert.algebraic_AdamFinIdeal_AdamFinRefIdeal := fun m ρ m' ρ' _ hagree =>
  ⟨D m, M m, W m, (θ_run defs _ _).mono (fun _ h c => ⟨(h c).1.trans (final4 m c), (h c).2.1.trans (final5 m c), (h c).2.2.1.trans (final6 m c),
      (h c).2.2.2⟩) (Value.run_blocks m ρ),
    (θ_run Cert.AdamFinRefIdeal.defs _ _).mono (fun _ h c => ⟨(h c).1.trans (by
        rw [(hagree c).1, (hagree c).2.1, (hagree c).2.2.1, (hagree c).2.2.2]
        rfl), (h c).2.1.trans (by
        rw [(hagree c).2.1, (hagree c).2.2.1]
        rfl), (h c).2.2.1.trans (by
        rw [(hagree c).2.1, (hagree c).2.2.2]
        rfl), (h c).2.2.2⟩) (Cert.AdamFinRefIdeal.Value.run (F := Ideal) m' ρ')⟩

end Cert.AdamFinValue
end
-- ==== Proof.AdamFoutValue.lean ====
/- The update of the feed-forward's output weights. -/
module

public import proofs.«01_k».proof.Defs
public import proofs.«01_k».proof.Proof.Gen.AdamFout.Frame
public import Idealize.ShloMosaic.Lib.Quiescent
public import proofs.«01_k».proof.Proof.Gen.AdamFoutIdeal.Value
public import proofs.«01_k».proof.Proof.Gen.AdamFoutRefIdeal.Read
public import proofs.«01_k».proof.Proof.Adam

@[expose] public section

noncomputable section

namespace Cert.AdamFoutValue

open Cert.AdamFoutIdeal Cert.AdamFoutIdeal.Gen Idealize.ShloMosaic Idealize.ShloMosaic.TcCoe Idealize.SL.Sem Cert.Products Cert.Adam

/-! ## A grid point -/

section Point

variable (x g m v : Vec Ideal S128x1024 .f32)

theorem out4 : out0_4 x g m v = fun j => delta (x j) (g j) (m j) (v j) := by
  unfold out0_4 k0_pay4 k0_pay3 k0_pay2 k0_pay1
  rw [View.canon_unit_zero hz]
  simp only [View.ld_unit_zero (S := S128x1024) hz]
  funext j
  simp only [pointwise]
  rfl

theorem out5 : out0_5 x g m v = fun j => newM (g j) (m j) := by
  unfold out0_5 k0_pay2 k0_pay1
  rw [View.canon_unit_zero hz]
  simp only [View.ld_unit_zero (S := S128x1024) hz]
  funext j
  simp only [pointwise]
  rfl

theorem out6 : out0_6 x g m v = fun j => newV (g j) (v j) := by
  unfold out0_6 k0_pay3 k0_pay1
  rw [View.canon_unit_zero hz]
  simp only [View.ld_unit_zero (S := S128x1024) hz]
  funext j
  simp only [pointwise]
  rfl

end Point

/-! ## The whole results -/

/-- An array as a matrix. -/
abbrev mat (x : Vec Ideal S4x704x1024 .f32) : Vec Ideal S2816x1024 .f32 := shapeCast S2816x1024 x shapeCasts_S4x704x1024_S2816x1024

variable (m : (ℓ : Loc nD τ sig) → Buf (Elt Ideal) ℓ)

theorem V0 (c : Dev nD) : V m c main_v0 = mat (m ((c : Thread nD τ).loc main_arg0)) := by
  show StableHlo.after _ _ (Proc.devRef .tc main_v0) = _
  after_results
  rfl

theorem V1 (c : Dev nD) : V m c main_v1 = mat (m ((c : Thread nD τ).loc main_arg1)) := by
  show StableHlo.after _ _ (Proc.devRef .tc main_v1) = _
  after_results
  rfl

theorem V2 (c : Dev nD) : V m c main_v2 = mat (m ((c : Thread nD τ).loc main_arg2)) := by
  show StableHlo.after _ _ (Proc.devRef .tc main_v2) = _
  after_results
  rfl

theorem V3 (c : Dev nD) : V m c main_v3 = mat (m ((c : Thread nD τ).loc main_arg3)) := by
  show StableHlo.after _ _ (Proc.devRef .tc main_v3) = _
  after_results
  rfl

/-- The three results. -/
abbrev D (c : Dev nD) : Vec Ideal S2816x1024 .f32 := fun i => delta (mat (m ((c : Thread nD τ).loc main_arg0)) i)
  (mat (m ((c : Thread nD τ).loc main_arg1)) i) (mat (m ((c : Thread nD τ).loc main_arg2)) i) (mat (m ((c : Thread nD τ).loc main_arg3)) i)

abbrev M (c : Dev nD) : Vec Ideal S2816x1024 .f32 := fun i => newM (mat (m ((c : Thread nD τ).loc main_arg1)) i)
  (mat (m ((c : Thread nD τ).loc main_arg2)) i)

abbrev W (c : Dev nD) : Vec Ideal S2816x1024 .f32 := fun i => newV (mat (m ((c : Thread nD τ).loc main_arg1)) i)
  (mat (m ((c : Thread nD τ).loc main_arg3)) i)

theorem final4 (c : Dev nD) : (dats m 0 c).arrAt 4 cfg0.N = D m c := by
  refine (dats m 0 c).arrAt_eq_of_covers 4 _ (by decide +kernel) fun t _ y => ?_
  rw [after0_4, out4]
  show delta (V m c main_v0 _) (V m c main_v1 _) (V m c main_v2 _) (V m c main_v3 _) = _
  rw [V0, V1, V2, V3]
  rfl

theorem final5 (c : Dev nD) : (dats m 0 c).arrAt 5 cfg0.N = M m c := by
  refine (dats m 0 c).arrAt_eq_of_covers 5 _ (by decide +kernel) fun t _ y => ?_
  rw [after0_5, out5]
  show newM (V m c main_v1 _) (V m c main_v2 _) = _
  rw [V1, V2]
  rfl

theorem final6 (c : Dev nD) : (dats m 0 c).arrAt 6 cfg0.N = W m c := by
  refine (dats m 0 c).arrAt_eq_of_covers 6 _ (by decide +kernel) fun t _ y => ?_
  rw [after0_6, out6]
  show newV (V m c main_v1 _) (V m c main_v3 _) = _
  rw [V1, V3]
  rfl

/-! ## The claims of this call -/

theorem frame_p : Cert.quiescent_AdamFout := fun m ρ _ => Cert.AdamFout.Gen.frame m ρ

theorem frame_pi : Cert.quiescent_AdamFoutIdeal := fun m ρ _ => Cert.AdamFoutIdeal.Gen.frame m ρ

theorem frame_ri : Cert.quiescent_AdamFoutRefIdeal := fun m ρ _ =>
  (θ_run Cert.AdamFoutRefIdeal.defs _ _).mono (fun r h => ⟨fun c => (h c).2.2.2, sem_eq_zero_of_no_sems (by decide) r.2⟩)
    (Cert.AdamFoutRefIdeal.Value.run (F := Ideal) m ρ)

theorem algebraic : Cert.algebraic_AdamFoutIdeal_AdamFoutRefIdeal := fun m ρ m' ρ' _ hagree =>
  ⟨D m, M m, W m, (θ_run defs _ _).mono (fun _ h c => ⟨(h c).1.trans (final4 m c), (h c).2.1.trans (final5 m c), (h c).2.2.1.trans (final6 m c),
      (h c).2.2.2⟩) (Value.run_blocks m ρ),
    (θ_run Cert.AdamFoutRefIdeal.defs _ _).mono (fun _ h c => ⟨(h c).1.trans (by
        rw [(hagree c).1, (hagree c).2.1, (hagree c).2.2.1, (hagree c).2.2.2]
        rfl), (h c).2.1.trans (by
        rw [(hagree c).2.1, (hagree c).2.2.1]
        rfl), (h c).2.2.1.trans (by
        rw [(hagree c).2.1, (hagree c).2.2.2]
        rfl), (h c).2.2.2⟩) (Cert.AdamFoutRefIdeal.Value.run (F := Ideal) m' ρ')⟩

end Cert.AdamFoutValue
end
-- ==== Proof.SwigluFwdValue.lean ====
/- The gated unit. -/
module

public import proofs.«01_k».proof.Defs
public import proofs.«01_k».proof.Proof.Gen.SwigluFwd.Frame
public import Idealize.ShloMosaic.Lib.Quiescent
public import proofs.«01_k».proof.Proof.Gen.SwigluFwdIdeal.Value
public import proofs.«01_k».proof.Proof.Gen.SwigluFwdRefIdeal.Read
public import Idealize.ShloMosaic.Lib.Pointwise

@[expose] public section

noncomputable section

namespace Cert.SwigluFwdValue

open Cert.SwigluFwdRefIdeal.Read Cert.SwigluFwdIdeal Cert.SwigluFwdIdeal.Gen Idealize.ShloMosaic Idealize.ShloMosaic.TcCoe
open Idealize.SL.Sem

theorem unit_eq (g u : Vec Ideal S8448x2816 .f32) : val_main_v1 (F := Ideal) g u = Value.G2 (F := Ideal) g u := by
  funext i
  simp only [val_main_v1_apply, val_main_v0_apply, val_main_call0_v5_apply, val_main_call0_v4_apply, val_main_call0_cst_0_apply,
    val_main_call0_v3_apply, val_main_call0_v2_apply, val_main_call0_cst_apply, val_main_call0_v1_apply, val_main_call0_v0_apply,
    pointwise]
  rw [zero_sub]

/-! ## The claims of this call -/

theorem frame_p : Cert.quiescent_SwigluFwd := fun m ρ _ => Cert.SwigluFwd.Gen.frame m ρ

theorem frame_pi : Cert.quiescent_SwigluFwdIdeal := fun m ρ _ => Cert.SwigluFwdIdeal.Gen.frame m ρ

theorem frame_ri : Cert.quiescent_SwigluFwdRefIdeal := fun m ρ _ =>
  (θ_run Cert.SwigluFwdRefIdeal.defs _ _).mono (fun r h => ⟨fun c => (h c).2, sem_eq_zero_of_no_sems (by decide) r.2⟩)
    (Cert.SwigluFwdRefIdeal.Value.run (F := Ideal) m ρ)

theorem algebraic : Cert.algebraic_SwigluFwdIdeal_SwigluFwdRefIdeal := fun m ρ m' ρ' _ hagree =>
  ⟨_, Value.run m ρ,
    (θ_run Cert.SwigluFwdRefIdeal.defs _ _).mono (fun _ h c => ⟨(h c).1.trans (by
        rw [val_main_v1_eq, (hagree c).1, (hagree c).2]
        exact unit_eq _ _), (h c).2⟩) (Cert.SwigluFwdRefIdeal.Value.run (F := Ideal) m' ρ')⟩

end Cert.SwigluFwdValue
end
-- ==== Proof.RmsFwdValue.lean ====
/- The root-mean-square norm. -/
module

public import proofs.«01_k».proof.Defs
public import proofs.«01_k».proof.Proof.Gen.RmsFwd.Frame
public import Idealize.ShloMosaic.Lib.Quiescent
public import proofs.«01_k».proof.Proof.Gen.RmsFwdIdeal.Value
public import proofs.«01_k».proof.Proof.Gen.RmsFwdRefIdeal.Read
public import Idealize.ShloMosaic.Lib.Pipeline.ValueKit.Geometry
public import proofs.«01_k».proof.Proof.RmsValue

@[expose] public section

noncomputable section

namespace Cert.RmsFwdValue

open Cert.RmsFwdRefIdeal.Read Cert.RmsFwdIdeal Cert.RmsFwdIdeal.Gen Idealize.ShloMosaic Idealize.ShloMosaic.TcCoe
open Idealize.SL.Sem Cert.Products Cert.Rows
open Cert.RmsValue (var)

/-- The norm of the rows, with the weights `w`. -/
def norm {r : ℕ} (x : At r 1024 → EReal) (w : Fin 1024 → EReal) : At r 1024 → EReal := fun j =>
  x j * Ideal.rsqrt (var (row x (j 0))) * w (j 1)

theorem norm_blk {r R p : ℕ} {x : At r 1024 → EReal} {A : At R 1024 → EReal} (w : Fin 1024 → EReal) (hx : IsBlk p 0 x A) :
    IsBlk p 0 (norm x w) (norm A w) := fun j i h0 h1 => by
  unfold norm
  rw [row_blk hx (j 0) (i 0) h0, col_blk h1, hx j i h0 h1]

theorem out2 (x : Vec Ideal S256x1024 .f32) (w : Vec Ideal S1x1024 .f32) : out0_2 x w = norm (r := 256) x (row (r := 1) (c := 1024) w 0) := by
  unfold out0_2 k0_pay1
  rw [View.canon_unit_zero hz, View.ld_unit_zero (S := S256x1024) hz, View.ld_unit_zero (S := S1x1024) hz]
  funext j
  obtain ⟨a, b, rfl⟩ : ∃ a b, j = ix2 a b := ⟨j 0, j 1, ext2 rfl rfl⟩
  simp only [pointwise]
  rfl

theorem ref_norm (x : Vec Ideal S8448x1024 .f32) (w : Vec Ideal S1024 .f32) :
    val_main_v12 (F := Ideal) x w = norm (r := 8448) x (fun l => w (ix1 l)) := by
  funext j
  obtain ⟨a, b, rfl⟩ : ∃ a b, j = ix2 a b := ⟨j 0, j 1, ext2 rfl rfl⟩
  simp only [val_main_v12_apply, val_main_v11_apply, val_main_v10_apply, val_main_v9_apply, val_main_v8_apply, val_main_v7_apply,
    val_main_v6_apply, val_main_v5_apply, val_main_cst_1_apply, val_main_v4_apply, val_main_v3_apply, val_main_cst_0_apply,
    val_main_v2_apply, val_main_v1_apply, val_main_v0_apply, val_main_cst_apply, pointwise]
  have e : ∀ k : Fin 1024, idx_main_v1 (idx_main_v2 (idx_main_v8 (ix2 a b))) k = ix2 a k := fun k => ext2 rfl rfl
  have ew : idx_main_v10 (idx_main_v11 (ix2 a b)) = ix1 b := funext fun d => by match d with | ⟨0, _⟩ => rfl
  simp only [e, ew, zero_add]
  rfl

/-! ## The whole result -/

variable (m : (ℓ : Loc nD τ sig) → Buf (Elt Ideal) ℓ)

theorem V_w (c : Dev nD) (l : Fin 1024) : V m c main_v0 (ix2 0 l) = m ((c : Thread nD τ).loc main_arg1) (ix1 l) := by
  have h : V m c main_v0 = shapeCast S1x1024 (m ((c : Thread nD τ).loc main_arg1)) shapeCasts_S1024_S1x1024 := by
    show StableHlo.after _ _ (Proc.devRef .tc main_v0) = _
    after_results
    rfl
  rw [h]
  exact shapeCast_apply _ shapeCasts_S1024_S1x1024 (ix2 0 l) (ix1 l) (by
    rewrite [Shape.rowMajor_val_one, Shape.rowMajor_val_two]; show l.val = 0 * 1024 + l.val; omega)

theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 2) = t.val ∧ win0_2.index t (1 : Fin 2) = 0 :=
  (by decide +kernel : ∀ t : Fin grid0.N, _)

theorem blk_w (c : Dev nD) (t : Fin cfg0.N) : row (r := 1) (c := 1024) (iblk m c 1 t) 0 = fun l => m ((c : Thread nD τ).loc main_arg1) (ix1 l) := by
  obtain ⟨-, -, e0, e1, -⟩ := idx_facts t
  have h : IsBlk (r' := 1) (c' := 1024) 0 0 (iblk m c 1 t) (V m c main_v0 : At 1 1024 → EReal) :=
    isBlk_emb (A := V m c main_v0) (e := ((cfg0.win 1).blk t).view.emb) e0 e1 (fun _ => rfl) fun _ => rfl
  exact funext fun l => (h (ix2 0 l) (ix2 0 l) rfl (show l.val = 0 * 1024 + l.val by omega)).trans (V_w m c l)

abbrev G2 (c : Dev nD) : Vec Ideal S8448x1024 .f32 := norm (r := 8448) (m ((c : Thread nD τ).loc main_arg0))
  (fun l => m ((c : Thread nD τ).loc main_arg1) (ix1 l))

theorem final2 (c : Dev nD) : (dats m 0 c).arrAt 2 cfg0.N = G2 m c := by
  refine (dats m 0 c).arrAt_eq_of_covers 2 _ (by decide +kernel) fun t _ y => ?_
  obtain ⟨x0, x1, -, -, e0, e1⟩ := idx_facts t
  have hx : IsBlk (r' := 256) (c' := 1024) t.val 0 (iblk m c 0 t) (m ((c : Thread nD τ).loc main_arg0) : At 8448 1024 → EReal) := by
    rw [← V_main_arg0 m c]; exact isBlk_emb (e := ((cfg0.win 0).blk t).view.emb) x0 x1 (fun _ => rfl) fun _ => rfl
  rw [after0_2, out2, blk_w]
  have h := (norm_blk (fun l => m ((c : Thread nD τ).loc main_arg1) (ix1 l)) hx).eq_emb (e := ((cfg0.win 2).blk t).view.emb) e0 e1 (fun _ => rfl) (fun _ => rfl) y
  exact Eq.trans rfl h

/-! ## The claims of this call -/

theorem frame_p : Cert.quiescent_RmsFwd := fun m ρ _ => Cert.RmsFwd.Gen.frame m ρ

theorem frame_pi : Cert.quiescent_RmsFwdIdeal := fun m ρ _ => Cert.RmsFwdIdeal.Gen.frame m ρ

theorem frame_ri : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

theorem algebraic : Cert.algebraic_RmsFwdIdeal_RmsFwdRefIdeal := fun m ρ m' ρ' _ hagree =>
  ⟨G2 m, (θ_run defs _ _).mono (fun _ h c => ⟨(h c).1.trans (final2 m c), (h c).2⟩) (Value.run_blocks m ρ),
    (θ_run Cert.RmsFwdRefIdeal.defs _ _).mono (fun _ h c => ⟨(h c).1.trans (by
        rw [val_main_v12_eq, (hagree c).1, (hagree c).2]
        exact ref_norm _ _), (h c).2⟩) (Cert.RmsFwdRefIdeal.Value.run (F := Ideal) m' ρ')⟩

end Cert.RmsFwdValue
end
-- ==== Proof.PostFwdValue.lean ====
/- The output gate of S5. -/
module

public import proofs.«01_k».proof.Defs
public import proofs.«01_k».proof.Proof.Gen.PostFwd.Frame
public import Idealize.ShloMosaic.Lib.Quiescent
public import proofs.«01_k».proof.Proof.Gen.PostFwdIdeal.Value
public import proofs.«01_k».proof.Proof.Gen.PostFwdRefIdeal.Read
public import Idealize.ShloMosaic.Lib.Pointwise

@[expose] public section

noncomputable section

namespace Cert.PostFwdValue

open Cert.PostFwdRefIdeal.Read Cert.PostFwdIdeal Cert.PostFwdIdeal.Gen Idealize.ShloMosaic Idealize.ShloMosaic.TcCoe
open Idealize.SL.Sem

theorem gate_eq (y t : Vec Ideal S8448x1024 .f32) : val_main_v6 (F := Ideal) y t = Value.G2 (F := Ideal) y t := by
  funext i
  simp only [val_main_v6_apply, val_main_v5_apply, val_main_v4_apply, val_main_v3_apply, val_main_v2_apply, val_main_v1_apply,
    val_main_v0_apply, val_main_cst_apply, val_main_cst_0_apply, pointwise]
  rw [zero_sub]

/-! ## The claims of this call -/

theorem frame_p : Cert.quiescent_PostFwd := fun m ρ _ => Cert.PostFwd.Gen.frame m ρ

theorem frame_pi : Cert.quiescent_PostFwdIdeal := fun m ρ _ => Cert.PostFwdIdeal.Gen.frame m ρ

theorem frame_ri : Cert.quiescent_PostFwdRefIdeal := fun m ρ _ =>
  (θ_run Cert.PostFwdRefIdeal.defs _ _).mono (fun r h => ⟨fun c => (h c).2, sem_eq_zero_of_no_sems (by decide) r.2⟩)
    (Cert.PostFwdRefIdeal.Value.run (F := Ideal) m ρ)

theorem algebraic : Cert.algebraic_PostFwdIdeal_PostFwdRefIdeal := fun m ρ m' ρ' _ hagree =>
  ⟨_, Value.run m ρ,
    (θ_run Cert.PostFwdRefIdeal.defs _ _).mono (fun _ h c => ⟨(h c).1.trans (by
        rw [val_main_v6_eq, (hagree c).1, (hagree c).2]
        exact gate_eq _ _), (h c).2⟩) (Cert.PostFwdRefIdeal.Value.run (F := Ideal) m' ρ')⟩

end Cert.PostFwdValue
end
-- ==== Proof.PreFwdValue.lean ====
/- The skip and gelu of S5. -/
module

public import proofs.«01_k».proof.Defs
public import proofs.«01_k».proof.Proof.Gen.PreFwd.Frame
public import Idealize.ShloMosaic.Lib.Quiescent
public import proofs.«01_k».proof.Proof.Gen.PreFwdIdeal.Value
public import proofs.«01_k».proof.Proof.Gen.PreFwdRefIdeal.Read
public import Idealize.ShloMosaic.Lib.Pipeline.ValueKit.Geometry
public import proofs.«01_k».proof.Proof.PreValue

@[expose] public section

noncomputable section

namespace Cert.PreFwdValue

open Cert.PreFwdRefIdeal.Read Cert.PreFwdIdeal Cert.PreFwdIdeal.Gen Idealize.ShloMosaic Idealize.ShloMosaic.TcCoe
open Idealize.SL.Sem Cert.Products Cert.Rows
open Cert.PreValue (bend bend₁ bend₁_eq)

/-- The gelu. -/
def gelu (z : EReal) : EReal := z * (Ideal.ofBits .f32 0x3F000000#32 * (1 + bend z))

/-- The gelu of the rows of `y` with `u` added, weighed by `d`. -/
def skip {r : ℕ} (y u : At r 1024 → EReal) (d : Fin 1024 → EReal) : At r 1024 → EReal := fun j => gelu (y j + d (j 1) * u j)

theorem skip_blk {r R p : ℕ} {y u : At r 1024 → EReal} {A B : At R 1024 → EReal} (d : Fin 1024 → EReal) (hy : IsBlk p 0 y A)
    (hu : IsBlk p 0 u B) : IsBlk p 0 (skip y u d) (skip A B d) := fun j i h0 h1 => by
  unfold skip
  rw [col_blk h1, hy j i h0 h1, hu j i h0 h1]

theorem kernel_gelu (z : EReal) : Ideal.ofBits .f32 0x3F000000#32 * z * (1 + bend₁ z) = gelu z := by
  unfold gelu
  rw [bend₁_eq]
  ac_rfl

theorem out3 (y u : Vec Ideal S256x1024 .f32) (d : Vec Ideal S1x1024 .f32) :
    out0_3 y u d = skip (r := 256) y u (row (r := 1) (c := 1024) d 0) := by
  unfold out0_3 k0_pay1
  rw [View.canon_unit_zero hz, View.ld_unit_zero (S := S256x1024) hz, View.ld_unit_zero (S := S256x1024) hz, View.ld_unit_zero (S := S1x1024) hz]
  funext j
  obtain ⟨a, b, rfl⟩ : ∃ a b, j = ix2 a b := ⟨j 0, j 1, ext2 rfl rfl⟩
  simp only [pointwise]
  exact kernel_gelu _

theorem ref_skip (y u : Vec Ideal S8448x1024 .f32) (d : Vec Ideal S1024 .f32) :
    val_main_v16 (F := Ideal) y u d = skip (r := 8448) y u (fun l => d (ix1 l)) := by
  funext j
  obtain ⟨a, b, rfl⟩ : ∃ a b, j = ix2 a b := ⟨j 0, j 1, ext2 rfl rfl⟩
  simp only [val_main_v16_apply, val_main_v15_apply, val_main_v14_apply, val_main_cst_2_apply, val_main_v13_apply, val_main_v12_apply,
    val_main_cst_1_apply, val_main_v11_apply, val_main_v10_apply, val_main_v9_apply, val_main_cst_0_apply, val_main_v8_apply,
    val_main_v7_apply, val_main_v6_apply, val_main_cst_apply, val_main_v5_apply, val_main_v4_apply, val_main_v3_apply, val_main_v2_apply,
    val_main_v1_apply, val_main_v0_apply, pointwise]
  have ed : idx_main_v0 (idx_main_v1 (ix2 a b)) = ix1 b := funext fun d => by match d with | ⟨0, _⟩ => rfl
  simp only [ed]
  rfl

/-! ## The whole result -/

variable (m : (ℓ : Loc nD τ sig) → Buf (Elt Ideal) ℓ)

theorem V_d (c : Dev nD) (l : Fin 1024) : V m c main_v0 (ix2 0 l) = m ((c : Thread nD τ).loc main_arg2) (ix1 l) := by
  have h : V m c main_v0 = shapeCast S1x1024 (m ((c : Thread nD τ).loc main_arg2)) shapeCasts_S1024_S1x1024 := by
    show StableHlo.after _ _ (Proc.devRef .tc main_v0) = _
    after_results
    rfl
  rw [h]
  exact shapeCast_apply _ shapeCasts_S1024_S1x1024 (ix2 0 l) (ix1 l) (by
    rewrite [Shape.rowMajor_val_one, Shape.rowMajor_val_two]; show l.val = 0 * 1024 + l.val; omega)

theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem blk_d (c : Dev nD) (t : Fin cfg0.N) : row (r := 1) (c := 1024) (iblk m c 2 t) 0 = fun l => m ((c : Thread nD τ).loc main_arg2) (ix1 l) := by
  obtain ⟨-, -, -, -, e0, e1, -⟩ := idx_facts t
  have h : IsBlk (r' := 1) (c' := 1024) 0 0 (iblk m c 2 t) (V m c main_v0 : At 1 1024 → EReal) :=
    isBlk_emb (A := V m c main_v0) (e := ((cfg0.win 2).blk t).view.emb) e0 e1 (fun _ => rfl) fun _ => rfl
  exact funext fun l => (h (ix2 0 l) (ix2 0 l) rfl (show l.val = 0 * 1024 + l.val by omega)).trans (V_d m c l)

abbrev G3 (c : Dev nD) : Vec Ideal S8448x1024 .f32 := skip (r := 8448) (m ((c : Thread nD τ).loc main_arg0))
  (m ((c : Thread nD τ).loc main_arg1)) (fun l => m ((c : Thread nD τ).loc main_arg2) (ix1 l))

theorem final3 (c : Dev nD) : (dats m 0 c).arrAt 3 cfg0.N = G3 m c := by
  refine (dats m 0 c).arrAt_eq_of_covers 3 _ (by decide +kernel) fun t _ y => ?_
  obtain ⟨x0, x1, u0, u1, -, -, e0, e1⟩ := idx_facts t
  have hy : IsBlk (r' := 256) (c' := 1024) t.val 0 (iblk m c 0 t) (m ((c : Thread nD τ).loc main_arg0) : At 8448 1024 → EReal) := by
    rw [← V_main_arg0 m c]; exact isBlk_emb (e := ((cfg0.win 0).blk t).view.emb) x0 x1 (fun _ => rfl) fun _ => rfl
  have hu : IsBlk (r' := 256) (c' := 1024) t.val 0 (iblk m c 1 t) (m ((c : Thread nD τ).loc main_arg1) : At 8448 1024 → EReal) := by
    rw [← V_main_arg1 m c]; exact isBlk_emb (e := ((cfg0.win 1).blk t).view.emb) u0 u1 (fun _ => rfl) fun _ => rfl
  rw [after0_3, out3, blk_d]
  have h := (skip_blk (fun l => m ((c : Thread nD τ).loc main_arg2) (ix1 l)) hy hu).eq_emb (e := ((cfg0.win 3).blk t).view.emb) e0 e1 (fun _ => rfl) (fun _ => rfl) y
  exact Eq.trans rfl h

/-! ## The claims of this call -/

theorem frame_p : Cert.quiescent_PreFwd := fun m ρ _ => Cert.PreFwd.Gen.frame m ρ

theorem frame_pi : Cert.quiescent_PreFwdIdeal := fun m ρ _ => Cert.PreFwdIdeal.Gen.frame m ρ

theorem frame_ri : Cert.quiescent_PreFwdRefIdeal := fun m ρ _ =>
  (θ_run Cert.PreFwdRefIdeal.defs _ _).mono (fun r h => ⟨fun c => (h c).2, sem_eq_zero_of_no_sems (by decide) r.2⟩)
    (Cert.PreFwdRefIdeal.Value.run (F := Ideal) m ρ)

theorem algebraic : Cert.algebraic_PreFwdIdeal_PreFwdRefIdeal := fun m ρ m' ρ' _ hagree =>
  ⟨G3 m, (θ_run defs _ _).mono (fun _ h c => ⟨(h c).1.trans (final3 m c), (h c).2⟩) (Value.run_blocks m ρ),
    (θ_run Cert.PreFwdRefIdeal.defs _ _).mono (fun _ h c => ⟨(h c).1.trans (by
        rw [val_main_v16_eq, (hagree c).1, (hagree c).2.1, (hagree c).2.2]
        exact ref_skip _ _ _), (h c).2⟩) (Cert.PreFwdRefIdeal.Value.run (F := Ideal) m' ρ')⟩

end Cert.PreFwdValue
end
-- ==== Proof.MergeFwdValue.lean ====
/- The gated sum of the three branches. -/
module

public import proofs.«01_k».proof.Defs
public import proofs.«01_k».proof.Proof.Gen.MergeFwd.Frame
public import Idealize.ShloMosaic.Lib.Quiescent
public import proofs.«01_k».proof.Proof.Gen.MergeFwdIdeal.Value
public import proofs.«01_k».proof.Proof.Gen.MergeFwdRefIdeal.Read
public import Idealize.ShloMosaic.Lib.Pipeline.ValueKit.Geometry
public import proofs.«01_k».proof.Proof.MergeValue

@[expose] public section

noncomputable section

namespace Cert.MergeFwdValue

open Cert.MergeFwdRefIdeal.Read Cert.MergeFwdIdeal Cert.MergeFwdIdeal.Gen Idealize.ShloMosaic Idealize.ShloMosaic.TcCoe
open Idealize.SL.Sem Cert.Products
open Cert.MergeValue (gate cut select_cut)

/-- The place of branch `q`'s gate. -/
abbrev place {r : ℕ} (j : At r 1024) (q : Fin 3) : At r 3072 :=
  ix2 (j 0) ⟨q.val * 1024 + (j 1).val, by have := q.isLt; have : (j 1).val < 1024 := (j 1).isLt; omega⟩

/-- The gated sum, the rows counted from row block `p`. -/
def mixed {r : ℕ} (p : ℕ) (B : Fin 3 → At r 1024 → EReal) (G : At r 3072 → EReal) : At r 1024 → EReal := fun j =>
  cut (p * r + (j 0).val) (∑ q, gate (G (place j q)) * B q j)

theorem mixed_blk {r R p : ℕ} {B : Fin 3 → At r 1024 → EReal} {B' : Fin 3 → At R 1024 → EReal} {G : At r 3072 → EReal} {G' : At R 3072 → EReal}
    (hB : ∀ q, IsBlk p 0 (B q) (B' q)) (hG : IsBlk p 0 G G') : IsBlk p 0 (mixed p B G) (mixed 0 B' G') := fun j i h0 h1 => by
  show cut (p * r + (j 0).val) _ = cut (0 * R + (i 0).val) _
  rw [show p * r + (j 0).val = 0 * R + (i 0).val by omega]
  exact congrArg _ (Finset.sum_congr rfl fun q _ => congrArg₂ (· * ·) (congrArg gate (hG _ _ h0 (by
    show q.val * 1024 + (i 1).val = 0 * 3072 + (q.val * 1024 + (j 1).val); omega))) (hB q j i h0 h1))

theorem pay2_eq (i : grid0.Coords) (a : Fin 128) : k0_pay2 i (ix2 a 0) = BitVec.ofNat 32 (((i 0).val * 128 + a.val) % 4224) :=
  Cert.MergeValue.pay3_eq i a

theorem out4 (i : grid0.Coords) (b0 b1 b2 : Vec Ideal S128x1024 .f32) (G : Vec Ideal S128x3072 .f32) :
    out0_4 i b0 b1 b2 G = mixed (r := 128) (i 0).val ![b0, b1, b2] G := by
  unfold out0_4
  rw [View.canon_unit_zero hz]
  simp only [View.ld_unit_zero (S := S128x1024) hz, View.ld_unit_zero (S := S128x3072) hz]
  funext j
  obtain ⟨a, b, rfl⟩ : ∃ a b, j = ix2 a b := ⟨j 0, j 1, ext2 rfl rfl⟩
  show _ = cut ((i 0).val * 128 + a.val) _
  rw [← select_cut, ← pay2_eq, Fin.sum_univ_three]
  unfold k0_pay1 k0_pay3 k0_pay4 k0_pay5 k0_pay6 gate
  simp only [pointwise, zero_sub]
  have e0 : G (place (r := 128) (ix2 a b) 0) = _ := congrArg G (ext2 (y := ix2 ⟨0 + a.val, by have := a.isLt; omega⟩ ⟨0 + b.val, by have := b.isLt; omega⟩)
    (Nat.zero_add _).symm rfl)
  have e1 : G (place (r := 128) (ix2 a b) 1) = _ := congrArg G (ext2 (y := ix2 ⟨0 + a.val, by have := a.isLt; omega⟩ ⟨1024 + b.val, by have := b.isLt; omega⟩)
    (Nat.zero_add _).symm rfl)
  have e2 : G (place (r := 128) (ix2 a b) 2) = _ := congrArg G (ext2 (y := ix2 ⟨0 + a.val, by have := a.isLt; omega⟩ ⟨2048 + b.val, by have := b.isLt; omega⟩)
    (Nat.zero_add _).symm rfl)
  rw [e0, e1, e2]
  rfl

/-! ## The plain formula -/

theorem ref_mask (p : Fin 8448) : val_main_v16 (F := Ideal) (ix1 p) = IntOp.cmpi .sge (BitVec.ofNat 32 (p.val % 4224)) 112#32 :=
  Cert.MergeValue.ref_mask p

theorem ref_gate (G : Vec Ideal S8448x3072 .f32) (a : Fin 8448) (q : Fin 3) (l : Fin 1024) :
    val_main_v6 (F := Ideal) G (ix3 a q l) = gate (G (place (r := 8448) (ix2 a l) q)) :=
  Cert.MergeValue.ref_gate G a q l _ rfl

theorem ref_stack (b0 b1 b2 : Vec Ideal S8448x1024 .f32) (a : Fin 8448) (q : Fin 3) (l : Fin 1024) :
    val_main_v10 (F := Ideal) b0 b1 b2 (ix3 a q l) = (![b0, b1, b2] : Fin 3 → At 8448 1024 → EReal) q (ix2 a l) :=
  Cert.MergeValue.ref_stack b0 b1 b2 a q l

theorem ref_mixed (b0 b1 b2 : Vec Ideal S8448x1024 .f32) (G : Vec Ideal S8448x3072 .f32) :
    val_main_v18 (F := Ideal) b0 b1 b2 G = mixed (r := 8448) 0 ![b0, b1, b2] G := by
  funext j
  obtain ⟨a, l, rfl⟩ : ∃ a b, j = ix2 a b := ⟨j 0, j 1, ext2 rfl rfl⟩
  have e : idx_main_v17 (idx_main_call1_v1 (ix2 a l)) = ix1 a := funext fun k => by match k with | ⟨0, _⟩ => rfl
  have ek : ∀ q, idx_main_v12 (ix2 a l) q = ix3 a q l := fun q => Cert.MergeValue.ext3 rfl rfl rfl
  simp only [val_main_v18_apply, val_main_call1_v1_apply, val_main_v17_apply, e, ref_mask, val_main_v12_apply, val_main_cst_1_apply,
    val_main_v11_apply, ek, ref_gate, ref_stack, val_main_call1_v2_apply, val_main_call1_v0_apply, val_main_cst_3_apply, pointwise]
  rw [zero_add]
  refine (select_cut _ _).trans ?_
  show _ = cut (0 * 8448 + a.val) _
  rw [Nat.zero_mul, Nat.zero_add]

/-! ## The whole result -/

variable (m : (ℓ : Loc nD τ sig) → Buf (Elt Ideal) ℓ)

theorem idx_facts : ∀ t : Fin cfg0.N, ((grid0.coords t) (0 : Fin 1)).val = t.val ∧ win0_0.index t (0 : Fin 2) = t.val ∧ win0_0.index t (1 : Fin 2) = 0
    ∧ win0_1.index t (0 : Fin 2) = t.val ∧ win0_1.index t (1 : Fin 2) = 0 ∧ win0_2.index t (0 : Fin 2) = t.val ∧ win0_2.index t (1 : Fin 2) = 0
    ∧ win0_3.index t (0 : Fin 2) = t.val ∧ win0_3.index t (1 : Fin 2) = 0 ∧ win0_4.index t (0 : Fin 2) = t.val ∧ win0_4.index t (1 : Fin 2) = 0 :=
  (by decide +kernel : ∀ t : Fin grid0.N, _)

abbrev G4 (c : Dev nD) : Vec Ideal S8448x1024 .f32 := mixed (r := 8448) 0 ![m ((c : Thread nD τ).loc main_arg0),
  m ((c : Thread nD τ).loc main_arg1), m ((c : Thread nD τ).loc main_arg2)] (m ((c : Thread nD τ).loc main_arg3))

theorem final4 (c : Dev nD) : (dats m 0 c).arrAt 4 cfg0.N = G4 m c := by
  refine (dats m 0 c).arrAt_eq_of_covers 4 _ (by decide +kernel) fun t _ y => ?_
  obtain ⟨ec, a0, a1, b0, b1, c0, c1, d0, d1, e0, e1⟩ := idx_facts t
  have hG : IsBlk (r' := 128) (c' := 3072) t.val 0 (iblk m c 3 t) (m ((c : Thread nD τ).loc main_arg3) : At 8448 3072 → EReal) := by
    rw [← V_main_arg3 m c]; exact isBlk_emb (e := ((cfg0.win 3).blk t).view.emb) d0 d1 (fun _ => rfl) fun _ => rfl
  have h0 : IsBlk (r' := 128) (c' := 1024) t.val 0 (iblk m c 0 t) (m ((c : Thread nD τ).loc main_arg0) : At 8448 1024 → EReal) := by
    rw [← V_main_arg0 m c]; exact isBlk_emb (e := ((cfg0.win 0).blk t).view.emb) a0 a1 (fun _ => rfl) fun _ => rfl
  have h1 : IsBlk (r' := 128) (c' := 1024) t.val 0 (iblk m c 1 t) (m ((c : Thread nD τ).loc main_arg1) : At 8448 1024 → EReal) := by
    rw [← V_main_arg1 m c]; exact isBlk_emb (e := ((cfg0.win 1).blk t).view.emb) b0 b1 (fun _ => rfl) fun _ => rfl
  have h2 : IsBlk (r' := 128) (c' := 1024) t.val 0 (iblk m c 2 t) (m ((c : Thread nD τ).loc main_arg2) : At 8448 1024 → EReal) := by
    rw [← V_main_arg2 m c]; exact isBlk_emb (e := ((cfg0.win 2).blk t).view.emb) c0 c1 (fun _ => rfl) fun _ => rfl
  have h := (mixed_blk (B := ![iblk m c 0 t, iblk m c 1 t, iblk m c 2 t])
    (B' := ![m ((c : Thread nD τ).loc main_arg0), m ((c : Thread nD τ).loc main_arg1), m ((c : Thread nD τ).loc main_arg2)])
    (fun q => by match q with | ⟨0, _⟩ => exact h0 | ⟨1, _⟩ => exact h1 | ⟨2, _⟩ => exact h2) hG).eq_emb
    (e := ((cfg0.win 4).blk t).view.emb) e0 e1 (fun _ => rfl) (fun _ => rfl) y
  rw [after0_4, out4, ec]
  exact Eq.trans rfl h

/-! ## The claims of this call -/

theorem frame_p : Cert.quiescent_MergeFwd := fun m ρ _ => Cert.MergeFwd.Gen.frame m ρ

theorem frame_pi : Cert.quiescent_MergeFwdIdeal := fun m ρ _ => Cert.MergeFwdIdeal.Gen.frame m ρ

theorem frame_ri : Cert.quiescent_MergeFwdRefIdeal := fun m ρ _ =>
  (θ_run Cert.MergeFwdRefIdeal.defs _ _).mono (fun r h => ⟨fun c => (h c).2, sem_eq_zero_of_no_sems (by decide) r.2⟩)
    (Cert.MergeFwdRefIdeal.Value.run (F := Ideal) m ρ)

theorem algebraic : Cert.algebraic_MergeFwdIdeal_MergeFwdRefIdeal := fun m ρ m' ρ' _ hagree =>
  ⟨G4 m, (θ_run defs _ _).mono (fun _ h c => ⟨(h c).1.trans (final4 m c), (h c).2⟩) (Value.run_blocks m ρ),
    (θ_run Cert.MergeFwdRefIdeal.defs _ _).mono (fun _ h c => ⟨(h c).1.trans (by
        rw [val_main_v18_eq, (hagree c).1, (hagree c).2.1, (hagree c).2.2.1, (hagree c).2.2.2]
        exact ref_mixed _ _ _ _), (h c).2⟩) (Cert.MergeFwdRefIdeal.Value.run (F := Ideal) m' ρ')⟩

end Cert.MergeFwdValue
end
-- ==== Proof.LossFwdValue.lean ====
/- The loss of each row: half the mean square of the normed row's distance from its target, zero before the first place that counts. -/
module

public import proofs.«01_k».proof.Defs
public import proofs.«01_k».proof.Proof.Gen.LossFwd.Frame
public import Idealize.ShloMosaic.Lib.Quiescent
public import proofs.«01_k».proof.Proof.Gen.LossFwdIdeal.Value
public import proofs.«01_k».proof.Proof.Gen.LossFwdRefIdeal.Read
public import Idealize.ShloMosaic.Lib.Pipeline.ValueKit.Geometry
public import proofs.«01_k».proof.Proof.MergeValue
public import proofs.«01_k».proof.Proof.RmsFwdValue

@[expose] public section

noncomputable section

namespace Cert.LossFwdValue

open Cert.LossFwdRefIdeal.Read Cert.LossFwdIdeal Cert.LossFwdIdeal.Gen Idealize.ShloMosaic Idealize.ShloMosaic.TcCoe
open Idealize.SL.Sem Cert.Products Cert.Rows
open Cert.RmsFwdValue (norm norm_blk)
open Cert.MergeValue (rem_word)

/-- The value at row `p`, zero at the first 128 places of each sequence. -/
def keep (p : ℕ) (x : EReal) : EReal := if 128 ≤ p % 4224 then x else 0

/-- The distance of a normed row from its target. -/
def err {r : ℕ} (x t : At r 1024 → EReal) (w : Fin 1024 → EReal) : At r 1024 → EReal := fun j => norm x w j - t j

/-- The loss of the rows, counted from row block `p`. -/
def loss {r : ℕ} (p : ℕ) (x t : At r 1024 → EReal) (w : Fin 1024 → EReal) : At r 1 → EReal := fun j =>
  keep (p * r + (j 0).val) (Ideal.ofBits .f32 0x3F000000#32 *
    Ideal.div (∑ k, err x t w (ix2 (j 0) k) * err x t w (ix2 (j 0) k)) (Ideal.ofBits .f32 0x44800000#32))

theorem err_blk {r R p : ℕ} {x t : At r 1024 → EReal} {A T : At R 1024 → EReal} (w : Fin 1024 → EReal) (hx : IsBlk p 0 x A)
    (ht : IsBlk p 0 t T) : IsBlk p 0 (err x t w) (err A T w) := fun j i h0 h1 =>
  congrArg₂ (· - ·) (norm_blk w hx j i h0 h1) (ht j i h0 h1)

theorem loss_blk {r R p : ℕ} {x t : At r 1024 → EReal} {A T : At R 1024 → EReal} (w : Fin 1024 → EReal) (hx : IsBlk p 0 x A)
    (ht : IsBlk p 0 t T) : IsBlk p 0 (loss p x t w) (loss 0 A T w) := fun j i h0 h1 => by
  have e := row_blk (err_blk w hx ht) (j 0) (i 0) h0
  show keep (p * r + (j 0).val) (_ * Ideal.div (∑ k, row (err x t w) (j 0) k * row (err x t w) (j 0) k) _)
    = keep (0 * R + (i 0).val) (_ * Ideal.div (∑ k, row (err A T w) (i 0) k * row (err A T w) (i 0) k) _)
  rw [e, show p * r + (j 0).val = 0 * R + (i 0).val by omega]

/-! ## The mask of a row -/

theorem word_facts : ∀ q : Fin 4224, IntOp.cmpi .slt (BitVec.ofNat 32 q.val) 0#32 = 0#1
    ∧ IntOp.cmpi .sge (BitVec.ofNat 32 q.val) 128#32 = if 128 ≤ q.val then 1#1 else 0#1 := by decide +kernel

theorem select_keep (p : ℕ) (x : EReal) :
    Scalar.select (IntOp.cmpi .sge (BitVec.ofNat 32 (p % 4224)) 128#32) x 0 = keep p x := by
  rw [(word_facts ⟨p % 4224, Nat.mod_lt _ (by decide)⟩).2]
  unfold keep
  dsimp only
  by_cases h : 128 ≤ p % 4224
  · rw [if_pos h, if_pos h]; rfl
  · rw [if_neg h, if_neg h]; rfl

theorem pay3_eq (i : grid0.Coords) (a : Fin 256) :
    k0_pay3 i (ix2 a 0) = IntOp.cmpi .sge (BitVec.ofNat 32 (((i 0).val * 256 + a.val) % 4224)) 128#32 := by
  have hi : (i 0).val < 33 := (i 0).isLt
  have hw : IntOp.addi (Scalar.muli (BitVec.ofNat 32 (i 0).val) 256#32) (BitVec.ofNat 32 a.val) = BitVec.ofNat 32 ((i 0).val * 256 + a.val) := by
    rw [BitVec.ofNat_add, BitVec.ofNat_mul]; rfl
  have hc : Scalar.select (Scalar.cmpi .eq 4224#32 0#32) 1#32 4224#32 = 4224#32 := by decide
  have hz : ∀ y : BitVec 1, IntOp.andi (IntOp.xori 0#1 (Scalar.cmpi .slt 4224#32 0#32)) y = 0#1 := by decide
  unfold k0_pay3
  simp only [pointwise]
  generalize hn : List.foldl _ 0 _ = n
  obtain rfl : n = a.val := by rw [← hn]; show 0 * 256 + a.val = a.val; omega
  have h0 : IntOp.cmpi .slt (BitVec.ofNat 32 (((i 0).val * 256 + a.val) % 4224)) 0#32 = 0#1 :=
    (word_facts ⟨((i 0).val * 256 + a.val) % 4224, Nat.mod_lt _ (by decide)⟩).1
  rw [hw, hc, rem_word _ _ (by omega), h0, hz]
  rfl

/-! ## A grid point -/

theorem pay2_eq (x t : Vec Ideal S256x1024 .f32) (w : Vec Ideal S1x1024 .f32) (a : Fin 256) (k : Fin 1024) : k0_pay2 x t w (ix2 a k)
    = err (r := 256) x t (row (r := 1) (c := 1024) w 0) (ix2 a k) * err (r := 256) x t (row (r := 1) (c := 1024) w 0) (ix2 a k) := by
  unfold k0_pay2
  simp only [pointwise]
  rfl

theorem out3 (i : grid0.Coords) (x t : Vec Ideal S256x1024 .f32) (w : Vec Ideal S1x1024 .f32) :
    out0_3 i x t w = loss (r := 256) (i 0).val x t (row (r := 1) (c := 1024) w 0) := by
  unfold out0_3
  rw [View.canon_unit_zero hz]
  simp only [View.ld_unit_zero (S := S256x1024) hz, View.ld_unit_zero (S := S1x1024) hz]
  funext j
  obtain ⟨a, rfl⟩ : ∃ a, j = ix2 a 0 := ⟨j 0, ext2 rfl (congrArg Fin.val (Subsingleton.elim (α := Fin 1) (j 1) 0))⟩
  show _ = keep ((i 0).val * 256 + a.val) _
  rw [← select_keep, ← pay3_eq]
  unfold k0_pay1
  simp only [pointwise, ← pay2_eq]

/-! ## The plain formula -/

theorem ref_mask (p : Fin 8448) : val_main_v22 (F := Ideal) (ix1 p) = IntOp.cmpi .sge (BitVec.ofNat 32 (p.val % 4224)) 128#32 := by
  have hp : p.val < 8448 := p.isLt
  have hr : val_main_call0_v4 (F := Ideal) (ix1 p) = BitVec.ofNat 32 (p.val % 4224) := by
    simp only [val_main_call0_v4_apply, val_main_v19_apply, val_main_call0_v3_apply, val_main_call0_v2_apply, val_main_call0_v1_apply,
      val_main_call0_v0_apply, val_main_c_apply, val_main_call0_c_apply, val_main_call0_c_0_apply]
    rw [show Scalar.select (IntOp.cmpi .eq 4224#32 0#32) 1#32 4224#32 = 4224#32 by decide]
    exact rem_word .host p.val (by omega)
  simp only [val_main_v22_apply, val_main_v21_apply, val_main_c_4_apply, val_main_v20_apply, val_main_call0_v12_apply, val_main_call0_v11_apply,
    val_main_call0_v8_apply, val_main_call0_v7_apply, val_main_call0_c_2_apply, val_main_call0_v10_apply, val_main_call0_v9_apply,
    val_main_call0_v2_apply, val_main_call0_v1_apply, val_main_call0_v0_apply, val_main_c_apply, val_main_call0_c_apply,
    val_main_call0_c_0_apply, val_main_call0_c_3_apply, hr]
  rw [(word_facts ⟨p.val % 4224, Nat.mod_lt _ (by decide)⟩).1, (by decide : ∀ y : BitVec 1, IntOp.andi (IntOp.cmpi .ne 0#1
    (IntOp.cmpi .slt (Scalar.select (IntOp.cmpi .eq 4224#32 0#32) 1#32 4224#32) 0#32)) y = 0#1)]
  rfl

theorem ref_norm (x : Vec Ideal S8448x1024 .f32) (w : Vec Ideal S1024 .f32) :
    val_main_v12 (F := Ideal) x w = norm (r := 8448) x (fun l => w (ix1 l)) :=
  Cert.RmsFwdValue.ref_norm x w

theorem ref_loss (x t : Vec Ideal S8448x1024 .f32) (w : Vec Ideal S1024 .f32) :
    val_main_v26 (F := Ideal) x t w = loss (r := 8448) 0 x t (fun l => w (ix1 l)) := by
  funext j
  obtain ⟨a, rfl⟩ : ∃ a, j = ix2 a 0 := ⟨j 0, ext2 rfl (congrArg Fin.val (Subsingleton.elim (α := Fin 1) (j 1) 0))⟩
  have e : idx_main_v23 (ix2 a 0) = ix1 a := funext fun k => by match k with | ⟨0, _⟩ => rfl
  have ek : ∀ k, idx_main_v15 (idx_main_v16 (ix2 a 0)) k = ix2 a k := fun k => ext2 rfl rfl
  simp only [val_main_v26_apply, val_main_v23_apply, e, ref_mask, val_main_v25_apply, val_main_v24_apply, val_main_cst_5_apply,
    val_main_v18_apply, val_main_v17_apply, val_main_cst_3_apply, val_main_v16_apply, val_main_v15_apply, val_main_cst_2_apply, ek,
    val_main_v14_apply, val_main_v13_apply, ref_norm, val_main_call1_v1_apply, val_main_call1_v0_apply, val_main_cst_6_apply, pointwise]
  rw [zero_add]
  refine (select_keep _ _).trans ?_
  show _ = keep (0 * 8448 + a.val) _
  rw [Nat.zero_mul, Nat.zero_add]
  rfl

/-! ## The whole result -/

variable (m : (ℓ : Loc nD τ sig) → Buf (Elt Ideal) ℓ)

theorem V_w (c : Dev nD) (l : Fin 1024) : V m c main_v0 (ix2 0 l) = m ((c : Thread nD τ).loc main_arg2) (ix1 l) := by
  have h : V m c main_v0 = shapeCast S1x1024 (m ((c : Thread nD τ).loc main_arg2)) shapeCasts_S1024_S1x1024 := by
    show StableHlo.after _ _ (Proc.devRef .tc main_v0) = _
    after_results
    rfl
  rw [h]
  exact shapeCast_apply _ shapeCasts_S1024_S1x1024 (ix2 0 l) (ix1 l) (by
    rewrite [Shape.rowMajor_val_one, Shape.rowMajor_val_two]; show l.val = 0 * 1024 + l.val; omega)

theorem idx_facts : ∀ t : Fin cfg0.N, ((grid0.coords t) (0 : Fin 1)).val = t.val ∧ win0_0.index t (0 : Fin 2) = t.val ∧ win0_0.index t (1 : Fin 2) = 0
    ∧ win0_1.index t (0 : Fin 2) = t.val ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem blk_w (c : Dev nD) (t : Fin cfg0.N) : row (r := 1) (c := 1024) (iblk m c 2 t) 0 = fun l => m ((c : Thread nD τ).loc main_arg2) (ix1 l) := by
  obtain ⟨-, -, -, -, -, e0, e1, -⟩ := idx_facts t
  have h : IsBlk (r' := 1) (c' := 1024) 0 0 (iblk m c 2 t) (V m c main_v0 : At 1 1024 → EReal) :=
    isBlk_emb (A := V m c main_v0) (e := ((cfg0.win 2).blk t).view.emb) e0 e1 (fun _ => rfl) fun _ => rfl
  exact funext fun l => (h (ix2 0 l) (ix2 0 l) rfl (show l.val = 0 * 1024 + l.val by omega)).trans (V_w m c l)

abbrev G3 (c : Dev nD) : Vec Ideal S8448x1 .f32 := loss (r := 8448) 0 (m ((c : Thread nD τ).loc main_arg0))
  (m ((c : Thread nD τ).loc main_arg1)) (fun l => m ((c : Thread nD τ).loc main_arg2) (ix1 l))

theorem final3 (c : Dev nD) : (dats m 0 c).arrAt 3 cfg0.N = G3 m c := by
  refine (dats m 0 c).arrAt_eq_of_covers 3 _ (by decide +kernel) fun t _ y => ?_
  obtain ⟨ec, x0, x1, t0, t1, -, -, e0, e1⟩ := idx_facts t
  have hx : IsBlk (r' := 256) (c' := 1024) t.val 0 (iblk m c 0 t) (m ((c : Thread nD τ).loc main_arg0) : At 8448 1024 → EReal) := by
    rw [← V_main_arg0 m c]; exact isBlk_emb (e := ((cfg0.win 0).blk t).view.emb) x0 x1 (fun _ => rfl) fun _ => rfl
  have ht : IsBlk (r' := 256) (c' := 1024) t.val 0 (iblk m c 1 t) (m ((c : Thread nD τ).loc main_arg1) : At 8448 1024 → EReal) := by
    rw [← V_main_arg1 m c]; exact isBlk_emb (e := ((cfg0.win 1).blk t).view.emb) t0 t1 (fun _ => rfl) fun _ => rfl
  rw [after0_3, out3, ec, blk_w]
  have h := (loss_blk (fun l => m ((c : Thread nD τ).loc main_arg2) (ix1 l)) hx ht).eq_emb (e := ((cfg0.win 3).blk t).view.emb) e0 e1
    (fun _ => rfl) (fun _ => rfl) y
  exact Eq.trans rfl h

/-! ## The claims of this call -/

theorem frame_p : Cert.quiescent_LossFwd := fun m ρ _ => Cert.LossFwd.Gen.frame m ρ

theorem frame_pi : Cert.quiescent_LossFwdIdeal := fun m ρ _ => Cert.LossFwdIdeal.Gen.frame m ρ

theorem frame_ri : Cert.quiescent_LossFwdRefIdeal := fun m ρ _ =>
  (θ_run Cert.LossFwdRefIdeal.defs _ _).mono (fun r h => ⟨fun c => (h c).2, sem_eq_zero_of_no_sems (by decide) r.2⟩)
    (Cert.LossFwdRefIdeal.Value.run (F := Ideal) m ρ)

theorem algebraic : Cert.algebraic_LossFwdIdeal_LossFwdRefIdeal := fun m ρ m' ρ' _ hagree =>
  ⟨G3 m, (θ_run defs _ _).mono (fun _ h c => ⟨(h c).1.trans (final3 m c), (h c).2⟩) (Value.run_blocks m ρ),
    (θ_run Cert.LossFwdRefIdeal.defs _ _).mono (fun _ h c => ⟨(h c).1.trans (by
        rw [val_main_v26_eq, (hagree c).1, (hagree c).2.1, (hagree c).2.2]
        exact ref_loss _ _ _), (h c).2⟩) (Cert.LossFwdRefIdeal.Value.run (F := Ideal) m' ρ')⟩

end Cert.LossFwdValue
end
-- ==== Proof.LossValue.lean ====
/- The gradient of the loss of each row. -/
module

public import proofs.«01_k».proof.Defs
public import proofs.«01_k».proof.Proof.Gen.Loss.Frame
public import Idealize.ShloMosaic.Lib.Quiescent
public import proofs.«01_k».proof.Proof.Gen.LossIdeal.Value
public import proofs.«01_k».proof.Proof.Gen.LossRefIdeal.Read
public import Idealize.ShloMosaic.Lib.Pipeline.ValueKit.Geometry
public import proofs.«01_k».proof.Proof.LossFwdValue

@[expose] public section

set_option maxRecDepth 16384

noncomputable section

namespace Cert.LossValue

open Cert.LossRefIdeal.Read Cert.LossIdeal Cert.LossIdeal.Gen Idealize.ShloMosaic Idealize.ShloMosaic.TcCoe
open Idealize.SL.Sem Cert.Products Cert.Rows
open Cert.RmsFwdValue (norm)
open Cert.RmsValue (var grads shares)
open Cert.LossFwdValue (keep err err_blk select_keep)

/-- What a row's loss sends back to each of its squares. -/
def scale (p : ℕ) (x : EReal) : EReal :=
  ∑ _k : Fin 1, Ideal.div (Ideal.ofBits .f32 0x3F000000#32 * keep p x) (Ideal.ofBits .f32 0x44800000#32)

/-- The gradient of the normed rows, counted from row block `p`. -/
def gerr {r : ℕ} (p : ℕ) (x t : At r 1024 → EReal) (w : Fin 1024 → EReal) (ct : At r 1 → EReal) : At r 1024 → EReal := fun j =>
  scale (p * r + (j 0).val) (ct (ix2 (j 0) 0)) * (Ideal.ofBits .f32 0x40000000#32 * err x t w j)

theorem gerr_blk {r R p : ℕ} {x t : At r 1024 → EReal} {A T : At R 1024 → EReal} {ct : At r 1 → EReal} {C : At R 1 → EReal}
    (w : Fin 1024 → EReal) (hx : IsBlk p 0 x A) (ht : IsBlk p 0 t T) (hc : IsBlk p 0 ct C) : IsBlk p 0 (gerr p x t w ct) (gerr 0 A T w C) :=
  fun j i h0 h1 => by
    show scale (p * r + (j 0).val) _ * _ = scale (0 * R + (i 0).val) _ * _
    rw [show p * r + (j 0).val = 0 * R + (i 0).val by omega, err_blk w hx ht j i h0 h1,
      hc (ix2 (j 0) 0) (ix2 (i 0) 0) h0 (show 0 = 0 * 1 + 0 by omega)]

theorem dbl (x : EReal) : Ideal.ofBits .f32 0x40000000#32 * x = x + x := by
  have h : Ideal.ofBits .f32 0x40000000#32 = ((2 : ℝ) : EReal) := by
    simp [Ideal.ofBits, Ideal.ieee, -EReal.coe_mul]; norm_num
  rw [h, show ((2 : ℝ) : EReal) = 1 + 1 by rw [← EReal.coe_one, ← EReal.coe_add]; norm_num,
    EReal.right_distrib_of_nonneg (by norm_num) (by norm_num), one_mul]

/-- The square's gradient, taken factor by factor. -/
theorem square (s e : EReal) : e * s + s * e = s * (Ideal.ofBits .f32 0x40000000#32 * e) := by
  rw [mul_left_comm, dbl, mul_comm e s]

theorem square_neg (s e : EReal) : 0 - e * s + (0 - s * e) = -(s * (Ideal.ofBits .f32 0x40000000#32 * e)) := by
  rw [zero_sub, zero_sub, mul_comm e s, ← dbl, mul_left_comm s, mul_neg]

section Points

variable (c : Dev nD) (i : grid0.Coords) (arg1 : Memref sig .tc .vmem S256x1024 .f32) (h1 : arg1.IsWhole)
    (arg2 : Memref sig .tc .vmem S256x1024 .f32) (h2 : arg2.IsWhole) (arg3 : Memref sig .tc .vmem S1x1024 .f32) (h3 : arg3.IsWhole)
    (arg4 : Memref sig .tc .vmem S256x1 .f32) (h4 : arg4.IsWhole) (arg5 : Memref sig .tc .vmem S256x1024 .f32) (h5 : arg5.IsWhole)
    (arg6 : Memref sig .tc .vmem S256x1024 .f32) (h6 : arg6.IsWhole) (arg7 : Memref sig .tc .vmem S1x1024 .f32) (h7 : arg7.IsWhole)
    (x t : Vec Ideal S256x1024 .f32) (w : Vec Ideal S1x1024 .f32) (ct : Vec Ideal S256x1 .f32)

/-- The point's gradient of its normed rows. -/
abbrev gpt : At 256 1024 → EReal := gerr (r := 256) (i 0).val x t (row (r := 1) (c := 1024) w 0) ct

theorem mask_eq (a : Fin 256) : IntOp.cmpi .sge (k0_pay3 i (ix2 a 0)) 128#32
    = IntOp.cmpi .sge (BitVec.ofNat 32 (((i 0).val * 256 + a.val) % 4224)) 128#32 := Cert.LossFwdValue.pay3_eq i a

theorem pay12_eq (a : Fin 256) (l : Fin 1024) :
    k0_pay12 (k0_pay3 i) 128#32 ct (ix2 a l) = scale ((i 0).val * 256 + a.val) (ct (ix2 a 0)) := by
  unfold k0_pay12 scale
  simp only [pointwise, ← select_keep, ← mask_eq]
  refine Finset.sum_congr rfl fun k _ => ?_
  obtain rfl : k = 0 := Subsingleton.elim _ _
  rfl

theorem pay10_eq (a : Fin 256) (l : Fin 1024) :
    k0_pay10 x t w (ix2 a l) = err (r := 256) x t (row (r := 1) (c := 1024) w 0) (ix2 a l) := by
  unfold k0_pay10 k0_pay9 k0_pay8 k0_pay6 k0_pay5 k0_pay4
  simp only [pointwise]
  rfl

theorem pay15_fun : k0_pay15 (k0_pay3 i) (k0_pay10 x t w) (k0_pay11 x t w) 128#32 ct = gpt i x t w ct := by
  funext j
  obtain ⟨a, l, rfl⟩ : ∃ a b, j = ix2 a b := ⟨j 0, j 1, ext2 rfl rfl⟩
  rw [show k0_pay11 x t w = k0_pay10 x t w from rfl]
  unfold k0_pay15 k0_pay13 k0_pay14
  simp only [pointwise, pay12_eq, pay10_eq]
  exact square _ _

theorem pay16_fun : k0_pay16 (k0_pay3 i) (k0_pay10 x t w) (k0_pay11 x t w) 128#32 ct = fun j => -gpt i x t w ct j := by
  funext j
  obtain ⟨a, l, rfl⟩ : ∃ a b, j = ix2 a b := ⟨j 0, j 1, ext2 rfl rfl⟩
  rw [show k0_pay11 x t w = k0_pay10 x t w from rfl]
  unfold k0_pay16 k0_pay13 k0_pay14
  simp only [pointwise, pay12_eq, pay10_eq]
  exact square_neg _ _

theorem pay18_fun : k0_pay18 (k0_pay3 i) x (k0_pay4 w) (k0_pay6 x) (k0_pay7 x) (k0_pay10 x t w) (k0_pay11 x t w) 128#32 ct
    = grads (r := 256) x (row (r := 1) (c := 1024) w 0) (gpt i x t w ct) := by
  rw [← pay15_fun]
  exact Cert.RmsValue.pay6_fun x w (k0_pay15 (k0_pay3 i) (k0_pay10 x t w) (k0_pay11 x t w) 128#32 ct)

theorem pay2_eq (s : Vec Ideal S1x1024 .f32) (j : S1x1024.Idx) :
    k0_pay2 (k0_pay17 (k0_pay3 i) (k0_pay8 x) (k0_pay10 x t w) (k0_pay11 x t w) 128#32 ct) s j
      = s j + tn (ones 256) (shares (r := 256) x (gpt i x t w ct)) j := by
  rw [← pay15_fun]
  exact Cert.RmsValue.pay2_eq x (k0_pay15 (k0_pay3 i) (k0_pay10 x t w) (k0_pay11 x t w) 128#32 ct) s j

theorem out_A4 (hc0 : cond0_0 i) : out0_A_4 c i arg1 h1 arg2 h2 arg3 h3 arg4 h4 arg5 h5 arg6 h6 arg7 h7 hc0 x t w ct
    = grads (r := 256) x (row (r := 1) (c := 1024) w 0) (gpt i x t w ct) := by
  unfold out0_A_4
  rw [View.read_writes_junk_eq_canon]
  unfold kernelRun0_A
  dsimp only
  sl_unfold_words
  rw [View.canon_unit_zero hz]
  simp only [View.readAt_eq_ld, h1.read_unread, h2.read_unread, h3.read_unread, h4.read_unread,
    View.ld_unit_zero (S := S256x1024) hz, View.ld_unit_zero (S := S1x1024) hz, View.ld_unit_zero (S := S256x1) hz]
  exact pay18_fun i x t w ct

theorem out_A5 (hc0 : cond0_0 i) : out0_A_5 c i arg1 h1 arg2 h2 arg3 h3 arg4 h4 arg5 h5 arg6 h6 arg7 h7 hc0 x t w ct
    = fun j => -gpt i x t w ct j := by
  unfold out0_A_5
  rw [View.read_writes_junk_eq_canon]
  unfold kernelRun0_A
  dsimp only
  sl_unfold_words
  rw [View.canon_unit_zero hz]
  simp only [View.readAt_eq_ld, h1.read_unread, h2.read_unread, h3.read_unread, h4.read_unread,
    View.ld_unit_zero (S := S256x1024) hz, View.ld_unit_zero (S := S1x1024) hz, View.ld_unit_zero (S := S256x1) hz]
  exact pay16_fun i x t w ct

theorem out_B4 (hc0 : ¬cond0_0 i) (s : Vec Ideal S1x1024 .f32) : out0_B_4 c i arg1 h1 arg2 h2 arg3 h3 arg4 h4 arg5 h5 arg6 h6 arg7 h7 hc0 x t w ct s
    = grads (r := 256) x (row (r := 1) (c := 1024) w 0) (gpt i x t w ct) := by
  unfold out0_B_4
  rw [View.read_writes_junk_eq_canon]
  unfold kernelRun0_B
  dsimp only
  sl_unfold_words
  rw [View.canon_unit_zero hz]
  simp only [View.readAt_eq_ld, h1.read_unread, h2.read_unread, h3.read_unread, h4.read_unread,
    View.ld_unit_zero (S := S256x1024) hz, View.ld_unit_zero (S := S1x1024) hz, View.ld_unit_zero (S := S256x1) hz]
  exact pay18_fun i x t w ct

theorem out_B5 (hc0 : ¬cond0_0 i) (s : Vec Ideal S1x1024 .f32) : out0_B_5 c i arg1 h1 arg2 h2 arg3 h3 arg4 h4 arg5 h5 arg6 h6 arg7 h7 hc0 x t w ct s
    = fun j => -gpt i x t w ct j := by
  unfold out0_B_5
  rw [View.read_writes_junk_eq_canon]
  unfold kernelRun0_B
  dsimp only
  sl_unfold_words
  rw [View.canon_unit_zero hz]
  simp only [View.readAt_eq_ld, h1.read_unread, h2.read_unread, h3.read_unread, h4.read_unread,
    View.ld_unit_zero (S := S256x1024) hz, View.ld_unit_zero (S := S1x1024) hz, View.ld_unit_zero (S := S256x1) hz]
  exact pay16_fun i x t w ct

theorem out_A6 (hc0 : cond0_0 i) : out0_A_6 c i arg1 h1 arg2 h2 arg3 h3 arg4 h4 arg5 h5 arg6 h6 arg7 h7 hc0 x t w ct
    = tn (ones 256) (shares (r := 256) x (gpt i x t w ct)) := by
  funext j
  unfold out0_A_6
  rw [View.read_writes_junk_eq_canon]
  unfold kernelRun0_A
  dsimp only
  sl_unfold_words
  rw [View.canon_cons_unit_zero hz, View.readCov_unit_zero _ hz]
  simp only [View.readAt_eq_ld, h1.read_unread, h2.read_unread, h3.read_unread, h4.read_unread,
    View.ld_unit_zero (S := S256x1024) hz, View.ld_unit_zero (S := S1x1024) hz, View.ld_unit_zero (S := S256x1) hz]
  refine (pay2_eq _ _ _ _ _ _ _).trans ?_
  unfold k0_pay1
  simp only [pointwise]
  rw [zero_add]

theorem out_B6 (hc0 : ¬cond0_0 i) (s : Vec Ideal S1x1024 .f32) : out0_B_6 c i arg1 h1 arg2 h2 arg3 h3 arg4 h4 arg5 h5 arg6 h6 arg7 h7 hc0 x t w ct s
    = fun j => s j + tn (ones 256) (shares (r := 256) x (gpt i x t w ct)) j := by
  funext j
  unfold out0_B_6
  rw [View.read_writes_junk_eq_canon]
  unfold kernelRun0_B
  dsimp only
  sl_unfold_words
  rw [View.canon_unit_zero hz]
  simp only [View.readAt_eq_ld, h1.read_unread, h2.read_unread, h3.read_unread, h4.read_unread, h7.read_unread,
    View.ld_unit_zero (S := S256x1024) hz, View.ld_unit_zero (S := S1x1024) hz, View.ld_unit_zero (S := S256x1) hz]
  exact pay2_eq _ _ _ _ _ _ _

end Points

/-! ## The plain formula -/

theorem ref_mask (p : Fin 8448) : val_main_v27 (F := Ideal) (ix1 p) = IntOp.cmpi .sge (BitVec.ofNat 32 (p.val % 4224)) 128#32 :=
  Cert.LossFwdValue.ref_mask p

theorem ref_norm (x : Vec Ideal S8448x1024 .f32) (w : Vec Ideal S1024 .f32) :
    val_main_v15 (F := Ideal) x w = norm (r := 8448) x (fun l => w (ix1 l)) :=
  Cert.LossFwdValue.ref_norm x w

theorem ref_g (x t : Vec Ideal S8448x1024 .f32) (w : Vec Ideal S1024 .f32) (ct : Vec Ideal S8448x1 .f32) :
    val_main_v39 (F := Ideal) x t w ct = gerr (r := 8448) 0 x t (fun l => w (ix1 l)) ct := by
  funext j
  obtain ⟨a, b, rfl⟩ : ∃ a b, j = ix2 a b := ⟨j 0, j 1, ext2 rfl rfl⟩
  have e : idx_main_v28 (ix2 a 0) = ix1 a := funext fun k => by match k with | ⟨0, _⟩ => rfl
  have ek : ∀ k, idx_main_v37 (idx_main_v38 (ix2 a b)) k = ix2 a 0 := fun k =>
    ext2 rfl (congrArg Fin.val (Subsingleton.elim (α := Fin 1) k 0))
  simp only [val_main_v39_apply, val_main_v38_apply, val_main_v37_apply, val_main_cst_11_apply, ek, val_main_v36_apply, val_main_v35_apply,
    val_main_cst_10_apply, val_main_v34_apply, val_main_v33_apply, val_main_cst_9_apply, val_main_v32_apply, val_main_v28_apply, e, ref_mask,
    val_main_call2_v0_apply, val_main_call2_cst_apply, val_main_v19_apply, val_main_v18_apply, val_main_cst_3_apply, val_main_v16_apply,
    ref_norm, pointwise, select_keep]
  rw [zero_add]
  show _ = scale (0 * 8448 + a.val) _ * _
  rw [Nat.zero_mul, Nat.zero_add]
  rfl

theorem ref_dt (x t : Vec Ideal S8448x1024 .f32) (w : Vec Ideal S1024 .f32) (ct : Vec Ideal S8448x1 .f32) :
    val_main_v40 (F := Ideal) x t w ct = fun j => -gerr (r := 8448) 0 x t (fun l => w (ix1 l)) ct j := by
  funext j
  simp only [val_main_v40_apply, ref_g, pointwise]

theorem ref_dx (x t : Vec Ideal S8448x1024 .f32) (w : Vec Ideal S1024 .f32) (ct : Vec Ideal S8448x1 .f32) :
    val_main_v60 (F := Ideal) x t w ct = grads (r := 8448) x (fun l => w (ix1 l)) (gerr (r := 8448) 0 x t (fun l => w (ix1 l)) ct) := by
  rw [← ref_g]
  exact Cert.RmsValue.ref_dx x w (val_main_v39 (F := Ideal) x t w ct)

theorem ref_dw (x t : Vec Ideal S8448x1024 .f32) (w : Vec Ideal S1024 .f32) (ct : Vec Ideal S8448x1 .f32) (j : S1x1024.Idx) :
    val_main_v61 (F := Ideal) x t w ct j
      = tn (ones 8448) (shares (r := 8448) x (gerr (r := 8448) 0 x t (fun l => w (ix1 l)) ct)) j := by
  rw [← ref_g]
  exact Cert.RmsValue.ref_dw x (val_main_v39 (F := Ideal) x t w ct) j

/-! ## The whole results -/

variable (m : (ℓ : Loc nD τ sig) → Buf (Elt Ideal) ℓ)

theorem V_w (c : Dev nD) (l : Fin 1024) : V m c main_v0 (ix2 0 l) = m ((c : Thread nD τ).loc main_arg2) (ix1 l) := by
  have h : V m c main_v0 = shapeCast S1x1024 (m ((c : Thread nD τ).loc main_arg2)) shapeCasts_S1024_S1x1024 := by
    show StableHlo.after _ _ (Proc.devRef .tc main_v0) = _
    after_results
    rfl
  rw [h]
  exact shapeCast_apply _ shapeCasts_S1024_S1x1024 (ix2 0 l) (ix1 l) (by
    rewrite [Shape.rowMajor_val_one, Shape.rowMajor_val_two]; show l.val = 0 * 1024 + l.val; omega)

theorem idx_facts : ∀ t : Fin cfg0.N, ((grid0.coords t) (0 : Fin 1)).val = t.val ∧ win0_0.index t (0 : Fin 2) = t.val ∧ win0_0.index t (1 : Fin 2) = 0
    ∧ win0_1.index t (0 : Fin 2) = t.val ∧ win0_1.index t (1 : Fin 2) = 0 ∧ win0_2.index t (0 : Fin 2) = 0 ∧ win0_2.index t (1 : Fin 2) = 0
    ∧ win0_3.index t (0 : Fin 2) = t.val ∧ win0_3.index t (1 : Fin 2) = 0 ∧ win0_4.index t (0 : Fin 2) = t.val ∧ win0_4.index t (1 : Fin 2) = 0
    ∧ win0_5.index t (0 : Fin 2) = t.val ∧ win0_5.index t (1 : Fin 2) = 0 ∧ win0_6.index t (0 : Fin 2) = 0 ∧ win0_6.index t (1 : Fin 2) = 0 :=
  (by decide +kernel : ∀ t : Fin grid0.N, _)

theorem blk_w (c : Dev nD) (t : Fin cfg0.N) : row (r := 1) (c := 1024) (iblk m c 2 t) 0 = fun l => m ((c : Thread nD τ).loc main_arg2) (ix1 l) := by
  obtain ⟨-, -, -, -, -, e0, e1, -⟩ := idx_facts t
  have h : IsBlk (r' := 1) (c' := 1024) 0 0 (iblk m c 2 t) (V m c main_v0 : At 1 1024 → EReal) :=
    isBlk_emb (A := V m c main_v0) (e := ((cfg0.win 2).blk t).view.emb) e0 e1 (fun _ => rfl) fun _ => rfl
  exact funext fun l => (h (ix2 0 l) (ix2 0 l) rfl (show l.val = 0 * 1024 + l.val by omega)).trans (V_w m c l)

theorem blk_x (c : Dev nD) (t : Fin cfg0.N) : IsBlk (r' := 256) (c' := 1024) t.val 0 (iblk m c 0 t)
    (m ((c : Thread nD τ).loc main_arg0) : At 8448 1024 → EReal) := by
  obtain ⟨-, e0, e1, -⟩ := idx_facts t
  rw [← V_main_arg0 m c]; exact isBlk_emb (e := ((cfg0.win 0).blk t).view.emb) e0 e1 (fun _ => rfl) fun _ => rfl

/-- The gradient of the normed rows, all of them. -/
abbrev G (c : Dev nD) : At 8448 1024 → EReal := gerr (r := 8448) 0 (m ((c : Thread nD τ).loc main_arg0)) (m ((c : Thread nD τ).loc main_arg1))
  (fun l => m ((c : Thread nD τ).loc main_arg2) (ix1 l)) (m ((c : Thread nD τ).loc main_arg3))

/-- A point's gradient of its normed rows. -/
abbrev gblk (c : Dev nD) (t : Fin cfg0.N) : At 256 1024 → EReal := gerr (r := 256) t.val (iblk m c 0 t) (iblk m c 1 t)
  (fun l => m ((c : Thread nD τ).loc main_arg2) (ix1 l)) (iblk m c 3 t)

theorem gpt_eq (c : Dev nD) (t : Fin cfg0.N) : gpt (grid0.coords t) (iblk m c 0 t) (iblk m c 1 t) (iblk m c 2 t) (iblk m c 3 t) = gblk m c t := by
  unfold gpt
  rw [(idx_facts t).1, blk_w]

theorem blk_g (c : Dev nD) (t : Fin cfg0.N) : IsBlk t.val 0 (gblk m c t) (G m c) := by
  obtain ⟨-, -, -, t0, t1, -, -, c0, c1, -⟩ := idx_facts t
  refine gerr_blk _ (blk_x m c t) ?_ ?_
  · rw [← V_main_arg1 m c]; exact isBlk_emb (e := ((cfg0.win 1).blk t).view.emb) t0 t1 (fun _ => rfl) fun _ => rfl
  · rw [← V_main_arg3 m c]; exact isBlk_emb (e := ((cfg0.win 3).blk t).view.emb) c0 c1 (fun _ => rfl) fun _ => rfl

/-- The gradient of the rows. -/
abbrev G4 (c : Dev nD) : Vec Ideal S8448x1024 .f32 := grads (r := 8448) (m ((c : Thread nD τ).loc main_arg0))
  (fun l => m ((c : Thread nD τ).loc main_arg2) (ix1 l)) (G m c)

/-- The gradient of the targets. -/
abbrev G5 (c : Dev nD) : Vec Ideal S8448x1024 .f32 := fun j => -G m c j

/-- The gradient of the weights. -/
abbrev G6 (c : Dev nD) : Vec Ideal S1x1024 .f32 := tn (ones 8448) (shares (r := 8448) (m ((c : Thread nD τ).loc main_arg0)) (G m c))

theorem final4 (c : Dev nD) : (dats m 0 c).arrAt 4 cfg0.N = G4 m c := by
  refine (dats m 0 c).arrAt_eq_of_covers 4 _ (by decide +kernel) fun t _ y => ?_
  obtain ⟨-, -, -, -, -, -, -, -, -, e0, e1, -⟩ := idx_facts t
  have h := (Cert.RmsValue.grads_blk (fun l => m ((c : Thread nD τ).loc main_arg2) (ix1 l)) (blk_x m c t) (blk_g m c t)).eq_emb
    (e := ((cfg0.win 4).blk t).view.emb) e0 e1 (fun _ => rfl) (fun _ => rfl) y
  rw [after0_4]
  by_cases h0 : t.val % 33 = 0
  · rw [outsAt0_A m c t h0]; dsimp only; rw [out_A4, gpt_eq, blk_w]; exact Eq.trans rfl h
  · rw [outsAt0_B m c t h0]; dsimp only; rw [out_B4, gpt_eq, blk_w]; exact Eq.trans rfl h

theorem final5 (c : Dev nD) : (dats m 0 c).arrAt 5 cfg0.N = G5 m c := by
  refine (dats m 0 c).arrAt_eq_of_covers 5 _ (by decide +kernel) fun t _ y => ?_
  obtain ⟨-, -, -, -, -, -, -, -, -, -, -, e0, e1, -⟩ := idx_facts t
  have h := congrArg (fun x : EReal => -x) ((blk_g m c t).eq_emb (e := ((cfg0.win 5).blk t).view.emb) e0 e1 (fun _ => rfl) (fun _ => rfl) y)
  rw [after0_5]
  by_cases h0 : t.val % 33 = 0
  · rw [outsAt0_A m c t h0]; dsimp only; rw [out_A5, gpt_eq]; exact Eq.trans rfl h
  · rw [outsAt0_B m c t h0]; dsimp only; rw [out_B5, gpt_eq]; exact Eq.trans rfl h

/-- What the last point leaves of the gradient of the weights. -/
theorem total (c : Dev nD) (n : ℕ) (hn : n < cfg0.N) (hl : n % 33 = 32) : IsBlk (r' := 1) (c' := 1024) 0 0
    (fun j => (outsAt0 m c (n - 1) (by omega)).2.2 j
      + tn (ones 256) (shares (r := 256) (iblk m c 0 (⟨n, hn⟩ : Fin cfg0.N)) (gblk m c ⟨n, hn⟩)) j) (G6 m c) :=
  row_sum (b := 33) (t := 256) (by decide) (by decide) (le_refl 33)
    (fun n hn => shares (r := 256) (iblk m c 0 (⟨n, hn⟩ : Fin cfg0.N)) (gblk m c ⟨n, hn⟩))
    (fun n hn => (outsAt0 m c n hn).2.2) (fun n hn => Cert.RmsValue.shares_blk (blk_x m c ⟨n, hn⟩) (blk_g m c ⟨n, hn⟩))
    (fun n hn h => by
      rw [outsAt0_A m c ⟨n, hn⟩ h]
      dsimp only
      rw [out_A6, gpt_eq])
    (fun n hn h => by
      rw [outsAt0_B m c ⟨n, hn⟩ h]
      dsimp only
      rw [out_B6, gpt_eq])
    n hn hl

theorem final6 (c : Dev nD) : (dats m 0 c).arrAt 6 cfg0.N = G6 m c := by
  refine (dats m 0 c).arrAt_eq_of_covers 6 _ (by decide +kernel) fun t hf y => ?_
  have h1 : t.val % 33 = 32 := (flush0_6 t).mp hf
  obtain ⟨-, -, -, -, -, -, -, -, -, -, -, -, -, e0, e1⟩ := idx_facts t
  have h := (total m c t.val t.isLt h1).eq_emb (e := ((cfg0.win 6).blk t).view.emb) e0 e1 (fun _ => rfl) (fun _ => rfl) y
  rw [after0_6, outsAt0_B m c t (by omega)]; dsimp only; rw [out_B6, gpt_eq]; exact Eq.trans rfl h

/-! ## The claims of this call -/

theorem frame_p : Cert.quiescent_Loss := fun m ρ _ => Cert.Loss.Gen.frame m ρ

theorem frame_pi : Cert.quiescent_LossIdeal := fun m ρ _ => Cert.LossIdeal.Gen.frame m ρ

theorem frame_ri : Cert.quiescent_LossRefIdeal := fun m ρ _ =>
  (θ_run Cert.LossRefIdeal.defs _ _).mono (fun r h => ⟨fun c => (h c).2.2.2, sem_eq_zero_of_no_sems (by decide) r.2⟩)
    (Cert.LossRefIdeal.Value.run (F := Ideal) m ρ)

theorem algebraic : Cert.algebraic_LossIdeal_LossRefIdeal := fun m ρ m' ρ' _ hagree =>
  ⟨G4 m, G5 m, G6 m, (θ_run defs _ _).mono (fun _ h c =>
      ⟨(h c).1.trans (final4 m c), (h c).2.1.trans (final5 m c), (h c).2.2.1.trans (final6 m c), (h c).2.2.2⟩) (Value.run_blocks m ρ),
    (θ_run Cert.LossRefIdeal.defs _ _).mono (fun _ h c => ⟨(h c).1.trans (by
        rw [val_main_v60_eq, (hagree c).1, (hagree c).2.1, (hagree c).2.2.1, (hagree c).2.2.2]
        exact ref_dx _ _ _ _), (h c).2.1.trans (by
        rw [val_main_v40_eq, (hagree c).1, (hagree c).2.1, (hagree c).2.2.1, (hagree c).2.2.2]
        exact ref_dt _ _ _ _), (h c).2.2.1.trans (by
        rw [val_main_v61_eq, (hagree c).1, (hagree c).2.1, (hagree c).2.2.1, (hagree c).2.2.2]
        exact funext fun j => ref_dw _ _ _ _ j), (h c).2.2.2⟩) (Cert.LossRefIdeal.Value.run (F := Ideal) m' ρ')⟩

end Cert.LossValue
end
-- ==== Proof.FoxTrip1.lean ====
/- One trip of the loop of the first block of keys: the rows before the first key are masked. -/
module

public import proofs.«01_k».proof.Proof.Gen.FoxIdeal.Frame
public import proofs.«01_k».proof.Proof.Gen.FoxIdeal.Loops
public import Idealize.ShloMosaic.Lib.Exec

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- One trip: what it writes into the five gradients' blocks, as pieces over what they held; the scratch is left at anything. -/
noncomputable def trip1 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v1 : BitVec 32) (v4 : FVec F S384x128 .bf16) (v7 : FVec F S384x128 .bf16) (v17 : FVec F S1x384 .f32) (k0_h2 : k0_cond2 i = 1#1) (v760 : BitVec 32) (k : Fin (k0_t1_loop i).trips)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) :
    Σ' (L10 : List (View.Piece (Elt F) S1x4224x128 .f32)), Σ' (L11 : List (View.Piece (Elt F) S1x384x128 .f32)), Σ' (L12 : List (View.Piece (Elt F) S1x384x128 .f32)), Σ' (L13 : List (View.Piece (Elt F) S1x1x1x384 .f32)), { L14 : List (View.Piece (Elt F) S1x1x4224x1 .f32) //
      ∀ (acc : BitVec 32) (K : BitVec 32 → sProp 𝕄),
        iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} arg10.view.writes (Elt F) g10 L10) ∗ (arg11.view.loc (c : Thread nD τ) ↦[arg11.view.set]{fullShare} arg11.view.writes (Elt F) g11 L11) ∗ (arg12.view.loc (c : Thread nD τ) ↦[arg12.view.set]{fullShare} arg12.view.writes (Elt F) g12 L12) ∗ (arg13.view.loc (c : Thread nD τ) ↦[arg13.view.set]{fullShare} arg13.view.writes (Elt F) g13 L13) ∗ (arg14.view.loc (c : Thread nD τ) ↦[arg14.view.set]{fullShare} arg14.view.writes (Elt F) g14 L14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K 0#32))
          ⊢ wp frame (wpE (defs₀ (F := F)) Variants.none c none) Set.univ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 k acc) K } := by
  refine ⟨?_, ?_, ?_, ?_, ?_, fun acc K => ?run⟩
  case run =>
    unfold k0_t1_body
    iintro ⟨H3, H4, H5, H6, H7, H8, H9, H10, H11, H12, H13, H14, ⟨%f15, H15⟩, ⟨%f16, H16⟩, ⟨%f17, H17⟩, ⟨%f18, H18⟩, ⟨%f19, H19⟩, Hk⟩
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iexists _; iexact H19

end Cert.FoxIdeal.Hand

end
-- ==== Proof.FoxTrip3.lean ====
/- One trip of the loop of a later block of keys: nothing is masked. -/
module

public import proofs.«01_k».proof.Proof.Gen.FoxIdeal.Frame
public import proofs.«01_k».proof.Proof.Gen.FoxIdeal.Loops
public import Idealize.ShloMosaic.Lib.Exec

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- One trip: what it writes into the five gradients' blocks, as pieces over what they held; the scratch is left at anything. -/
noncomputable def trip3 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v4 : FVec F S384x128 .bf16) (v7 : FVec F S384x128 .bf16) (v17 : FVec F S1x384 .f32) (k0_h3 : k0_cond3 i = 1#1) (v760 : BitVec 32) (k : Fin (k0_t3_loop i).trips)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) :
    Σ' (L10 : List (View.Piece (Elt F) S1x4224x128 .f32)), Σ' (L11 : List (View.Piece (Elt F) S1x384x128 .f32)), Σ' (L12 : List (View.Piece (Elt F) S1x384x128 .f32)), Σ' (L13 : List (View.Piece (Elt F) S1x1x1x384 .f32)), { L14 : List (View.Piece (Elt F) S1x1x4224x1 .f32) //
      ∀ (acc : BitVec 32) (K : BitVec 32 → sProp 𝕄),
        iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} arg10.view.writes (Elt F) g10 L10) ∗ (arg11.view.loc (c : Thread nD τ) ↦[arg11.view.set]{fullShare} arg11.view.writes (Elt F) g11 L11) ∗ (arg12.view.loc (c : Thread nD τ) ↦[arg12.view.set]{fullShare} arg12.view.writes (Elt F) g12 L12) ∗ (arg13.view.loc (c : Thread nD τ) ↦[arg13.view.set]{fullShare} arg13.view.writes (Elt F) g13 L13) ∗ (arg14.view.loc (c : Thread nD τ) ↦[arg14.view.set]{fullShare} arg14.view.writes (Elt F) g14 L14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K 0#32))
          ⊢ wp frame (wpE (defs₀ (F := F)) Variants.none c none) Set.univ (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 k acc) K } := by
  refine ⟨?_, ?_, ?_, ?_, ?_, fun acc K => ?run⟩
  case run =>
    unfold k0_t3_body
    iintro ⟨H3, H4, H5, H6, H7, H8, H9, H10, H11, H12, H13, H14, ⟨%f15, H15⟩, ⟨%f16, H16⟩, ⟨%f17, H17⟩, ⟨%f18, H18⟩, ⟨%f19, H19⟩, Hk⟩
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iexists _; iexact H19

end Cert.FoxIdeal.Hand

end
-- ==== Proof.FoxLoops.lean ====
/- The loops over the blocks of queries: what they leave, trip by trip. -/
module

public import proofs.«01_k».proof.Proof.Gen.FoxIdeal.Frame
public import proofs.«01_k».proof.Proof.Gen.FoxIdeal.Loops
public import proofs.«01_k».proof.Proof.FoxTrip1
public import proofs.«01_k».proof.Proof.FoxTrip3
public import Idealize.ShloMosaic.Lib.Exec

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What holds before trip `k`: `g` before the first, `s` later. -/
@[reducible] def pick {α : Type} (k : ℕ) (g s : α) : α := match k with
  | 0 => g
  | _ + 1 => s

theorem pick_of {α : Type} (k : ℕ) (g s : α) (h : k = 0 → g = s) : pick k g s = s := by
  cases k with
  | zero => exact h rfl
  | succ k => rfl

/-- What the five gradients' blocks hold after one trip, from what they held before it. -/
def stp1 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v1 : BitVec 32) (v4 : FVec F S384x128 .bf16) (v7 : FVec F S384x128 .bf16) (v17 : FVec F S1x384 .f32) (k0_h2 : k0_cond2 i = 1#1) (v760 : BitVec 32) (k : Fin (k0_t1_loop i).trips)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (s : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))) : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ)) :=
  let T := trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 k x3 x4 x5 x6 x7 x8 x9 (s.1) (s.2.1) (s.2.2.1) (s.2.2.2.1) (s.2.2.2.2)
  ⟨arg10.view.writes (Elt F) s.1 T.1, arg11.view.writes (Elt F) s.2.1 T.2.1, arg12.view.writes (Elt F) s.2.2.1 T.2.2.1, arg13.view.writes (Elt F) s.2.2.2.1 T.2.2.2.1, arg14.view.writes (Elt F) s.2.2.2.2 T.2.2.2.2.1⟩

set_option maxHeartbeats 1000000 in
/-- One trip over whatever the five gradients' blocks hold. -/
theorem trip1_raw (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v1 : BitVec 32) (v4 : FVec F S384x128 .bf16) (v7 : FVec F S384x128 .bf16) (v17 : FVec F S1x384 .f32) (k0_h2 : k0_cond2 i = 1#1) (v760 : BitVec 32) (k : Fin (k0_t1_loop i).trips) (acc : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (s s' : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))) (hs : stp1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 k x3 x4 x5 x6 x7 x8 x9 s = s')
    (K : BitVec 32 → sProp 𝕄) :
    iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} s.1) ∗ (arg11.view.loc (c : Thread nD τ) ↦[arg11.view.set]{fullShare} s.2.1) ∗ (arg12.view.loc (c : Thread nD τ) ↦[arg12.view.set]{fullShare} s.2.2.1) ∗ (arg13.view.loc (c : Thread nD τ) ↦[arg13.view.set]{fullShare} s.2.2.2.1) ∗ (arg14.view.loc (c : Thread nD τ) ↦[arg14.view.set]{fullShare} s.2.2.2.2) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} s'.1) ∗ (arg11.view.loc (c : Thread nD τ) ↦[arg11.view.set]{fullShare} s'.2.1) ∗ (arg12.view.loc (c : Thread nD τ) ↦[arg12.view.set]{fullShare} s'.2.2.1) ∗ (arg13.view.loc (c : Thread nD τ) ↦[arg13.view.set]{fullShare} s'.2.2.2.1) ∗ (arg14.view.loc (c : Thread nD τ) ↦[arg14.view.set]{fullShare} s'.2.2.2.2) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K 0#32))
      ⊢ wp frame (wpE (defs₀ (F := F)) Variants.none c none) Set.univ (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 k acc) K := by
  subst hs
  have h := (trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 k x3 x4 x5 x6 x7 x8 x9 (s.1) (s.2.1) (s.2.2.1) (s.2.2.2.1) (s.2.2.2.2)).2.2.2.2.2 acc K
  dsimp only [stp1]
  exact h

/-- What the five gradients' blocks hold before trip `k`. -/
def st1 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v1 : BitVec 32) (v4 : FVec F S384x128 .bf16) (v7 : FVec F S384x128 .bf16) (v17 : FVec F S1x384 .f32) (k0_h2 : k0_cond2 i = 1#1) (v760 : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (s : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))) :
    ℕ → Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))
  | 0 => s
  | k + 1 => if h : k < (k0_t1_loop i).trips then stp1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 ⟨k, h⟩ x3 x4 x5 x6 x7 x8 x9 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 s k)
    else st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 s k

theorem st1_succ (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v1 : BitVec 32) (v4 : FVec F S384x128 .bf16) (v7 : FVec F S384x128 .bf16) (v17 : FVec F S1x384 .f32) (k0_h2 : k0_cond2 i = 1#1) (v760 : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (s : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))) (k : Fin (k0_t1_loop i).trips) :
    stp1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 k x3 x4 x5 x6 x7 x8 x9 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 s k.val) = st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 s (k.val + 1) := by
  rw [st1.eq_2, dif_pos k.isLt]

set_option maxHeartbeats 1000000 in
/-- The loop: before trip `k` the blocks hold what the trips before it left. -/
@[sl_loop, instance_reducible] def loopInv_k0_t1 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v1 : BitVec 32) (v4 : FVec F S384x128 .bf16) (v7 : FVec F S384x128 .bf16) (v17 : FVec F S1x384 .f32) (k0_h2 : k0_cond2 i = 1#1) (v760 : BitVec 32) (init : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) :
    Gen.LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 init where
  inv k _ := iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} (pick k g10 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k).1)) ∗ (arg11.view.loc (c : Thread nD τ) ↦[arg11.view.set]{fullShare} (pick k g11 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k).2.1)) ∗ (arg12.view.loc (c : Thread nD τ) ↦[arg12.view.set]{fullShare} (pick k g12 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k).2.2.1)) ∗ (arg13.view.loc (c : Thread nD τ) ↦[arg13.view.set]{fullShare} (pick k g13 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k).2.2.2.1)) ∗ (arg14.view.loc (c : Thread nD τ) ↦[arg14.view.set]{fullShare} (pick k g14 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k).2.2.2.2)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))
  step k acc := by
    refine BIBase.Entails.trans ?_ (trip1_raw c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 k acc x3 x4 x5 x6 x7 x8 x9 _ _ (st1_succ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k) _)
    rw [pick_of k.val g10 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k.val).1 (fun h => by rw [h] <;> rfl), pick_of k.val g11 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k.val).2.1 (fun h => by rw [h] <;> rfl), pick_of k.val g12 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k.val).2.2.1 (fun h => by rw [h] <;> rfl), pick_of k.val g13 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k.val).2.2.2.1 (fun h => by rw [h] <;> rfl), pick_of k.val g14 (st1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v760 x3 x4 x5 x6 x7 x8 x9 ⟨g10, g11, g12, g13, g14⟩ k.val).2.2.2.2 (fun h => by rw [h] <;> rfl)]
    iintro ⟨H3, H4, H5, H6, H7, H8, H9, H10, H11, H12, H13, H14, H15, H16, H17, H18, H19⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro H
    iexact H

/-- What the five gradients' blocks hold after one trip, from what they held before it. -/
def stp3 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v4 : FVec F S384x128 .bf16) (v7 : FVec F S384x128 .bf16) (v17 : FVec F S1x384 .f32) (k0_h3 : k0_cond3 i = 1#1) (v760 : BitVec 32) (k : Fin (k0_t3_loop i).trips)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (s : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))) : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ)) :=
  let T := trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 k x3 x4 x5 x6 x7 x8 x9 (s.1) (s.2.1) (s.2.2.1) (s.2.2.2.1) (s.2.2.2.2)
  ⟨arg10.view.writes (Elt F) s.1 T.1, arg11.view.writes (Elt F) s.2.1 T.2.1, arg12.view.writes (Elt F) s.2.2.1 T.2.2.1, arg13.view.writes (Elt F) s.2.2.2.1 T.2.2.2.1, arg14.view.writes (Elt F) s.2.2.2.2 T.2.2.2.2.1⟩

set_option maxHeartbeats 1000000 in
/-- One trip over whatever the five gradients' blocks hold. -/
theorem trip3_raw (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v4 : FVec F S384x128 .bf16) (v7 : FVec F S384x128 .bf16) (v17 : FVec F S1x384 .f32) (k0_h3 : k0_cond3 i = 1#1) (v760 : BitVec 32) (k : Fin (k0_t3_loop i).trips) (acc : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (s s' : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))) (hs : stp3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 k x3 x4 x5 x6 x7 x8 x9 s = s')
    (K : BitVec 32 → sProp 𝕄) :
    iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} s.1) ∗ (arg11.view.loc (c : Thread nD τ) ↦[arg11.view.set]{fullShare} s.2.1) ∗ (arg12.view.loc (c : Thread nD τ) ↦[arg12.view.set]{fullShare} s.2.2.1) ∗ (arg13.view.loc (c : Thread nD τ) ↦[arg13.view.set]{fullShare} s.2.2.2.1) ∗ (arg14.view.loc (c : Thread nD τ) ↦[arg14.view.set]{fullShare} s.2.2.2.2) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} s'.1) ∗ (arg11.view.loc (c : Thread nD τ) ↦[arg11.view.set]{fullShare} s'.2.1) ∗ (arg12.view.loc (c : Thread nD τ) ↦[arg12.view.set]{fullShare} s'.2.2.1) ∗ (arg13.view.loc (c : Thread nD τ) ↦[arg13.view.set]{fullShare} s'.2.2.2.1) ∗ (arg14.view.loc (c : Thread nD τ) ↦[arg14.view.set]{fullShare} s'.2.2.2.2) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K 0#32))
      ⊢ wp frame (wpE (defs₀ (F := F)) Variants.none c none) Set.univ (k0_t3_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 k acc) K := by
  subst hs
  have h := (trip3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 k x3 x4 x5 x6 x7 x8 x9 (s.1) (s.2.1) (s.2.2.1) (s.2.2.2.1) (s.2.2.2.2)).2.2.2.2.2 acc K
  dsimp only [stp3]
  exact h

/-- What the five gradients' blocks hold before trip `k`. -/
def st3 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v4 : FVec F S384x128 .bf16) (v7 : FVec F S384x128 .bf16) (v17 : FVec F S1x384 .f32) (k0_h3 : k0_cond3 i = 1#1) (v760 : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (s : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))) :
    ℕ → Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))
  | 0 => s
  | k + 1 => if h : k < (k0_t3_loop i).trips then stp3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 ⟨k, h⟩ x3 x4 x5 x6 x7 x8 x9 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 s k)
    else st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 s k

theorem st3_succ (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v4 : FVec F S384x128 .bf16) (v7 : FVec F S384x128 .bf16) (v17 : FVec F S1x384 .f32) (k0_h3 : k0_cond3 i = 1#1) (v760 : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (s : Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))) (k : Fin (k0_t3_loop i).trips) :
    stp3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 k x3 x4 x5 x6 x7 x8 x9 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 s k.val) = st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 s (k.val + 1) := by
  rw [st3.eq_2, dif_pos k.isLt]

set_option maxHeartbeats 1000000 in
/-- The loop: before trip `k` the blocks hold what the trips before it left. -/
@[sl_loop, instance_reducible] def loopInv_k0_t3 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v4 : FVec F S384x128 .bf16) (v7 : FVec F S384x128 .bf16) (v17 : FVec F S1x384 .f32) (k0_h3 : k0_cond3 i = 1#1) (v760 : BitVec 32) (init : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) :
    Gen.LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 init where
  inv k _ := iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} (pick k g10 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k).1)) ∗ (arg11.view.loc (c : Thread nD τ) ↦[arg11.view.set]{fullShare} (pick k g11 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k).2.1)) ∗ (arg12.view.loc (c : Thread nD τ) ↦[arg12.view.set]{fullShare} (pick k g12 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k).2.2.1)) ∗ (arg13.view.loc (c : Thread nD τ) ↦[arg13.view.set]{fullShare} (pick k g13 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k).2.2.2.1)) ∗ (arg14.view.loc (c : Thread nD τ) ↦[arg14.view.set]{fullShare} (pick k g14 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k).2.2.2.2)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))
  step k acc := by
    refine BIBase.Entails.trans ?_ (trip3_raw c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 k acc x3 x4 x5 x6 x7 x8 x9 _ _ (st3_succ c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k) _)
    rw [pick_of k.val g10 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k.val).1 (fun h => by rw [h] <;> rfl), pick_of k.val g11 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k.val).2.1 (fun h => by rw [h] <;> rfl), pick_of k.val g12 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k.val).2.2.1 (fun h => by rw [h] <;> rfl), pick_of k.val g13 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k.val).2.2.2.1 (fun h => by rw [h] <;> rfl), pick_of k.val g14 (st3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v760 x3 x4 x5 x6 x7 x8 x9 ⟨g10, g11, g12, g13, g14⟩ k.val).2.2.2.2 (fun h => by rw [h] <;> rfl)]
    iintro ⟨H3, H4, H5, H6, H7, H8, H9, H10, H11, H12, H13, H14, H15, H16, H17, H18, H19⟩
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro H
    iexact H

theorem t2_trips : ∀ i : grid0.Coords, (k0_t2_loop i).trips = 0 := by decide +kernel

/-- The remainder of the loop makes no trip. -/
@[sl_loop, instance_reducible] def loopInv_k0_t2 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v1 : BitVec 32) (v4 : FVec F S384x128 .bf16) (v7 : FVec F S384x128 .bf16) (v17 : FVec F S1x384 .f32) (k0_h2 : k0_cond2 i = 1#1) (v765 : BitVec 32) (init : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) :
    Gen.LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v4 v7 v17 k0_h2 v765 init where
  inv k _ := iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))
  step k acc := absurd (lt_of_lt_of_eq k.isLt (t2_trips i)) (Nat.not_lt_zero _)

theorem t4_trips : ∀ i : grid0.Coords, (k0_t4_loop i).trips = 0 := by decide +kernel

/-- The remainder of the loop makes no trip. -/
@[sl_loop, instance_reducible] def loopInv_k0_t4 (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (arg1 : BitVec 32) (v4 : FVec F S384x128 .bf16) (v7 : FVec F S384x128 .bf16) (v17 : FVec F S1x384 .f32) (k0_h3 : k0_cond3 i = 1#1) (v765 : BitVec 32) (init : BitVec 32)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) :
    Gen.LoopInvTy_k0_t4 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v4 v7 v17 k0_h3 v765 init where
  inv k _ := iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))
  step k acc := absurd (lt_of_lt_of_eq k.isLt (t4_trips i)) (Nat.not_lt_zero _)

end Cert.FoxIdeal.Hand

end
-- ==== Proof.FoxRunA.lean ====
/- The kernel body at a grid point, run once for the first block of keys and once for a later one. -/
module

public import proofs.«01_k».proof.Proof.Gen.FoxIdeal.Frame
public import proofs.«01_k».proof.Proof.Gen.FoxIdeal.Loops
public import proofs.«01_k».proof.Proof.FoxLoops
public import Idealize.ShloMosaic.Lib.Exec

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- The body at the first block of keys: what it leaves in the five gradients' blocks. -/
def runA (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (h2 : k0_cond2 i = 1#1) (h3 : ¬ k0_cond3 i = 1#1)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32)  :
    Σ' (r10 : Buf (Elt F) (arg10.view.loc (c : Thread nD τ))), Σ' (r11 : Buf (Elt F) (arg11.view.loc (c : Thread nD τ))), Σ' (r12 : Buf (Elt F) (arg12.view.loc (c : Thread nD τ))), Σ' (r13 : Buf (Elt F) (arg13.view.loc (c : Thread nD τ))), { r14 : Buf (Elt F) (arg14.view.loc (c : Thread nD τ)) //
      ∀ (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (K : PUnit → sProp 𝕄),
        iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} r10) ∗ (arg11.view.loc (c : Thread nD τ) ↦[arg11.view.set]{fullShare} r11) ∗ (arg12.view.loc (c : Thread nD τ) ↦[arg12.view.set]{fullShare} r12) ∗ (arg13.view.loc (c : Thread nD τ) ↦[arg13.view.set]{fullShare} r13) ∗ (arg14.view.loc (c : Thread nD τ) ↦[arg14.view.set]{fullShare} r14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K ⟨⟩))
          ⊢ wp frame (wpE (defs₀ (F := F)) Variants.none c none) Set.univ (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun g10 g11 g12 g13 g14 K => ?run⟩
  case run =>
    iintro ⟨H3, H4, H5, H6, H7, H8, H9, H10, H11, H12, H13, H14, ⟨%f15, H15⟩, ⟨%f16, H16⟩, ⟨%f17, H17⟩, ⟨%f18, H18⟩, ⟨%f19, H19⟩, Hk⟩
    sl_unfold [cc0_fox_bwd]
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iexists _; iexact H19

end Cert.FoxIdeal.Hand

end
-- ==== Proof.FoxRunB.lean ====
/- The kernel body at a grid point, run once for the first block of keys and once for a later one. -/
module

public import proofs.«01_k».proof.Proof.Gen.FoxIdeal.Frame
public import proofs.«01_k».proof.Proof.Gen.FoxIdeal.Loops
public import proofs.«01_k».proof.Proof.FoxLoops
public import Idealize.ShloMosaic.Lib.Exec

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 2000000 in
/-- The body at a later block of keys: what it leaves in the five gradients' blocks. -/
def runB (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (h2 : ¬ k0_cond2 i = 1#1) (h3 : k0_cond3 i = 1#1)
    (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (g10 : Buf (Elt F) (arg10.view.loc (c : Thread nD τ))) (g14 : Buf (Elt F) (arg14.view.loc (c : Thread nD τ))) :
    Σ' (r10 : Buf (Elt F) (arg10.view.loc (c : Thread nD τ))), Σ' (r11 : Buf (Elt F) (arg11.view.loc (c : Thread nD τ))), Σ' (r12 : Buf (Elt F) (arg12.view.loc (c : Thread nD τ))), Σ' (r13 : Buf (Elt F) (arg13.view.loc (c : Thread nD τ))), { r14 : Buf (Elt F) (arg14.view.loc (c : Thread nD τ)) //
      ∀ (g11 : Buf (Elt F) (arg11.view.loc (c : Thread nD τ))) (g12 : Buf (Elt F) (arg12.view.loc (c : Thread nD τ))) (g13 : Buf (Elt F) (arg13.view.loc (c : Thread nD τ))) (K : PUnit → sProp 𝕄),
        iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (iprop((arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} r10) ∗ (arg11.view.loc (c : Thread nD τ) ↦[arg11.view.set]{fullShare} r11) ∗ (arg12.view.loc (c : Thread nD τ) ↦[arg12.view.set]{fullShare} r12) ∗ (arg13.view.loc (c : Thread nD τ) ↦[arg13.view.set]{fullShare} r13) ∗ (arg14.view.loc (c : Thread nD τ) ↦[arg14.view.set]{fullShare} r14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) -∗ K ⟨⟩))
          ⊢ wp frame (wpE (defs₀ (F := F)) Variants.none c none) Set.univ (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun g11 g12 g13 K => ?run⟩
  case run =>
    iintro ⟨H3, H4, H5, H6, H7, H8, H9, H10, H11, H12, H13, H14, ⟨%f15, H15⟩, ⟨%f16, H16⟩, ⟨%f17, H17⟩, ⟨%f18, H18⟩, ⟨%f19, H19⟩, Hk⟩
    sl_unfold [cc0_fox_bwd]
    sl_exec_parts
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    iexists _; iexact H19

end Cert.FoxIdeal.Hand

end
-- ==== Proof.FoxFrame.lean ====
/- The proof data of the attention gradient's pipeline, its body at every grid point, the run and the frame. -/
module

public import proofs.«01_k».proof.Proof.Gen.FoxIdeal.Frame
public import proofs.«01_k».proof.Proof.Gen.FoxIdeal.Points
public import proofs.«01_k».proof.Proof.FoxRunA
public import proofs.«01_k».proof.Proof.FoxRunB
public import Idealize.ShloMosaic.Lib.Exec

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] runA runB

abbrev ms0 (t : Fin cfg0.N) : Memref sig .tc .vmem S1x4224x128 .f32 := win0_0.stage (cfg0.slots t 0)
abbrev ms1 (t : Fin cfg0.N) : Memref sig .tc .vmem S1x384x128 .f32 := win0_1.stage (cfg0.slots t 1)
abbrev ms2 (t : Fin cfg0.N) : Memref sig .tc .vmem S1x384x128 .f32 := win0_2.stage (cfg0.slots t 2)
abbrev ms3 (t : Fin cfg0.N) : Memref sig .tc .vmem S1x8x4224 .f32 := win0_3.stage (cfg0.slots t 3)
abbrev ms4 (t : Fin cfg0.N) : Memref sig .tc .vmem S1x4224x128 .f32 := win0_4.stage (cfg0.slots t 4)
abbrev ms5 (t : Fin cfg0.N) : Memref sig .tc .vmem S1x1x4224x1 .f32 := win0_5.stage (cfg0.slots t 5)
abbrev ms6 (t : Fin cfg0.N) : Memref sig .tc .vmem S1x4224x128 .f32 := win0_6.stage (cfg0.slots t 6)
abbrev ms7 (t : Fin cfg0.N) : Memref sig .tc .vmem S1x4224x128 .f32 := win0_7.stage (cfg0.slots t 7)
abbrev ms8 (t : Fin cfg0.N) : Memref sig .tc .vmem S1x384x128 .f32 := win0_8.stage (cfg0.slots t 8)
abbrev ms9 (t : Fin cfg0.N) : Memref sig .tc .vmem S1x384x128 .f32 := win0_9.stage (cfg0.slots t 9)
abbrev ms10 (t : Fin cfg0.N) : Memref sig .tc .vmem S1x1x1x384 .f32 := win0_10.stage (cfg0.slots t 10)
abbrev ms11 (t : Fin cfg0.N) : Memref sig .tc .vmem S1x1x4224x1 .f32 := win0_11.stage (cfg0.slots t 11)

theorem hcond2 : ∀ t : Fin cfg0.N, k0_cond2 (grid0.coords t) = 1#1 ↔ t.val % 11 = 0 := by decide +kernel
theorem hcond3 : ∀ t : Fin cfg0.N, k0_cond3 (grid0.coords t) = 1#1 ↔ ¬ t.val % 11 = 0 := by decide +kernel

/-- What the first block of keys leaves in the five windows. -/
def outA (c : Dev nD) (t : Fin cfg0.N) (h : t.val % 11 = 0) : Vec F S1x4224x128 .f32 × Vec F S1x384x128 .f32 × Vec F S1x384x128 .f32 × Vec F S1x1x1x384 .f32 × Vec F S1x1x4224x1 .f32 :=
  let r := runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond2 t).mpr h) (fun h' => (hcond3 t).mp h' h) (iblk m c 0 t) (iblk m c 1 t) (iblk m c 2 t) (iblk m c 3 t) (iblk m c 4 t) (iblk m c 5 t) (iblk m c 6 t)
  ((ms7 t).view.read (Elt F) r.1, (ms8 t).view.read (Elt F) r.2.1, (ms9 t).view.read (Elt F) r.2.2.1, (ms10 t).view.read (Elt F) r.2.2.2.1, (ms11 t).view.read (Elt F) r.2.2.2.2.1)

/-- What a later block of keys leaves there, given the two carried blocks. -/
def outB (c : Dev nD) (t : Fin cfg0.N) (h : ¬ t.val % 11 = 0) (y : Vec F S1x4224x128 .f32 × Vec F S1x384x128 .f32 × Vec F S1x384x128 .f32 × Vec F S1x1x1x384 .f32 × Vec F S1x1x4224x1 .f32) : Vec F S1x4224x128 .f32 × Vec F S1x384x128 .f32 × Vec F S1x384x128 .f32 × Vec F S1x1x1x384 .f32 × Vec F S1x1x4224x1 .f32 :=
  let r := runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h' => h ((hcond2 t).mp h')) ((hcond3 t).mpr h) (iblk m c 0 t) (iblk m c 1 t) (iblk m c 2 t) (iblk m c 3 t) (iblk m c 4 t) (iblk m c 5 t) (iblk m c 6 t) ((hstage0_7 ((cfg0.slots t 7).cast nbuf0_7)).unread y.1) ((hstage0_11 ((cfg0.slots t 11).cast nbuf0_11)).unread y.2.2.2.2)
  ((ms7 t).view.read (Elt F) r.1, (ms8 t).view.read (Elt F) r.2.1, (ms9 t).view.read (Elt F) r.2.2.1, (ms10 t).view.read (Elt F) r.2.2.2.1, (ms11 t).view.read (Elt F) r.2.2.2.2.1)

theorem outA_1 (c : Dev nD) (t : Fin cfg0.N) (h : t.val % 11 = 0) : (outA m c t h).1 = (ms7 t).view.read (Elt F) (runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond2 t).mpr h) (fun h' => (hcond3 t).mp h' h) (iblk m c 0 t) (iblk m c 1 t) (iblk m c 2 t) (iblk m c 3 t) (iblk m c 4 t) (iblk m c 5 t) (iblk m c 6 t)).1 := by
  unfold outA; rfl
theorem outA_2 (c : Dev nD) (t : Fin cfg0.N) (h : t.val % 11 = 0) : (outA m c t h).2.1 = (ms8 t).view.read (Elt F) (runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond2 t).mpr h) (fun h' => (hcond3 t).mp h' h) (iblk m c 0 t) (iblk m c 1 t) (iblk m c 2 t) (iblk m c 3 t) (iblk m c 4 t) (iblk m c 5 t) (iblk m c 6 t)).2.1 := by
  unfold outA; rfl
theorem outA_3 (c : Dev nD) (t : Fin cfg0.N) (h : t.val % 11 = 0) : (outA m c t h).2.2.1 = (ms9 t).view.read (Elt F) (runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond2 t).mpr h) (fun h' => (hcond3 t).mp h' h) (iblk m c 0 t) (iblk m c 1 t) (iblk m c 2 t) (iblk m c 3 t) (iblk m c 4 t) (iblk m c 5 t) (iblk m c 6 t)).2.2.1 := by
  unfold outA; rfl
theorem outA_4 (c : Dev nD) (t : Fin cfg0.N) (h : t.val % 11 = 0) : (outA m c t h).2.2.2.1 = (ms10 t).view.read (Elt F) (runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond2 t).mpr h) (fun h' => (hcond3 t).mp h' h) (iblk m c 0 t) (iblk m c 1 t) (iblk m c 2 t) (iblk m c 3 t) (iblk m c 4 t) (iblk m c 5 t) (iblk m c 6 t)).2.2.2.1 := by
  unfold outA; rfl
theorem outA_5 (c : Dev nD) (t : Fin cfg0.N) (h : t.val % 11 = 0) : (outA m c t h).2.2.2.2 = (ms11 t).view.read (Elt F) (runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond2 t).mpr h) (fun h' => (hcond3 t).mp h' h) (iblk m c 0 t) (iblk m c 1 t) (iblk m c 2 t) (iblk m c 3 t) (iblk m c 4 t) (iblk m c 5 t) (iblk m c 6 t)).2.2.2.2.1 := by
  unfold outA; rfl
theorem outB_1 (c : Dev nD) (t : Fin cfg0.N) (h : ¬ t.val % 11 = 0) (y : Vec F S1x4224x128 .f32 × Vec F S1x384x128 .f32 × Vec F S1x384x128 .f32 × Vec F S1x1x1x384 .f32 × Vec F S1x1x4224x1 .f32) : (outB m c t h y).1 = (ms7 t).view.read (Elt F) (runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h' => h ((hcond2 t).mp h')) ((hcond3 t).mpr h) (iblk m c 0 t) (iblk m c 1 t) (iblk m c 2 t) (iblk m c 3 t) (iblk m c 4 t) (iblk m c 5 t) (iblk m c 6 t) ((hstage0_7 ((cfg0.slots t 7).cast nbuf0_7)).unread y.1) ((hstage0_11 ((cfg0.slots t 11).cast nbuf0_11)).unread y.2.2.2.2)).1 := by
  unfold outB; rfl
theorem outB_2 (c : Dev nD) (t : Fin cfg0.N) (h : ¬ t.val % 11 = 0) (y : Vec F S1x4224x128 .f32 × Vec F S1x384x128 .f32 × Vec F S1x384x128 .f32 × Vec F S1x1x1x384 .f32 × Vec F S1x1x4224x1 .f32) : (outB m c t h y).2.1 = (ms8 t).view.read (Elt F) (runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h' => h ((hcond2 t).mp h')) ((hcond3 t).mpr h) (iblk m c 0 t) (iblk m c 1 t) (iblk m c 2 t) (iblk m c 3 t) (iblk m c 4 t) (iblk m c 5 t) (iblk m c 6 t) ((hstage0_7 ((cfg0.slots t 7).cast nbuf0_7)).unread y.1) ((hstage0_11 ((cfg0.slots t 11).cast nbuf0_11)).unread y.2.2.2.2)).2.1 := by
  unfold outB; rfl
theorem outB_3 (c : Dev nD) (t : Fin cfg0.N) (h : ¬ t.val % 11 = 0) (y : Vec F S1x4224x128 .f32 × Vec F S1x384x128 .f32 × Vec F S1x384x128 .f32 × Vec F S1x1x1x384 .f32 × Vec F S1x1x4224x1 .f32) : (outB m c t h y).2.2.1 = (ms9 t).view.read (Elt F) (runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h' => h ((hcond2 t).mp h')) ((hcond3 t).mpr h) (iblk m c 0 t) (iblk m c 1 t) (iblk m c 2 t) (iblk m c 3 t) (iblk m c 4 t) (iblk m c 5 t) (iblk m c 6 t) ((hstage0_7 ((cfg0.slots t 7).cast nbuf0_7)).unread y.1) ((hstage0_11 ((cfg0.slots t 11).cast nbuf0_11)).unread y.2.2.2.2)).2.2.1 := by
  unfold outB; rfl
theorem outB_4 (c : Dev nD) (t : Fin cfg0.N) (h : ¬ t.val % 11 = 0) (y : Vec F S1x4224x128 .f32 × Vec F S1x384x128 .f32 × Vec F S1x384x128 .f32 × Vec F S1x1x1x384 .f32 × Vec F S1x1x4224x1 .f32) : (outB m c t h y).2.2.2.1 = (ms10 t).view.read (Elt F) (runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h' => h ((hcond2 t).mp h')) ((hcond3 t).mpr h) (iblk m c 0 t) (iblk m c 1 t) (iblk m c 2 t) (iblk m c 3 t) (iblk m c 4 t) (iblk m c 5 t) (iblk m c 6 t) ((hstage0_7 ((cfg0.slots t 7).cast nbuf0_7)).unread y.1) ((hstage0_11 ((cfg0.slots t 11).cast nbuf0_11)).unread y.2.2.2.2)).2.2.2.1 := by
  unfold outB; rfl
theorem outB_5 (c : Dev nD) (t : Fin cfg0.N) (h : ¬ t.val % 11 = 0) (y : Vec F S1x4224x128 .f32 × Vec F S1x384x128 .f32 × Vec F S1x384x128 .f32 × Vec F S1x1x1x384 .f32 × Vec F S1x1x4224x1 .f32) : (outB m c t h y).2.2.2.2 = (ms11 t).view.read (Elt F) (runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h' => h ((hcond2 t).mp h')) ((hcond3 t).mpr h) (iblk m c 0 t) (iblk m c 1 t) (iblk m c 2 t) (iblk m c 3 t) (iblk m c 4 t) (iblk m c 5 t) (iblk m c 6 t) ((hstage0_7 ((cfg0.slots t 7).cast nbuf0_7)).unread y.1) ((hstage0_11 ((cfg0.slots t 11).cast nbuf0_11)).unread y.2.2.2.2)).2.2.2.2.1 := by
  unfold outB; rfl

/-- The five windows after the body at point `n`. -/
def outsAt (c : Dev nD) : (n : ℕ) → n < cfg0.N → Vec F S1x4224x128 .f32 × Vec F S1x384x128 .f32 × Vec F S1x384x128 .f32 × Vec F S1x1x1x384 .f32 × Vec F S1x1x4224x1 .f32
  | 0, hn => outA m c ⟨0, hn⟩ (Nat.zero_mod _)
  | n + 1, hn =>
    if h : (n + 1) % 11 = 0 then outA m c ⟨n + 1, hn⟩ h
    else outB m c ⟨n + 1, hn⟩ h (outsAt c n (Nat.lt_of_succ_lt hn))

theorem outsAt_A (c : Dev nD) (t : Fin cfg0.N) (h : t.val % 11 = 0) : outsAt m c t.val t.isLt = outA m c t h := by
  obtain ⟨n, hn⟩ := t
  cases n with
  | zero => rfl
  | succ n => exact dif_pos h

theorem outsAt_B (c : Dev nD) (t : Fin cfg0.N) (h : ¬ t.val % 11 = 0) :
    outsAt m c t.val t.isLt = outB m c t h (outsAt m c (t.val - 1) (Nat.lt_of_le_of_lt (Nat.sub_le _ _) t.isLt)) := by
  obtain ⟨n, hn⟩ := t
  cases n with
  | zero => exact absurd (Nat.zero_mod _) h
  | succ n => exact dif_neg h

/-- The proof data: the arrays as the region finds them, the inputs' blocks left in place, the outputs at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
    | ⟨10, _⟩ => (outsAt m c t.val t.isLt).2.2.2.1
    | ⟨11, _⟩ => (outsAt m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]
theorem after_8 (c : Dev nD) (t : Fin cfg0.N) : (dats m 0 c).after 8 t = (outsAt m c t.val t.isLt).2.1 := by dsimp only [dats]
theorem after_9 (c : Dev nD) (t : Fin cfg0.N) : (dats m 0 c).after 9 t = (outsAt m c t.val t.isLt).2.2.1 := by dsimp only [dats]
theorem after_10 (c : Dev nD) (t : Fin cfg0.N) : (dats m 0 c).after 10 t = (outsAt m c t.val t.isLt).2.2.2.1 := by dsimp only [dats]
theorem after_11 (c : Dev nD) (t : Fin cfg0.N) : (dats m 0 c).after 11 t = (outsAt m c t.val t.isLt).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7_B (c : Dev nD) (t : Fin cfg0.N) (h : ¬ t.val % 11 = 0) (d) :
    (dats m 0 c).before 7 t d = (outsAt m c (t.val - 1) (Nat.lt_of_le_of_lt (Nat.sub_le _ _) t.isLt)).1 :=
  ((dats m 0 c).before_out_kept 7 rfl t (fun h0 => h (by rw [h0]))
    (by rw [Bool.eq_false_iff, ne_eq, flush0_7]; dsimp only; omega) (fun _ => rfl) (fun _ _ => rfl) d).trans (after_7 m c _)
theorem before_11_B (c : Dev nD) (t : Fin cfg0.N) (h : ¬ t.val % 11 = 0) (d) :
    (dats m 0 c).before 11 t d = (outsAt m c (t.val - 1) (Nat.lt_of_le_of_lt (Nat.sub_le _ _) t.isLt)).2.2.2.2 :=
  ((dats m 0 c).before_out_kept 11 rfl t (fun h0 => h (by rw [h0]))
    (by rw [Bool.eq_false_iff, ne_eq, flush0_11]; dsimp only; omega) (fun _ => rfl) (fun _ _ => rfl) d).trans (after_11 m c _)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem ΦA_open (c : Dev nD) : (Pipeline.ΦA spec0 c : sProp 𝕄) = iprop(((∃ f : Buf (Elt F) ((c : Thread nD τ).loc cc0_scratch0), ((Memref.whole cc0_scratch0).view.loc (c : Thread nD τ) ↦[(Memref.whole cc0_scratch0).view.set]{fullShare} f)) ∗ (∃ f : Buf (Elt F) ((c : Thread nD τ).loc cc0_scratch1), ((Memref.whole cc0_scratch1).view.loc (c : Thread nD τ) ↦[(Memref.whole cc0_scratch1).view.set]{fullShare} f)) ∗ (∃ f : Buf (Elt F) ((c : Thread nD τ).loc cc0_scratch2), ((Memref.whole cc0_scratch2).view.loc (c : Thread nD τ) ↦[(Memref.whole cc0_scratch2).view.set]{fullShare} f)) ∗ (∃ f : Buf (Elt F) ((c : Thread nD τ).loc cc0_scratch3), ((Memref.whole cc0_scratch3).view.loc (c : Thread nD τ) ↦[(Memref.whole cc0_scratch3).view.set]{fullShare} f)) ∗ (∃ f : Buf (Elt F) ((c : Thread nD τ).loc cc0_scratch4), ((Memref.whole cc0_scratch4).view.loc (c : Thread nD τ) ↦[(Memref.whole cc0_scratch4).view.set]{fullShare} f))) ∗ ∃ r, prngReg c r) := by
  unfold Pipeline.ΦA; rw [scopedRest0_eq]; simp only [Memref.view_whole, View.set_whole]

set_option maxHeartbeats 1000000 in
/-- The body over named contents: the first block of keys. -/
theorem bodyA (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (h2 : k0_cond2 i = 1#1) (h3 : ¬ k0_cond3 i = 1#1) (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (y10 : Vec F S1x4224x128 .f32) (y11 : Vec F S1x384x128 .f32) (y12 : Vec F S1x384x128 .f32) (y13 : Vec F S1x1x1x384 .f32) (y14 : Vec F S1x1x4224x1 .f32) (R : sProp 𝕄) :
    iprop(R ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (y10) ∗ owns (c : Thread nD τ) arg11 fullShare (y11) ∗ owns (c : Thread nD τ) arg12 fullShare (y12) ∗ owns (c : Thread nD τ) arg13 fullShare (y13) ∗ owns (c : Thread nD τ) arg14 fullShare (y14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) ⊢ wp frame (wpE (defs₀ (F := F)) Variants.none c none) Set.univ (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(R ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (arg10.view.read (Elt F) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9).1) ∗ owns (c : Thread nD τ) arg11 fullShare (arg11.view.read (Elt F) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9).2.1) ∗ owns (c : Thread nD τ) arg12 fullShare (arg12.view.read (Elt F) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9).2.2.1) ∗ owns (c : Thread nD τ) arg13 fullShare (arg13.view.read (Elt F) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9).2.2.2.1) ∗ owns (c : Thread nD τ) arg14 fullShare (arg14.view.read (Elt F) (runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9).2.2.2.2.1) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))) := by
  unfold owns
  iintro ⟨HR, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, H15, H16, H17, H18, H19⟩
  iapply ((runA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9).2.2.2.2.2 _ _ _ _ _ _)
  isplitl [H3]; · rw [← harg3.eq_unread e3]; iexact H3
  isplitl [H4]; · rw [← harg4.eq_unread e4]; iexact H4
  isplitl [H5]; · rw [← harg5.eq_unread e5]; iexact H5
  isplitl [H6]; · rw [← harg6.eq_unread e6]; iexact H6
  isplitl [H7]; · rw [← harg7.eq_unread e7]; iexact H7
  isplitl [H8]; · rw [← harg8.eq_unread e8]; iexact H8
  isplitl [H9]; · rw [← harg9.eq_unread e9]; iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H3, H4, H5, H6, H7, H8, H9, H10, H11, H12, H13, H14, H15, H16, H17, H18, H19⟩
  isplitl [HR]; · iexact HR
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; rfl
  isplitl [H14]
  · iexists _; isplitr
    swap; · iexact H14
    ipureintro; rfl
  isplitl [H15]; · iexact H15
  isplitl [H16]; · iexact H16
  isplitl [H17]; · iexact H17
  isplitl [H18]; · iexact H18
  iexact H19

set_option maxHeartbeats 1000000 in
/-- The body over named contents: a later block of keys. -/
theorem bodyB (c : Dev nD) (i : grid0.Coords) (arg3 : Memref sig .tc .vmem S1x4224x128 .f32) (harg3 : arg3.IsWhole) (arg4 : Memref sig .tc .vmem S1x384x128 .f32) (harg4 : arg4.IsWhole) (arg5 : Memref sig .tc .vmem S1x384x128 .f32) (harg5 : arg5.IsWhole) (arg6 : Memref sig .tc .vmem S1x8x4224 .f32) (harg6 : arg6.IsWhole) (arg7 : Memref sig .tc .vmem S1x4224x128 .f32) (harg7 : arg7.IsWhole) (arg8 : Memref sig .tc .vmem S1x1x4224x1 .f32) (harg8 : arg8.IsWhole) (arg9 : Memref sig .tc .vmem S1x4224x128 .f32) (harg9 : arg9.IsWhole) (arg10 : Memref sig .tc .vmem S1x4224x128 .f32) (harg10 : arg10.IsWhole) (arg11 : Memref sig .tc .vmem S1x384x128 .f32) (harg11 : arg11.IsWhole) (arg12 : Memref sig .tc .vmem S1x384x128 .f32) (harg12 : arg12.IsWhole) (arg13 : Memref sig .tc .vmem S1x1x1x384 .f32) (harg13 : arg13.IsWhole) (arg14 : Memref sig .tc .vmem S1x1x4224x1 .f32) (harg14 : arg14.IsWhole) (arg15 : Memref sig .tc .vmem S384x384 .f32) (harg15 : arg15.IsWhole) (arg16 : Memref sig .tc .vmem S384x384 .f32) (harg16 : arg16.IsWhole) (arg17 : Memref sig .tc .vmem S384x384 .bf16) (harg17 : arg17.IsWhole) (arg18 : Memref sig .tc .vmem S384x384 .bf16) (harg18 : arg18.IsWhole) (arg19 : Memref sig .tc .vmem S384x1 .f32) (harg19 : arg19.IsWhole) (h2 : ¬ k0_cond2 i = 1#1) (h3 : k0_cond3 i = 1#1) (x3 : Vec F S1x4224x128 .f32) (x4 : Vec F S1x384x128 .f32) (x5 : Vec F S1x384x128 .f32) (x6 : Vec F S1x8x4224 .f32) (x7 : Vec F S1x4224x128 .f32) (x8 : Vec F S1x1x4224x1 .f32) (x9 : Vec F S1x4224x128 .f32) (y10 : Vec F S1x4224x128 .f32) (y11 : Vec F S1x384x128 .f32) (y12 : Vec F S1x384x128 .f32) (y13 : Vec F S1x1x1x384 .f32) (y14 : Vec F S1x1x4224x1 .f32) (R : sProp 𝕄) :
    iprop(R ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (y10) ∗ owns (c : Thread nD τ) arg11 fullShare (y11) ∗ owns (c : Thread nD τ) arg12 fullShare (y12) ∗ owns (c : Thread nD τ) arg13 fullShare (y13) ∗ owns (c : Thread nD τ) arg14 fullShare (y14) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f))) ⊢ wp frame (wpE (defs₀ (F := F)) Variants.none c none) Set.univ (cc0_fox_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(R ∗ owns (c : Thread nD τ) arg3 fullShare (x3) ∗ owns (c : Thread nD τ) arg4 fullShare (x4) ∗ owns (c : Thread nD τ) arg5 fullShare (x5) ∗ owns (c : Thread nD τ) arg6 fullShare (x6) ∗ owns (c : Thread nD τ) arg7 fullShare (x7) ∗ owns (c : Thread nD τ) arg8 fullShare (x8) ∗ owns (c : Thread nD τ) arg9 fullShare (x9) ∗ owns (c : Thread nD τ) arg10 fullShare (arg10.view.read (Elt F) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9 (harg10.unread y10) (harg14.unread y14)).1) ∗ owns (c : Thread nD τ) arg11 fullShare (arg11.view.read (Elt F) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9 (harg10.unread y10) (harg14.unread y14)).2.1) ∗ owns (c : Thread nD τ) arg12 fullShare (arg12.view.read (Elt F) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9 (harg10.unread y10) (harg14.unread y14)).2.2.1) ∗ owns (c : Thread nD τ) arg13 fullShare (arg13.view.read (Elt F) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9 (harg10.unread y10) (harg14.unread y14)).2.2.2.1) ∗ owns (c : Thread nD τ) arg14 fullShare (arg14.view.read (Elt F) (runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9 (harg10.unread y10) (harg14.unread y14)).2.2.2.2.1) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)))) := by
  unfold owns
  iintro ⟨HR, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, H15, H16, H17, H18, H19⟩
  iapply ((runB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 h3 x3 x4 x5 x6 x7 x8 x9 (harg10.unread y10) (harg14.unread y14)).2.2.2.2.2 _ _ _ _)
  isplitl [H3]; · rw [← harg3.eq_unread e3]; iexact H3
  isplitl [H4]; · rw [← harg4.eq_unread e4]; iexact H4
  isplitl [H5]; · rw [← harg5.eq_unread e5]; iexact H5
  isplitl [H6]; · rw [← harg6.eq_unread e6]; iexact H6
  isplitl [H7]; · rw [← harg7.eq_unread e7]; iexact H7
  isplitl [H8]; · rw [← harg8.eq_unread e8]; iexact H8
  isplitl [H9]; · rw [← harg9.eq_unread e9]; iexact H9
  isplitl [H10]; · rw [← harg10.eq_unread e10]; iexact H10
  isplitl [H11]; · iexact H11
  isplitl [H12]; · iexact H12
  isplitl [H13]; · iexact H13
  isplitl [H14]; · rw [← harg14.eq_unread e14]; iexact H14
  isplitl [H15]; · iexact H15
  isplitl [H16]; · iexact H16
  isplitl [H17]; · iexact H17
  isplitl [H18]; · iexact H18
  isplitl [H19]; · iexact H19
  iintro ⟨H3, H4, H5, H6, H7, H8, H9, H10, H11, H12, H13, H14, H15, H16, H17, H18, H19⟩
  isplitl [HR]; · iexact HR
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; rfl
  isplitl [H11]
  · iexists _; isplitr
    swap; · iexact H11
    ipureintro; rfl
  isplitl [H12]
  · iexists _; isplitr
    swap; · iexact H12
    ipureintro; rfl
  isplitl [H13]
  · iexists _; isplitr
    swap; · iexact H13
    ipureintro; rfl
  isplitl [H14]
  · iexists _; isplitr
    swap; · iexact H14
    ipureintro; rfl
  isplitl [H15]; · iexact H15
  isplitl [H16]; · iexact H16
  isplitl [H17]; · iexact H17
  isplitl [H18]; · iexact H18
  iexact H19
theorem leaves_0 (c : Dev nD) (t : Fin cfg0.N) : (dats m 0 c).leavesExact 0 t = owns (c : Thread nD τ) (ms0 t) fullShare (iblk m c 0 t) :=
  (show (dats m 0 c).leavesExact 0 t = owns (c : Thread nD τ) (ms0 t) fullShare ((dats m 0 c).after 0 t) from rfl).trans (by rw [after_0])
theorem leaves_1 (c : Dev nD) (t : Fin cfg0.N) : (dats m 0 c).leavesExact 1 t = owns (c : Thread nD τ) (ms1 t) fullShare (iblk m c 1 t) :=
  (show (dats m 0 c).leavesExact 1 t = owns (c : Thread nD τ) (ms1 t) fullShare ((dats m 0 c).after 1 t) from rfl).trans (by rw [after_1])
theorem leaves_2 (c : Dev nD) (t : Fin cfg0.N) : (dats m 0 c).leavesExact 2 t = owns (c : Thread nD τ) (ms2 t) fullShare (iblk m c 2 t) :=
  (show (dats m 0 c).leavesExact 2 t = owns (c : Thread nD τ) (ms2 t) fullShare ((dats m 0 c).after 2 t) from rfl).trans (by rw [after_2])
theorem leaves_3 (c : Dev nD) (t : Fin cfg0.N) : (dats m 0 c).leavesExact 3 t = owns (c : Thread nD τ) (ms3 t) fullShare (iblk m c 3 t) :=
  (show (dats m 0 c).leavesExact 3 t = owns (c : Thread nD τ) (ms3 t) fullShare ((dats m 0 c).after 3 t) from rfl).trans (by rw [after_3])
theorem leaves_4 (c : Dev nD) (t : Fin cfg0.N) : (dats m 0 c).leavesExact 4 t = owns (c : Thread nD τ) (ms4 t) fullShare (iblk m c 4 t) :=
  (show (dats m 0 c).leavesExact 4 t = owns (c : Thread nD τ) (ms4 t) fullShare ((dats m 0 c).after 4 t) from rfl).trans (by rw [after_4])
theorem leaves_5 (c : Dev nD) (t : Fin cfg0.N) : (dats m 0 c).leavesExact 5 t = owns (c : Thread nD τ) (ms5 t) fullShare (iblk m c 5 t) :=
  (show (dats m 0 c).leavesExact 5 t = owns (c : Thread nD τ) (ms5 t) fullShare ((dats m 0 c).after 5 t) from rfl).trans (by rw [after_5])
theorem leaves_6 (c : Dev nD) (t : Fin cfg0.N) : (dats m 0 c).leavesExact 6 t = owns (c : Thread nD τ) (ms6 t) fullShare (iblk m c 6 t) :=
  (show (dats m 0 c).leavesExact 6 t = owns (c : Thread nD τ) (ms6 t) fullShare ((dats m 0 c).after 6 t) from rfl).trans (by rw [after_6])
theorem leaves_7 (c : Dev nD) (t : Fin cfg0.N) : (dats m 0 c).leavesExact 7 t = owns (c : Thread nD τ) (ms7 t) fullShare ((outsAt m c t.val t.isLt).1) :=
  (show (dats m 0 c).leavesExact 7 t = owns (c : Thread nD τ) (ms7 t) fullShare ((dats m 0 c).after 7 t) from rfl).trans (by rw [after_7])
theorem leaves_8 (c : Dev nD) (t : Fin cfg0.N) : (dats m 0 c).leavesExact 8 t = owns (c : Thread nD τ) (ms8 t) fullShare ((outsAt m c t.val t.isLt).2.1) :=
  (show (dats m 0 c).leavesExact 8 t = owns (c : Thread nD τ) (ms8 t) fullShare ((dats m 0 c).after 8 t) from rfl).trans (by rw [after_8])
theorem leaves_9 (c : Dev nD) (t : Fin cfg0.N) : (dats m 0 c).leavesExact 9 t = owns (c : Thread nD τ) (ms9 t) fullShare ((outsAt m c t.val t.isLt).2.2.1) :=
  (show (dats m 0 c).leavesExact 9 t = owns (c : Thread nD τ) (ms9 t) fullShare ((dats m 0 c).after 9 t) from rfl).trans (by rw [after_9])
theorem leaves_10 (c : Dev nD) (t : Fin cfg0.N) : (dats m 0 c).leavesExact 10 t = owns (c : Thread nD τ) (ms10 t) fullShare ((outsAt m c t.val t.isLt).2.2.2.1) :=
  (show (dats m 0 c).leavesExact 10 t = owns (c : Thread nD τ) (ms10 t) fullShare ((dats m 0 c).after 10 t) from rfl).trans (by rw [after_10])
theorem leaves_11 (c : Dev nD) (t : Fin cfg0.N) : (dats m 0 c).leavesExact 11 t = owns (c : Thread nD τ) (ms11 t) fullShare ((outsAt m c t.val t.isLt).2.2.2.2) :=
  (show (dats m 0 c).leavesExact 11 t = owns (c : Thread nD τ) (ms11 t) fullShare ((dats m 0 c).after 11 t) from rfl).trans (by rw [after_11])

theorem perm {G O W0 W1 W2 W3 W4 W5 W6 W7 W8 W9 W10 W11 S0 S1 S2 S3 S4 : sProp 𝕄} : iprop((G ∗ O) ∗ W0 ∗ W1 ∗ W2 ∗ W3 ∗ W4 ∗ W5 ∗ W6 ∗ W7 ∗ W8 ∗ W9 ∗ W10 ∗ W11 ∗ S0 ∗ S1 ∗ S2 ∗ S3 ∗ S4) ⊢ iprop(((S0 ∗ S1 ∗ S2 ∗ S3 ∗ S4) ∗ G) ∗ O ∗ W0 ∗ W1 ∗ W2 ∗ W3 ∗ W4 ∗ W5 ∗ W6 ∗ W7 ∗ W8 ∗ W9 ∗ W10 ∗ W11) := by
  iintro ⟨⟨Hg, Ho⟩, H0, H1, H2, H3, H4, H5, H6, H7, H8, H9, H10, H11, HS0, HS1, HS2, HS3, HS4⟩
  isplitl [HS0 HS1 HS2 HS3 HS4 Hg]
  · isplitr [Hg]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
/-- The body at any point: the first block of keys by `runA`, a later one by `runB` over what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6]
  rw [leaves_0, leaves_1, leaves_2, leaves_3, leaves_4, leaves_5, leaves_6, leaves_7, leaves_8, leaves_9, leaves_10, leaves_11]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, ΦA_open]
  by_cases h : t.val % 11 = 0
  · rw [outsAt_A m c t h, outA_1, outA_2, outA_3, outA_4, outA_5]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hb := bodyA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hcond2 t).mpr h) (fun h' => (hcond3 t).mp h' h) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) iprop((∃ r, prngReg c r) ∗ (dats m 0 c).owesAt () t.castSucc)
    iapply (hb.trans ((wp frame (wpE (defs₀ (F := F)) Variants.none c none) Set.univ (bodyAt0 t)).mono (fun _ => perm)))
    isplitl [Hg Ho]
    · isplitl [Hg]; · iexact Hg
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    iexact HS4
  · simp only [before_7_B m c t h, before_11_B m c t h]
    rw [outsAt_B m c t h, outB_1, outB_2, outB_3, outB_4, outB_5]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hb := bodyB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (fun h' => h ((hcond2 t).mp h')) ((hcond3 t).mpr h) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).1 ((dats m 0 c).before 8 t d8) ((dats m 0 c).before 9 t d9) ((dats m 0 c).before 10 t d10) (outsAt m c (t.val - 1) (Nat.lt_of_le_of_lt (Nat.sub_le _ _) t.isLt)).2.2.2.2 iprop((∃ r, prngReg c r) ∗ (dats m 0 c).owesAt () t.castSucc)
    iapply (hb.trans ((wp frame (wpE (defs₀ (F := F)) Variants.none c none) Set.univ (bodyAt0 t)).mono (fun _ => perm)))
    isplitl [Hg Ho]
    · isplitl [Hg]; · iexact Hg
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    iexact HS4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every fair execution ends with the windows' arrays as the proof data say, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

end Cert.FoxIdeal.Hand

end
-- ==== Proof.FoxQuiet.lean ====
/- The frame of the attention's gradient, from its run. -/
module

public import proofs.«01_k».proof.Proof.FoxFrame
public import Idealize.ShloMosaic.Lib.Claim

@[expose] public section

noncomputable section

namespace Cert.FoxIdeal.Hand

open Cert.FoxIdeal Cert.FoxIdeal.Gen
open Idealize.ShloMosaic Idealize.ShloMosaic.TcCoe
open Idealize.SL.Sem

variable {F : FTy → Type} [FloatOps F] [Named F]
variable (m : (ℓ : Loc nD τ sig) → Buf (Elt F) ℓ) (ρ : Dev nD → PrngReg)

/-- The frame: the arguments keep their contents, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FoxIdeal.Hand

end
-- ==== Proof.FoxBitsQuiet.lean ====
/- The frame of the attention's gradient, from its run. -/
module

public import proofs.«01_k».proof.Proof.FoxBitsFrame
public import Idealize.ShloMosaic.Lib.Claim

@[expose] public section

noncomputable section

namespace Cert.Fox.Hand

open Cert.Fox Cert.Fox.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The frame: the arguments keep their contents, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Fox.Hand

end
-- ==== Proof.lean ====
/- The proof of the claims: each product by its own module, the attention gradient's frame by `FoxQuiet` over the
   idealized program and by `FoxBitsQuiet` over the program itself. -/
module

public import proofs.«01_k».proof.Defs
public import proofs.«01_k».proof.Proof.OutDxValue
public import proofs.«01_k».proof.Proof.OutDwValue
public import proofs.«01_k».proof.Proof.OutMmValue
public import proofs.«01_k».proof.Proof.FfDxValue
public import proofs.«01_k».proof.Proof.FfDwValue
public import proofs.«01_k».proof.Proof.FfMmValue
public import proofs.«01_k».proof.Proof.FfoDxValue
public import proofs.«01_k».proof.Proof.FfoDwValue
public import proofs.«01_k».proof.Proof.FfoMmValue
public import proofs.«01_k».proof.Proof.QkvDxValue
public import proofs.«01_k».proof.Proof.QkvDwValue
public import proofs.«01_k».proof.Proof.QkvMmValue
public import proofs.«01_k».proof.Proof.SsdDxValue
public import proofs.«01_k».proof.Proof.SsdDwValue
public import proofs.«01_k».proof.Proof.SsdMmValue
public import proofs.«01_k».proof.Proof.SwigluValue
public import proofs.«01_k».proof.Proof.RmsValue
public import proofs.«01_k».proof.Proof.PostValue
public import proofs.«01_k».proof.Proof.PreValue
public import proofs.«01_k».proof.Proof.MergeValue
public import proofs.«01_k».proof.Proof.AdamInValue
public import proofs.«01_k».proof.Proof.AdamRowsValue
public import proofs.«01_k».proof.Proof.AdamBranchValue
public import proofs.«01_k».proof.Proof.AdamFinValue
public import proofs.«01_k».proof.Proof.AdamFoutValue
public import proofs.«01_k».proof.Proof.SwigluFwdValue
public import proofs.«01_k».proof.Proof.RmsFwdValue
public import proofs.«01_k».proof.Proof.PostFwdValue
public import proofs.«01_k».proof.Proof.PreFwdValue
public import proofs.«01_k».proof.Proof.MergeFwdValue
public import proofs.«01_k».proof.Proof.LossFwdValue
public import proofs.«01_k».proof.Proof.LossValue
public import proofs.«01_k».proof.Proof.FoxQuiet
public import proofs.«01_k».proof.Proof.FoxBitsQuiet
public import Idealize.ShloMosaic.Adequacy
public import Idealize.ShloMosaic.Init

@[expose] public section

noncomputable section

namespace Cert.Proof

open Idealize.ShloMosaic Idealize.SL.Sem

theorem claim : Cert.Claim := ⟨Cert.OutDx.Gen.facts, Cert.OutDxIdeal.Gen.facts, Cert.OutDxRefIdeal.Gen.facts, Cert.OutDw.Gen.facts, Cert.OutDwIdeal.Gen.facts, Cert.OutDwRefIdeal.Gen.facts, Cert.OutMm.Gen.facts, Cert.OutMmIdeal.Gen.facts, Cert.OutMmRefIdeal.Gen.facts, Cert.FfDx.Gen.facts, Cert.FfDxIdeal.Gen.facts, Cert.FfDxRefIdeal.Gen.facts, Cert.FfDw.Gen.facts, Cert.FfDwIdeal.Gen.facts, Cert.FfDwRefIdeal.Gen.facts, Cert.FfMm.Gen.facts, Cert.FfMmIdeal.Gen.facts, Cert.FfMmRefIdeal.Gen.facts, Cert.FfoDx.Gen.facts, Cert.FfoDxIdeal.Gen.facts, Cert.FfoDxRefIdeal.Gen.facts, Cert.FfoDw.Gen.facts, Cert.FfoDwIdeal.Gen.facts, Cert.FfoDwRefIdeal.Gen.facts, Cert.FfoMm.Gen.facts, Cert.FfoMmIdeal.Gen.facts, Cert.FfoMmRefIdeal.Gen.facts, Cert.QkvDx.Gen.facts, Cert.QkvDxIdeal.Gen.facts, Cert.QkvDxRefIdeal.Gen.facts, Cert.QkvDw.Gen.facts, Cert.QkvDwIdeal.Gen.facts, Cert.QkvDwRefIdeal.Gen.facts, Cert.QkvMm.Gen.facts, Cert.QkvMmIdeal.Gen.facts, Cert.QkvMmRefIdeal.Gen.facts, Cert.SsdDx.Gen.facts, Cert.SsdDxIdeal.Gen.facts, Cert.SsdDxRefIdeal.Gen.facts, Cert.SsdDw.Gen.facts, Cert.SsdDwIdeal.Gen.facts, Cert.SsdDwRefIdeal.Gen.facts, Cert.SsdMm.Gen.facts, Cert.SsdMmIdeal.Gen.facts, Cert.SsdMmRefIdeal.Gen.facts, Cert.Swiglu.Gen.facts, Cert.SwigluIdeal.Gen.facts, Cert.SwigluRefIdeal.Gen.facts, Cert.Rms.Gen.facts, Cert.RmsIdeal.Gen.facts, Cert.RmsRefIdeal.Gen.facts, Cert.Post.Gen.facts, Cert.PostIdeal.Gen.facts, Cert.PostRefIdeal.Gen.facts, Cert.Pre.Gen.facts, Cert.PreIdeal.Gen.facts, Cert.PreRefIdeal.Gen.facts, Cert.Merge.Gen.facts, Cert.MergeIdeal.Gen.facts, Cert.MergeRefIdeal.Gen.facts, Cert.AdamIn.Gen.facts, Cert.AdamInIdeal.Gen.facts, Cert.AdamInRefIdeal.Gen.facts, Cert.AdamRows.Gen.facts, Cert.AdamRowsIdeal.Gen.facts, Cert.AdamRowsRefIdeal.Gen.facts, Cert.AdamBranch.Gen.facts, Cert.AdamBranchIdeal.Gen.facts, Cert.AdamBranchRefIdeal.Gen.facts, Cert.AdamFin.Gen.facts, Cert.AdamFinIdeal.Gen.facts, Cert.AdamFinRefIdeal.Gen.facts, Cert.AdamFout.Gen.facts, Cert.AdamFoutIdeal.Gen.facts, Cert.AdamFoutRefIdeal.Gen.facts, Cert.SwigluFwd.Gen.facts, Cert.SwigluFwdIdeal.Gen.facts, Cert.SwigluFwdRefIdeal.Gen.facts, Cert.RmsFwd.Gen.facts, Cert.RmsFwdIdeal.Gen.facts, Cert.RmsFwdRefIdeal.Gen.facts, Cert.PostFwd.Gen.facts, Cert.PostFwdIdeal.Gen.facts, Cert.PostFwdRefIdeal.Gen.facts, Cert.PreFwd.Gen.facts, Cert.PreFwdIdeal.Gen.facts, Cert.PreFwdRefIdeal.Gen.facts, Cert.MergeFwd.Gen.facts, Cert.MergeFwdIdeal.Gen.facts, Cert.MergeFwdRefIdeal.Gen.facts, Cert.LossFwd.Gen.facts, Cert.LossFwdIdeal.Gen.facts, Cert.LossFwdRefIdeal.Gen.facts, Cert.Loss.Gen.facts, Cert.LossIdeal.Gen.facts, Cert.LossRefIdeal.Gen.facts, Cert.Fox.Gen.facts, Cert.FoxIdeal.Gen.facts,
  OutDxValue.frame_p, OutDxValue.frame_pi, OutDxValue.frame_ri,
  OutDwValue.frame_p, OutDwValue.frame_pi, OutDwValue.frame_ri,
  OutMmValue.frame_p, OutMmValue.frame_pi, OutMmValue.frame_ri,
  FfDxValue.frame_p, FfDxValue.frame_pi, FfDxValue.frame_ri,
  FfDwValue.frame_p, FfDwValue.frame_pi, FfDwValue.frame_ri,
  FfMmValue.frame_p, FfMmValue.frame_pi, FfMmValue.frame_ri,
  FfoDxValue.frame_p, FfoDxValue.frame_pi, FfoDxValue.frame_ri,
  FfoDwValue.frame_p, FfoDwValue.frame_pi, FfoDwValue.frame_ri,
  FfoMmValue.frame_p, FfoMmValue.frame_pi, FfoMmValue.frame_ri,
  QkvDxValue.frame_p, QkvDxValue.frame_pi, QkvDxValue.frame_ri,
  QkvDwValue.frame_p, QkvDwValue.frame_pi, QkvDwValue.frame_ri,
  QkvMmValue.frame_p, QkvMmValue.frame_pi, QkvMmValue.frame_ri,
  SsdDxValue.frame_p, SsdDxValue.frame_pi, SsdDxValue.frame_ri,
  SsdDwValue.frame_p, SsdDwValue.frame_pi, SsdDwValue.frame_ri,
  SsdMmValue.frame_p, SsdMmValue.frame_pi, SsdMmValue.frame_ri,
  SwigluValue.frame_p, SwigluValue.frame_pi, SwigluValue.frame_ri,
  RmsValue.frame_p, RmsValue.frame_pi, RmsValue.frame_ri,
  PostValue.frame_p, PostValue.frame_pi, PostValue.frame_ri,
  PreValue.frame_p, PreValue.frame_pi, PreValue.frame_ri,
  MergeValue.frame_p, MergeValue.frame_pi, MergeValue.frame_ri,
  AdamInValue.frame_p, AdamInValue.frame_pi, AdamInValue.frame_ri,
  AdamRowsValue.frame_p, AdamRowsValue.frame_pi, AdamRowsValue.frame_ri,
  AdamBranchValue.frame_p, AdamBranchValue.frame_pi, AdamBranchValue.frame_ri,
  AdamFinValue.frame_p, AdamFinValue.frame_pi, AdamFinValue.frame_ri,
  AdamFoutValue.frame_p, AdamFoutValue.frame_pi, AdamFoutValue.frame_ri,
  SwigluFwdValue.frame_p, SwigluFwdValue.frame_pi, SwigluFwdValue.frame_ri,
  RmsFwdValue.frame_p, RmsFwdValue.frame_pi, RmsFwdValue.frame_ri,
  PostFwdValue.frame_p, PostFwdValue.frame_pi, PostFwdValue.frame_ri,
  PreFwdValue.frame_p, PreFwdValue.frame_pi, PreFwdValue.frame_ri,
  MergeFwdValue.frame_p, MergeFwdValue.frame_pi, MergeFwdValue.frame_ri,
  LossFwdValue.frame_p, LossFwdValue.frame_pi, LossFwdValue.frame_ri,
  LossValue.frame_p, LossValue.frame_pi, LossValue.frame_ri,
  fun m ρ _ => Cert.Fox.Hand.frame m ρ, fun m ρ _ => Cert.FoxIdeal.Hand.frame m ρ,
  trivial, OutDxValue.algebraic,
  trivial, OutDwValue.algebraic,
  trivial, OutMmValue.algebraic,
  trivial, FfDxValue.algebraic,
  trivial, FfDwValue.algebraic,
  trivial, FfMmValue.algebraic,
  trivial, FfoDxValue.algebraic,
  trivial, FfoDwValue.algebraic,
  trivial, FfoMmValue.algebraic,
  trivial, QkvDxValue.algebraic,
  trivial, QkvDwValue.algebraic,
  trivial, QkvMmValue.algebraic,
  trivial, SsdDxValue.algebraic,
  trivial, SsdDwValue.algebraic,
  trivial, SsdMmValue.algebraic,
  trivial, SwigluValue.algebraic,
  trivial, RmsValue.algebraic,
  trivial, PostValue.algebraic,
  trivial, PreValue.algebraic,
  trivial, MergeValue.algebraic,
  trivial, AdamInValue.algebraic,
  trivial, AdamRowsValue.algebraic,
  trivial, AdamBranchValue.algebraic,
  trivial, AdamFinValue.algebraic,
  trivial, AdamFoutValue.algebraic,
  trivial, SwigluFwdValue.algebraic,
  trivial, RmsFwdValue.algebraic,
  trivial, PostFwdValue.algebraic,
  trivial, PreFwdValue.algebraic,
  trivial, MergeFwdValue.algebraic,
  trivial, LossFwdValue.algebraic,
  trivial, LossValue.algebraic,
  IdealRules.named_const.statement Cert.FoxIdeal.κ "mask" .f32 0xF149F2CA#32 ⊥ rfl⟩

end Cert.Proof

end
